-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v77_0)) (v1 : (c : Dev Cert.Kernel3Ideal.nD) → Buf (Elt Ideal) ((c.tc : Thread Cert.Kernel3Ideal.nD Cert.Kernel3Ideal.τ).loc Cert.Kernel3Ideal.main_v77_1)) (v2 : (c : Dev Cert.Kernel3Ideal.nD) → Buf (Elt Ideal) ((c.tc : Thread Cert.Kernel3Ideal.nD Cert.Kernel3Ideal.τ).loc Cert.Kernel3Ideal.main_v77_2)) (v3 : (c : Dev Cert.Kernel3Ideal.nD) → Buf (Elt Ideal) ((c.tc : Thread Cert.Kernel3Ideal.nD Cert.Kernel3Ideal.τ).loc Cert.Kernel3Ideal.main_v77_3)) (v4 : (c : Dev Cert.Kernel3Ideal.nD) → Buf (Elt Ideal) ((c.tc : Thread Cert.Kernel3Ideal.nD Cert.Kernel3Ideal.τ).loc Cert.Kernel3Ideal.main_v77_4)) (v5 : (c : Dev Cert.Kernel3Ideal.nD) → Buf (Elt Ideal) ((c.tc : Thread Cert.Kernel3Ideal.nD Cert.Kernel3Ideal.τ).loc Cert.Kernel3Ideal.main_v77_5)) (v6 : (c : Dev Cert.Kernel3Ideal.nD) → Buf (Elt Ideal) ((c.tc : Thread Cert.Kernel3Ideal.nD Cert.Kernel3Ideal.τ).loc Cert.Kernel3Ideal.main_v77_6)) (v7 : (c : Dev Cert.Kernel3Ideal.nD) → Buf (Elt Ideal) ((c.tc : Thread Cert.Kernel3Ideal.nD Cert.Kernel3Ideal.τ).loc Cert.Kernel3Ideal.main_v77_7)) (v8 : (c : Dev Cert.Kernel3Ideal.nD) → Buf (Elt Ideal) ((c.tc : Thread Cert.Kernel3Ideal.nD Cert.Kernel3Ideal.τ).loc Cert.Kernel3Ideal.main_v77_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v77_0) = v0 c
          ∧ r.2.mem ((c.tc : Thread Cert.Kernel3Ideal.nD Cert.Kernel3Ideal.τ).loc Cert.Kernel3Ideal.main_v77_1) = v1 c
          ∧ r.2.mem ((c.tc : Thread Cert.Kernel3Ideal.nD Cert.Kernel3Ideal.τ).loc Cert.Kernel3Ideal.main_v77_2) = v2 c
          ∧ r.2.mem ((c.tc : Thread Cert.Kernel3Ideal.nD Cert.Kernel3Ideal.τ).loc Cert.Kernel3Ideal.main_v77_3) = v3 c
          ∧ r.2.mem ((c.tc : Thread Cert.Kernel3Ideal.nD Cert.Kernel3Ideal.τ).loc Cert.Kernel3Ideal.main_v77_4) = v4 c
          ∧ r.2.mem ((c.tc : Thread Cert.Kernel3Ideal.nD Cert.Kernel3Ideal.τ).loc Cert.Kernel3Ideal.main_v77_5) = v5 c
          ∧ r.2.mem ((c.tc : Thread Cert.Kernel3Ideal.nD Cert.Kernel3Ideal.τ).loc Cert.Kernel3Ideal.main_v77_6) = v6 c
          ∧ r.2.mem ((c.tc : Thread Cert.Kernel3Ideal.nD Cert.Kernel3Ideal.τ).loc Cert.Kernel3Ideal.main_v77_7) = v7 c
          ∧ r.2.mem ((c.tc : Thread Cert.Kernel3Ideal.nD Cert.Kernel3Ideal.τ).loc Cert.Kernel3Ideal.main_v77_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v200) = v0 c
          ∧ r.2.mem ((c.tc : Thread Cert.Reference3Ideal.nD Cert.Reference3Ideal.τ).loc Cert.Reference3Ideal.main_v205) = v1 c
          ∧ r.2.mem ((c.tc : Thread Cert.Reference3Ideal.nD Cert.Reference3Ideal.τ).loc Cert.Reference3Ideal.main_v206) = v2 c
          ∧ r.2.mem ((c.tc : Thread Cert.Reference3Ideal.nD Cert.Reference3Ideal.τ).loc Cert.Reference3Ideal.main_v195) = v3 c
          ∧ r.2.mem ((c.tc : Thread Cert.Reference3Ideal.nD Cert.Reference3Ideal.τ).loc Cert.Reference3Ideal.main_v207) = v4 c
          ∧ r.2.mem ((c.tc : Thread Cert.Reference3Ideal.nD Cert.Reference3Ideal.τ).loc Cert.Reference3Ideal.main_v208) = v5 c
          ∧ r.2.mem ((c.tc : Thread Cert.Reference3Ideal.nD Cert.Reference3Ideal.τ).loc Cert.Reference3Ideal.main_v210) = v6 c
          ∧ r.2.mem ((c.tc : Thread Cert.Reference3Ideal.nD Cert.Reference3Ideal.τ).loc Cert.Reference3Ideal.main_v212) = v7 c
          ∧ r.2.mem ((c.tc : Thread Cert.Reference3Ideal.nD Cert.Reference3Ideal.τ).loc Cert.Reference3Ideal.main_v215) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v83_0)) (v1 : (c : Dev Cert.Kernel4Ideal.nD) → Buf (Elt Ideal) ((c.tc : Thread Cert.Kernel4Ideal.nD Cert.Kernel4Ideal.τ).loc Cert.Kernel4Ideal.main_v83_1)) (v2 : (c : Dev Cert.Kernel4Ideal.nD) → Buf (Elt Ideal) ((c.tc : Thread Cert.Kernel4Ideal.nD Cert.Kernel4Ideal.τ).loc Cert.Kernel4Ideal.main_v83_2)) (v3 : (c : Dev Cert.Kernel4Ideal.nD) → Buf (Elt Ideal) ((c.tc : Thread Cert.Kernel4Ideal.nD Cert.Kernel4Ideal.τ).loc Cert.Kernel4Ideal.main_v83_3)) (v4 : (c : Dev Cert.Kernel4Ideal.nD) → Buf (Elt Ideal) ((c.tc : Thread Cert.Kernel4Ideal.nD Cert.Kernel4Ideal.τ).loc Cert.Kernel4Ideal.main_v83_4)) (v5 : (c : Dev Cert.Kernel4Ideal.nD) → Buf (Elt Ideal) ((c.tc : Thread Cert.Kernel4Ideal.nD Cert.Kernel4Ideal.τ).loc Cert.Kernel4Ideal.main_v83_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v83_0) = v0 c
          ∧ r.2.mem ((c.tc : Thread Cert.Kernel4Ideal.nD Cert.Kernel4Ideal.τ).loc Cert.Kernel4Ideal.main_v83_1) = v1 c
          ∧ r.2.mem ((c.tc : Thread Cert.Kernel4Ideal.nD Cert.Kernel4Ideal.τ).loc Cert.Kernel4Ideal.main_v83_2) = v2 c
          ∧ r.2.mem ((c.tc : Thread Cert.Kernel4Ideal.nD Cert.Kernel4Ideal.τ).loc Cert.Kernel4Ideal.main_v83_3) = v3 c
          ∧ r.2.mem ((c.tc : Thread Cert.Kernel4Ideal.nD Cert.Kernel4Ideal.τ).loc Cert.Kernel4Ideal.main_v83_4) = v4 c
          ∧ r.2.mem ((c.tc : Thread Cert.Kernel4Ideal.nD Cert.Kernel4Ideal.τ).loc Cert.Kernel4Ideal.main_v83_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v200) = v0 c
          ∧ r.2.mem ((c.tc : Thread Cert.Reference4Ideal.nD Cert.Reference4Ideal.τ).loc Cert.Reference4Ideal.main_v205) = v1 c
          ∧ r.2.mem ((c.tc : Thread Cert.Reference4Ideal.nD Cert.Reference4Ideal.τ).loc Cert.Reference4Ideal.main_v206) = v2 c
          ∧ r.2.mem ((c.tc : Thread Cert.Reference4Ideal.nD Cert.Reference4Ideal.τ).loc Cert.Reference4Ideal.main_v208) = v3 c
          ∧ r.2.mem ((c.tc : Thread Cert.Reference4Ideal.nD Cert.Reference4Ideal.τ).loc Cert.Reference4Ideal.main_v209) = v4 c
          ∧ r.2.mem ((c.tc : Thread Cert.Reference4Ideal.nD Cert.Reference4Ideal.τ).loc Cert.Reference4Ideal.main_v212) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)) (v2 : (c : Dev Cert.Kernel5Ideal.nD) → Buf (Elt Ideal) ((c.tc : Thread Cert.Kernel5Ideal.nD Cert.Kernel5Ideal.τ).loc Cert.Kernel5Ideal.main_v17_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_v17_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v43) = v1 c
          ∧ r.2.mem ((c.tc : Thread Cert.Reference5Ideal.nD Cert.Reference5Ideal.τ).loc Cert.Reference5Ideal.main_v46) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S20480x512 : Shape := ⟨2, ![20480, 512]⟩
abbrev S20480x128 : Shape := ⟨2, ![20480, 128]⟩
abbrev S4x1x2x512x64 : Shape := ⟨5, ![4, 1, 2, 512, 64]⟩
abbrev S_ : Shape := ⟨0, ![]⟩

class Facts : Prop where
  bcast_S_S20480x512 : S_.BroadcastsInDim S20480x512 (![] : Fin 0 → Fin S20480x512.rank)
  reducesTo_S20480x512_S_d0_1 : S20480x512.ReducesTo [0, 1] S_
  h_S_ : 0 < S_.numel
  bcast_S_S20480x128 : S_.BroadcastsInDim S20480x128 (![] : Fin 0 → Fin S20480x128.rank)
  reducesTo_S20480x128_S_d0_1 : S20480x128.ReducesTo [0, 1] S_
  bcast_S_S4x1x2x512x64 : S_.BroadcastsInDim S4x1x2x512x64 (![] : Fin 0 → Fin S4x1x2x512x64.rank)
  reducesTo_S4x1x2x512x64_S_d0_1_2_3_4 : S4x1x2x512x64.ReducesTo [0, 1, 2, 3, 4] S_

variable [Facts]

def fn {F : FTy → Type} [FloatOps F] (main_arg0 : FVec F S20480x512 .f32) (main_arg1 : FVec F S20480x128 .f32) (main_arg2 : FVec F S20480x128 .f32) (main_arg3 : FVec F S4x1x2x512x64 .f32) (main_arg4 : FVec F S4x1x2x512x64 .f32) : IVec S_ 1 :=
  let main_v0 : FVec F S20480x512 .f32 := Host.absf main_arg0
  let main_cst : FVec F S_ .f32 := constant S_ .f32 0x7F800000#32
  let main_v1 : FVec F S20480x512 .f32 := broadcastInDim S20480x512 ![] bcast_S_S20480x512 main_cst
  let main_v2 : IVec S20480x512 1 := cmpf .olt main_v0 main_v1
  let main_c : IVec S_ 1 := constantI S_ 1 1#1
  let main_v3 : IVec S_ 1 := (fun x v => Host.reduce IntOp.andi x v reducesTo_S20480x512_S_d0_1 h_S_) main_v2 main_c
  let main_v4 : FVec F S20480x128 .f32 := Host.absf main_arg1
  let main_cst_0 : FVec F S_ .f32 := constant S_ .f32 0x7F800000#32
  let main_v5 : FVec F S20480x128 .f32 := broadcastInDim S20480x128 ![] bcast_S_S20480x128 main_cst_0
  let main_v6 : IVec S20480x128 1 := cmpf .olt main_v4 main_v5
  let main_c_1 : IVec S_ 1 := constantI S_ 1 1#1
  let main_v7 : IVec S_ 1 := (fun x v => Host.reduce IntOp.andi x v reducesTo_S20480x128_S_d0_1 h_S_) main_v6 main_c_1
  let main_v8 : IVec S_ 1 := andi main_v3 main_v7
  let main_v9 : FVec F S4x1x2x512x64 .f32 := Host.absf main_arg3
  let main_cst_2 : FVec F S_ .f32 := constant S_ .f32 0x7F800000#32
  let main_v10 : FVec F S4x1x2x512x64 .f32 := broadcastInDim S4x1x2x512x64 ![] bcast_S_S4x1x2x512x64 main_cst_2
  let main_v11 : IVec S4x1x2x512x64 1 := cmpf .olt main_v9 main_v10
  let main_c_3 : IVec S_ 1 := constantI S_ 1 1#1
  let main_v12 : IVec S_ 1 := (fun x v => Host.reduce IntOp.andi x v reducesTo_S4x1x2x512x64_S_d0_1_2_3_4 h_S_) main_v11 main_c_3
  let main_v13 : IVec S_ 1 := andi main_v8 main_v12
  main_v13
-- ==== Pre_finite2.lean ====
abbrev S20480x512 : Shape := ⟨2, ![20480, 512]⟩
abbrev S20480x256 : Shape := ⟨2, ![20480, 256]⟩
abbrev S20480x32 : Shape := ⟨2, ![20480, 32]⟩
abbrev S2048x512 : Shape := ⟨2, ![2048, 512]⟩
abbrev S4x1x512x32 : Shape := ⟨4, ![4, 1, 512, 32]⟩
abbrev S_ : Shape := ⟨0, ![]⟩

class Facts : Prop where
  bcast_S_S20480x512 : S_.BroadcastsInDim S20480x512 (![] : Fin 0 → Fin S20480x512.rank)
  reducesTo_S20480x512_S_d0_1 : S20480x512.ReducesTo [0, 1] S_
  h_S_ : 0 < S_.numel
  bcast_S_S20480x256 : S_.BroadcastsInDim S20480x256 (![] : Fin 0 → Fin S20480x256.rank)
  reducesTo_S20480x256_S_d0_1 : S20480x256.ReducesTo [0, 1] S_
  bcast_S_S20480x32 : S_.BroadcastsInDim S20480x32 (![] : Fin 0 → Fin S20480x32.rank)
  reducesTo_S20480x32_S_d0_1 : S20480x32.ReducesTo [0, 1] S_
  bcast_S_S2048x512 : S_.BroadcastsInDim S2048x512 (![] : Fin 0 → Fin S2048x512.rank)
  reducesTo_S2048x512_S_d0_1 : S2048x512.ReducesTo [0, 1] S_
  bcast_S_S4x1x512x32 : S_.BroadcastsInDim S4x1x512x32 (![] : Fin 0 → Fin S4x1x512x32.rank)
  reducesTo_S4x1x512x32_S_d0_1_2_3 : S4x1x512x32.ReducesTo [0, 1, 2, 3] S_

variable [Facts]

def fn_part1 {F : FTy → Type} [FloatOps F] (main_arg5 : FVec F S2048x512 .f32) (main_arg6 : FVec F S4x1x512x32 .f32) (main_v13 : IVec S_ 1) (main_v16 : IVec S20480x32 1) : IVec S_ 1 :=
  let main_c_5 : IVec S_ 1 := constantI S_ 1 1#1
  let main_v17 : IVec S_ 1 := (fun x v => Host.reduce IntOp.andi x v reducesTo_S20480x32_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S4x1x512x32 .f32 := Host.absf main_arg6
  let main_cst_8 : FVec F S_ .f32 := constant S_ .f32 0x7F800000#32
  let main_v25 : FVec F S4x1x512x32 .f32 := broadcastInDim S4x1x512x32 ![] bcast_S_S4x1x512x32 main_cst_8
  let main_v26 : IVec S4x1x512x32 1 := cmpf .olt main_v24 main_v25
  let main_c_9 : IVec S_ 1 := constantI S_ 1 1#1
  let main_v27 : IVec S_ 1 := (fun x v => Host.reduce IntOp.andi x v reducesTo_S4x1x512x32_S_d0_1_2_3 h_S_) main_v26 main_c_9
  let main_v28 : IVec S_ 1 := andi main_v23 main_v27
  main_v28

def fn {F : FTy → Type} [FloatOps F] (main_arg0 : FVec F S20480x512 .f32) (main_arg1 : FVec F S20480x256 .f32) (main_arg2 : FVec F S20480x512 .f32) (main_arg3 : FVec F S20480x32 .f32) (main_arg4 : FVec F S20480x512 .f32) (main_arg5 : FVec F S2048x512 .f32) (main_arg6 : FVec F S4x1x512x32 .f32) (main_arg7 : FVec F S2048x512 .f32) : IVec S_ 1 :=
  let main_v0 : FVec F S20480x512 .f32 := Host.absf main_arg0
  let main_cst : FVec F S_ .f32 := constant S_ .f32 0x7F800000#32
  let main_v1 : FVec F S20480x512 .f32 := broadcastInDim S20480x512 ![] bcast_S_S20480x512 main_cst
  let main_v2 : IVec S20480x512 1 := cmpf .olt main_v0 main_v1
  let main_c : IVec S_ 1 := constantI S_ 1 1#1
  let main_v3 : IVec S_ 1 := (fun x v => Host.reduce IntOp.andi x v reducesTo_S20480x512_S_d0_1 h_S_) main_v2 main_c
  let main_v4 : FVec F S20480x256 .f32 := Host.absf main_arg1
  let main_cst_0 : FVec F S_ .f32 := constant S_ .f32 0x7F800000#32
  let main_v5 : FVec F S20480x256 .f32 := broadcastInDim S20480x256 ![] bcast_S_S20480x256 main_cst_0
  let main_v6 : IVec S20480x256 1 := cmpf .olt main_v4 main_v5
  let main_c_1 : IVec S_ 1 := constantI S_ 1 1#1
  let main_v7 : IVec S_ 1 := (fun x v => Host.reduce IntOp.andi x v reducesTo_S20480x256_S_d0_1 h_S_) main_v6 main_c_1
  let main_v8 : IVec S_ 1 := andi main_v3 main_v7
  let main_v9 : FVec F S20480x512 .f32 := Host.absf main_arg2
  let main_cst_2 : FVec F S_ .f32 := constant S_ .f32 0x7F800000#32
  let main_v10 : FVec F S20480x512 .f32 := broadcastInDim S20480x512 ![] bcast_S_S20480x512 main_cst_2
  let main_v11 : IVec S20480x512 1 := cmpf .olt main_v9 main_v10
  let main_c_3 : IVec S_ 1 := constantI S_ 1 1#1
  let main_v12 : IVec S_ 1 := (fun x v => Host.reduce IntOp.andi x v reducesTo_S20480x512_S_d0_1 h_S_) main_v11 main_c_3
  let main_v13 : IVec S_ 1 := andi main_v8 main_v12
  let main_v14 : FVec F S20480x32 .f32 := Host.absf main_arg3
  let main_cst_4 : FVec F S_ .f32 := constant S_ .f32 0x7F800000#32
  let main_v15 : FVec F S20480x32 .f32 := broadcastInDim S20480x32 ![] bcast_S_S20480x32 main_cst_4
  let main_v16 : IVec S20480x32 1 := cmpf .olt main_v14 main_v15
  fn_part1 (F := F) main_arg5 main_arg6 main_v13 main_v16
-- ==== Pre_finite4.lean ====
abbrev S16x256x1024 : Shape := ⟨3, ![16, 256, 1024]⟩
abbrev S4x4096x1024 : Shape := ⟨3, ![4, 4096, 1024]⟩
abbrev S2x8x6144 : Shape := ⟨3, ![2, 8, 6144]⟩
abbrev S2x1024 : Shape := ⟨2, ![2, 1024]⟩
abbrev S1x1024x1792 : Shape := ⟨3, ![1, 1024, 1792]⟩
abbrev S1x64 : Shape := ⟨2, ![1, 64]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S2x8x6144 : S_.BroadcastsInDim S2x8x6144 (![] : Fin 0 → Fin S2x8x6144.rank)
  reducesTo_S2x8x6144_S_d0_1_2 : S2x8x6144.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S1x1024x1792 : S_.BroadcastsInDim S1x1024x1792 (![] : Fin 0 → Fin S1x1024x1792.rank)
  reducesTo_S1x1024x1792_S_d0_1_2 : S1x1024x1792.ReducesTo [0, 1, 2] S_

variable [Facts]

def fn_part1 {F : FTy → Type} [FloatOps F] (main_arg4 : FVec F S1x1024x1792 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1x1024x1792 .f32 := Host.absf main_arg4
  let main_cst_6 : FVec F S_ .f32 := constant S_ .f32 0x7F800000#32
  let main_v20 : FVec F S1x1024x1792 .f32 := broadcastInDim S1x1024x1792 ![] bcast_S_S1x1024x1792 main_cst_6
  let main_v21 : IVec S1x1024x1792 1 := cmpf .olt main_v19 main_v20
  let main_c_7 : IVec S_ 1 := constantI S_ 1 1#1
  let main_v22 : IVec S_ 1 := (fun x v => Host.reduce IntOp.andi x v reducesTo_S1x1024x1792_S_d0_1_2 h_S_) main_v21 main_c_7
  let main_v23 : IVec S_ 1 := andi main_v18 main_v22
  main_v23

def fn {F : FTy → Type} [FloatOps F] (main_arg0 : FVec F S16x256x1024 .f32) (main_arg1 : FVec F S4x4096x1024 .f32) (main_arg2 : FVec F S2x8x6144 .f32) (main_arg3 : FVec F S2x1024 .f32) (main_arg4 : FVec F S1x1024x1792 .f32) (main_arg5 : FVec F S1x64 .f32) (main_arg6 : FVec F S1x64 .f32) (main_arg7 : FVec F S1x8x128x128 .f32) (main_arg8 : FVec F S1x8x128 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S2x8x6144 .f32 := Host.absf main_arg2
  let main_cst_2 : FVec F S_ .f32 := constant S_ .f32 0x7F800000#32
  let main_v10 : FVec F S2x8x6144 .f32 := broadcastInDim S2x8x6144 ![] bcast_S_S2x8x6144 main_cst_2
  let main_v11 : IVec S2x8x6144 1 := cmpf .olt main_v9 main_v10
  let main_c_3 : IVec S_ 1 := constantI S_ 1 1#1
  let main_v12 : IVec S_ 1 := (fun x v => Host.reduce IntOp.andi x v reducesTo_S2x8x6144_S_d0_1_2 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_v13 main_v16
-- ==== Pre_finite5.lean ====
abbrev S20480x512 : Shape := ⟨2, ![20480, 512]⟩
abbrev S512x4096 : Shape := ⟨2, ![512, 4096]⟩
abbrev S512x16384 : Shape := ⟨2, ![512, 16384]⟩
abbrev S16x256x1024 : Shape := ⟨3, ![16, 256, 1024]⟩
abbrev S4x4096x1024 : Shape := ⟨3, ![4, 4096, 1024]⟩
abbrev S2x8x6144 : Shape := ⟨3, ![2, 8, 6144]⟩
abbrev S2x1024 : Shape := ⟨2, ![2, 1024]⟩
abbrev S1x1024x1024 : Shape := ⟨3, ![1, 1024, 1024]⟩
abbrev S2x1024x16 : Shape := ⟨3, ![2, 1024, 16]⟩
abbrev S_ : Shape := ⟨0, ![]⟩

class Facts : Prop where
  bcast_S_S20480x512 : S_.BroadcastsInDim S20480x512 (![] : Fin 0 → Fin S20480x512.rank)
  reducesTo_S20480x512_S_d0_1 : S20480x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S512x16384 : S_.BroadcastsInDim S512x16384 (![] : Fin 0 → Fin S512x16384.rank)
  reducesTo_S512x16384_S_d0_1 : S512x16384.ReducesTo [0, 1] S_
  bcast_S_S16x256x1024 : S_.BroadcastsInDim S16x256x1024 (![] : Fin 0 → Fin S16x256x1024.rank)
  reducesTo_S16x256x1024_S_d0_1_2 : S16x256x1024.ReducesTo [0, 1, 2] S_
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S2x8x6144 : S_.BroadcastsInDim S2x8x6144 (![] : Fin 0 → Fin S2x8x6144.rank)
  reducesTo_S2x8x6144_S_d0_1_2 : S2x8x6144.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S2x1024x16 : S_.BroadcastsInDim S2x1024x16 (![] : Fin 0 → Fin S2x1024x16.rank)
  reducesTo_S2x1024x16_S_d0_1_2 : S2x1024x16.ReducesTo [0, 1, 2] S_

variable [Facts]

def fn_part2 {F : FTy → Type} [FloatOps F] (main_arg7 : FVec F S1x1024x1024 .f32) (main_arg8 : FVec F S2x1024x16 .f32) (main_v33 : IVec S_ 1) : IVec S_ 1 :=
  let main_v34 : FVec F S1x1024x1024 .f32 := Host.absf main_arg7
  let main_cst_12 : FVec F S_ .f32 := constant S_ .f32 0x7F800000#32
  let main_v35 : FVec F S1x1024x1024 .f32 := broadcastInDim S1x1024x1024 ![] bcast_S_S1x1024x1024 main_cst_12
  let main_v36 : IVec S1x1024x1024 1 := cmpf .olt main_v34 main_v35
  let main_c_13 : IVec S_ 1 := constantI S_ 1 1#1
  let main_v37 : IVec S_ 1 := (fun x v => Host.reduce IntOp.andi x v reducesTo_S1x1024x1024_S_d0_1_2 h_S_) main_v36 main_c_13
  let main_v38 : IVec S_ 1 := andi main_v33 main_v37
  let main_v39 : FVec F S2x1024x16 .f32 := Host.absf main_arg8
  let main_cst_14 : FVec F S_ .f32 := constant S_ .f32 0x7F800000#32
  let main_v40 : FVec F S2x1024x16 .f32 := broadcastInDim S2x1024x16 ![] bcast_S_S2x1024x16 main_cst_14
  let main_v41 : IVec S2x1024x16 1 := cmpf .olt main_v39 main_v40
  let main_c_15 : IVec S_ 1 := constantI S_ 1 1#1
  let main_v42 : IVec S_ 1 := (fun x v => Host.reduce IntOp.andi x v reducesTo_S2x1024x16_S_d0_1_2 h_S_) main_v41 main_c_15
  let main_v43 : IVec S_ 1 := andi main_v38 main_v42
  main_v43

def fn_part1 {F : FTy → Type} [FloatOps F] (main_arg4 : FVec F S4x4096x1024 .f32) (main_arg5 : FVec F S2x8x6144 .f32) (main_arg6 : FVec F S2x1024 .f32) (main_arg7 : FVec F S1x1024x1024 .f32) (main_arg8 : FVec F S2x1024x16 .f32) (main_v13 : IVec S_ 1) (main_v16 : IVec S16x256x1024 1) : IVec S_ 1 :=
  let main_c_5 : IVec S_ 1 := constantI S_ 1 1#1
  let main_v17 : IVec S_ 1 := (fun x v => Host.reduce IntOp.andi x v reducesTo_S16x256x1024_S_d0_1_2 h_S_) main_v16 main_c_5
  let main_v18 : IVec S_ 1 := andi main_v13 main_v17
  let main_v19 : FVec F S4x4096x1024 .f32 := Host.absf main_arg4
  let main_cst_6 : FVec F S_ .f32 := constant S_ .f32 0x7F800000#32
  let main_v20 : FVec F S4x4096x1024 .f32 := broadcastInDim S4x4096x1024 ![] bcast_S_S4x4096x1024 main_cst_6
  let main_v21 : IVec S4x4096x1024 1 := cmpf .olt main_v19 main_v20
  let main_c_7 : IVec S_ 1 := constantI S_ 1 1#1
  let main_v22 : IVec S_ 1 := (fun x v => Host.reduce IntOp.andi x v reducesTo_S4x4096x1024_S_d0_1_2 h_S_) main_v21 main_c_7
  let main_v23 : IVec S_ 1 := andi main_v18 main_v22
  let main_v24 : FVec F S2x8x6144 .f32 := Host.absf main_arg5
  let main_cst_8 : FVec F S_ .f32 := constant S_ .f32 0x7F800000#32
  let main_v25 : FVec F S2x8x6144 .f32 := broadcastInDim S2x8x6144 ![] bcast_S_S2x8x6144 main_cst_8
  let main_v26 : IVec S2x8x6144 1 := cmpf .olt main_v24 main_v25
  let main_c_9 : IVec S_ 1 := constantI S_ 1 1#1
  let main_v27 : IVec S_ 1 := (fun x v => Host.reduce IntOp.andi x v reducesTo_S2x8x6144_S_d0_1_2 h_S_) main_v26 main_c_9
  let main_v28 : IVec S_ 1 := andi main_v23 main_v27
  let main_v29 : FVec F S2x1024 .f32 := Host.absf main_arg6
  let main_cst_10 : FVec F S_ .f32 := constant S_ .f32 0x7F800000#32
  let main_v30 : FVec F S2x1024 .f32 := broadcastInDim S2x1024 ![] bcast_S_S2x1024 main_cst_10
  let main_v31 : IVec S2x1024 1 := cmpf .olt main_v29 main_v30
  let main_c_11 : IVec S_ 1 := constantI S_ 1 1#1
  let main_v32 : IVec S_ 1 := (fun x v => Host.reduce IntOp.andi x v reducesTo_S2x1024_S_d0_1 h_S_) main_v31 main_c_11
  let main_v33 : IVec S_ 1 := andi main_v28 main_v32
  fn_part2 (F := F) main_arg7 main_arg8 main_v33

def fn {F : FTy → Type} [FloatOps F] (main_arg0 : FVec F S20480x512 .f32) (main_arg1 : FVec F S512x4096 .f32) (main_arg2 : FVec F S512x16384 .f32) (main_arg3 : FVec F S16x256x1024 .f32) (main_arg4 : FVec F S4x4096x1024 .f32) (main_arg5 : FVec F S2x8x6144 .f32) (main_arg6 : FVec F S2x1024 .f32) (main_arg7 : FVec F S1x1024x1024 .f32) (main_arg8 : FVec F S2x1024x16 .f32) : IVec S_ 1 :=
  let main_v0 : FVec F S20480x512 .f32 := Host.absf main_arg0
  let main_cst : FVec F S_ .f32 := constant S_ .f32 0x7F800000#32
  let main_v1 : FVec F S20480x512 .f32 := broadcastInDim S20480x512 ![] bcast_S_S20480x512 main_cst
  let main_v2 : IVec S20480x512 1 := cmpf .olt main_v0 main_v1
  let main_c : IVec S_ 1 := constantI S_ 1 1#1
  let main_v3 : IVec S_ 1 := (fun x v => Host.reduce IntOp.andi x v reducesTo_S20480x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x16384 .f32 := Host.absf main_arg2
  let main_cst_2 : FVec F S_ .f32 := constant S_ .f32 0x7F800000#32
  let main_v10 : FVec F S512x16384 .f32 := broadcastInDim S512x16384 ![] bcast_S_S512x16384 main_cst_2
  let main_v11 : IVec S512x16384 1 := cmpf .olt main_v9 main_v10
  let main_c_3 : IVec S_ 1 := constantI S_ 1 1#1
  let main_v12 : IVec S_ 1 := (fun x v => Host.reduce IntOp.andi x v reducesTo_S512x16384_S_d0_1 h_S_) main_v11 main_c_3
  let main_v13 : IVec S_ 1 := andi main_v8 main_v12
  let main_v14 : FVec F S16x256x1024 .f32 := Host.absf main_arg3
  let main_cst_4 : FVec F S_ .f32 := constant S_ .f32 0x7F800000#32
  let main_v15 : FVec F S16x256x1024 .f32 := broadcastInDim S16x256x1024 ![] bcast_S_S16x256x1024 main_cst_4
  let main_v16 : IVec S16x256x1024 1 := cmpf .olt main_v14 main_v15
  fn_part1 (F := F) main_arg4 main_arg5 main_arg6 main_arg7 main_arg8 main_v13 main_v16
-- ==== Kernel.lean ====
abbrev S20480x512 : Shape := ⟨2, ![20480, 512]⟩
abbrev S20480x128 : Shape := ⟨2, ![20480, 128]⟩
abbrev S4x1x2x512x64 : Shape := ⟨5, ![4, 1, 2, 512, 64]⟩
abbrev S_ : Shape := ⟨0, ![]⟩
abbrev S512x20480 : Shape := ⟨2, ![512, 20480]⟩
abbrev S128x20480 : Shape := ⟨2, ![128, 20480]⟩
abbrev S4x2x512x64 : Shape := ⟨4, ![4, 2, 512, 64]⟩
abbrev S4x512x2x64 : Shape := ⟨4, ![4, 512, 2, 64]⟩
abbrev S4x512x128 : Shape := ⟨3, ![4, 512, 128]⟩
abbrev S4x2x64x512 : Shape := ⟨4, ![4, 2, 64, 512]⟩
abbrev S4x128x512 : Shape := ⟨3, ![4, 128, 512]⟩
abbrev S512x16384 : Shape := ⟨2, ![512, 16384]⟩
abbrev S256x256 : Shape := ⟨2, ![256, 256]⟩
abbrev S1x512x128 : Shape := ⟨3, ![1, 512, 128]⟩
abbrev S1x64x512 : Shape := ⟨3, ![1, 64, 512]⟩
abbrev S4096x128 : Shape := ⟨2, ![4096, 128]⟩
abbrev S64x4096 : Shape := ⟨2, ![64, 4096]⟩
abbrev S64x256 : Shape := ⟨2, ![64, 256]⟩
abbrev S128x256 : Shape := ⟨2, ![128, 256]⟩
abbrev S128x512 : Shape := ⟨2, ![128, 512]⟩
abbrev S16x256 : Shape := ⟨2, ![16, 256]⟩
abbrev S1x512 : Shape := ⟨2, ![1, 512]⟩
abbrev S80x512 : Shape := ⟨2, ![80, 512]⟩
abbrev S1x256x128 : Shape := ⟨3, ![1, 256, 128]⟩
abbrev S256x128 : Shape := ⟨2, ![256, 128]⟩
abbrev S256x512 : Shape := ⟨2, ![256, 512]⟩
abbrev S512 : Shape := ⟨1, ![512]⟩
abbrev S1x64x256 : Shape := ⟨3, ![1, 64, 256]⟩
abbrev S80x256 : Shape := ⟨2, ![80, 256]⟩
abbrev S64x512 : Shape := ⟨2, ![64, 512]⟩

abbrev nBuf : Space → Nat
  | .hbm => 25
  | .vmem => 12
  | .smem => 0
  | _ => 0

abbrev bufTy : (tb : Table) → Fin (tcTables nBuf tb) → BufTy
  | .hbm, ⟨0, _⟩ => ⟨S20480x512, .f32⟩
  | .hbm, ⟨1, _⟩ => ⟨S20480x128, .f32⟩
  | .hbm, ⟨2, _⟩ => ⟨S20480x128, .f32⟩
  | .hbm, ⟨3, _⟩ => ⟨S4x1x2x512x64, .f32⟩
  | .hbm, ⟨4, _⟩ => ⟨S4x1x2x512x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S20480x512, .f32⟩
  | .hbm, ⟨10, _⟩ => ⟨S20480x512, .f32⟩
  | .hbm, ⟨11, _⟩ => ⟨S512x20480, .f32⟩
  | .hbm, ⟨12, _⟩ => ⟨S512x20480, .bf16⟩
  | .hbm, ⟨13, _⟩ => ⟨S20480x128, .bf16⟩
  | .hbm, ⟨14, _⟩ => ⟨S128x20480, .f32⟩
  | .hbm, ⟨15, _⟩ => ⟨S128x20480, .bf16⟩
  | .hbm, ⟨16, _⟩ => ⟨S4x2x512x64, .f32⟩
  | .hbm, ⟨17, _⟩ => ⟨S4x512x2x64, .f32⟩
  | .hbm, ⟨18, _⟩ => ⟨S4x512x128, .f32⟩
  | .hbm, ⟨19, _⟩ => ⟨S4x512x128, .bf16⟩
  | .hbm, ⟨20, _⟩ => ⟨S4x2x512x64, .f32⟩
  | .hbm, ⟨21, _⟩ => ⟨S4x2x64x512, .f32⟩
  | .hbm, ⟨22, _⟩ => ⟨S4x128x512, .f32⟩
  | .hbm, ⟨23, _⟩ => ⟨S4x128x512, .bf16⟩
  | .hbm, ⟨24, _⟩ => ⟨S512x16384, .bf16⟩
  | .local _ .vmem, ⟨0, _⟩ => ⟨S256x256, .bf16⟩
  | .local _ .vmem, ⟨1, _⟩ => ⟨S256x256, .bf16⟩
  | .local _ .vmem, ⟨2, _⟩ => ⟨S1x512x128, .bf16⟩
  | .local _ .vmem, ⟨3, _⟩ => ⟨S1x512x128, .bf16⟩
  | .local _ .vmem, ⟨4, _⟩ => ⟨S1x64x512, .bf16⟩
  | .local _ .vmem, ⟨5, _⟩ => ⟨S1x64x512, .bf16⟩
  | .local _ .vmem, ⟨6, _⟩ => ⟨S4096x128, .bf16⟩
  | .local _ .vmem, ⟨7, _⟩ => ⟨S4096x128, .bf16⟩
  | .local _ .vmem, ⟨8, _⟩ => ⟨S64x4096, .bf16⟩
  | .local _ .vmem, ⟨9, _⟩ => ⟨S64x4096, .bf16⟩
  | .local _ .vmem, ⟨10, _⟩ => ⟨S256x256, .bf16⟩
  | .local _ .vmem, ⟨11, _⟩ => ⟨S256x256, .bf16⟩
  | _, _ => ⟨S20480x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c16_i32_0 : BitVec 32 := 16#32
  let v1 : BitVec 32 := Scalar.addi c16_i32_0 v0
  let v2 : BitVec 32 := Scalar.addi v1 arg2
  let c0_i32 : BitVec 32 := 0#32
  ![arg1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S20480x512 : Shape := ⟨2, ![20480, 512]⟩
abbrev S20480x128 : Shape := ⟨2, ![20480, 128]⟩
abbrev S4x1x2x512x64 : Shape := ⟨5, ![4, 1, 2, 512, 64]⟩
abbrev S16384x512 : Shape := ⟨2, ![16384, 512]⟩
abbrev S4x4096x8x64 : Shape := ⟨4, ![4, 4096, 8, 64]⟩
abbrev S4x8x4096x64 : Shape := ⟨4, ![4, 8, 4096, 64]⟩
abbrev S4x2x4x4096x64 : Shape := ⟨5, ![4, 2, 4, 4096, 64]⟩
abbrev S4x2x512x64 : Shape := ⟨4, ![4, 2, 512, 64]⟩
abbrev S16384x128 : Shape := ⟨2, ![16384, 128]⟩
abbrev S4x4096x2x64 : Shape := ⟨4, ![4, 4096, 2, 64]⟩
abbrev S4x2x4096x64 : Shape := ⟨4, ![4, 2, 4096, 64]⟩
abbrev S4x2x4608x64 : Shape := ⟨4, ![4, 2, 4608, 64]⟩
abbrev S4x2x4x4096x4608 : Shape := ⟨5, ![4, 2, 4, 4096, 4608]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x4096x2x4x64 : Shape := ⟨5, ![4, 4096, 2, 4, 64]⟩
abbrev S512x16384 : Shape := ⟨2, ![512, 16384]⟩

abbrev nBuf : Space → Nat
  | .hbm => 42
  | .vmem => 0
  | .smem => 0
  | _ => 0

abbrev bufTy : (tb : Table) → Fin (tcTables nBuf tb) → BufTy
  | .hbm, ⟨0, _⟩ => ⟨S20480x512, .f32⟩
  | .hbm, ⟨1, _⟩ => ⟨S20480x128, .f32⟩
  | .hbm, ⟨2, _⟩ => ⟨S20480x128, .f32⟩
  | .hbm, ⟨3, _⟩ => ⟨S4x1x2x512x64, .f32⟩
  | .hbm, ⟨4, _⟩ => ⟨S4x1x2x512x64, .f32⟩
  | .hbm, ⟨5, _⟩ => ⟨S16384x512, .f32⟩
  | .hbm, ⟨6, _⟩ => ⟨S4x4096x8x64, .f32⟩
  | .hbm, ⟨7, _⟩ => ⟨S4x8x4096x64, .f32⟩
  | .hbm, ⟨8, _⟩ => ⟨S4x2x4x4096x64, .f32⟩
  | .hbm, ⟨9, _⟩ => ⟨S4x2x512x64, .f32⟩
  | .hbm, ⟨10, _⟩ => ⟨S16384x128, .f32⟩
  | .hbm, ⟨11, _⟩ => ⟨S4x4096x2x64, .f32⟩
  | .hbm, ⟨12, _⟩ => ⟨S4x2x4096x64, .f32⟩
  | .hbm, ⟨13, _⟩ => ⟨S4x2x4608x64, .f32⟩
  | .hbm, ⟨14, _⟩ => ⟨S4x2x512x64, .f32⟩
  | .hbm, ⟨15, _⟩ => ⟨S16384x128, .f32⟩
  | .hbm, ⟨16, _⟩ => ⟨S4x4096x2x64, .f32⟩
  | .hbm, ⟨17, _⟩ => ⟨S4x2x4096x64, .f32⟩
  | .hbm, ⟨18, _⟩ => ⟨S4x2x4608x64, .f32⟩
  | .hbm, ⟨19, _⟩ => ⟨S4x2x4x4096x4608, .f32⟩
  | .hbm, ⟨20, _⟩ => ⟨S_, .f32⟩
  | .hbm, ⟨21, _⟩ => ⟨S4x2x4x4096x4608, .f32⟩
  | .hbm, ⟨22, _⟩ => ⟨S4x2x4x4096x4608, .f32⟩
  | .hbm, ⟨23, _⟩ => ⟨S_, .f32⟩
  | .hbm, ⟨24, _⟩ => ⟨S4x2x4x4096, .f32⟩
  | .hbm, ⟨25, _⟩ => ⟨S_, .f32⟩
  | .hbm, ⟨26, _⟩ => ⟨S4x2x4x4096, .f32⟩
  | .hbm, ⟨27, _⟩ => ⟨S4x2x4x4096, .f32⟩
  | .hbm, ⟨28, _⟩ => ⟨S4x2x4x4096x1, .f32⟩
  | .hbm, ⟨29, _⟩ => ⟨S4x2x4x4096x4608, .f32⟩
  | .hbm, ⟨30, _⟩ => ⟨S4x2x4x4096x4608, .f32⟩
  | .hbm, ⟨31, _⟩ => ⟨S4x2x4x4096x4608, .f32⟩
  | .hbm, ⟨32, _⟩ => ⟨S_, .f32⟩
  | .hbm, ⟨33, _⟩ => ⟨S4x2x4x4096, .f32⟩
  | .hbm, ⟨34, _⟩ => ⟨S4x2x4x4096x1, .f32⟩
  | .hbm, ⟨35, _⟩ => ⟨S4x2x4x4096x4608, .f32⟩
  | .hbm, ⟨36, _⟩ => ⟨S4x2x4x4096x4608, .f32⟩
  | .hbm, ⟨37, _⟩ => ⟨S4x2x4x4096x64, .f32⟩
  | .hbm, ⟨38, _⟩ => ⟨S4x4096x2x4x64, .f32⟩
  | .hbm, ⟨39, _⟩ => ⟨S16384x512, .f32⟩
  | .hbm, ⟨40, _⟩ => ⟨S512x16384, .f32⟩
  | .hbm, ⟨41, _⟩ => ⟨S512x16384, .bf16⟩
  | _, _ => ⟨S20480x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel2.lean ====
abbrev S20480x512 : Shape := ⟨2, ![20480, 512]⟩
abbrev S20480x256 : Shape := ⟨2, ![20480, 256]⟩
abbrev S20480x32 : Shape := ⟨2, ![20480, 32]⟩
abbrev S2048x512 : Shape := ⟨2, ![2048, 512]⟩
abbrev S4x1x512x32 : Shape := ⟨4, ![4, 1, 512, 32]⟩
abbrev S_ : Shape := ⟨0, ![]⟩
abbrev S512x20480 : Shape := ⟨2, ![512, 20480]⟩
abbrev S256x20480 : Shape := ⟨2, ![256, 20480]⟩
abbrev S20480x128 : Shape := ⟨2, ![20480, 128]⟩
abbrev S4x512x32 : Shape := ⟨3, ![4, 512, 32]⟩
abbrev S4x512x128 : Shape := ⟨3, ![4, 512, 128]⟩
abbrev S512x2048 : Shape := ⟨2, ![512, 2048]⟩
abbrev S512x16384 : Shape := ⟨2, ![512, 16384]⟩
abbrev S256x256 : Shape := ⟨2, ![256, 256]⟩
abbrev S128x256 : Shape := ⟨2, ![128, 256]⟩
abbrev S512x256 : Shape := ⟨2, ![512, 256]⟩
abbrev S1x512x128 : Shape := ⟨3, ![1, 512, 128]⟩
abbrev S256x512 : Shape := ⟨2, ![256, 512]⟩
abbrev S4096x256 : Shape := ⟨2, ![4096, 256]⟩
abbrev S4096x128 : Shape := ⟨2, ![4096, 128]⟩
abbrev S256x4096 : Shape := ⟨2, ![256, 4096]⟩
abbrev S64x256 : Shape := ⟨2, ![64, 256]⟩
abbrev S96x256 : Shape := ⟨2, ![96, 256]⟩
abbrev S32x256 : Shape := ⟨2, ![32, 256]⟩
abbrev S16x256 : Shape := ⟨2, ![16, 256]⟩
abbrev S1x512 : Shape := ⟨2, ![1, 512]⟩
abbrev S80x512 : Shape := ⟨2, ![80, 512]⟩
abbrev S256x128 : Shape := ⟨2, ![256, 128]⟩
abbrev S1x256x128 : Shape := ⟨3, ![1, 256, 128]⟩
abbrev S512 : Shape := ⟨1, ![512]⟩
abbrev S80x256 : Shape := ⟨2, ![80, 256]⟩
abbrev S64x512 : Shape := ⟨2, ![64, 512]⟩

abbrev nBuf : Space → Nat
  | .hbm => 36
  | .vmem => 18
  | .smem => 0
  | _ => 0

abbrev bufTy : (tb : Table) → Fin (tcTables nBuf tb) → BufTy
  | .hbm, ⟨0, _⟩ => ⟨S20480x512, .f32⟩
  | .hbm, ⟨1, _⟩ => ⟨S20480x256, .f32⟩
  | .hbm, ⟨2, _⟩ => ⟨S20480x512, .f32⟩
  | .hbm, ⟨3, _⟩ => ⟨S20480x32, .f32⟩
  | .hbm, ⟨4, _⟩ => ⟨S20480x512, .f32⟩
  | .hbm, ⟨5, _⟩ => ⟨S2048x512, .f32⟩
  | .hbm, ⟨6, _⟩ => ⟨S4x1x512x32, .f32⟩
  | .hbm, ⟨7, _⟩ => ⟨S2048x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S20480x512, .f32⟩
  | .hbm, ⟨13, _⟩ => ⟨S20480x512, .f32⟩
  | .hbm, ⟨14, _⟩ => ⟨S512x20480, .f32⟩
  | .hbm, ⟨15, _⟩ => ⟨S512x20480, .bf16⟩
  | .hbm, ⟨16, _⟩ => ⟨S20480x256, .f32⟩
  | .hbm, ⟨17, _⟩ => ⟨S20480x256, .f32⟩
  | .hbm, ⟨18, _⟩ => ⟨S256x20480, .f32⟩
  | .hbm, ⟨19, _⟩ => ⟨S256x20480, .bf16⟩
  | .hbm, ⟨20, _⟩ => ⟨S_, .i32⟩
  | .hbm, ⟨21, _⟩ => ⟨S_, .f32⟩
  | .hbm, ⟨22, _⟩ => ⟨S20480x128, .f32⟩
  | .hbm, ⟨23, _⟩ => ⟨S20480x128, .bf16⟩
  | .hbm, ⟨24, _⟩ => ⟨S4x512x32, .f32⟩
  | .hbm, ⟨25, _⟩ => ⟨S_, .i32⟩
  | .hbm, ⟨26, _⟩ => ⟨S_, .f32⟩
  | .hbm, ⟨27, _⟩ => ⟨S4x512x128, .f32⟩
  | .hbm, ⟨28, _⟩ => ⟨S4x512x128, .bf16⟩
  | .hbm, ⟨29, _⟩ => ⟨S20480x512, .bf16⟩
  | .hbm, ⟨30, _⟩ => ⟨S512x20480, .f32⟩
  | .hbm, ⟨31, _⟩ => ⟨S512x20480, .bf16⟩
  | .hbm, ⟨32, _⟩ => ⟨S2048x512, .bf16⟩
  | .hbm, ⟨33, _⟩ => ⟨S512x2048, .f32⟩
  | .hbm, ⟨34, _⟩ => ⟨S512x2048, .bf16⟩
  | .hbm, ⟨35, _⟩ => ⟨S512x16384, .bf16⟩
  | .local _ .vmem, ⟨0, _⟩ => ⟨S256x256, .bf16⟩
  | .local _ .vmem, ⟨1, _⟩ => ⟨S256x256, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S1x512x128, .bf16⟩
  | .local _ .vmem, ⟨7, _⟩ => ⟨S1x512x128, .bf16⟩
  | .local _ .vmem, ⟨8, _⟩ => ⟨S256x512, .bf16⟩
  | .local _ .vmem, ⟨9, _⟩ => ⟨S256x512, .bf16⟩
  | .local _ .vmem, ⟨10, _⟩ => ⟨S4096x256, .bf16⟩
  | .local _ .vmem, ⟨11, _⟩ => ⟨S4096x256, .bf16⟩
  | .local _ .vmem, ⟨12, _⟩ => ⟨S4096x128, .bf16⟩
  | .local _ .vmem, ⟨13, _⟩ => ⟨S4096x128, .bf16⟩
  | .local _ .vmem, ⟨14, _⟩ => ⟨S256x4096, .bf16⟩
  | .local _ .vmem, ⟨15, _⟩ => ⟨S256x4096, .bf16⟩
  | .local _ .vmem, ⟨16, _⟩ => ⟨S256x256, .bf16⟩
  | .local _ .vmem, ⟨17, _⟩ => ⟨S256x256, .bf16⟩
  | _, _ => ⟨S20480x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c16_i32_0 : BitVec 32 := 16#32
  let v1 : BitVec 32 := Scalar.addi c16_i32_0 v0
  let v2 : BitVec 32 := Scalar.addi v1 arg2
  let c0_i32 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c16_i32_0 : BitVec 32 := 16#32
  let v1 : BitVec 32 := Scalar.addi c16_i32_0 v0
  let v2 : BitVec 32 := Scalar.addi v1 arg2
  let c0_i32 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference2Ideal.lean ====
abbrev S20480x512 : Shape := ⟨2, ![20480, 512]⟩
abbrev S20480x256 : Shape := ⟨2, ![20480, 256]⟩
abbrev S20480x32 : Shape := ⟨2, ![20480, 32]⟩
abbrev S2048x512 : Shape := ⟨2, ![2048, 512]⟩
abbrev S4x1x512x32 : Shape := ⟨4, ![4, 1, 512, 32]⟩
abbrev S4x512x8x64 : Shape := ⟨4, ![4, 512, 8, 64]⟩
abbrev S16384x512 : Shape := ⟨2, ![16384, 512]⟩
abbrev S4x4096x8x64 : Shape := ⟨4, ![4, 4096, 8, 64]⟩
abbrev S4x4608x8x64 : Shape := ⟨4, ![4, 4608, 8, 64]⟩
abbrev S4x512x32 : Shape := ⟨3, ![4, 512, 32]⟩
abbrev S16384x32 : Shape := ⟨2, ![16384, 32]⟩
abbrev S4x4096x1x32 : Shape := ⟨4, ![4, 4096, 1, 32]⟩
abbrev S4x4096x32 : Shape := ⟨3, ![4, 4096, 32]⟩
abbrev S4x4608x32 : Shape := ⟨3, ![4, 4608, 32]⟩
abbrev S4x4608x1x32 : Shape := ⟨4, ![4, 4608, 1, 32]⟩
abbrev S4x4608x8x32 : Shape := ⟨4, ![4, 4608, 8, 32]⟩
abbrev S4x4608x8x96 : Shape := ⟨4, ![4, 4608, 8, 96]⟩
abbrev S16384x256 : Shape := ⟨2, ![16384, 256]⟩
abbrev S4x4096x8x32 : Shape := ⟨4, ![4, 4096, 8, 32]⟩
abbrev S4x4096x8x96 : Shape := ⟨4, ![4, 4096, 8, 96]⟩
abbrev S4x8x4096x4608 : Shape := ⟨4, ![4, 8, 4096, 4608]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S512x16384 : Shape := ⟨2, ![512, 16384]⟩

abbrev nBuf : Space → Nat
  | .hbm => 52
  | .vmem => 0
  | .smem => 0
  | _ => 0

abbrev bufTy : (tb : Table) → Fin (tcTables nBuf tb) → BufTy
  | .hbm, ⟨0, _⟩ => ⟨S20480x512, .f32⟩
  | .hbm, ⟨1, _⟩ => ⟨S20480x256, .f32⟩
  | .hbm, ⟨2, _⟩ => ⟨S20480x512, .f32⟩
  | .hbm, ⟨3, _⟩ => ⟨S20480x32, .f32⟩
  | .hbm, ⟨4, _⟩ => ⟨S20480x512, .f32⟩
  | .hbm, ⟨5, _⟩ => ⟨S2048x512, .f32⟩
  | .hbm, ⟨6, _⟩ => ⟨S4x1x512x32, .f32⟩
  | .hbm, ⟨7, _⟩ => ⟨S2048x512, .f32⟩
  | .hbm, ⟨8, _⟩ => ⟨S4x512x8x64, .f32⟩
  | .hbm, ⟨9, _⟩ => ⟨S16384x512, .f32⟩
  | .hbm, ⟨10, _⟩ => ⟨S4x4096x8x64, .f32⟩
  | .hbm, ⟨11, _⟩ => ⟨S4x4608x8x64, .f32⟩
  | .hbm, ⟨12, _⟩ => ⟨S4x512x32, .f32⟩
  | .hbm, ⟨13, _⟩ => ⟨S16384x32, .f32⟩
  | .hbm, ⟨14, _⟩ => ⟨S4x4096x1x32, .f32⟩
  | .hbm, ⟨15, _⟩ => ⟨S4x4096x32, .f32⟩
  | .hbm, ⟨16, _⟩ => ⟨S4x4608x32, .f32⟩
  | .hbm, ⟨17, _⟩ => ⟨S4x512x8x64, .f32⟩
  | .hbm, ⟨18, _⟩ => ⟨S16384x512, .f32⟩
  | .hbm, ⟨19, _⟩ => ⟨S4x4096x8x64, .f32⟩
  | .hbm, ⟨20, _⟩ => ⟨S4x4608x8x64, .f32⟩
  | .hbm, ⟨21, _⟩ => ⟨S4x4608x1x32, .f32⟩
  | .hbm, ⟨22, _⟩ => ⟨S4x4608x8x32, .f32⟩
  | .hbm, ⟨23, _⟩ => ⟨S4x4608x8x96, .f32⟩
  | .hbm, ⟨24, _⟩ => ⟨S16384x512, .f32⟩
  | .hbm, ⟨25, _⟩ => ⟨S4x4096x8x64, .f32⟩
  | .hbm, ⟨26, _⟩ => ⟨S16384x256, .f32⟩
  | .hbm, ⟨27, _⟩ => ⟨S4x4096x8x32, .f32⟩
  | .hbm, ⟨28, _⟩ => ⟨S4x4096x8x96, .f32⟩
  | .hbm, ⟨29, _⟩ => ⟨S4x8x4096x4608, .f32⟩
  | .hbm, ⟨30, _⟩ => ⟨S_, .f32⟩
  | .hbm, ⟨31, _⟩ => ⟨S4x8x4096x4608, .f32⟩
  | .hbm, ⟨32, _⟩ => ⟨S4x8x4096x4608, .f32⟩
  | .hbm, ⟨33, _⟩ => ⟨S_, .f32⟩
  | .hbm, ⟨34, _⟩ => ⟨S4x8x4096, .f32⟩
  | .hbm, ⟨35, _⟩ => ⟨S_, .f32⟩
  | .hbm, ⟨36, _⟩ => ⟨S4x8x4096, .f32⟩
  | .hbm, ⟨37, _⟩ => ⟨S4x8x4096, .f32⟩
  | .hbm, ⟨38, _⟩ => ⟨S4x8x4096x1, .f32⟩
  | .hbm, ⟨39, _⟩ => ⟨S4x8x4096x4608, .f32⟩
  | .hbm, ⟨40, _⟩ => ⟨S4x8x4096x4608, .f32⟩
  | .hbm, ⟨41, _⟩ => ⟨S4x8x4096x4608, .f32⟩
  | .hbm, ⟨42, _⟩ => ⟨S_, .f32⟩
  | .hbm, ⟨43, _⟩ => ⟨S4x8x4096, .f32⟩
  | .hbm, ⟨44, _⟩ => ⟨S4x8x4096x1, .f32⟩
  | .hbm, ⟨45, _⟩ => ⟨S4x8x4096x4608, .f32⟩
  | .hbm, ⟨46, _⟩ => ⟨S4x8x4096x4608, .f32⟩
  | .hbm, ⟨47, _⟩ => ⟨S4x8x64x4096, .f32⟩
  | .hbm, ⟨48, _⟩ => ⟨S4x4096x8x64, .f32⟩
  | .hbm, ⟨49, _⟩ => ⟨S16384x512, .f32⟩
  | .hbm, ⟨50, _⟩ => ⟨S512x16384, .f32⟩
  | .hbm, ⟨51, _⟩ => ⟨S512x16384, .bf16⟩
  | _, _ => ⟨S20480x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel3.lean ====
abbrev S20480x1024 : Shape := ⟨2, ![20480, 1024]⟩
abbrev S2x8x6144 : Shape := ⟨3, ![2, 8, 6144]⟩
abbrev S2x1024 : Shape := ⟨2, ![2, 1024]⟩
abbrev S1x1024x1952 : Shape := ⟨3, ![1, 1024, 1952]⟩
abbrev S1x256 : Shape := ⟨2, ![1, 256]⟩
abbrev S1x128 : Shape := ⟨2, ![1, 128]⟩
abbrev S1x256x768 : Shape := ⟨3, ![1, 256, 768]⟩
abbrev S1x128x1024 : Shape := ⟨3, ![1, 128, 1024]⟩
abbrev S2x8x6x1024 : Shape := ⟨4, ![2, 8, 6, 1024]⟩
abbrev S4096 : Shape := ⟨1, ![4096]⟩
abbrev S_ : Shape := ⟨0, ![]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4x1024x128 : Shape := ⟨3, ![4, 1024, 128]⟩
abbrev S1x1024x128 : Shape := ⟨3, ![1, 1024, 128]⟩
abbrev S5x1024x128 : Shape := ⟨3, ![5, 1024, 128]⟩
abbrev S1024x1952 : Shape := ⟨2, ![1024, 1952]⟩
abbrev S1024x416 : Shape := ⟨2, ![1024, 416]⟩
abbrev S1024x96 : Shape := ⟨2, ![1024, 96]⟩
abbrev S1024x1536 : Shape := ⟨2, ![1024, 1536]⟩
abbrev S1024x2048 : Shape := ⟨2, ![1024, 2048]⟩
abbrev S256x768 : Shape := ⟨2, ![256, 768]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x256 : Shape := ⟨2, ![256, 256]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S1x1024 : Shape := ⟨2, ![1, 1024]⟩
abbrev S256 : Shape := ⟨1, ![256]⟩
abbrev S128 : Shape := ⟨1, ![128]⟩
abbrev S512x20480 : Shape := ⟨2, ![512, 20480]⟩
abbrev S256x20480 : Shape := ⟨2, ![256, 20480]⟩
abbrev S20480x128 : Shape := ⟨2, ![20480, 128]⟩
abbrev S20480x512 : Shape := ⟨2, ![20480, 512]⟩
abbrev S1024x1024 : Shape := ⟨2, ![1024, 1024]⟩
abbrev S1x1x6x1024 : Shape := ⟨4, ![1, 1, 6, 1024]⟩
abbrev S512x1024 : Shape := ⟨2, ![512, 1024]⟩
abbrev S256x1024 : Shape := ⟨2, ![256, 1024]⟩
abbrev S1024x128 : Shape := ⟨2, ![1024, 128]⟩
abbrev S1024x512 : Shape := ⟨2, ![1024, 512]⟩
abbrev S1x1x1x1024 : Shape := ⟨4, ![1, 1, 1, 1024]⟩
abbrev S256x1 : Shape := ⟨2, ![256, 1]⟩
abbrev S256x2048 : Shape := ⟨2, ![256, 2048]⟩
abbrev S256x128 : Shape := ⟨2, ![256, 128]⟩
abbrev S1x256x128 : Shape := ⟨3, ![1, 256, 128]⟩
abbrev S512x256 : Shape := ⟨2, ![512, 256]⟩

abbrev nBuf : Space → Nat
  | .hbm => 139
  | .vmem => 32
  | .smem => 0
  | _ => 0

abbrev hbmTy0_0 (i : Nat) : BufTy := match i % 128 with
  | 0 => ⟨S20480x1024, .f32⟩
  | 1 => ⟨S2x8x6144, .f32⟩
  | 2 => ⟨S2x1024, .f32⟩
  | 3 => ⟨S1x1024x1952, .f32⟩
  | 4 => ⟨S1x256, .f32⟩
  | 5 => ⟨S1x128, .f32⟩
  | 6 => ⟨S1x256x768, .f32⟩
  | 7 => ⟨S1x128x1024, .f32⟩
  | 8 => ⟨S2x8x6x1024, .f32⟩
  | 9 => ⟨S4096, .i32⟩
  | 10 => ⟨S_, .i32⟩
  | 11 => ⟨S_, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i1⟩
  | 18 => ⟨S4096, .i32⟩
  | 19 => ⟨S4096, .i32⟩
  | 20 => ⟨S_, .i32⟩
  | 21 => ⟨S4096, .i32⟩
  | 22 => ⟨S4096, .i1⟩
  | 23 => ⟨S4096, .i1⟩
  | 24 => ⟨S_, .i32⟩
  | 25 => ⟨S4096, .i32⟩
  | 26 => ⟨S4096, .i32⟩
  | 27 => ⟨S4096, .i32⟩
  | 28 => ⟨S4096, .f32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i1⟩
  | 43 => ⟨S_, .i32⟩
  | 44 => ⟨S_, .i1⟩
  | 45 => ⟨S4096, .i1⟩
  | 46 => ⟨S4096, .i1⟩
  | 47 => ⟨S4096, .i1⟩
  | 48 => ⟨S4096, .i32⟩
  | 49 => ⟨S4096, .i32⟩
  | 50 => ⟨S4096, .i32⟩
  | 51 => ⟨S4096, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S8, .f32⟩
  | 60 => ⟨S_, .f32⟩
  | 61 => ⟨S8, .f32⟩
  | 62 => ⟨S8, .f32⟩
  | 63 => ⟨S_, .f32⟩
  | 64 => ⟨S8, .f32⟩
  | 65 => ⟨S8, .f32⟩
  | 66 => ⟨S4096x1, .f32⟩
  | 67 => ⟨S1x8, .f32⟩
  | 68 => ⟨S4096x8, .f32⟩
  | 69 => ⟨S4096x8, .f32⟩
  | 70 => ⟨S4096x8, .f32⟩
  | 71 => ⟨S4096x1, .f32⟩
  | 72 => ⟨S1x8, .f32⟩
  | 73 => ⟨S4096x8, .f32⟩
  | 74 => ⟨S4096x8, .f32⟩
  | 75 => ⟨S4096x8, .f32⟩
  | 76 => ⟨S4096x8, .f32⟩
  | 77 => ⟨S4096x8, .f32⟩
  | 78 => ⟨S4096x8, .f32⟩
  | 79 => ⟨S4096x8, .f32⟩
  | 80 => ⟨S4096x32, .f32⟩
  | 81 => ⟨S4096x8, .f32⟩
  | 82 => ⟨S4096x8, .f32⟩
  | 83 => ⟨S4096x8, .f32⟩
  | 84 => ⟨S4096x8, .f32⟩
  | 85 => ⟨S4096x8, .f32⟩
  | 86 => ⟨S4096x8, .f32⟩
  | 87 => ⟨S4096x32, .f32⟩
  | 88 => ⟨S1x4096x1x32, .f32⟩
  | 89 => ⟨S1x4096x4x32, .f32⟩
  | 90 => ⟨S4096x128, .f32⟩
  | 91 => ⟨S4x1024x128, .f32⟩
  | 92 => ⟨S1x4096x1x32, .f32⟩
  | 93 => ⟨S1x4096x4x32, .f32⟩
  | 94 => ⟨S4096x128, .f32⟩
  | 95 => ⟨S4x1024x128, .f32⟩
  | 96 => ⟨S_, .f32⟩
  | 97 => ⟨S1x1024x128, .f32⟩
  | 98 => ⟨S5x1024x128, .f32⟩
  | 99 => ⟨S_, .f32⟩
  | 100 => ⟨S1x1024x128, .f32⟩
  | 101 => ⟨S5x1024x128, .f32⟩
  | 102 => ⟨S1024x1952, .f32⟩
  | 103 => ⟨S1024x416, .f32⟩
  | 104 => ⟨S_, .f32⟩
  | 105 => ⟨S1024x96, .f32⟩
  | 106 => ⟨S1024x1536, .f32⟩
  | 107 => ⟨S1024x2048, .f32⟩
  | 108 => ⟨S1024x2048, .bf16⟩
  | 109 => ⟨S256x768, .f32⟩
  | 110 => ⟨S256x8x96, .f32⟩
  | 111 => ⟨S256x8x64, .f32⟩
  | 112 => ⟨S256x512, .f32⟩
  | 113 => ⟨S256x8x32, .f32⟩
  | 114 => ⟨S256x256, .f32⟩
  | 115 => ⟨S256x768, .f32⟩
  | 116 => ⟨S256x768, .bf16⟩
  | 117 => ⟨S128x1024, .f32⟩
  | 118 => ⟨S128x8x128, .f32⟩
  | 119 => ⟨S128x8x64, .f32⟩
  | 120 => ⟨S128x512, .f32⟩
  | 121 => ⟨S128x8x64, .f32⟩
  | 122 => ⟨S128x512, .f32⟩
  | 123 => ⟨S128x1024, .f32⟩
  | 124 => ⟨S128x1024, .bf16⟩
  | 125 => ⟨S1x1024, .f32⟩
  | 126 => ⟨S256, .f32⟩
  | 127 => ⟨S1x256, .f32⟩
  | _ => ⟨S20480x1024, .f32⟩

abbrev hbmTy0_1 (i : Nat) : BufTy := match i % 128 with
  | 0 => ⟨S128, .f32⟩
  | 1 => ⟨S1x128, .f32⟩
  | 2 => ⟨S512x20480, .bf16⟩
  | 3 => ⟨S256x20480, .bf16⟩
  | 4 => ⟨S20480x128, .f32⟩
  | 5 => ⟨S20480x128, .f32⟩
  | 6 => ⟨S20480x128, .bf16⟩
  | 7 => ⟨S20480x512, .f32⟩
  | 8 => ⟨S20480x512, .f32⟩
  | 9 => ⟨S20480x512, .bf16⟩
  | 10 => ⟨S512x20480, .bf16⟩
  | _ => ⟨S20480x1024, .f32⟩

abbrev hbmTy (i : Nat) : BufTy := match i / 128 with
  | 0 => hbmTy0_0 i
  | 1 => hbmTy0_1 i
  | _ => ⟨S20480x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1x256, .f32⟩
  | .local _ .vmem, ⟨7, _⟩ => ⟨S1x128, .f32⟩
  | .local _ .vmem, ⟨8, _⟩ => ⟨S256x768, .bf16⟩
  | .local _ .vmem, ⟨9, _⟩ => ⟨S128x1024, .bf16⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S512x1024, .bf16⟩
  | .local _ .vmem, ⟨15, _⟩ => ⟨S512x1024, .bf16⟩
  | .local _ .vmem, ⟨16, _⟩ => ⟨S256x1024, .bf16⟩
  | .local _ .vmem, ⟨17, _⟩ => ⟨S256x1024, .bf16⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .bf16⟩
  | .local _ .vmem, ⟨23, _⟩ => ⟨S1024x128, .bf16⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .bf16⟩
  | .local _ .vmem, ⟨29, _⟩ => ⟨S1024x512, .bf16⟩
  | .local _ .vmem, ⟨30, _⟩ => ⟨S512x1024, .bf16⟩
  | .local _ .vmem, ⟨31, _⟩ => ⟨S512x1024, .bf16⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_cst : Ref sig .tc := ⟨.hbm, 53, rfl⟩
abbrev main_v7 : Ref sig .tc := ⟨.hbm, 54, rfl⟩
abbrev main_v8 : Ref sig .tc := ⟨.hbm, 55, rfl⟩
abbrev main_cst_1 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_cst_2 : Ref sig .tc := ⟨.hbm, 60, rfl⟩
abbrev main_v12 : Ref sig .tc := ⟨.hbm, 61, rfl⟩
abbrev main_v13 : Ref sig .tc := ⟨.hbm, 62, rfl⟩
abbrev main_cst_3 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_4 : Ref sig .tc := ⟨.hbm, 96, rfl⟩
abbrev main_v46 : Ref sig .tc := ⟨.hbm, 97, rfl⟩
abbrev main_v47 : Ref sig .tc := ⟨.hbm, 98, rfl⟩
abbrev main_cst_5 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_cst_6 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77_0 : Ref sig .tc := ⟨.hbm, 130, rfl⟩
abbrev main_v77_1 : Ref sig .tc := ⟨.hbm, 131, rfl⟩
abbrev main_v77_2 : Ref sig .tc := ⟨.hbm, 132, rfl⟩
abbrev main_v77_3 : Ref sig .tc := ⟨.hbm, 133, rfl⟩
abbrev main_v77_4 : Ref sig .tc := ⟨.hbm, 134, rfl⟩
abbrev main_v77_5 : Ref sig .tc := ⟨.hbm, 135, rfl⟩
abbrev main_v77_6 : Ref sig .tc := ⟨.hbm, 136, rfl⟩
abbrev main_v77_7 : Ref sig .tc := ⟨.hbm, 137, rfl⟩
abbrev main_v77_8 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c1_i32_8 : BitVec 32 := 1#32
  let c0_i32_9 : BitVec 32 := 0#32
  let c0_i32_10 : BitVec 32 := 0#32
  let c0_i32_11 : BitVec 32 := 0#32
  ![c1_i32_8.toNat, v20.toNat, c0_i32_9.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let c0_i32 : BitVec 32 := 0#32
  let v2 : BitVec 1 := Scalar.cmpi .eq c4_i32_1 c0_i32
  let c1_i32 : BitVec 32 := 1#32
  let v3 : BitVec 32 := Scalar.select v2 c1_i32 c4_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  let c0_i32_9 : BitVec 32 := 0#32
  ![v13.toNat, c0_i32_7.toNat, c0_i32_8.toNat]

def cc0_transform_9 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let c0_i32 : BitVec 32 := 0#32
  let v2 : BitVec 1 := Scalar.cmpi .eq c4_i32_1 c0_i32
  let c1_i32 : BitVec 32 := 1#32
  let v3 : BitVec 32 := Scalar.select v2 c1_i32 c4_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  let c0_i32_9 : BitVec 32 := 0#32
  ![v13.toNat, c0_i32_7.toNat, c0_i32_8.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S20480x1024 : Shape := ⟨2, ![20480, 1024]⟩
abbrev S2x8x6144 : Shape := ⟨3, ![2, 8, 6144]⟩
abbrev S2x1024 : Shape := ⟨2, ![2, 1024]⟩
abbrev S1x1024x1952 : Shape := ⟨3, ![1, 1024, 1952]⟩
abbrev S1x256 : Shape := ⟨2, ![1, 256]⟩
abbrev S1x128 : Shape := ⟨2, ![1, 128]⟩
abbrev S1x256x768 : Shape := ⟨3, ![1, 256, 768]⟩
abbrev S1x128x1024 : Shape := ⟨3, ![1, 128, 1024]⟩
abbrev S1x5x6144 : Shape := ⟨3, ![1, 5, 6144]⟩
abbrev S5x6144 : Shape := ⟨2, ![5, 6144]⟩
abbrev S5x1x6144 : Shape := ⟨3, ![5, 1, 6144]⟩
abbrev S5x1x1024 : Shape := ⟨3, ![5, 1, 1024]⟩
abbrev S5x4096x1024 : Shape := ⟨3, ![5, 4096, 1024]⟩
abbrev S1x1024 : Shape := ⟨2, ![1, 1024]⟩
abbrev S1024 : Shape := ⟨1, ![1024]⟩
abbrev S_ : Shape := ⟨0, ![]⟩
abbrev S5x4096 : Shape := ⟨2, ![5, 4096]⟩
abbrev S5x4096x1 : Shape := ⟨3, ![5, 4096, 1]⟩
abbrev S1x1x1024 : Shape := ⟨3, ![1, 1, 1024]⟩
abbrev S1024x1952 : Shape := ⟨2, ![1024, 1952]⟩
abbrev S5x4096x1952 : Shape := ⟨3, ![5, 4096, 1952]⟩
abbrev S5x4096x256 : Shape := ⟨3, ![5, 4096, 256]⟩
abbrev S5x4096x128 : Shape := ⟨3, ![5, 4096, 128]⟩
abbrev S5x4096x32 : Shape := ⟨3, ![5, 4096, 32]⟩
abbrev S5x4096x512 : Shape := ⟨3, ![5, 4096, 512]⟩
abbrev S256 : Shape := ⟨1, ![256]⟩
abbrev S1x1x256 : Shape := ⟨3, ![1, 1, 256]⟩
abbrev S256x768 : Shape := ⟨2, ![256, 768]⟩
abbrev S5x4096x768 : Shape := ⟨3, ![5, 4096, 768]⟩
abbrev S5x4096x8x96 : Shape := ⟨4, ![5, 4096, 8, 96]⟩
abbrev S5x4096x8x64 : Shape := ⟨4, ![5, 4096, 8, 64]⟩
abbrev S5x4096x8x32 : Shape := ⟨4, ![5, 4096, 8, 32]⟩
abbrev S128 : Shape := ⟨1, ![128]⟩
abbrev S1x1x128 : Shape := ⟨3, ![1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x8x32 : Shape := ⟨4, ![1, 4096, 8, 32]⟩
abbrev S4x4096x8x32 : Shape := ⟨4, ![4, 4096, 8, 32]⟩
abbrev S4096x1x8 : Shape := ⟨3, ![4096, 1, 8]⟩
abbrev S4x4096x8x16 : Shape := ⟨4, ![4, 4096, 8, 16]⟩
abbrev S4x4096x8x8 : Shape := ⟨4, ![4, 4096, 8, 8]⟩
abbrev S1x4096x1x8 : Shape := ⟨4, ![1, 4096, 1, 8]⟩
abbrev S1x4096x32 : Shape := ⟨3, ![1, 4096, 32]⟩
abbrev S4x4096x32 : Shape := ⟨3, ![4, 4096, 32]⟩
abbrev S4x4096x16 : Shape := ⟨3, ![4, 4096, 16]⟩
abbrev S4x4096x8 : Shape := ⟨3, ![4, 4096, 8]⟩
abbrev S1x4096x8 : Shape := ⟨3, ![1, 4096, 8]⟩
abbrev S128x1024 : Shape := ⟨2, ![128, 1024]⟩
abbrev S5x4096x8x128 : Shape := ⟨4, ![5, 4096, 8, 128]⟩
abbrev S20480x32 : Shape := ⟨2, ![20480, 32]⟩
abbrev S20480x128 : Shape := ⟨2, ![20480, 128]⟩
abbrev S20480x512 : Shape := ⟨2, ![20480, 512]⟩
abbrev S512x20480 : Shape := ⟨2, ![512, 20480]⟩
abbrev S20480x256 : Shape := ⟨2, ![20480, 256]⟩
abbrev S256x20480 : Shape := ⟨2, ![256, 20480]⟩

abbrev nBuf : Space → Nat
  | .hbm => 242
  | .vmem => 0
  | .smem => 0
  | _ => 0

abbrev hbmTy0_0 (i : Nat) : BufTy := match i % 128 with
  | 0 => ⟨S20480x1024, .f32⟩
  | 1 => ⟨S2x8x6144, .f32⟩
  | 2 => ⟨S2x1024, .f32⟩
  | 3 => ⟨S1x1024x1952, .f32⟩
  | 4 => ⟨S1x256, .f32⟩
  | 5 => ⟨S1x128, .f32⟩
  | 6 => ⟨S1x256x768, .f32⟩
  | 7 => ⟨S1x128x1024, .f32⟩
  | 8 => ⟨S1x5x6144, .f32⟩
  | 9 => ⟨S5x6144, .f32⟩
  | 10 => ⟨S5x1x6144, .f32⟩
  | 11 => ⟨S5x1x1024, .f32⟩
  | 12 => ⟨S5x1x1024, .f32⟩
  | 13 => ⟨S5x1x1024, .f32⟩
  | 14 => ⟨S5x1x1024, .f32⟩
  | 15 => ⟨S5x1x1024, .f32⟩
  | 16 => ⟨S5x1x1024, .f32⟩
  | 17 => ⟨S5x4096x1024, .f32⟩
  | 18 => ⟨S1x1024, .f32⟩
  | 19 => ⟨S1024, .f32⟩
  | 20 => ⟨S5x4096x1024, .f32⟩
  | 21 => ⟨S_, .f32⟩
  | 22 => ⟨S5x4096, .f32⟩
  | 23 => ⟨S5x4096x1, .f32⟩
  | 24 => ⟨S_, .f32⟩
  | 25 => ⟨S5x4096x1, .f32⟩
  | 26 => ⟨S5x4096x1, .f32⟩
  | 27 => ⟨S_, .f32⟩
  | 28 => ⟨S5x4096x1, .f32⟩
  | 29 => ⟨S5x4096x1, .f32⟩
  | 30 => ⟨S5x4096x1, .f32⟩
  | 31 => ⟨S5x4096x1024, .f32⟩
  | 32 => ⟨S5x4096x1024, .f32⟩
  | 33 => ⟨S1x1x1024, .f32⟩
  | 34 => ⟨S5x4096x1024, .f32⟩
  | 35 => ⟨S5x4096x1024, .f32⟩
  | 36 => ⟨S_, .f32⟩
  | 37 => ⟨S5x1x1024, .f32⟩
  | 38 => ⟨S5x1x1024, .f32⟩
  | 39 => ⟨S5x4096x1024, .f32⟩
  | 40 => ⟨S5x4096x1024, .f32⟩
  | 41 => ⟨S5x4096x1024, .f32⟩
  | 42 => ⟨S5x4096x1024, .f32⟩
  | 43 => ⟨S1024x1952, .f32⟩
  | 44 => ⟨S5x4096x1952, .f32⟩
  | 45 => ⟨S5x4096x256, .f32⟩
  | 46 => ⟨S5x4096x128, .f32⟩
  | 47 => ⟨S5x4096x32, .f32⟩
  | 48 => ⟨S5x4096x512, .f32⟩
  | 49 => ⟨S5x4096x512, .f32⟩
  | 50 => ⟨S5x4096x512, .f32⟩
  | 51 => ⟨S256, .f32⟩
  | 52 => ⟨S5x4096x256, .f32⟩
  | 53 => ⟨S_, .f32⟩
  | 54 => ⟨S5x4096, .f32⟩
  | 55 => ⟨S5x4096x1, .f32⟩
  | 56 => ⟨S_, .f32⟩
  | 57 => ⟨S5x4096x1, .f32⟩
  | 58 => ⟨S5x4096x1, .f32⟩
  | 59 => ⟨S_, .f32⟩
  | 60 => ⟨S5x4096x1, .f32⟩
  | 61 => ⟨S5x4096x1, .f32⟩
  | 62 => ⟨S5x4096x1, .f32⟩
  | 63 => ⟨S5x4096x256, .f32⟩
  | 64 => ⟨S5x4096x256, .f32⟩
  | 65 => ⟨S1x1x256, .f32⟩
  | 66 => ⟨S5x4096x256, .f32⟩
  | 67 => ⟨S5x4096x256, .f32⟩
  | 68 => ⟨S256x768, .f32⟩
  | 69 => ⟨S5x4096x768, .f32⟩
  | 70 => ⟨S5x4096x8x96, .f32⟩
  | 71 => ⟨S5x4096x8x64, .f32⟩
  | 72 => ⟨S5x4096x8x32, .f32⟩
  | 73 => ⟨S128, .f32⟩
  | 74 => ⟨S5x4096x128, .f32⟩
  | 75 => ⟨S_, .f32⟩
  | 76 => ⟨S5x4096, .f32⟩
  | 77 => ⟨S5x4096x1, .f32⟩
  | 78 => ⟨S_, .f32⟩
  | 79 => ⟨S5x4096x1, .f32⟩
  | 80 => ⟨S5x4096x1, .f32⟩
  | 81 => ⟨S_, .f32⟩
  | 82 => ⟨S5x4096x1, .f32⟩
  | 83 => ⟨S5x4096x1, .f32⟩
  | 84 => ⟨S5x4096x1, .f32⟩
  | 85 => ⟨S5x4096x128, .f32⟩
  | 86 => ⟨S5x4096x128, .f32⟩
  | 87 => ⟨S1x1x128, .f32⟩
  | 88 => ⟨S5x4096x128, .f32⟩
  | 89 => ⟨S5x4096x128, .f32⟩
  | 90 => ⟨S64, .f32⟩
  | 91 => ⟨S64x64, .f32⟩
  | 92 => ⟨S4096, .f32⟩
  | 93 => ⟨S64, .f32⟩
  | 94 => ⟨S1x64, .f32⟩
  | 95 => ⟨S64x64, .f32⟩
  | 96 => ⟨S4096, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S4096x1, .f32⟩
  | 112 => ⟨S1x8, .f32⟩
  | 113 => ⟨S4096x8, .f32⟩
  | 114 => ⟨S4096x8, .f32⟩
  | 115 => ⟨S4096x8, .f32⟩
  | 116 => ⟨S4096x1, .f32⟩
  | 117 => ⟨S1x8, .f32⟩
  | 118 => ⟨S4096x8, .f32⟩
  | 119 => ⟨S4096x8, .f32⟩
  | 120 => ⟨S4096x8, .f32⟩
  | 121 => ⟨S1x4096x8x32, .f32⟩
  | 122 => ⟨S4x4096x8x32, .f32⟩
  | 123 => ⟨S4096x1x8, .f32⟩
  | 124 => ⟨S4096x1x8, .f32⟩
  | 125 => ⟨S4x4096x8x16, .f32⟩
  | 126 => ⟨S4x4096x8x16, .f32⟩
  | 127 => ⟨S4x4096x8x8, .f32⟩
  | _ => ⟨S20480x1024, .f32⟩

abbrev hbmTy0_1 (i : Nat) : BufTy := match i % 128 with
  | 0 => ⟨S4x4096x8x8, .f32⟩
  | 1 => ⟨S4096x1x8, .f32⟩
  | 2 => ⟨S4096x1x8, .f32⟩
  | 3 => ⟨S1x4096x1x8, .f32⟩
  | 4 => ⟨S4x4096x8x8, .f32⟩
  | 5 => ⟨S4x4096x8x8, .f32⟩
  | 6 => ⟨S1x4096x1x8, .f32⟩
  | 7 => ⟨S4x4096x8x8, .f32⟩
  | 8 => ⟨S4x4096x8x8, .f32⟩
  | 9 => ⟨S4x4096x8x8, .f32⟩
  | 10 => ⟨S1x4096x1x8, .f32⟩
  | 11 => ⟨S4x4096x8x8, .f32⟩
  | 12 => ⟨S4x4096x8x8, .f32⟩
  | 13 => ⟨S1x4096x1x8, .f32⟩
  | 14 => ⟨S4x4096x8x8, .f32⟩
  | 15 => ⟨S4x4096x8x8, .f32⟩
  | 16 => ⟨S4x4096x8x8, .f32⟩
  | 17 => ⟨S4x4096x8x16, .f32⟩
  | 18 => ⟨S4x4096x8x8, .f32⟩
  | 19 => ⟨S4x4096x8x8, .f32⟩
  | 20 => ⟨S4096x1x8, .f32⟩
  | 21 => ⟨S4096x1x8, .f32⟩
  | 22 => ⟨S1x4096x1x8, .f32⟩
  | 23 => ⟨S4x4096x8x8, .f32⟩
  | 24 => ⟨S4x4096x8x8, .f32⟩
  | 25 => ⟨S1x4096x1x8, .f32⟩
  | 26 => ⟨S4x4096x8x8, .f32⟩
  | 27 => ⟨S4x4096x8x8, .f32⟩
  | 28 => ⟨S4x4096x8x8, .f32⟩
  | 29 => ⟨S1x4096x1x8, .f32⟩
  | 30 => ⟨S4x4096x8x8, .f32⟩
  | 31 => ⟨S4x4096x8x8, .f32⟩
  | 32 => ⟨S1x4096x1x8, .f32⟩
  | 33 => ⟨S4x4096x8x8, .f32⟩
  | 34 => ⟨S4x4096x8x8, .f32⟩
  | 35 => ⟨S4x4096x8x8, .f32⟩
  | 36 => ⟨S4x4096x8x16, .f32⟩
  | 37 => ⟨S4x4096x8x32, .f32⟩
  | 38 => ⟨S5x4096x8x32, .f32⟩
  | 39 => ⟨S1x4096x32, .f32⟩
  | 40 => ⟨S4x4096x32, .f32⟩
  | 41 => ⟨S4x4096x16, .f32⟩
  | 42 => ⟨S4x4096x16, .f32⟩
  | 43 => ⟨S4x4096x8, .f32⟩
  | 44 => ⟨S4x4096x8, .f32⟩
  | 45 => ⟨S4096x8, .f32⟩
  | 46 => ⟨S4096x8, .f32⟩
  | 47 => ⟨S1x4096x8, .f32⟩
  | 48 => ⟨S4x4096x8, .f32⟩
  | 49 => ⟨S4x4096x8, .f32⟩
  | 50 => ⟨S1x4096x8, .f32⟩
  | 51 => ⟨S4x4096x8, .f32⟩
  | 52 => ⟨S4x4096x8, .f32⟩
  | 53 => ⟨S4x4096x8, .f32⟩
  | 54 => ⟨S1x4096x8, .f32⟩
  | 55 => ⟨S4x4096x8, .f32⟩
  | 56 => ⟨S4x4096x8, .f32⟩
  | 57 => ⟨S1x4096x8, .f32⟩
  | 58 => ⟨S4x4096x8, .f32⟩
  | 59 => ⟨S4x4096x8, .f32⟩
  | 60 => ⟨S4x4096x8, .f32⟩
  | 61 => ⟨S4x4096x16, .f32⟩
  | 62 => ⟨S4x4096x8, .f32⟩
  | 63 => ⟨S4x4096x8, .f32⟩
  | 64 => ⟨S4096x8, .f32⟩
  | 65 => ⟨S4096x8, .f32⟩
  | 66 => ⟨S1x4096x8, .f32⟩
  | 67 => ⟨S4x4096x8, .f32⟩
  | 68 => ⟨S4x4096x8, .f32⟩
  | 69 => ⟨S1x4096x8, .f32⟩
  | 70 => ⟨S4x4096x8, .f32⟩
  | 71 => ⟨S4x4096x8, .f32⟩
  | 72 => ⟨S4x4096x8, .f32⟩
  | 73 => ⟨S1x4096x8, .f32⟩
  | 74 => ⟨S4x4096x8, .f32⟩
  | 75 => ⟨S4x4096x8, .f32⟩
  | 76 => ⟨S1x4096x8, .f32⟩
  | 77 => ⟨S4x4096x8, .f32⟩
  | 78 => ⟨S4x4096x8, .f32⟩
  | 79 => ⟨S4x4096x8, .f32⟩
  | 80 => ⟨S4x4096x16, .f32⟩
  | 81 => ⟨S4x4096x32, .f32⟩
  | 82 => ⟨S5x4096x32, .f32⟩
  | 83 => ⟨S128x1024, .f32⟩
  | 84 => ⟨S5x4096x1024, .f32⟩
  | 85 => ⟨S5x4096x8x128, .f32⟩
  | 86 => ⟨S5x4096x8x64, .f32⟩
  | 87 => ⟨S5x4096x8x64, .f32⟩
  | 88 => ⟨S20480x32, .f32⟩
  | 89 => ⟨S_, .i32⟩
  | 90 => ⟨S_, .f32⟩
  | 91 => ⟨S20480x128, .f32⟩
  | 92 => ⟨S20480x512, .f32⟩
  | 93 => ⟨S_, .f32⟩
  | 94 => ⟨S20480x512, .f32⟩
  | 95 => ⟨S20480x512, .f32⟩
  | 96 => ⟨S512x20480, .f32⟩
  | 97 => ⟨S512x20480, .bf16⟩
  | 98 => ⟨S20480x256, .f32⟩
  | 99 => ⟨S_, .f32⟩
  | 100 => ⟨S20480x256, .f32⟩
  | 101 => ⟨S20480x256, .f32⟩
  | 102 => ⟨S256x20480, .f32⟩
  | 103 => ⟨S256x20480, .bf16⟩
  | 104 => ⟨S20480x128, .f32⟩
  | 105 => ⟨S20480x128, .bf16⟩
  | 106 => ⟨S20480x512, .f32⟩
  | 107 => ⟨S5x4096x512, .f32⟩
  | 108 => ⟨S20480x512, .f32⟩
  | 109 => ⟨S20480x512, .f32⟩
  | 110 => ⟨S20480x512, .bf16⟩
  | 111 => ⟨S20480x512, .f32⟩
  | 112 => ⟨S512x20480, .f32⟩
  | 113 => ⟨S512x20480, .bf16⟩
  | _ => ⟨S20480x1024, .f32⟩

abbrev hbmTy (i : Nat) : BufTy := match i / 128 with
  | 0 => hbmTy0_0 i
  | 1 => hbmTy0_1 i
  | _ => ⟨S20480x1024, .f32⟩

abbrev bufTy : (tb : Table) → Fin (tcTables nBuf tb) → BufTy
  | .hbm, ⟨i, _⟩ => hbmTy i
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_cst_12 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_c : Ref sig .tc := ⟨.hbm, 217, rfl⟩
abbrev main_call0_v0 : Ref sig .tc := ⟨.hbm, 218, rfl⟩
abbrev main_v195 : Ref sig .tc := ⟨.hbm, 219, rfl⟩
abbrev main_v196 : Ref sig .tc := ⟨.hbm, 220, rfl⟩
abbrev main_cst_13 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_cst_14 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩

abbrev nD : Nat := 1
abbrev τ : Topo := Topo.v7x

variable {F : FTy → Type} [FloatOps F]
-- ==== Kernel4.lean ====
abbrev S16x256x1024 : Shape := ⟨3, ![16, 256, 1024]⟩
abbrev S4x4096x1024 : Shape := ⟨3, ![4, 4096, 1024]⟩
abbrev S2x8x6144 : Shape := ⟨3, ![2, 8, 6144]⟩
abbrev S2x1024 : Shape := ⟨2, ![2, 1024]⟩
abbrev S1x1024x1792 : Shape := ⟨3, ![1, 1024, 1792]⟩
abbrev S1x64 : Shape := ⟨2, ![1, 64]⟩
abbrev S1x8x128x128 : Shape := ⟨4, ![1, 8, 128, 128]⟩
abbrev S1x8x128 : Shape := ⟨3, ![1, 8, 128]⟩
abbrev S4096x1024 : Shape := ⟨2, ![4096, 1024]⟩
abbrev S16384x1024 : Shape := ⟨2, ![16384, 1024]⟩
abbrev S2x8x6x1024 : Shape := ⟨4, ![2, 8, 6, 1024]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4x1024x128 : Shape := ⟨3, ![4, 1024, 128]⟩
abbrev S1x1024x128 : Shape := ⟨3, ![1, 1024, 128]⟩
abbrev S5x1024x128 : Shape := ⟨3, ![5, 1024, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1x1024 : Shape := ⟨2, ![1, 1024]⟩
abbrev S1024x1792 : Shape := ⟨2, ![1024, 1792]⟩
abbrev S64 : Shape := ⟨1, ![64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S1x4x128x128 : Shape := ⟨4, ![1, 4, 128, 128]⟩
abbrev S4x128x128 : Shape := ⟨3, ![4, 128, 128]⟩
abbrev S4x128x256 : Shape := ⟨3, ![4, 128, 256]⟩
abbrev S20480x512 : Shape := ⟨2, ![20480, 512]⟩
abbrev S512x20480 : Shape := ⟨2, ![512, 20480]⟩
abbrev S20480x128 : Shape := ⟨2, ![20480, 128]⟩
abbrev S128x20480 : Shape := ⟨2, ![128, 20480]⟩
abbrev S1024x1024 : Shape := ⟨2, ![1024, 1024]⟩
abbrev S1x1x6x1024 : Shape := ⟨4, ![1, 1, 6, 1024]⟩
abbrev S1024x512 : Shape := ⟨2, ![1024, 512]⟩
abbrev S512x1024 : Shape := ⟨2, ![512, 1024]⟩
abbrev S1024x128 : Shape := ⟨2, ![1024, 128]⟩
abbrev S128x1024 : Shape := ⟨2, ![128, 1024]⟩
abbrev S1x1x1x1024 : Shape := ⟨4, ![1, 1, 1, 1024]⟩
abbrev S1024 : Shape := ⟨1, ![1024]⟩
abbrev S1024x1 : Shape := ⟨2, ![1024, 1]⟩
abbrev S128x128 : Shape := ⟨2, ![128, 128]⟩
abbrev S256x128 : Shape := ⟨2, ![256, 128]⟩
abbrev S1x128x256 : Shape := ⟨3, ![1, 128, 256]⟩
abbrev S128x256 : Shape := ⟨2, ![128, 256]⟩

abbrev nBuf : Space → Nat
  | .hbm => 159
  | .vmem => 29
  | .smem => 0
  | _ => 0

abbrev hbmTy0_0 (i : Nat) : BufTy := match i % 128 with
  | 0 => ⟨S16x256x1024, .f32⟩
  | 1 => ⟨S4x4096x1024, .f32⟩
  | 2 => ⟨S2x8x6144, .f32⟩
  | 3 => ⟨S2x1024, .f32⟩
  | 4 => ⟨S1x1024x1792, .f32⟩
  | 5 => ⟨S1x64, .f32⟩
  | 6 => ⟨S1x64, .f32⟩
  | 7 => ⟨S1x8x128x128, .f32⟩
  | 8 => ⟨S1x8x128, .f32⟩
  | 9 => ⟨S4096x1024, .f32⟩
  | 10 => ⟨S16384x1024, .f32⟩
  | 11 => ⟨S2x8x6x1024, .f32⟩
  | 12 => ⟨S4096, .i32⟩
  | 13 => ⟨S_, .i32⟩
  | 14 => ⟨S_, .i32⟩
  | 15 => ⟨S4096, .i32⟩
  | 16 => ⟨S4096, .i32⟩
  | 17 => ⟨S4096, .i32⟩
  | 18 => ⟨S_, .i32⟩
  | 19 => ⟨S4096, .i32⟩
  | 20 => ⟨S4096, .i1⟩
  | 21 => ⟨S4096, .i32⟩
  | 22 => ⟨S4096, .i32⟩
  | 23 => ⟨S_, .i32⟩
  | 24 => ⟨S4096, .i32⟩
  | 25 => ⟨S4096, .i1⟩
  | 26 => ⟨S4096, .i1⟩
  | 27 => ⟨S_, .i32⟩
  | 28 => ⟨S4096, .i32⟩
  | 29 => ⟨S4096, .i32⟩
  | 30 => ⟨S4096, .i32⟩
  | 31 => ⟨S4096, .f32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S4096, .i32⟩
  | 39 => ⟨S4096, .i32⟩
  | 40 => ⟨S_, .i32⟩
  | 41 => ⟨S4096, .i32⟩
  | 42 => ⟨S4096, .i1⟩
  | 43 => ⟨S_, .i32⟩
  | 44 => ⟨S4096, .i32⟩
  | 45 => ⟨S4096, .i1⟩
  | 46 => ⟨S_, .i32⟩
  | 47 => ⟨S_, .i1⟩
  | 48 => ⟨S4096, .i1⟩
  | 49 => ⟨S4096, .i1⟩
  | 50 => ⟨S4096, .i1⟩
  | 51 => ⟨S4096, .i32⟩
  | 52 => ⟨S4096, .i32⟩
  | 53 => ⟨S4096, .i32⟩
  | 54 => ⟨S4096, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S4096x1, .f32⟩
  | 70 => ⟨S1x16, .f32⟩
  | 71 => ⟨S4096x16, .f32⟩
  | 72 => ⟨S4096x16, .f32⟩
  | 73 => ⟨S4096x16, .f32⟩
  | 74 => ⟨S4096x1, .f32⟩
  | 75 => ⟨S1x16, .f32⟩
  | 76 => ⟨S4096x16, .f32⟩
  | 77 => ⟨S4096x16, .f32⟩
  | 78 => ⟨S4096x16, .f32⟩
  | 79 => ⟨S4096x16, .f32⟩
  | 80 => ⟨S4096x16, .f32⟩
  | 81 => ⟨S4096x16, .f32⟩
  | 82 => ⟨S4096x16, .f32⟩
  | 83 => ⟨S4096x64, .f32⟩
  | 84 => ⟨S4096x16, .f32⟩
  | 85 => ⟨S4096x16, .f32⟩
  | 86 => ⟨S4096x16, .f32⟩
  | 87 => ⟨S4096x16, .f32⟩
  | 88 => ⟨S4096x16, .f32⟩
  | 89 => ⟨S4096x16, .f32⟩
  | 90 => ⟨S4096x64, .f32⟩
  | 91 => ⟨S1x4096x1x64, .f32⟩
  | 92 => ⟨S1x4096x2x64, .f32⟩
  | 93 => ⟨S4096x128, .f32⟩
  | 94 => ⟨S4x1024x128, .f32⟩
  | 95 => ⟨S1x4096x1x64, .f32⟩
  | 96 => ⟨S1x4096x2x64, .f32⟩
  | 97 => ⟨S4096x128, .f32⟩
  | 98 => ⟨S4x1024x128, .f32⟩
  | 99 => ⟨S_, .f32⟩
  | 100 => ⟨S1x1024x128, .f32⟩
  | 101 => ⟨S5x1024x128, .f32⟩
  | 102 => ⟨S_, .f32⟩
  | 103 => ⟨S1x1024x128, .f32⟩
  | 104 => ⟨S5x1024x128, .f32⟩
  | 105 => ⟨S512, .i32⟩
  | 106 => ⟨S_, .i32⟩
  | 107 => ⟨S_, .i32⟩
  | 108 => ⟨S512, .i32⟩
  | 109 => ⟨S512, .i32⟩
  | 110 => ⟨S512, .i32⟩
  | 111 => ⟨S_, .i32⟩
  | 112 => ⟨S512, .i32⟩
  | 113 => ⟨S512, .i1⟩
  | 114 => ⟨S512, .i32⟩
  | 115 => ⟨S512, .i32⟩
  | 116 => ⟨S_, .i32⟩
  | 117 => ⟨S512, .i32⟩
  | 118 => ⟨S512, .i1⟩
  | 119 => ⟨S512, .i1⟩
  | 120 => ⟨S_, .i32⟩
  | 121 => ⟨S512, .i32⟩
  | 122 => ⟨S512, .i32⟩
  | 123 => ⟨S512, .i32⟩
  | 124 => ⟨S512x1, .i32⟩
  | 125 => ⟨S1x512, .i32⟩
  | 126 => ⟨S512x512, .i32⟩
  | 127 => ⟨S512x512, .i32⟩
  | _ => ⟨S16x256x1024, .f32⟩

abbrev hbmTy0_1 (i : Nat) : BufTy := match i % 128 with
  | 0 => ⟨S512x512, .i1⟩
  | 1 => ⟨S512x512, .bf16⟩
  | 2 => ⟨S8x128, .f32⟩
  | 3 => ⟨S128x8, .f32⟩
  | 4 => ⟨S128x8x64, .f32⟩
  | 5 => ⟨S128x512, .f32⟩
  | 6 => ⟨S1x1024, .f32⟩
  | 7 => ⟨S1024x1792, .f32⟩
  | 8 => ⟨S1024x1792, .bf16⟩
  | 9 => ⟨S64, .f32⟩
  | 10 => ⟨S1x64, .f32⟩
  | 11 => ⟨S8x64, .f32⟩
  | 12 => ⟨S512, .f32⟩
  | 13 => ⟨S1x512, .f32⟩
  | 14 => ⟨S64, .f32⟩
  | 15 => ⟨S1x64, .f32⟩
  | 16 => ⟨S2x64, .f32⟩
  | 17 => ⟨S128, .f32⟩
  | 18 => ⟨S1x128, .f32⟩
  | 19 => ⟨S1x4x128x128, .f32⟩
  | 20 => ⟨S4x128x128, .f32⟩
  | 21 => ⟨S1x4x128x128, .f32⟩
  | 22 => ⟨S4x128x128, .f32⟩
  | 23 => ⟨S4x128x256, .f32⟩
  | 24 => ⟨S4x128x256, .bf16⟩
  | 25 => ⟨S20480x512, .bf16⟩
  | 26 => ⟨S512x20480, .bf16⟩
  | 27 => ⟨S20480x128, .f32⟩
  | 28 => ⟨S20480x128, .bf16⟩
  | 29 => ⟨S20480x128, .f32⟩
  | 30 => ⟨S128x20480, .bf16⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1024, .f32⟩
  | .local _ .vmem, ⟨7, _⟩ => ⟨S1024x1792, .bf16⟩
  | .local _ .vmem, ⟨8, _⟩ => ⟨S1x512, .f32⟩
  | .local _ .vmem, ⟨9, _⟩ => ⟨S1x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S4x128x256, .bf16⟩
  | .local _ .vmem, ⟨15, _⟩ => ⟨S128x512, .f32⟩
  | .local _ .vmem, ⟨16, _⟩ => ⟨S512x512, .bf16⟩
  | .local _ .vmem, ⟨17, _⟩ => ⟨S1024x512, .bf16⟩
  | .local _ .vmem, ⟨18, _⟩ => ⟨S1024x512, .bf16⟩
  | .local _ .vmem, ⟨19, _⟩ => ⟨S512x1024, .bf16⟩
  | .local _ .vmem, ⟨20, _⟩ => ⟨S512x1024, .bf16⟩
  | .local _ .vmem, ⟨21, _⟩ => ⟨S1024x128, .f32⟩
  | .local _ .vmem, ⟨22, _⟩ => ⟨S1024x128, .f32⟩
  | .local _ .vmem, ⟨23, _⟩ => ⟨S1024x128, .bf16⟩
  | .local _ .vmem, ⟨24, _⟩ => ⟨S1024x128, .bf16⟩
  | .local _ .vmem, ⟨25, _⟩ => ⟨S1024x128, .f32⟩
  | .local _ .vmem, ⟨26, _⟩ => ⟨S1024x128, .f32⟩
  | .local _ .vmem, ⟨27, _⟩ => ⟨S128x1024, .bf16⟩
  | .local _ .vmem, ⟨28, _⟩ => ⟨S128x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_cst : Ref sig .tc := ⟨.hbm, 56, rfl⟩
abbrev main_v9 : Ref sig .tc := ⟨.hbm, 57, rfl⟩
abbrev main_v10 : Ref sig .tc := ⟨.hbm, 58, rfl⟩
abbrev main_cst_1 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_cst_2 : Ref sig .tc := ⟨.hbm, 63, rfl⟩
abbrev main_v14 : Ref sig .tc := ⟨.hbm, 64, rfl⟩
abbrev main_v15 : Ref sig .tc := ⟨.hbm, 65, rfl⟩
abbrev main_cst_3 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_4 : Ref sig .tc := ⟨.hbm, 99, rfl⟩
abbrev main_v48 : Ref sig .tc := ⟨.hbm, 100, rfl⟩
abbrev main_v49 : Ref sig .tc := ⟨.hbm, 101, rfl⟩
abbrev main_cst_5 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_c_6 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_c : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_0 : Ref sig .tc := ⟨.hbm, 120, rfl⟩
abbrev main_call2_v12 : Ref sig .tc := ⟨.hbm, 121, rfl⟩
abbrev main_call2_v13 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83_0 : Ref sig .tc := ⟨.hbm, 153, rfl⟩
abbrev main_v83_1 : Ref sig .tc := ⟨.hbm, 154, rfl⟩
abbrev main_v83_2 : Ref sig .tc := ⟨.hbm, 155, rfl⟩
abbrev main_v83_3 : Ref sig .tc := ⟨.hbm, 156, rfl⟩
abbrev main_v83_4 : Ref sig .tc := ⟨.hbm, 157, rfl⟩
abbrev main_v83_5 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  let c0_i32_11 : BitVec 32 := 0#32
  ![c0_i32_8.toNat, v20.toNat, c0_i32_9.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let c0_i32 : BitVec 32 := 0#32
  let v2 : BitVec 1 := Scalar.cmpi .eq c4_i32_1 c0_i32
  let c1_i32 : BitVec 32 := 1#32
  let v3 : BitVec 32 := Scalar.select v2 c1_i32 c4_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  let c0_i32_9 : BitVec 32 := 0#32
  ![v13.toNat, c0_i32_7.toNat, c0_i32_8.toNat]

def cc0_transform_8 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let c0_i32 : BitVec 32 := 0#32
  let v2 : BitVec 1 := Scalar.cmpi .eq c4_i32_1 c0_i32
  let c1_i32 : BitVec 32 := 1#32
  let v3 : BitVec 32 := Scalar.select v2 c1_i32 c4_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  let c0_i32_9 : BitVec 32 := 0#32
  ![v13.toNat, c0_i32_7.toNat, c0_i32_8.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S16x256x1024 : Shape := ⟨3, ![16, 256, 1024]⟩
abbrev S4x4096x1024 : Shape := ⟨3, ![4, 4096, 1024]⟩
abbrev S2x8x6144 : Shape := ⟨3, ![2, 8, 6144]⟩
abbrev S2x1024 : Shape := ⟨2, ![2, 1024]⟩
abbrev S1x1024x1792 : Shape := ⟨3, ![1, 1024, 1792]⟩
abbrev S1x64 : Shape := ⟨2, ![1, 64]⟩
abbrev S1x8x128x128 : Shape := ⟨4, ![1, 8, 128, 128]⟩
abbrev S1x8x128 : Shape := ⟨3, ![1, 8, 128]⟩
abbrev S1x4096x1024 : Shape := ⟨3, ![1, 4096, 1024]⟩
abbrev S5x4096x1024 : Shape := ⟨3, ![5, 4096, 1024]⟩
abbrev S1x5x6144 : Shape := ⟨3, ![1, 5, 6144]⟩
abbrev S5x6144 : Shape := ⟨2, ![5, 6144]⟩
abbrev S5x1x6144 : Shape := ⟨3, ![5, 1, 6144]⟩
abbrev S5x1x1024 : Shape := ⟨3, ![5, 1, 1024]⟩
abbrev S1x1024 : Shape := ⟨2, ![1, 1024]⟩
abbrev S1024 : Shape := ⟨1, ![1024]⟩
abbrev S_ : Shape := ⟨0, ![]⟩
abbrev S5x4096 : Shape := ⟨2, ![5, 4096]⟩
abbrev S5x4096x1 : Shape := ⟨3, ![5, 4096, 1]⟩
abbrev S1x1x1024 : Shape := ⟨3, ![1, 1, 1024]⟩
abbrev S1024x1792 : Shape := ⟨2, ![1024, 1792]⟩
abbrev S5x4096x1792 : Shape := ⟨3, ![5, 4096, 1792]⟩
abbrev S5x4096x512 : Shape := ⟨3, ![5, 4096, 512]⟩
abbrev S5x4096x128 : Shape := ⟨3, ![5, 4096, 128]⟩
abbrev S5x4096x8x64 : Shape := ⟨4, ![5, 4096, 8, 64]⟩
abbrev S64 : Shape := ⟨1, ![64]⟩
abbrev S5x4096x8 : Shape := ⟨3, ![5, 4096, 8]⟩
abbrev S5x4096x8x1 : Shape := ⟨4, ![5, 4096, 8, 1]⟩
abbrev S1x1x1x64 : Shape := ⟨4, ![1, 1, 1, 64]⟩
abbrev S5x4096x2x64 : Shape := ⟨4, ![5, 4096, 2, 64]⟩
abbrev S5x4096x2 : Shape := ⟨3, ![5, 4096, 2]⟩
abbrev S5x4096x2x1 : Shape := ⟨4, ![5, 4096, 2, 1]⟩
abbrev S64x64 : Shape := ⟨2, ![64, 64]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x8x64 : Shape := ⟨4, ![1, 4096, 8, 64]⟩
abbrev S4x4096x8x64 : Shape := ⟨4, ![4, 4096, 8, 64]⟩
abbrev S4096x1x16 : Shape := ⟨3, ![4096, 1, 16]⟩
abbrev S4x4096x8x32 : Shape := ⟨4, ![4, 4096, 8, 32]⟩
abbrev S4x4096x8x16 : Shape := ⟨4, ![4, 4096, 8, 16]⟩
abbrev S1x4096x1x16 : Shape := ⟨4, ![1, 4096, 1, 16]⟩
abbrev S1x4096x2x64 : Shape := ⟨4, ![1, 4096, 2, 64]⟩
abbrev S4x4096x2x64 : Shape := ⟨4, ![4, 4096, 2, 64]⟩
abbrev S4x4096x2x32 : Shape := ⟨4, ![4, 4096, 2, 32]⟩
abbrev S4x4096x2x16 : Shape := ⟨4, ![4, 4096, 2, 16]⟩
abbrev S5x32x128x8x64 : Shape := ⟨5, ![5, 32, 128, 8, 64]⟩
abbrev S8x128x128 : Shape := ⟨3, ![8, 128, 128]⟩
abbrev S8x5x32x64x128 : Shape := ⟨5, ![8, 5, 32, 64, 128]⟩
abbrev S8x128 : Shape := ⟨2, ![8, 128]⟩
abbrev S128x8 : Shape := ⟨2, ![128, 8]⟩
abbrev S1x1x128x8x1 : Shape := ⟨5, ![1, 1, 128, 8, 1]⟩
abbrev S20480x512 : Shape := ⟨2, ![20480, 512]⟩
abbrev S512x20480 : Shape := ⟨2, ![512, 20480]⟩
abbrev S20480x128 : Shape := ⟨2, ![20480, 128]⟩
abbrev S128x20480 : Shape := ⟨2, ![128, 20480]⟩

abbrev nBuf : Space → Nat
  | .hbm => 237
  | .vmem => 0
  | .smem => 0
  | _ => 0

abbrev hbmTy0_0 (i : Nat) : BufTy := match i % 128 with
  | 0 => ⟨S16x256x1024, .f32⟩
  | 1 => ⟨S4x4096x1024, .f32⟩
  | 2 => ⟨S2x8x6144, .f32⟩
  | 3 => ⟨S2x1024, .f32⟩
  | 4 => ⟨S1x1024x1792, .f32⟩
  | 5 => ⟨S1x64, .f32⟩
  | 6 => ⟨S1x64, .f32⟩
  | 7 => ⟨S1x8x128x128, .f32⟩
  | 8 => ⟨S1x8x128, .f32⟩
  | 9 => ⟨S1x4096x1024, .f32⟩
  | 10 => ⟨S5x4096x1024, .f32⟩
  | 11 => ⟨S1x5x6144, .f32⟩
  | 12 => ⟨S5x6144, .f32⟩
  | 13 => ⟨S5x1x6144, .f32⟩
  | 14 => ⟨S5x1x1024, .f32⟩
  | 15 => ⟨S5x1x1024, .f32⟩
  | 16 => ⟨S5x1x1024, .f32⟩
  | 17 => ⟨S5x1x1024, .f32⟩
  | 18 => ⟨S5x1x1024, .f32⟩
  | 19 => ⟨S5x1x1024, .f32⟩
  | 20 => ⟨S1x1024, .f32⟩
  | 21 => ⟨S1024, .f32⟩
  | 22 => ⟨S5x4096x1024, .f32⟩
  | 23 => ⟨S_, .f32⟩
  | 24 => ⟨S5x4096, .f32⟩
  | 25 => ⟨S5x4096x1, .f32⟩
  | 26 => ⟨S_, .f32⟩
  | 27 => ⟨S5x4096x1, .f32⟩
  | 28 => ⟨S5x4096x1, .f32⟩
  | 29 => ⟨S_, .f32⟩
  | 30 => ⟨S5x4096x1, .f32⟩
  | 31 => ⟨S5x4096x1, .f32⟩
  | 32 => ⟨S5x4096x1, .f32⟩
  | 33 => ⟨S5x4096x1024, .f32⟩
  | 34 => ⟨S5x4096x1024, .f32⟩
  | 35 => ⟨S1x1x1024, .f32⟩
  | 36 => ⟨S5x4096x1024, .f32⟩
  | 37 => ⟨S5x4096x1024, .f32⟩
  | 38 => ⟨S_, .f32⟩
  | 39 => ⟨S5x1x1024, .f32⟩
  | 40 => ⟨S5x1x1024, .f32⟩
  | 41 => ⟨S5x4096x1024, .f32⟩
  | 42 => ⟨S5x4096x1024, .f32⟩
  | 43 => ⟨S5x4096x1024, .f32⟩
  | 44 => ⟨S5x4096x1024, .f32⟩
  | 45 => ⟨S1024x1792, .f32⟩
  | 46 => ⟨S5x4096x1792, .f32⟩
  | 47 => ⟨S5x4096x512, .f32⟩
  | 48 => ⟨S5x4096x512, .f32⟩
  | 49 => ⟨S5x4096x512, .f32⟩
  | 50 => ⟨S5x4096x128, .f32⟩
  | 51 => ⟨S5x4096x128, .f32⟩
  | 52 => ⟨S5x4096x8x64, .f32⟩
  | 53 => ⟨S64, .f32⟩
  | 54 => ⟨S5x4096x8x64, .f32⟩
  | 55 => ⟨S_, .f32⟩
  | 56 => ⟨S5x4096x8, .f32⟩
  | 57 => ⟨S5x4096x8x1, .f32⟩
  | 58 => ⟨S_, .f32⟩
  | 59 => ⟨S5x4096x8x1, .f32⟩
  | 60 => ⟨S5x4096x8x1, .f32⟩
  | 61 => ⟨S_, .f32⟩
  | 62 => ⟨S5x4096x8x1, .f32⟩
  | 63 => ⟨S5x4096x8x1, .f32⟩
  | 64 => ⟨S5x4096x8x1, .f32⟩
  | 65 => ⟨S5x4096x8x64, .f32⟩
  | 66 => ⟨S5x4096x8x64, .f32⟩
  | 67 => ⟨S1x1x1x64, .f32⟩
  | 68 => ⟨S5x4096x8x64, .f32⟩
  | 69 => ⟨S5x4096x8x64, .f32⟩
  | 70 => ⟨S5x4096x2x64, .f32⟩
  | 71 => ⟨S64, .f32⟩
  | 72 => ⟨S5x4096x2x64, .f32⟩
  | 73 => ⟨S_, .f32⟩
  | 74 => ⟨S5x4096x2, .f32⟩
  | 75 => ⟨S5x4096x2x1, .f32⟩
  | 76 => ⟨S_, .f32⟩
  | 77 => ⟨S5x4096x2x1, .f32⟩
  | 78 => ⟨S5x4096x2x1, .f32⟩
  | 79 => ⟨S_, .f32⟩
  | 80 => ⟨S5x4096x2x1, .f32⟩
  | 81 => ⟨S5x4096x2x1, .f32⟩
  | 82 => ⟨S5x4096x2x1, .f32⟩
  | 83 => ⟨S5x4096x2x64, .f32⟩
  | 84 => ⟨S5x4096x2x64, .f32⟩
  | 85 => ⟨S1x1x1x64, .f32⟩
  | 86 => ⟨S5x4096x2x64, .f32⟩
  | 87 => ⟨S5x4096x2x64, .f32⟩
  | 88 => ⟨S64, .f32⟩
  | 89 => ⟨S64x64, .f32⟩
  | 90 => ⟨S4096, .f32⟩
  | 91 => ⟨S64, .f32⟩
  | 92 => ⟨S1x64, .f32⟩
  | 93 => ⟨S64x64, .f32⟩
  | 94 => ⟨S4096, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S4096x1, .f32⟩
  | 110 => ⟨S1x16, .f32⟩
  | 111 => ⟨S4096x16, .f32⟩
  | 112 => ⟨S4096x16, .f32⟩
  | 113 => ⟨S4096x16, .f32⟩
  | 114 => ⟨S4096x1, .f32⟩
  | 115 => ⟨S1x16, .f32⟩
  | 116 => ⟨S4096x16, .f32⟩
  | 117 => ⟨S4096x16, .f32⟩
  | 118 => ⟨S4096x16, .f32⟩
  | 119 => ⟨S1x4096x8x64, .f32⟩
  | 120 => ⟨S4x4096x8x64, .f32⟩
  | 121 => ⟨S4096x1x16, .f32⟩
  | 122 => ⟨S4096x1x16, .f32⟩
  | 123 => ⟨S4x4096x8x32, .f32⟩
  | 124 => ⟨S4x4096x8x32, .f32⟩
  | 125 => ⟨S4x4096x8x16, .f32⟩
  | 126 => ⟨S4x4096x8x16, .f32⟩
  | 127 => ⟨S4096x1x16, .f32⟩
  | _ => ⟨S16x256x1024, .f32⟩

abbrev hbmTy0_1 (i : Nat) : BufTy := match i % 128 with
  | 0 => ⟨S4096x1x16, .f32⟩
  | 1 => ⟨S1x4096x1x16, .f32⟩
  | 2 => ⟨S4x4096x8x16, .f32⟩
  | 3 => ⟨S4x4096x8x16, .f32⟩
  | 4 => ⟨S1x4096x1x16, .f32⟩
  | 5 => ⟨S4x4096x8x16, .f32⟩
  | 6 => ⟨S4x4096x8x16, .f32⟩
  | 7 => ⟨S4x4096x8x16, .f32⟩
  | 8 => ⟨S1x4096x1x16, .f32⟩
  | 9 => ⟨S4x4096x8x16, .f32⟩
  | 10 => ⟨S4x4096x8x16, .f32⟩
  | 11 => ⟨S1x4096x1x16, .f32⟩
  | 12 => ⟨S4x4096x8x16, .f32⟩
  | 13 => ⟨S4x4096x8x16, .f32⟩
  | 14 => ⟨S4x4096x8x16, .f32⟩
  | 15 => ⟨S4x4096x8x32, .f32⟩
  | 16 => ⟨S4x4096x8x16, .f32⟩
  | 17 => ⟨S4x4096x8x16, .f32⟩
  | 18 => ⟨S4096x1x16, .f32⟩
  | 19 => ⟨S4096x1x16, .f32⟩
  | 20 => ⟨S1x4096x1x16, .f32⟩
  | 21 => ⟨S4x4096x8x16, .f32⟩
  | 22 => ⟨S4x4096x8x16, .f32⟩
  | 23 => ⟨S1x4096x1x16, .f32⟩
  | 24 => ⟨S4x4096x8x16, .f32⟩
  | 25 => ⟨S4x4096x8x16, .f32⟩
  | 26 => ⟨S4x4096x8x16, .f32⟩
  | 27 => ⟨S1x4096x1x16, .f32⟩
  | 28 => ⟨S4x4096x8x16, .f32⟩
  | 29 => ⟨S4x4096x8x16, .f32⟩
  | 30 => ⟨S1x4096x1x16, .f32⟩
  | 31 => ⟨S4x4096x8x16, .f32⟩
  | 32 => ⟨S4x4096x8x16, .f32⟩
  | 33 => ⟨S4x4096x8x16, .f32⟩
  | 34 => ⟨S4x4096x8x32, .f32⟩
  | 35 => ⟨S4x4096x8x64, .f32⟩
  | 36 => ⟨S5x4096x8x64, .f32⟩
  | 37 => ⟨S1x4096x2x64, .f32⟩
  | 38 => ⟨S4x4096x2x64, .f32⟩
  | 39 => ⟨S4096x1x16, .f32⟩
  | 40 => ⟨S4096x1x16, .f32⟩
  | 41 => ⟨S4x4096x2x32, .f32⟩
  | 42 => ⟨S4x4096x2x32, .f32⟩
  | 43 => ⟨S4x4096x2x16, .f32⟩
  | 44 => ⟨S4x4096x2x16, .f32⟩
  | 45 => ⟨S4096x1x16, .f32⟩
  | 46 => ⟨S4096x1x16, .f32⟩
  | 47 => ⟨S1x4096x1x16, .f32⟩
  | 48 => ⟨S4x4096x2x16, .f32⟩
  | 49 => ⟨S4x4096x2x16, .f32⟩
  | 50 => ⟨S1x4096x1x16, .f32⟩
  | 51 => ⟨S4x4096x2x16, .f32⟩
  | 52 => ⟨S4x4096x2x16, .f32⟩
  | 53 => ⟨S4x4096x2x16, .f32⟩
  | 54 => ⟨S1x4096x1x16, .f32⟩
  | 55 => ⟨S4x4096x2x16, .f32⟩
  | 56 => ⟨S4x4096x2x16, .f32⟩
  | 57 => ⟨S1x4096x1x16, .f32⟩
  | 58 => ⟨S4x4096x2x16, .f32⟩
  | 59 => ⟨S4x4096x2x16, .f32⟩
  | 60 => ⟨S4x4096x2x16, .f32⟩
  | 61 => ⟨S4x4096x2x32, .f32⟩
  | 62 => ⟨S4x4096x2x16, .f32⟩
  | 63 => ⟨S4x4096x2x16, .f32⟩
  | 64 => ⟨S4096x1x16, .f32⟩
  | 65 => ⟨S4096x1x16, .f32⟩
  | 66 => ⟨S1x4096x1x16, .f32⟩
  | 67 => ⟨S4x4096x2x16, .f32⟩
  | 68 => ⟨S4x4096x2x16, .f32⟩
  | 69 => ⟨S1x4096x1x16, .f32⟩
  | 70 => ⟨S4x4096x2x16, .f32⟩
  | 71 => ⟨S4x4096x2x16, .f32⟩
  | 72 => ⟨S4x4096x2x16, .f32⟩
  | 73 => ⟨S1x4096x1x16, .f32⟩
  | 74 => ⟨S4x4096x2x16, .f32⟩
  | 75 => ⟨S4x4096x2x16, .f32⟩
  | 76 => ⟨S1x4096x1x16, .f32⟩
  | 77 => ⟨S4x4096x2x16, .f32⟩
  | 78 => ⟨S4x4096x2x16, .f32⟩
  | 79 => ⟨S4x4096x2x16, .f32⟩
  | 80 => ⟨S4x4096x2x32, .f32⟩
  | 81 => ⟨S4x4096x2x64, .f32⟩
  | 82 => ⟨S5x4096x2x64, .f32⟩
  | 83 => ⟨S5x32x128x8x64, .f32⟩
  | 84 => ⟨S8x128x128, .f32⟩
  | 85 => ⟨S8x5x32x64x128, .f32⟩
  | 86 => ⟨S5x32x128x8x64, .f32⟩
  | 87 => ⟨S8x128, .f32⟩
  | 88 => ⟨S128x8, .f32⟩
  | 89 => ⟨S1x1x128x8x1, .f32⟩
  | 90 => ⟨S5x32x128x8x64, .f32⟩
  | 91 => ⟨S5x32x128x8x64, .f32⟩
  | 92 => ⟨S5x4096x512, .f32⟩
  | 93 => ⟨S5x4096x512, .f32⟩
  | 94 => ⟨S20480x512, .f32⟩
  | 95 => ⟨S20480x512, .bf16⟩
  | 96 => ⟨S20480x512, .f32⟩
  | 97 => ⟨S_, .f32⟩
  | 98 => ⟨S20480x512, .f32⟩
  | 99 => ⟨S20480x512, .f32⟩
  | 100 => ⟨S512x20480, .f32⟩
  | 101 => ⟨S512x20480, .bf16⟩
  | 102 => ⟨S20480x128, .f32⟩
  | 103 => ⟨S20480x128, .f32⟩
  | 104 => ⟨S20480x128, .bf16⟩
  | 105 => ⟨S20480x128, .f32⟩
  | 106 => ⟨S20480x128, .f32⟩
  | 107 => ⟨S128x20480, .f32⟩
  | 108 => ⟨S128x20480, .bf16⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_cst_12 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_cst_13 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩

abbrev nD : Nat := 1
abbrev τ : Topo := Topo.v7x

variable {F : FTy → Type} [FloatOps F]
-- ==== Kernel5.lean ====
abbrev S20480x512 : Shape := ⟨2, ![20480, 512]⟩
abbrev S512x4096 : Shape := ⟨2, ![512, 4096]⟩
abbrev S512x16384 : Shape := ⟨2, ![512, 16384]⟩
abbrev S16x256x1024 : Shape := ⟨3, ![16, 256, 1024]⟩
abbrev S4x4096x1024 : Shape := ⟨3, ![4, 4096, 1024]⟩
abbrev S2x8x6144 : Shape := ⟨3, ![2, 8, 6144]⟩
abbrev S2x1024 : Shape := ⟨2, ![2, 1024]⟩
abbrev S1x1024x1024 : Shape := ⟨3, ![1, 1024, 1024]⟩
abbrev S2x1024x16 : Shape := ⟨3, ![2, 1024, 16]⟩
abbrev S4096x1024 : Shape := ⟨2, ![4096, 1024]⟩
abbrev S16384x1024 : Shape := ⟨2, ![16384, 1024]⟩
abbrev S2x8x6x1024 : Shape := ⟨4, ![2, 8, 6, 1024]⟩
abbrev S1024x1024 : Shape := ⟨2, ![1024, 1024]⟩
abbrev S1x1024 : Shape := ⟨2, ![1, 1024]⟩
abbrev S1x1024x16 : Shape := ⟨3, ![1, 1024, 16]⟩
abbrev S1024x16 : Shape := ⟨2, ![1024, 16]⟩
abbrev S_ : Shape := ⟨0, ![]⟩
abbrev S1024x96 : Shape := ⟨2, ![1024, 96]⟩
abbrev S1024x128 : Shape := ⟨2, ![1024, 128]⟩
abbrev S20480x1024 : Shape := ⟨2, ![20480, 1024]⟩
abbrev S16x20480 : Shape := ⟨2, ![16, 20480]⟩
abbrev S1024x512 : Shape := ⟨2, ![1024, 512]⟩
abbrev S512x1024 : Shape := ⟨2, ![512, 1024]⟩
abbrev S1x1x6x1024 : Shape := ⟨4, ![1, 1, 6, 1024]⟩
abbrev S16x1024 : Shape := ⟨2, ![16, 1024]⟩
abbrev S512x256 : Shape := ⟨2, ![512, 256]⟩
abbrev S256x512 : Shape := ⟨2, ![256, 512]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S16x256 : Shape := ⟨2, ![16, 256]⟩

abbrev nBuf : Space → Nat
  | .hbm => 30
  | .vmem => 21
  | .smem => 0
  | _ => 0

abbrev bufTy : (tb : Table) → Fin (tcTables nBuf tb) → BufTy
  | .hbm, ⟨0, _⟩ => ⟨S20480x512, .f32⟩
  | .hbm, ⟨1, _⟩ => ⟨S512x4096, .f32⟩
  | .hbm, ⟨2, _⟩ => ⟨S512x16384, .f32⟩
  | .hbm, ⟨3, _⟩ => ⟨S16x256x1024, .f32⟩
  | .hbm, ⟨4, _⟩ => ⟨S4x4096x1024, .f32⟩
  | .hbm, ⟨5, _⟩ => ⟨S2x8x6144, .f32⟩
  | .hbm, ⟨6, _⟩ => ⟨S2x1024, .f32⟩
  | .hbm, ⟨7, _⟩ => ⟨S1x1024x1024, .f32⟩
  | .hbm, ⟨8, _⟩ => ⟨S2x1024x16, .f32⟩
  | .hbm, ⟨9, _⟩ => ⟨S4096x1024, .f32⟩
  | .hbm, ⟨10, _⟩ => ⟨S16384x1024, .f32⟩
  | .hbm, ⟨11, _⟩ => ⟨S2x8x6x1024, .f32⟩
  | .hbm, ⟨12, _⟩ => ⟨S512x4096, .bf16⟩
  | .hbm, ⟨13, _⟩ => ⟨S512x16384, .bf16⟩
  | .hbm, ⟨14, _⟩ => ⟨S20480x512, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1x1024x16, .f32⟩
  | .hbm, ⟨19, _⟩ => ⟨S1024x16, .f32⟩
  | .hbm, ⟨20, _⟩ => ⟨S1024x16, .bf16⟩
  | .hbm, ⟨21, _⟩ => ⟨S1024x16, .f32⟩
  | .hbm, ⟨22, _⟩ => ⟨S1024x16, .f32⟩
  | .hbm, ⟨23, _⟩ => ⟨S1024x16, .bf16⟩
  | .hbm, ⟨24, _⟩ => ⟨S_, .bf16⟩
  | .hbm, ⟨25, _⟩ => ⟨S1024x96, .bf16⟩
  | .hbm, ⟨26, _⟩ => ⟨S1024x128, .bf16⟩
  | .hbm, ⟨27, _⟩ => ⟨S20480x1024, .f32⟩
  | .hbm, ⟨28, _⟩ => ⟨S20480x1024, .bf16⟩
  | .hbm, ⟨29, _⟩ => ⟨S16x20480, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1x6x1024, .f32⟩
  | .local _ .vmem, ⟨12, _⟩ => ⟨S1x1x6x1024, .f32⟩
  | .local _ .vmem, ⟨13, _⟩ => ⟨S1x1024, .f32⟩
  | .local _ .vmem, ⟨14, _⟩ => ⟨S1024x128, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S16x1024, .f32⟩
  | .local _ .vmem, ⟨20, _⟩ => ⟨S16x1024, .f32⟩
  | _, _ => ⟨S20480x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  let c0_i32_11 : BitVec 32 := 0#32
  ![c0_i32_8.toNat, v20.toNat, c0_i32_9.toNat, c0_i32_10.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S20480x512 : Shape := ⟨2, ![20480, 512]⟩
abbrev S512x4096 : Shape := ⟨2, ![512, 4096]⟩
abbrev S512x16384 : Shape := ⟨2, ![512, 16384]⟩
abbrev S16x256x1024 : Shape := ⟨3, ![16, 256, 1024]⟩
abbrev S4x4096x1024 : Shape := ⟨3, ![4, 4096, 1024]⟩
abbrev S2x8x6144 : Shape := ⟨3, ![2, 8, 6144]⟩
abbrev S2x1024 : Shape := ⟨2, ![2, 1024]⟩
abbrev S1x1024x1024 : Shape := ⟨3, ![1, 1024, 1024]⟩
abbrev S2x1024x16 : Shape := ⟨3, ![2, 1024, 16]⟩
abbrev S1x4096x1024 : Shape := ⟨3, ![1, 4096, 1024]⟩
abbrev S5x4096x1024 : Shape := ⟨3, ![5, 4096, 1024]⟩
abbrev S512x20480 : Shape := ⟨2, ![512, 20480]⟩
abbrev S1x5x6144 : Shape := ⟨3, ![1, 5, 6144]⟩
abbrev S5x6144 : Shape := ⟨2, ![5, 6144]⟩
abbrev S5x1x6144 : Shape := ⟨3, ![5, 1, 6144]⟩
abbrev S5x1x1024 : Shape := ⟨3, ![5, 1, 1024]⟩
abbrev S20480x1024 : Shape := ⟨2, ![20480, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S5x4096 : Shape := ⟨2, ![5, 4096]⟩
abbrev S5x4096x1 : Shape := ⟨3, ![5, 4096, 1]⟩
abbrev S1x1x1024 : Shape := ⟨3, ![1, 1, 1024]⟩
abbrev S1x1024x16 : Shape := ⟨3, ![1, 1024, 16]⟩
abbrev S1024x16 : Shape := ⟨2, ![1024, 16]⟩
abbrev S16x20480 : Shape := ⟨2, ![16, 20480]⟩

abbrev nBuf : Space → Nat
  | .hbm => 60
  | .vmem => 0
  | .smem => 0
  | _ => 0

abbrev bufTy : (tb : Table) → Fin (tcTables nBuf tb) → BufTy
  | .hbm, ⟨0, _⟩ => ⟨S20480x512, .f32⟩
  | .hbm, ⟨1, _⟩ => ⟨S512x4096, .f32⟩
  | .hbm, ⟨2, _⟩ => ⟨S512x16384, .f32⟩
  | .hbm, ⟨3, _⟩ => ⟨S16x256x1024, .f32⟩
  | .hbm, ⟨4, _⟩ => ⟨S4x4096x1024, .f32⟩
  | .hbm, ⟨5, _⟩ => ⟨S2x8x6144, .f32⟩
  | .hbm, ⟨6, _⟩ => ⟨S2x1024, .f32⟩
  | .hbm, ⟨7, _⟩ => ⟨S1x1024x1024, .f32⟩
  | .hbm, ⟨8, _⟩ => ⟨S2x1024x16, .f32⟩
  | .hbm, ⟨9, _⟩ => ⟨S1x4096x1024, .f32⟩
  | .hbm, ⟨10, _⟩ => ⟨S5x4096x1024, .f32⟩
  | .hbm, ⟨11, _⟩ => ⟨S512x20480, .f32⟩
  | .hbm, ⟨12, _⟩ => ⟨S20480x512, .f32⟩
  | .hbm, ⟨13, _⟩ => ⟨S1x5x6144, .f32⟩
  | .hbm, ⟨14, _⟩ => ⟨S5x6144, .f32⟩
  | .hbm, ⟨15, _⟩ => ⟨S5x1x6144, .f32⟩
  | .hbm, ⟨16, _⟩ => ⟨S5x1x1024, .f32⟩
  | .hbm, ⟨17, _⟩ => ⟨S5x1x1024, .f32⟩
  | .hbm, ⟨18, _⟩ => ⟨S5x1x1024, .f32⟩
  | .hbm, ⟨19, _⟩ => ⟨S5x1x1024, .f32⟩
  | .hbm, ⟨20, _⟩ => ⟨S5x1x1024, .f32⟩
  | .hbm, ⟨21, _⟩ => ⟨S5x1x1024, .f32⟩
  | .hbm, ⟨22, _⟩ => ⟨S20480x1024, .f32⟩
  | .hbm, ⟨23, _⟩ => ⟨S1024x1024, .f32⟩
  | .hbm, ⟨24, _⟩ => ⟨S20480x1024, .f32⟩
  | .hbm, ⟨25, _⟩ => ⟨S5x4096x1024, .f32⟩
  | .hbm, ⟨26, _⟩ => ⟨S5x4096x1024, .f32⟩
  | .hbm, ⟨27, _⟩ => ⟨S5x4096x1024, .f32⟩
  | .hbm, ⟨28, _⟩ => ⟨S5x4096x1024, .f32⟩
  | .hbm, ⟨29, _⟩ => ⟨S1x1024, .f32⟩
  | .hbm, ⟨30, _⟩ => ⟨S1024, .f32⟩
  | .hbm, ⟨31, _⟩ => ⟨S5x4096x1024, .f32⟩
  | .hbm, ⟨32, _⟩ => ⟨S_, .f32⟩
  | .hbm, ⟨33, _⟩ => ⟨S5x4096, .f32⟩
  | .hbm, ⟨34, _⟩ => ⟨S5x4096x1, .f32⟩
  | .hbm, ⟨35, _⟩ => ⟨S_, .f32⟩
  | .hbm, ⟨36, _⟩ => ⟨S5x4096x1, .f32⟩
  | .hbm, ⟨37, _⟩ => ⟨S5x4096x1, .f32⟩
  | .hbm, ⟨38, _⟩ => ⟨S_, .f32⟩
  | .hbm, ⟨39, _⟩ => ⟨S5x4096x1, .f32⟩
  | .hbm, ⟨40, _⟩ => ⟨S5x4096x1, .f32⟩
  | .hbm, ⟨41, _⟩ => ⟨S5x4096x1, .f32⟩
  | .hbm, ⟨42, _⟩ => ⟨S5x4096x1024, .f32⟩
  | .hbm, ⟨43, _⟩ => ⟨S5x4096x1024, .f32⟩
  | .hbm, ⟨44, _⟩ => ⟨S1x1x1024, .f32⟩
  | .hbm, ⟨45, _⟩ => ⟨S5x4096x1024, .f32⟩
  | .hbm, ⟨46, _⟩ => ⟨S5x4096x1024, .f32⟩
  | .hbm, ⟨47, _⟩ => ⟨S_, .f32⟩
  | .hbm, ⟨48, _⟩ => ⟨S5x1x1024, .f32⟩
  | .hbm, ⟨49, _⟩ => ⟨S5x1x1024, .f32⟩
  | .hbm, ⟨50, _⟩ => ⟨S5x4096x1024, .f32⟩
  | .hbm, ⟨51, _⟩ => ⟨S5x4096x1024, .f32⟩
  | .hbm, ⟨52, _⟩ => ⟨S5x4096x1024, .f32⟩
  | .hbm, ⟨53, _⟩ => ⟨S5x4096x1024, .f32⟩
  | .hbm, ⟨54, _⟩ => ⟨S20480x1024, .f32⟩
  | .hbm, ⟨55, _⟩ => ⟨S20480x1024, .f32⟩
  | .hbm, ⟨56, _⟩ => ⟨S20480x1024, .bf16⟩
  | .hbm, ⟨57, _⟩ => ⟨S1x1024x16, .f32⟩
  | .hbm, ⟨58, _⟩ => ⟨S1024x16, .f32⟩
  | .hbm, ⟨59, _⟩ => ⟨S16x20480, .f32⟩
  | _, _ => ⟨S20480x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Proof.GqaBlock.lean ====
/- The kernel's body at one grid point, as two streams.

   A block of queries holds four heads, two to a stream, side by side in 512 columns. A stream takes the keys and
   values of a sequence 256 at a time: two chunks from the cache, sixteen of the sequence. `step` is what the body does
   with one chunk, `stream` the fold of `step` over a list of chunks. The printed body cuts this text into payloads at
   arbitrary places; `out_lo` and `out_hi` say that what it stores is nevertheless the fold. -/
module

public import proofs.«01_k».proof.Proof.Gen.KernelIdeal.Frame

@[expose] public section

set_option maxRecDepth 16384

noncomputable section

namespace Cert.KernelIdeal.Latent

open Cert.KernelIdeal Cert.KernelIdeal.Gen Idealize.ShloMosaic

variable {F : FTy → Type} [FloatOps F]

/-- The scores of 256 keys against a stream's 512 query columns. -/
def score (q : FVec F S128x512 .bf16) (k : FVec F S256x128 .bf16) : FVec F S256x512 .f32 :=
  matmul dot_S256x128_S128x512_S256x512_1_0_0_1_n_n none k q (constant S256x512 .f32 0x00000000#32)

/-- The largest score of every column, after a chunk's scores `s`. -/
def nextM (m : FVec F S1x512 .f32) (s : FVec F S256x512 .f32) : FVec F S1x512 .f32 :=
  maximumf m (shapeCast S1x512 (multiReduction .maximumf [0] S512 s 0xFF800000#32 reduces_S256x512_S512 (.inl rfl) rfl)
    shapeCasts_S512_S1x512)

/-- The accumulator after a chunk: `m` the largest score before it and `m'` the largest after it, `s` its scores, `v`
    its values, below which stand sixteen rows of ones. -/
def nextA (m m' : FVec F S1x512 .f32) (a : FVec F S80x512 .f32) (s : FVec F S256x512 .f32) (v : FVec F S64x256 .bf16) :
    FVec F S80x512 .f32 :=
  addf (mulf (broadcastTo S80x512 (exp2 (subf m m')) broadcasts_S1x512_S80x512) a)
    (matmul dot_S80x256_S256x512_S80x512_1_0_0_1_n_n none
      (concatenate S80x256 0 [⟨S64x256, v⟩, ⟨S16x256, k0_pay5 (F := F)⟩] concatenates_S64x256_S16x256_S80x256_d0)
      (truncf .bf16 (exp2 (subf s (broadcastTo S256x512 m' broadcasts_S1x512_S256x512))) bitsLt_bf16_f32)
      (constant S80x512 .f32 0x00000000#32))

/-- One chunk of a stream with queries `q`: the chunk's keys and its values. -/
def step (q : FVec F S128x512 .bf16) (st : FVec F S1x512 .f32 × FVec F S80x512 .f32)
    (kv : FVec F S256x128 .bf16 × FVec F S64x256 .bf16) : FVec F S1x512 .f32 × FVec F S80x512 .f32 :=
  (nextM st.1 (score q kv.1), nextA st.1 (nextM st.1 (score q kv.1)) st.2 (score q kv.1) kv.2)

/-- What a stream holds after the chunks of a list, in order. -/
def stream (q : FVec F S128x512 .bf16) (l : List (FVec F S256x128 .bf16 × FVec F S64x256 .bf16)) :
    FVec F S1x512 .f32 × FVec F S80x512 .f32 :=
  l.foldl (step q) (k0_pay6, k0_pay8)

/-- The weighted sums of the values over the sum of the weights. -/
def quot (a : FVec F S80x512 .f32) : FVec F S64x512 .f32 :=
  divf (extractStridedSlice S64x512 ![0, 0] a slices_S80x512_o0_0_S64x512)
    (broadcastTo S64x512 (extractStridedSlice S1x512 ![64, 0] a slices_S80x512_o64_0_S1x512) broadcasts_S1x512_S64x512)

/-- A chunk of the cache. -/
def cacheChunk (kc : Vec F S1x256x128 .bf16) (vc : Vec F S1x64x256 .bf16) : FVec F S256x128 .bf16 × FVec F S64x256 .bf16 :=
  (shapeCast S256x128 kc shapeCasts_S1x256x128_S256x128, shapeCast S64x256 vc shapeCasts_S1x64x256_S64x256)

/-- A chunk of the sequence. -/
def seqChunk (kc : Vec F S256x128 .bf16) (vc : Vec F S64x256 .bf16) : FVec F S256x128 .bf16 × FVec F S64x256 .bf16 :=
  (shapeCast S256x128 kc shapeCasts_S256x128_S256x128, shapeCast S64x256 vc shapeCasts_S64x256_S64x256)

/-- The eighteen chunks of a grid point, from the blocks of cache keys and values and of keys and values. -/
def chunks (x1 : Vec F S1x512x128 .bf16) (x2 : Vec F S1x64x512 .bf16) (x3 : Vec F S4096x128 .bf16)
    (x4 : Vec F S64x4096 .bf16) : List (FVec F S256x128 .bf16 × FVec F S64x256 .bf16) :=
  [cacheChunk (View.ld x1 r0_4) (View.ld x2 r0_6), cacheChunk (View.ld x1 r0_5) (View.ld x2 r0_8),
   seqChunk (View.ld x3 r0_7) (View.ld x4 r0_10), seqChunk (View.ld x3 r0_9) (View.ld x4 r0_12),
   seqChunk (View.ld x3 r0_11) (View.ld x4 r0_14), seqChunk (View.ld x3 r0_13) (View.ld x4 r0_16),
   seqChunk (View.ld x3 r0_15) (View.ld x4 r0_18), seqChunk (View.ld x3 r0_17) (View.ld x4 r0_20),
   seqChunk (View.ld x3 r0_19) (View.ld x4 r0_22), seqChunk (View.ld x3 r0_21) (View.ld x4 r0_24),
   seqChunk (View.ld x3 r0_23) (View.ld x4 r0_26), seqChunk (View.ld x3 r0_25) (View.ld x4 r0_28),
   seqChunk (View.ld x3 r0_27) (View.ld x4 r0_30), seqChunk (View.ld x3 r0_29) (View.ld x4 r0_32),
   seqChunk (View.ld x3 r0_31) (View.ld x4 r0_34), seqChunk (View.ld x3 r0_33) (View.ld x4 r0_36),
   seqChunk (View.ld x3 r0_35) (View.ld x4 r0_38), seqChunk (View.ld x3 r0_37) (View.ld x4 r0_39)]

variable (i : grid0.Coords) (x0 : Vec F S256x256 .bf16) (x1 : Vec F S1x512x128 .bf16) (x2 : Vec F S1x64x512 .bf16)
  (x3 : Vec F S4096x128 .bf16) (x4 : Vec F S64x4096 .bf16)

/-- The queries of the first stream: heads 0 and 1 of the block. -/
def qlo : FVec F S128x512 .bf16 := k0_pay3 i (View.ld x0 r0_0) (View.ld x0 r0_1)

/-- The queries of the second stream: heads 2 and 3 of the block. -/
def qhi : FVec F S128x512 .bf16 := k0_pay4 i (View.ld x0 r0_2) (View.ld x0 r0_3)

set_option maxHeartbeats 4000000 in
/-- The first stream's quotient is the fold's. -/
theorem out_lo : k0_pay124 (k0_pay130 i x0 x1 x2 x3 x4) (k0_pay193 i x0 x1 x2 x3 x4) (k0_pay194 i x0 x1 x2 x3 x4)
      (k0_pay195 i x0 x1 x2 x3 x4) (View.ld x4 r0_39)
    = quot (stream (qlo i x0) (chunks x1 x2 x3 x4)).2 := by
  rfl

set_option maxHeartbeats 4000000 in
/-- The second stream's quotient is the fold's. -/
theorem out_hi : k0_pay196 i x0 x1 x2 x3 x4 = quot (stream (qhi i x0) (chunks x1 x2 x3 x4)).2 := by
  rfl

end Cert.KernelIdeal.Latent

end
-- ==== Proof.Soft.lean ====
/- The mathematics of a streamed softmax, over the extended reals and apart from any program.

   A stream reads scores `S 0, S 1, …` (real numbers) and weights `W 0, W 1, …` (any extended reals) a chunk at a
   time. It keeps the largest score so far and the sum of `2 ^ (S k - m) * W k`, rescaling the sum each time the
   largest score moves. `Inv` says what it holds after `n` entries, `Inv.step` that one chunk keeps this, and
   `quotient_eq` that the quotient of two such sums is the softmax-weighted sum of the values, in base `e`. -/
module

public import Idealize.ShloMosaic.Lib.Pointwise

@[expose] public section

noncomputable section

namespace Cert.Soft

open Idealize.ShloMosaic

/-- The word of minus infinity. -/
theorem ofBits_neg_inf : Ideal.ofBits .f32 0xFF800000#32 = ⊥ := by simp [Ideal.ofBits, Ideal.ieee]

/-- A host maximum over the last of five axes, read at an index. -/
theorem hostMax_apply {a b c d n : ℕ} {u : Shape} (x : FVec Ideal ⟨5, ![a, b, c, d, n]⟩ .f32) (init : u.Idx → Ideal .f32)
    (h' : (⟨5, ![a, b, c, d, n]⟩ : Shape).ReducesTo [4] ⟨4, ![a, b, c, d]⟩)
    (h : (⟨5, ![a, b, c, d, n]⟩ : Shape).Reduces [4] ⟨4, ![a, b, c, d]⟩) (hu : 0 < u.numel)
    (i : Fin a) (j : Fin b) (k : Fin c) (l : Fin d) :
    Host.reduce (FloatOps.maximumf (F := Ideal) (φ := .f32)) x init h' hu (ix4 i j k l)
      = Finset.univ.fold (max : EReal → EReal → EReal) (init (Shape.Idx.first hu)) fun t : Fin n => x (ix5 i j k l t) := by
  rw [Host.reduce_eq_fold_single (FloatOps.maximumf (F := Ideal) (φ := .f32)) x _ h' h hu]
  have hf : x ∘ h.lift (ix4 i j k l) = fun t : Fin n => x (ix5 i j k l t) := funext fun t => congrArg x (by
    funext e; apply Fin.ext; fin_cases e <;> rfl)
  exact congrArg (fun f => Finset.fold (max : EReal → EReal → EReal) (init (Shape.Idx.first hu)) f (Finset.univ : Finset (Fin n))) hf

/-- A host maximum over the last of four axes, read at an index. -/
theorem hostMax4_apply {a b c n : ℕ} {u : Shape} (x : FVec Ideal ⟨4, ![a, b, c, n]⟩ .f32) (init : u.Idx → Ideal .f32)
    (h' : (⟨4, ![a, b, c, n]⟩ : Shape).ReducesTo [3] ⟨3, ![a, b, c]⟩)
    (h : (⟨4, ![a, b, c, n]⟩ : Shape).Reduces [3] ⟨3, ![a, b, c]⟩) (hu : 0 < u.numel)
    (i : Fin a) (j : Fin b) (k : Fin c) :
    Host.reduce (FloatOps.maximumf (F := Ideal) (φ := .f32)) x init h' hu (ix3 i j k)
      = Finset.univ.fold (max : EReal → EReal → EReal) (init (Shape.Idx.first hu)) fun t : Fin n => x (ix4 i j k t) := by
  rw [Host.reduce_eq_fold_single (FloatOps.maximumf (F := Ideal) (φ := .f32)) x _ h' h hu]
  have hf : x ∘ h.lift (ix3 i j k) = fun t : Fin n => x (ix4 i j k t) := funext fun t => congrArg x (by
    funext e; apply Fin.ext; fin_cases e <;> rfl)
  exact congrArg (fun f => Finset.fold (max : EReal → EReal → EReal) (init (Shape.Idx.first hu)) f (Finset.univ : Finset (Fin n))) hf

/-- The base-two exponential of a difference of two reals. -/
theorem exp2_sub (a b : ℝ) : Ideal.exp2 ((a : EReal) - b) = (((2 : ℝ) ^ (a - b) : ℝ) : EReal) := by
  rw [← EReal.coe_sub]; rfl

/-- A nonnegative real factor goes into a finite sum of extended reals. -/
theorem coe_mul_sum {ι : Type*} (s : Finset ι) (a : ℝ) (ha : 0 ≤ a) (f : ι → EReal) :
    (a : EReal) * ∑ k ∈ s, f k = ∑ k ∈ s, (a : EReal) * f k := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- A finite sum of reals is the same sum taken among the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

/-- The largest of finitely many reals, at least one, is a real. -/
theorem sup_real {ι : Type*} (s : Finset ι) (hs : s.Nonempty) (S : ι → ℝ) :
    s.sup (fun k => (S k : EReal)) = ((s.sup' hs S : ℝ) : EReal) := by
  rw [← Finset.sup'_eq_sup hs]
  exact (Finset.comp_sup'_eq_sup'_comp hs (fun x : ℝ => (x : EReal)) (fun a b => EReal.coe_strictMono.monotone.map_max)).symm

/-- What a stream holds after `n` entries: the largest score, and the rescaled sum. -/
def Inv (n : ℕ) (S : ℕ → ℝ) (W : ℕ → EReal) (m a : EReal) : Prop :=
  m = (Finset.range n).sup (fun k => (S k : EReal)) ∧ a = ∑ k ∈ Finset.range n, Ideal.exp2 ((S k : EReal) - m) * W k

/-- Before the first entry: no score, an empty sum. -/
theorem Inv.zero (S : ℕ → ℝ) (W : ℕ → EReal) : Inv 0 S W ⊥ 0 := by
  simp [Inv]

/-- One chunk of `c` entries. -/
theorem Inv.step {n c : ℕ} (hc : 0 < c) {S : ℕ → ℝ} {W : ℕ → EReal} {m a : EReal} (h : Inv n S W m a)
    {m' a' : EReal} (hm : m' = max m (Finset.univ.sup fun t : Fin c => (S (n + t) : EReal)))
    (ha : a' = Ideal.exp2 (m - m') * a + ∑ t : Fin c, Ideal.exp2 ((S (n + t) : EReal) - m') * W (n + t)) :
    Inv (n + c) S W m' a' := by
  obtain ⟨h1, h2⟩ := h
  have hsup : m' = (Finset.range (n + c)).sup (fun k => (S k : EReal)) := by
    rw [hm, h1]
    apply le_antisymm
    · refine max_le (Finset.sup_mono (by simp)) (Finset.sup_le fun t _ => ?_)
      exact Finset.le_sup (f := fun k => (S k : EReal)) (Finset.mem_range.2 (by omega))
    · refine Finset.sup_le fun k hk => ?_
      by_cases hkn : k < n
      · exact le_max_of_le_left (Finset.le_sup (f := fun k => (S k : EReal)) (Finset.mem_range.2 hkn))
      · refine le_max_of_le_right ?_
        have hk := Finset.mem_range.1 hk
        have := Finset.le_sup (f := fun t : Fin c => (S (n + t) : EReal)) (Finset.mem_univ ⟨k - n, by omega⟩)
        simpa [show n + (k - n) = k by omega] using this
  refine ⟨hsup, ?_⟩
  rw [Finset.sum_range_add, ha, ← Fin.sum_univ_eq_sum_range (fun t => Ideal.exp2 ((S (n + t) : EReal) - m') * W (n + t))]
  congr 1
  have hne' : (Finset.range (n + c)).Nonempty := ⟨0, by simp; omega⟩
  rw [sup_real _ hne'] at hsup
  rcases Nat.eq_zero_or_pos n with rfl | hn
  · subst h1 h2; simp
  · rw [sup_real _ ⟨0, by simpa using hn⟩] at h1
    generalize ((Finset.range n).sup' _ S) = M at h1
    generalize ((Finset.range (n + c)).sup' _ S) = M' at hsup
    rw [h1] at h2
    rw [h2, h1, hsup, exp2_sub, coe_mul_sum _ _ (by positivity)]
    refine Finset.sum_congr rfl fun k _ => ?_
    rw [exp2_sub, exp2_sub, ← mul_assoc, ← EReal.coe_mul, ← Real.rpow_add (by norm_num)]
    congr 3; ring

/-- The quotient of the two sums of a stream over `N` scores `s k / log 2` is the softmax of the scores `s` applied to
    the values, written with the base-`e` exponential, the maximum taken from `⊥` twice as a reduction writes it. -/
theorem quotient_eq {N : ℕ} (hN : 0 < N) (s S : ℕ → ℝ) (hS : ∀ k, S k = s k / Real.log 2) (V : ℕ → EReal)
    {m a l : EReal} (ha : Inv N S V m a) (hl : Inv N S (fun _ => 1) m l) :
    Ideal.div a l = ∑ k : Fin N, Ideal.div
      (Ideal.exp ((s k : EReal) - max ⊥ (Finset.univ.fold max ⊥ fun j : Fin N => (s j : EReal))))
      (0 + ∑ j : Fin N, Ideal.exp ((s j : EReal) - max ⊥ (Finset.univ.fold max ⊥ fun j : Fin N => (s j : EReal)))) * V k := by
  have hlog : 0 < Real.log 2 := Real.log_pos (by norm_num)
  have hne : (Finset.range N).Nonempty := ⟨0, by simpa using hN⟩
  have hneF : (Finset.univ : Finset (Fin N)).Nonempty := ⟨⟨0, hN⟩, Finset.mem_univ _⟩
  have hfold : (max ⊥ (Finset.univ.fold max ⊥ fun j : Fin N => (s j : EReal)))
      = ((Finset.univ.sup' hneF (fun j : Fin N => s j) : ℝ) : EReal) := by
    rw [max_eq_right bot_le]
    exact sup_real _ hneF (fun j : Fin N => s j)
  have hM : (Finset.range N).sup' hne S = (Finset.univ.sup' hneF (fun j : Fin N => s j)) / Real.log 2 := by
    apply le_antisymm
    · refine Finset.sup'_le _ _ fun k hk => ?_
      rw [hS]
      exact (div_le_div_iff_of_pos_right hlog).2
        (Finset.le_sup' (fun j : Fin N => s j) (Finset.mem_univ ⟨k, Finset.mem_range.1 hk⟩))
    · rw [div_le_iff₀ hlog]
      refine Finset.sup'_le _ _ fun k _ => ?_
      have := Finset.le_sup' S (Finset.mem_range.2 k.2)
      rw [hS, div_le_iff₀ hlog] at this
      exact this
  rw [hfold]
  obtain ⟨hm, ha⟩ := ha
  obtain ⟨-, hl⟩ := hl
  rw [sup_real _ hne, hM] at hm
  generalize (Finset.univ.sup' hneF (fun j : Fin N => s j)) = M at hm
  have hp : ∀ k, Ideal.exp2 ((S k : EReal) - m) = ((Real.exp (s k - M) : ℝ) : EReal) := fun k => by
    rw [hm, exp2_sub, hS, ← sub_div, Real.rpow_def_of_pos (by norm_num), mul_div_cancel₀ _ hlog.ne']
  have he : ∀ k, Ideal.exp ((s k : EReal) - (M : EReal)) = ((Real.exp (s k - M) : ℝ) : EReal) := fun k => by
    rw [← EReal.coe_sub]; rfl
  simp only [hp, mul_one] at ha hl
  simp only [he, zero_add]
  have hcoe : (∑ j : Fin N, ((Real.exp (s j - M) : ℝ) : EReal)) = ((∑ j : Fin N, Real.exp (s j - M) : ℝ) : EReal) := by
    exact (coe_sum _ _).symm
  have hL : 0 < ∑ j : Fin N, Real.exp (s j - M) := Finset.sum_pos (fun _ _ => Real.exp_pos _) hneF
  rw [← Fin.sum_univ_eq_sum_range (fun k => ((Real.exp (s k - M) : ℝ) : EReal) * V k)] at ha
  rw [← Fin.sum_univ_eq_sum_range (fun k => ((Real.exp (s k - M) : ℝ) : EReal)), hcoe] at hl
  rw [ha, hl, hcoe, Ideal.div_coe hL.ne', mul_comm, coe_mul_sum _ _ (by positivity)]
  refine Finset.sum_congr rfl fun k _ => ?_
  rw [Ideal.div_coe hL.ne', mul_comm ((Real.exp _ : ℝ) : EReal) ((1 / _ : ℝ) : EReal), mul_assoc]

end Cert.Soft

end
-- ==== Proof.GqaValue.lean ====
/- What one grid point stores, over the extended reals.

   A column of a stream is one query. `stream_inv` says that after a list of chunks the column holds the largest score
   and the rescaled sums (`Soft.Inv`); `chunks_key`, `chunks_val` that the eighteen chunks are the cache's 512 entries
   and then the sequence's 4096; `qlo_sum`, `qhi_sum` that the zeros under or over a head's 64 query rows restrict the
   product with 128 key lanes to the 64 lanes of the point's key head. -/
module

public import proofs.«01_k».proof.Proof.GqaBlock
public import proofs.«01_k».proof.Proof.Soft
public import Idealize.ShloMosaic.Lib.Pipeline.ValueKit

@[expose] public section

set_option maxRecDepth 16384

noncomputable section

namespace Cert.KernelIdeal.Latent

open Cert.KernelIdeal Cert.KernelIdeal.Gen Idealize.ShloMosaic

theorem score_apply (q : FVec Ideal S128x512 .bf16) (k : FVec Ideal S256x128 .bf16) (t : Fin 256) (j : Fin 512) :
    score q k (ix2 t j) = ∑ d : Fin 128, k (ix2 t d) * q (ix2 d j) := by
  pointwise [score]

theorem nextM_apply (m : FVec Ideal S1x512 .f32) (s : FVec Ideal S256x512 .f32) (j : Fin 512) :
    nextM m s (ix2 0 j) = max (m (ix2 0 j)) (Finset.univ.sup fun t : Fin 256 => s (ix2 t j)) := by
  pointwise [nextM]
  rw [Soft.ofBits_neg_inf]
  rfl

theorem nextA_apply (m m' : FVec Ideal S1x512 .f32) (a : FVec Ideal S80x512 .f32) (s : FVec Ideal S256x512 .f32)
    (v : FVec Ideal S64x256 .bf16) (r : Fin 80) (j : Fin 512) :
    nextA m m' a s v (ix2 r j) = Ideal.exp2 (m (ix2 0 j) - m' (ix2 0 j)) * a (ix2 r j)
      + ∑ t : Fin 256, Ideal.exp2 (s (ix2 t j) - m' (ix2 0 j)) * (if h : (r : ℕ) < 64 then v (ix2 ⟨r, h⟩ t) else 1) := by
  pointwise [nextA, k0_pay5]
  exact congrArg _ (Finset.sum_congr rfl fun t _ => mul_comm _ _)

theorem quot_apply (a : FVec Ideal S80x512 .f32) (d : Fin 64) (j : Fin 512) :
    quot a (ix2 d j) = Ideal.div (a (ix2 ⟨d, by omega⟩ j)) (a (ix2 64 j)) := by
  pointwise [quot]

/-- After the chunks of `l` a column whose scores are the reals `S` holds the running maximum and, in row `r`, the
    rescaled sum of the row's entries `W`. -/
theorem stream_inv (q : FVec Ideal S128x512 .bf16) (j : Fin 512) (r : Fin 80) (S : ℕ → ℝ) (W : ℕ → EReal)
    (l : List (FVec Ideal S256x128 .bf16 × FVec Ideal S64x256 .bf16)) :
    (∀ (c : ℕ) (hc : c < l.length) (t : Fin 256), score q l[c].1 (ix2 t j) = S (256 * c + t)) →
    (∀ (c : ℕ) (hc : c < l.length) (t : Fin 256), (if h : (r : ℕ) < 64 then l[c].2 (ix2 ⟨r, h⟩ t) else 1) = W (256 * c + t)) →
    Soft.Inv (256 * l.length) S W ((stream q l).1 (ix2 0 j)) ((stream q l).2 (ix2 r j)) := by
  induction l using List.reverseRecOn with
  | nil =>
    intro _ _
    have h1 : (stream q []).1 (ix2 0 j) = ⊥ := Soft.ofBits_neg_inf
    have h2 : (stream q []).2 (ix2 r j) = 0 := Ideal.ofBits_zero_f32
    rw [h1, h2]
    exact Soft.Inv.zero S W
  | append_singleton l kv ih =>
    intro hS hW
    have hk : ∀ t : Fin 256, score q kv.1 (ix2 t j) = S (256 * l.length + t) := fun t => by
      simpa using hS l.length (by simp) t
    have hv : ∀ t : Fin 256, (if h : (r : ℕ) < 64 then kv.2 (ix2 ⟨r, h⟩ t) else 1) = W (256 * l.length + t) := fun t => by
      simpa using hW l.length (by simp) t
    have := ih (fun c hc t => by
        have h := hS c (by simp; omega) t
        rwa [List.getElem_append_left hc] at h)
      (fun c hc t => by
        have h := hW c (by simp; omega) t
        rwa [List.getElem_append_left hc] at h)
    have hst : stream q (l ++ [kv]) = step q (stream q l) kv := by simp [stream]
    rw [hst, List.length_append, List.length_singleton, Nat.mul_add, Nat.mul_one]
    refine this.step (c := 256) (by norm_num) ?_ ?_
    · simp only [step, nextM_apply, hk]
    · simp only [step, nextA_apply, hk, hv]

/-- The keys of a point in order: the cache's, then the sequence's. -/
def key (x1 : Vec Ideal S1x512x128 .bf16) (x3 : Vec Ideal S4096x128 .bf16) (n : ℕ) (hn : n < 4608) (d : Fin 128) : EReal :=
  if h : n < 512 then x1 (ix3 0 ⟨n, h⟩ d) else x3 (ix2 ⟨n - 512, by omega⟩ d)

/-- The values of a point in order: the cache's, then the sequence's. -/
def val (x2 : Vec Ideal S1x64x512 .bf16) (x4 : Vec Ideal S64x4096 .bf16) (d : Fin 64) (n : ℕ) (hn : n < 4608) : EReal :=
  if h : n < 512 then x2 (ix3 0 d ⟨n, h⟩) else x4 (ix2 d ⟨n - 512, by omega⟩)

section Reads

variable (x0 : Vec Ideal S256x256 .bf16) (x1 : Vec Ideal S1x512x128 .bf16) (x2 : Vec Ideal S1x64x512 .bf16)
  (x3 : Vec Ideal S4096x128 .bf16) (x4 : Vec Ideal S64x4096 .bf16)

theorem chunks_length : (chunks x1 x2 x3 x4).length = 18 := rfl

theorem chunks_read (c : ℕ) (hc : c < 18) (t : Fin 256) :
    (∀ d : Fin 128, ((chunks x1 x2 x3 x4)[c]'hc).1 (ix2 t d) = key x1 x3 (256 * c + t) (by omega) d)
    ∧ ∀ d : Fin 64, ((chunks x1 x2 x3 x4)[c]'hc).2 (ix2 d t) = val x2 x4 d (256 * c + t) (by omega) := by
  interval_cases c <;>
  · simp only [chunks, List.getElem_cons_zero, List.getElem_cons_succ, key, val]
    refine ⟨fun d => ?_, fun d => ?_⟩
    · first | rw [dif_pos (by omega)] | rw [dif_neg (by omega)]
      pointwise [cacheChunk, seqChunk]
      try (congr 2; apply Fin.ext; simp only; omega)
    · first | rw [dif_pos (by omega)] | rw [dif_neg (by omega)]
      pointwise [cacheChunk, seqChunk]
      try (congr 2; apply Fin.ext; simp only; omega)

/-- A sum over the two heads' features of the first query block is the sum over the features of the
one head, as the other head's rows are zero. -/
theorem qlo_sum (i : grid0.Coords) (g : Fin 2) (hg : (i 1).val = g.val) (f : Fin 128 → EReal) (h : Fin 2) (cc : Fin 256) :
    ∑ d : Fin 128, f d * qlo i x0 (ix2 d ⟨256 * h + cc, by omega⟩)
      = ∑ e : Fin 64, f ⟨64 * g + e, by omega⟩ * x0 (ix2 ⟨64 * h + e, by omega⟩ cc) := by
  obtain rfl | rfl : g = 0 ∨ g = 1 := by omega
  all_goals obtain rfl | rfl : h = 0 ∨ h = 1 := by omega
  all_goals
    pointwise [qlo, k0_pay3, hg]
    simp [Scalar.select, Scalar.cmpi, show IntOp.cmpi .eq 1#32 0#32 = 0#1 by decide]

/-- The same of the second query block, which holds the third and the fourth head. -/
theorem qhi_sum (i : grid0.Coords) (g : Fin 2) (hg : (i 1).val = g.val) (f : Fin 128 → EReal) (h : Fin 2) (cc : Fin 256) :
    ∑ d : Fin 128, f d * qhi i x0 (ix2 d ⟨256 * h + cc, by omega⟩)
      = ∑ e : Fin 64, f ⟨64 * g + e, by omega⟩ * x0 (ix2 ⟨128 + 64 * h + e, by omega⟩ cc) := by
  obtain rfl | rfl : g = 0 ∨ g = 1 := by omega
  all_goals obtain rfl | rfl : h = 0 ∨ h = 1 := by omega
  all_goals
    pointwise [qhi, k0_pay4, hg]
    simp [Scalar.select, Scalar.cmpi, show IntOp.cmpi .eq 1#32 0#32 = 0#1 by decide]

/-- The running maximum and sums of a query column over the point's 4608 keys. -/
theorem chunks_inv (q : FVec Ideal S128x512 .bf16) (j : Fin 512) (S : ℕ → ℝ) (V : ℕ → EReal) (d : Fin 64)
    (hS : ∀ n hn, ∑ e : Fin 128, key x1 x3 n hn e * q (ix2 e j) = S n) (hV : ∀ n hn, val x2 x4 d n hn = V n) :
    ∃ m a l : EReal, Soft.Inv 4608 S V m a ∧ Soft.Inv 4608 S (fun _ => 1) m l
      ∧ quot (stream q (chunks x1 x2 x3 x4)).2 (ix2 d j) = Ideal.div a l := by
  have hk : ∀ (c : ℕ) (hc : c < 18) (t : Fin 256),
      score q ((chunks x1 x2 x3 x4)[c]'hc).1 (ix2 t j) = S (256 * c + t) := fun c hc t => by
    rw [score_apply, ← hS _ (by omega)]
    exact Finset.sum_congr rfl fun e _ => by rw [(chunks_read x1 x2 x3 x4 c hc t).1 e]
  refine ⟨_, _, _, stream_inv q j ⟨d, by omega⟩ S V (chunks x1 x2 x3 x4) hk fun c hc t => ?_,
    stream_inv q j 64 S (fun _ => 1) (chunks x1 x2 x3 x4) hk fun c hc t => rfl, quot_apply _ d j⟩
  rw [dif_pos d.isLt, ← hV _ (by have : c < 18 := hc; omega)]
  exact (chunks_read x1 x2 x3 x4 c hc t).2 d

end Reads

/-- Four stores of two streams' quotients, two heads each, read at head `hh`. -/
theorem tiles_read (A B : FVec Ideal S64x512 .f32) (hh : Fin 4) (d : Fin 64) (cc : Fin 256) :
    View.canon (Val := Elt Ideal) [(⟨r0_3, k0_pay2 B⟩ : View.Piece (Elt Ideal) S256x256 .bf16), ⟨r0_2, k0_pay1 B⟩, ⟨r0_1, k0_pay2 A⟩,
        ⟨r0_0, k0_pay1 A⟩] (ix2 ⟨64 * hh + d, by omega⟩ cc)
      = (if (hh : ℕ) < 2 then A else B) (ix2 d ⟨256 * (hh % 2 : ℕ) + cc, by omega⟩) := by
  canon_tiles x hx
  all_goals
    idx_vars x
    pointwise [k0_pay1, k0_pay2] at *
    split_ifs with h
    · first | omega | (congr 2 <;> (apply Fin.ext; try simp only) <;> omega)
    · first | omega | (congr 2 <;> (apply Fin.ext; try simp only) <;> omega)

theorem out_eq (i : grid0.Coords) (x0 : Vec Ideal S256x256 .bf16) (x1 : Vec Ideal S1x512x128 .bf16)
    (x2 : Vec Ideal S1x64x512 .bf16) (x3 : Vec Ideal S4096x128 .bf16) (x4 : Vec Ideal S64x4096 .bf16) :
    out0_5 i x0 x1 x2 x3 x4 = View.canon
      [⟨r0_3, k0_pay2 (quot (stream (qhi i x0) (chunks x1 x2 x3 x4)).2)⟩,
       ⟨r0_2, k0_pay1 (quot (stream (qhi i x0) (chunks x1 x2 x3 x4)).2)⟩,
       ⟨r0_1, k0_pay2 (quot (stream (qlo i x0) (chunks x1 x2 x3 x4)).2)⟩,
       ⟨r0_0, k0_pay1 (quot (stream (qlo i x0) (chunks x1 x2 x3 x4)).2)⟩] := by
  rw [← out_lo, ← out_hi]
  rfl

/-- The block a point stores: at head `hh` and feature `d` of the block and query `cc`, the quotient of the two sums
    over the point's 4608 keys. -/
theorem block_apply (i : grid0.Coords) (x0 : Vec Ideal S256x256 .bf16) (x1 : Vec Ideal S1x512x128 .bf16)
    (x2 : Vec Ideal S1x64x512 .bf16) (x3 : Vec Ideal S4096x128 .bf16) (x4 : Vec Ideal S64x4096 .bf16)
    (g : Fin 2) (hg : (i 1).val = g.val) (hh : Fin 4) (d : Fin 64) (cc : Fin 256) (S : ℕ → ℝ) (V : ℕ → EReal)
    (hS : ∀ n hn, ∑ e : Fin 64, key x1 x3 n hn ⟨64 * g + e, by omega⟩ * x0 (ix2 ⟨64 * hh + e, by omega⟩ cc) = S n)
    (hV : ∀ n hn, val x2 x4 d n hn = V n) :
    ∃ m a l : EReal, Soft.Inv 4608 S V m a ∧ Soft.Inv 4608 S (fun _ => 1) m l
      ∧ out0_5 i x0 x1 x2 x3 x4 (ix2 ⟨64 * hh + d, by omega⟩ cc) = Ideal.div a l := by
  rw [out_eq, tiles_read]
  by_cases h2 : (hh : ℕ) < 2
  · obtain ⟨m, a, l, hm, hl, h⟩ := chunks_inv x1 x2 x3 x4 (qlo i x0) ⟨256 * (hh % 2 : ℕ) + cc, by omega⟩ S V d
      (fun n hn => by
        rw [qlo_sum x0 i g hg _ ⟨hh % 2, by omega⟩ cc, ← hS n hn]
        simp only [Nat.mod_eq_of_lt h2]) hV
    exact ⟨m, a, l, hm, hl, by rw [if_pos h2, h]⟩
  · obtain ⟨m, a, l, hm, hl, h⟩ := chunks_inv x1 x2 x3 x4 (qhi i x0) ⟨256 * (hh % 2 : ℕ) + cc, by omega⟩ S V d
      (fun n hn => by
        rw [qhi_sum x0 i g hg _ ⟨hh % 2, by omega⟩ cc, ← hS n hn]
        simp only [show 128 + 64 * (hh % 2 : ℕ) = 64 * hh by omega]) hV
    exact ⟨m, a, l, hm, hl, by rw [if_neg h2, h]⟩

end Cert.KernelIdeal.Latent

end
-- ==== Proof.GqaArray.lean ====
/- The kernel's whole result, from the blocks of its grid points. -/
module

public import proofs.«01_k».proof.Proof.GqaValue
public import proofs.«01_k».proof.Proof.Gen.KernelIdeal.Value

@[expose] public section

set_option maxRecDepth 16384

noncomputable section

namespace Cert.KernelIdeal.Latent

open Cert.KernelIdeal Cert.KernelIdeal.Gen Idealize.ShloMosaic Idealize.ShloMosaic.TcCoe Idealize.SL.Sem

variable (m : (ℓ : Loc nD τ sig) → Buf (Elt Ideal) ℓ) (c : Dev nD)

/-- The argument arrays, at their types: queries, keys, values, and the cache's keys and values. -/
abbrev argQ : FVec Ideal S20480x512 .f32 := m ((c : Thread nD τ).loc main_arg0)
@[inherit_doc argQ] abbrev argK : FVec Ideal S20480x128 .f32 := m ((c : Thread nD τ).loc main_arg1)
@[inherit_doc argQ] abbrev argV : FVec Ideal S20480x128 .f32 := m ((c : Thread nD τ).loc main_arg2)
@[inherit_doc argQ] abbrev argCK : FVec Ideal S4x1x2x512x64 .f32 := m ((c : Thread nD τ).loc main_arg3)
@[inherit_doc argQ] abbrev argCV : FVec Ideal S4x1x2x512x64 .f32 := m ((c : Thread nD τ).loc main_arg4)

theorem entry_q (j : Fin 512) (p : Fin 20480) :
    V m c main_v5 (ix2 j p) = argQ m c (ix2 p j)
      * Ideal.div (Ideal.ofBits .f32 0x3E000000#32) (Ideal.log (Ideal.ofBits .f32 0x40000000#32)) := by
  entry_read
  pointwise

theorem entry_ck (b : Fin 4) (n : Fin 512) (g : Fin 2) (e : Fin 64) :
    V m c main_v12 (ix3 b n ⟨64 * g + e, by omega⟩) = argCK m c (ix5 b 0 g n e) := by
  entry_read
  pointwise
  simp only [show (64 * (g : ℕ) + e) / 64 = g by omega, show (64 * (g : ℕ) + e) % 64 = e by omega]

theorem entry_cv (b : Fin 4) (n : Fin 512) (g : Fin 2) (e : Fin 64) :
    V m c main_v16 (ix3 b ⟨64 * g + e, by omega⟩ n) = argCV m c (ix5 b 0 g n e) := by
  entry_read
  pointwise
  simp only [show (64 * (g : ℕ) + e) / 64 = g by omega, show (64 * (g : ℕ) + e) % 64 = e by omega]

theorem entry_k (p : Fin 20480) (j : Fin 128) :
    V m c main_v6 (ix2 p j) = argK m c (ix2 p j) := by
  entry_read
  pointwise

theorem entry_v (j : Fin 128) (p : Fin 20480) :
    V m c main_v8 (ix2 j p) = argV m c (ix2 p j) := by
  entry_read
  pointwise

/-- The block indices of a point's windows, from its coordinates. -/
theorem blocks_at : ∀ t : Fin grid0.N,
    win0_0.index t = ![(grid0.coords t 1).val, 16 + 16 * (grid0.coords t 0).val + (grid0.coords t 2).val]
    ∧ win0_1.index t = ![(grid0.coords t 0).val, 0, 0]
    ∧ win0_2.index t = ![(grid0.coords t 0).val, (grid0.coords t 1).val, 0]
    ∧ win0_3.index t = ![1 + (grid0.coords t 0).val, 0]
    ∧ win0_4.index t = ![(grid0.coords t 1).val, 1 + (grid0.coords t 0).val]
    ∧ win0_5.index t = ![(grid0.coords t 1).val, 16 * (grid0.coords t 0).val + (grid0.coords t 2).val] := by
  decide +kernel

/-- The kernel's array is `G` where every point's block is `G`'s. -/
theorem array_eq (G : FVec Ideal S512x16384 .bf16)
    (h : ∀ (t : Fin cfg0.N) (b : Fin 4) (g : Fin 2) (s : Fin 16) (_ : (grid0.coords t 0).val = b.val)
      (_ : (grid0.coords t 1).val = g.val) (_ : (grid0.coords t 2).val = s.val) (hh : Fin 4) (d : Fin 64) (cc : Fin 256),
      out0_5 (grid0.coords t) (iblk m c 0 t) (iblk m c 1 t) (iblk m c 2 t) (iblk m c 3 t) (iblk m c 4 t)
          (ix2 ⟨64 * hh + d, by omega⟩ cc)
        = G (ix2 ⟨256 * g + 64 * hh + d, by omega⟩ ⟨4096 * b + (256 * s + cc), by omega⟩)) :
    (dats m 0 c).arrAt 5 cfg0.N = G := by
  refine (dats m 0 c).arrAt_eq_of_covers 5 _ (by decide +kernel) fun t hf y => ?_
  blk_simp
  rw [after0_5]
  idx_vars y
  have hy := h t ⟨_, (grid0.coords t 0).isLt⟩ ⟨_, (grid0.coords t 1).isLt⟩ ⟨_, (grid0.coords t 2).isLt⟩ rfl rfl rfl
    ⟨y0 / 64, by omega⟩ ⟨y0 % 64, by omega⟩ y1
  simp only [Nat.div_add_mod] at hy
  refine hy.trans ?_
  blk_ext [blocks_at t]

variable (t : Fin cfg0.N) (b : Fin 4) (g : Fin 2) (s : Fin 16)
  (hb : (grid0.coords t 0).val = b.val) (hg : (grid0.coords t 1).val = g.val) (hs : (grid0.coords t 2).val = s.val)

include hb hg hs in
theorem block_q (j cc : Fin 256) :
    iblk m c 0 t (ix2 j cc) = argQ m c (ix2 ⟨4096 + (4096 * b + (256 * s + cc)), by omega⟩ ⟨256 * g + j, by omega⟩)
      * Ideal.div (Ideal.ofBits .f32 0x3E000000#32) (Ideal.log (Ideal.ofBits .f32 0x40000000#32)) := by
  rw [← entry_q]
  blk_ext [iblk, blocks_at t]

include hb in
theorem block_key (n : ℕ) (hn : n < 4608) (e : Fin 64) :
    key (iblk m c 1 t) (iblk m c 3 t) n hn ⟨64 * g + e, by omega⟩
      = if h : n < 512 then argCK m c (ix5 b 0 g ⟨n, h⟩ e)
        else argK m c (ix2 ⟨4096 + (4096 * b + (n - 512)), by omega⟩ ⟨64 * g + e, by omega⟩) := by
  unfold key
  refine dite_congr rfl (fun h => ?_) fun h => ?_
  · rw [← entry_ck]
    blk_ext [iblk, blocks_at t]
  · rw [← entry_k]
    blk_ext [iblk, blocks_at t]

include hb hg in
theorem block_val (n : ℕ) (hn : n < 4608) (e : Fin 64) :
    val (iblk m c 2 t) (iblk m c 4 t) e n hn
      = if h : n < 512 then argCV m c (ix5 b 0 g ⟨n, h⟩ e)
        else argV m c (ix2 ⟨4096 + (4096 * b + (n - 512)), by omega⟩ ⟨64 * g + e, by omega⟩) := by
  unfold val
  refine dite_congr rfl (fun h => ?_) fun h => ?_
  · rw [← entry_cv]
    blk_ext [iblk, blocks_at t]
  · rw [← entry_v]
    blk_ext [iblk, blocks_at t]

end Cert.KernelIdeal.Latent

end
-- ==== Proof.GqaRef.lean ====
/- The reference's result at an index.

   The composed term of the reference's host operations is cut at its own steps: the latent queries, keys and values by
   head, the scores, the weights (a softmax over the keys), the weighted values. Each is read at an index. -/
module

public import proofs.«01_k».proof.Proof.Gen.ReferenceIdeal.Run
public import proofs.«01_k».proof.Proof.Soft

@[expose] public section

set_option maxRecDepth 16384

noncomputable section

namespace Cert.ReferenceIdeal.Latent

open Cert.ReferenceIdeal Cert.ReferenceIdeal.Gen Cert.ReferenceIdeal.Value Idealize.ShloMosaic Idealize.ShloMosaic.TcCoe
open Idealize.SL.Sem

/-- The latent queries by batch, key head, query head of the group, position and feature. -/
def queries (q : FVec Ideal S20480x512 .f32) : FVec Ideal S4x2x4x4096x64 .f32 :=
  shapeCast S4x2x4x4096x64 (transpose S4x8x4096x64 [0, 2, 1, 3]
    (shapeCast S4x4096x8x64 (extractStridedSlice S16384x512 ![4096, 0] q slices_S20480x512_S16384x512_4096_0)
      shapeCasts_S16384x512_S4x4096x8x64) transposes_S4x4096x8x64_S4x8x4096x64_0_2_1_3)
    shapeCasts_S4x8x4096x64_S4x2x4x4096x64

/-- The keys (or values) by batch, key head, position and feature: the cache's, then the sequence's. -/
def keys (ck : FVec Ideal S4x1x2x512x64 .f32) (k : FVec Ideal S20480x128 .f32) : FVec Ideal S4x2x4608x64 .f32 :=
  concatenate S4x2x4608x64 2 [⟨S4x2x512x64, shapeCast S4x2x512x64 ck shapeCasts_S4x1x2x512x64_S4x2x512x64⟩,
    ⟨S4x2x4096x64, transpose S4x2x4096x64 [0, 2, 1, 3]
      (shapeCast S4x4096x2x64 (extractStridedSlice S16384x128 ![4096, 0] k slices_S20480x128_S16384x128_4096_0)
        shapeCasts_S16384x128_S4x4096x2x64) transposes_S4x4096x2x64_S4x2x4096x64_0_2_1_3⟩]
    concatenates_S4x2x512x64_S4x2x4096x64_S4x2x4608x64_d2

/-- The scaled scores. -/
def scores (q : FVec Ideal S4x2x4x4096x64 .f32) (k : FVec Ideal S4x2x4608x64 .f32) : FVec Ideal S4x2x4x4096x4608 .f32 :=
  mulf (Host.dotGeneral dot_S4x2x4x4096x64_S4x2x4608x64_S4x2x4x4096x4608_4_3_23_2_01_01 none q k)
    (broadcastInDim S4x2x4x4096x4608 ![] bcast_S_S4x2x4x4096x4608 (constant S_ .f32 0x3E000000#32))

/-- The largest score of every query. -/
def rowMax (s : FVec Ideal S4x2x4x4096x4608 .f32) : FVec Ideal S4x2x4x4096 .f32 :=
  Host.reduce FloatOps.maximumf s (constant S_ .f32 0xFF800000#32) reducesTo_S4x2x4x4096x4608_S4x2x4x4096_d4 h_S_

/-- The exponentials of the scores less the numbers `m`, one for every query. -/
def expos (s : FVec Ideal S4x2x4x4096x4608 .f32) (m : FVec Ideal S4x2x4x4096 .f32) : FVec Ideal S4x2x4x4096x4608 .f32 :=
  Host.exp (subf s (broadcastInDim S4x2x4x4096x4608 ![0, 1, 2, 3, 4] bcast_S4x2x4x4096x1_S4x2x4x4096x4608_0_1_2_3_4
    (broadcastInDim S4x2x4x4096x1 ![0, 1, 2, 3] bcast_S4x2x4x4096_S4x2x4x4096x1_0_1_2_3
      (maximumf (broadcastInDim S4x2x4x4096 ![] bcast_S_S4x2x4x4096 (constant S_ .f32 0xFF800000#32))
        m))))

/-- The exponentials over their sum. -/
def weights (e : FVec Ideal S4x2x4x4096x4608 .f32) : FVec Ideal S4x2x4x4096x4608 .f32 :=
  Host.divf e (broadcastInDim S4x2x4x4096x4608 ![0, 1, 2, 3, 4] bcast_S4x2x4x4096x1_S4x2x4x4096x4608_0_1_2_3_4
    (broadcastInDim S4x2x4x4096x1 ![0, 1, 2, 3] bcast_S4x2x4x4096_S4x2x4x4096x1_0_1_2_3
      (Host.reduceAdd e (constant S_ .f32 0x00000000#32) reducesTo_S4x2x4x4096x4608_S4x2x4x4096_d4 h_S_)))

/-- The weighted values, laid out by feature and token. -/
def result (w : FVec Ideal S4x2x4x4096x4608 .f32) (v : FVec Ideal S4x2x4608x64 .f32) : FVec Ideal S512x16384 .bf16 :=
  truncf .bf16 (transpose S512x16384 [1, 0] (shapeCast S16384x512
    (transpose S4x4096x2x4x64 [0, 3, 1, 2, 4]
      (Host.dotGeneral dot_S4x2x4x4096x4608_S4x2x4608x64_S4x2x4x4096x64_4_2_23_3_01_01 none w v)
      transposes_S4x2x4x4096x64_S4x4096x2x4x64_0_3_1_2_4) shapeCasts_S4x4096x2x4x64_S16384x512)
    transposes_S16384x512_S512x16384_1_0) bitsLt_bf16_f32

/-- The reference as a function of its arrays. -/
def out (q : FVec Ideal S20480x512 .f32) (k v : FVec Ideal S20480x128 .f32) (ck cv : FVec Ideal S4x1x2x512x64 .f32) :
    FVec Ideal S512x16384 .bf16 :=
  result (weights (expos (scores (queries q) (keys ck k)) (rowMax (scores (queries q) (keys ck k))))) (keys cv v)

theorem res_eq (m : (ℓ : Loc nD τ sig) → Buf (Elt Ideal) ℓ) (c : Dev nD) :
    res_out0 m c = out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  rfl

theorem queries_apply (q : FVec Ideal S20480x512 .f32) (b : Fin 4) (g : Fin 2) (h : Fin 4) (t : Fin 4096) (e : Fin 64) :
    queries q (ix5 b g h t e) = q (ix2 ⟨4096 + (4096 * b + t), by omega⟩ ⟨64 * (4 * g + h) + e, by omega⟩) := by
  pointwise [queries]
  congr 3 <;> omega

theorem keys_apply (ck : FVec Ideal S4x1x2x512x64 .f32) (k : FVec Ideal S20480x128 .f32) (b : Fin 4) (g : Fin 2)
    (n : Fin 4608) (e : Fin 64) :
    keys ck k (ix4 b g n e) = if h : (n : ℕ) < 512 then ck (ix5 b 0 g ⟨n, h⟩ e)
      else k (ix2 ⟨4096 + (4096 * b + (n - 512)), by omega⟩ ⟨64 * g + e, by omega⟩) := by
  pointwise [keys]
  refine dite_congr rfl (fun _ => rfl) fun _ => ?_
  congr 3 <;> omega

theorem scores_apply (q : FVec Ideal S4x2x4x4096x64 .f32) (k : FVec Ideal S4x2x4608x64 .f32) (b : Fin 4) (g : Fin 2)
    (h : Fin 4) (t : Fin 4096) (n : Fin 4608) :
    scores q k (ix5 b g h t n) = (∑ e : Fin 64, q (ix5 b g h t e) * k (ix4 b g n e)) * Ideal.ofBits .f32 0x3E000000#32 := by
  pointwise [scores]

theorem rowMax_apply (s : FVec Ideal S4x2x4x4096x4608 .f32) (b : Fin 4) (g : Fin 2) (h : Fin 4) (t : Fin 4096) :
    rowMax s (ix4 b g h t) = Finset.univ.fold max ⊥ fun n' : Fin 4608 => s (ix5 b g h t n') := by
  have hm := Soft.hostMax_apply s (constant (F := Ideal) S_ .f32 0xFF800000#32)
    reducesTo_S4x2x4x4096x4608_S4x2x4x4096_d4 (by decide) h_S_ b g h t
  have he : constant (F := Ideal) S_ .f32 0xFF800000#32 (Shape.Idx.first h_S_) = ⊥ := Soft.ofBits_neg_inf
  rw [he] at hm
  exact hm

theorem expos_apply (s : FVec Ideal S4x2x4x4096x4608 .f32) (m : FVec Ideal S4x2x4x4096 .f32) (b : Fin 4) (g : Fin 2)
    (h : Fin 4) (t : Fin 4096) (n : Fin 4608) :
    expos s m (ix5 b g h t n) = Ideal.exp (s (ix5 b g h t n) - max ⊥ (m (ix4 b g h t))) := by
  pointwise [expos, Soft.ofBits_neg_inf]

theorem weights_apply (e : FVec Ideal S4x2x4x4096x4608 .f32) (b : Fin 4) (g : Fin 2)
    (h : Fin 4) (t : Fin 4096) (n : Fin 4608) :
    weights e (ix5 b g h t n) = Ideal.div (e (ix5 b g h t n)) (0 + ∑ n' : Fin 4608, e (ix5 b g h t n')) := by
  pointwise [weights]

theorem result_apply (w : FVec Ideal S4x2x4x4096x4608 .f32) (v : FVec Ideal S4x2x4608x64 .f32) (r : Fin 512) (j : Fin 16384) :
    result w v (ix2 r j) = ∑ n : Fin 4608, w (ix5 ⟨j / 4096, by omega⟩ ⟨r / 256, by omega⟩ ⟨r / 64 % 4, by omega⟩
      ⟨j % 4096, by omega⟩ n) * v (ix4 ⟨j / 4096, by omega⟩ ⟨r / 256, by omega⟩ n ⟨r % 64, by omega⟩) := by
  pointwise [result]

/-- The reference at feature `r` and token `j`, for scores that are known to be the reals `s` at that token's head. -/
theorem out_apply (q : FVec Ideal S20480x512 .f32) (k v : FVec Ideal S20480x128 .f32)
    (ck cv : FVec Ideal S4x1x2x512x64 .f32) (b : Fin 4) (g : Fin 2) (h : Fin 4) (t : Fin 4096) (e : Fin 64) (s : ℕ → ℝ)
    (hs : ∀ n : Fin 4608, scores (queries q) (keys ck k) (ix5 b g h t n) = s n)
    (r : Fin 512) (hr : (r : ℕ) = 256 * g + 64 * h + e) (j : Fin 16384) (hj : (j : ℕ) = 4096 * b + t) :
    out q k v ck cv (ix2 r j) = ∑ n : Fin 4608, Ideal.div
      (Ideal.exp ((s n : EReal) - max ⊥ (Finset.univ.fold max ⊥ fun j : Fin 4608 => (s j : EReal))))
      (0 + ∑ j : Fin 4608, Ideal.exp ((s j : EReal) - max ⊥ (Finset.univ.fold max ⊥ fun j : Fin 4608 => (s j : EReal))))
      * keys cv v (ix4 b g n e) := by
  have h1 : (⟨j / 4096, by omega⟩ : Fin 4) = b := Fin.ext (by simp only; omega)
  have h2 : (⟨r / 256, by omega⟩ : Fin 2) = g := Fin.ext (by simp only; omega)
  have h3 : (⟨r / 64 % 4, by omega⟩ : Fin 4) = h := Fin.ext (by simp only; omega)
  have h4 : (⟨j % 4096, by omega⟩ : Fin 4096) = t := Fin.ext (by simp only; omega)
  have h5 : (⟨r % 64, by omega⟩ : Fin 64) = e := Fin.ext (by simp only; omega)
  have hM := rowMax_apply (scores (queries q) (keys ck k)) b g h t
  rw [out, result_apply, h1, h2, h3, h4, h5]
  simp only [weights_apply, expos_apply, hs] at hM ⊢
  rw [hM]

end Cert.ReferenceIdeal.Latent

end
-- ==== Proof.Finite.lean ====
/- Finite arrays and sums of finite products.

   A precondition states that every entry of an array lies strictly between the infinities; `real_of_all` reads it as
   "every entry is a real number". The scores of finite queries and keys are then real, with the scale factor in either
   place (`score_mul`, `score_scaled`). -/
module

public import proofs.«01_k».proof.Proof.Soft
public import Idealize.ShloMosaic.Lib.ReduceAll
public import Idealize.ShloMosaic.Lib.Pointwise

@[expose] public section

noncomputable section

namespace Cert.Soft

open Idealize.ShloMosaic

theorem ofBits_inf : Ideal.ofBits .f32 0x7F800000#32 = ⊤ := by simp [Ideal.ofBits, Ideal.ieee]

/-- An extended real whose absolute value is below infinity is a real number. -/
theorem real_of_lt (x : EReal) (h : max x (-x) < ⊤) : ∃ r : ℝ, x = r := by
  induction x using EReal.rec with
  | bot => simp at h
  | coe r => exact ⟨r, rfl⟩
  | top => simp at h

/-- Where "all absolute values are below infinity" holds, every entry is a real number. -/
theorem real_of_all {s : Shape} {axes : List (Fin s.rank)} (x : FVec Ideal s .f32)
    (hb : (⟨0, ![]⟩ : Shape).BroadcastsInDim s (![] : Fin 0 → Fin s.rank)) (init : IVec ⟨0, ![]⟩ 1)
    (h : s.ReducesTo axes ⟨0, ![]⟩) (hu : 0 < (⟨0, ![]⟩ : Shape).numel) (j : (⟨0, ![]⟩ : Shape).Idx)
    (hx : Host.reduce IntOp.andi
      (cmpf .olt (Host.absf x) (broadcastInDim s ![] hb (constant (F := Ideal) ⟨0, ![]⟩ .f32 0x7F800000#32))) init h hu j = 1#1)
    (i : s.Idx) : ∃ r : ℝ, x i = r := by
  haveI : Subsingleton (⟨0, ![]⟩ : Shape).Idx := ⟨fun a b => funext fun k => k.elim0⟩
  have := Host.reduce_andi_all _ init h hu j hx i
  refine real_of_lt (x i) ?_
  pointwise [ofBits_inf] at this
  by_contra hn
  have hf : decide (FloatOps.absf (x i) < (⊤ : EReal)) = false := decide_eq_false hn
  rw [hf] at this
  exact absurd this (by decide)

theorem eighth : Ideal.ofBits .f32 0x3E000000#32 = ((1 / 8 : ℝ) : EReal) := by
  simp [Ideal.ofBits, Ideal.ieee]
  rw [← EReal.coe_mul]
  norm_num

theorem two : Ideal.ofBits .f32 0x40000000#32 = ((2 : ℝ) : EReal) := by
  simp [Ideal.ofBits, Ideal.ieee]
  rw [← EReal.coe_mul]
  norm_num

theorem log_two_ne : Real.log 2 ≠ 0 := (Real.log_pos (by norm_num)).ne'

/-- A real number over the logarithm of 2. -/
theorem div_log_two (a : ℝ) : Ideal.div (a : EReal) (Ideal.log (Ideal.ofBits .f32 0x40000000#32)) = ((a / Real.log 2 : ℝ) : EReal) := by
  rw [two, Ideal.log_coe, if_neg (by norm_num), Ideal.div_coe log_two_ne, ← EReal.coe_mul]
  congr 1
  ring

/-- A score of reals scaled after the sum. -/
theorem score_mul {n : ℕ} (q k : Fin n → ℝ) (a : ℝ) :
    (∑ e, (q e : EReal) * (k e : EReal)) * (a : EReal) = (((∑ e, q e * k e) * a : ℝ) : EReal) := by
  simp only [← EReal.coe_mul, ← coe_sum]

/-- A score of reals with the queries scaled. -/
theorem score_scaled {n : ℕ} (q k : Fin n → ℝ) (a : ℝ) :
    ∑ e, (k e : EReal) * ((q e : EReal) * (a : EReal)) = (((∑ e, q e * k e) * a : ℝ) : EReal) := by
  simp only [← EReal.coe_mul, ← coe_sum]
  congr 1
  rw [Finset.sum_mul]
  exact Finset.sum_congr rfl fun e _ => by ring

/-- A sum over 256 lanes in their four parts. -/
theorem sum_lanes (f : Fin 256 → EReal) :
    ∑ d, f d = ∑ e : Fin 64, f ⟨e, by omega⟩ + ∑ e : Fin 64, f ⟨64 + e, by omega⟩ + ∑ e : Fin 32, f ⟨128 + e, by omega⟩
      + ∑ e : Fin 96, f ⟨160 + e, by omega⟩ := by
  refine (Fin.sum_univ_add (a := 160) (b := 96) f).trans (congrArg (· + _) ?_)
  refine (Fin.sum_univ_add (a := 128) (b := 32) _).trans (congrArg (· + _) ?_)
  exact Fin.sum_univ_add (a := 64) (b := 64) _

/-- A sum over 96 features in their two parts. -/
theorem sum_features (f : Fin 96 → EReal) :
    ∑ d, f d = ∑ e : Fin 64, f ⟨e, by omega⟩ + ∑ e : Fin 32, f ⟨64 + e, by omega⟩ :=
  Fin.sum_univ_add (a := 64) (b := 32) f

/-- The factor `96 ^ (-1/2)`, rounded, is a real number. -/
theorem factor : ∃ r : ℝ, Ideal.ofBits .f32 0x3DD105EC#32 = (r : EReal) := by
  simp [Ideal.ofBits, Ideal.ieee]
  exact ⟨_, (EReal.coe_mul _ _).symm⟩

end Cert.Soft

end
-- ==== Proof.GqaEq.lean ====
/- The grouped-query attention's claim: the kernel's result is the reference's, where queries and keys are finite. -/
module

public import proofs.«01_k».proof.Proof.GqaArray
public import proofs.«01_k».proof.Proof.GqaRef
public import proofs.«01_k».proof.Proof.Finite
public import proofs.«01_k».proof.Proof.Gen.Pre_finite
public import proofs.«01_k».proof.Defs

@[expose] public section

set_option maxRecDepth 16384

noncomputable section

namespace Cert.GqaEq

open Cert.KernelIdeal Cert.KernelIdeal.Gen Cert.KernelIdeal.Latent Idealize.ShloMosaic Idealize.ShloMosaic.TcCoe Idealize.SL.Sem

variable (m : (ℓ : Loc nD τ sig) → Buf (Elt Ideal) ℓ) (c : Dev nD)

/-- The precondition: the queries, the keys and the cache's keys are real numbers. -/
theorem real_args (h : Cert.Pre_KernelIdeal_finite m) :
    (∀ i, ∃ r : ℝ, argQ m c i = r) ∧ (∀ i, ∃ r : ℝ, argK m c i = r) ∧ ∀ i, ∃ r : ℝ, argCK m c i = r := by
  have h1 := congrFun (h c) (fun a => a.elim0)
  dsimp only [Cert.Pre_finite.fn, andi] at h1
  obtain ⟨h2, h3⟩ := (IntOp.andi_eq_one).mp h1
  obtain ⟨h4, h5⟩ := (IntOp.andi_eq_one).mp h2
  exact ⟨fun i => Soft.real_of_all _ _ _ _ _ _ h4 i, fun i => Soft.real_of_all _ _ _ _ _ _ h5 i,
    fun i => Soft.real_of_all _ _ _ _ _ _ h3 i⟩

/-- The kernel's array is the reference's function of the arguments. -/
theorem array (h : Cert.Pre_KernelIdeal_finite m) :
    (dats m 0 c).arrAt 5 cfg0.N
      = Cert.ReferenceIdeal.Latent.out (argQ m c) (argK m c) (argV m c) (argCK m c) (argCV m c) := by
  obtain ⟨hq, hk, hck⟩ := real_args m c h
  choose q hq using hq
  choose k hk using hk
  choose ck hck using hck
  refine array_eq m c _ fun t b g s hb hg hs hh d cc => ?_
  -- the keys, and the scores in the reference's form
  let kr : ℕ → Fin 64 → ℝ := fun n e => if h : n < 512 then ck (ix5 b 0 g ⟨n, h⟩ e)
    else if hn : n < 4608 then k (ix2 ⟨4096 + (4096 * b + (n - 512)), by omega⟩ ⟨64 * g + e, by omega⟩) else 0
  let qr : Fin 64 → ℝ := fun e => q (ix2 ⟨4096 + (4096 * b + (256 * s + cc)), by omega⟩ ⟨64 * (4 * g + hh) + e, by omega⟩)
  let sc : ℕ → ℝ := fun n => (∑ e, qr e * kr n e) * (1 / 8)
  have hkr : ∀ (n : ℕ) (hn : n < 4608) (e : Fin 64), (if h : n < 512 then argCK m c (ix5 b 0 g ⟨n, h⟩ e)
      else argK m c (ix2 ⟨4096 + (4096 * b + (n - 512)), by omega⟩ ⟨64 * g + e, by omega⟩)) = ((kr n e : ℝ) : EReal) := by
    intro n hn e
    by_cases h : n < 512
    · simp only [kr, dif_pos h, hck]
    · simp only [kr, dif_neg h, dif_pos hn, hk]
  obtain ⟨M, a, l, hm, hl, hout⟩ := block_apply (grid0.coords t) (iblk m c 0 t) (iblk m c 1 t) (iblk m c 2 t) (iblk m c 3 t)
    (iblk m c 4 t) g hg hh d cc (fun n => sc n / Real.log 2)
    (fun n => if hn : n < 4608 then Cert.ReferenceIdeal.Latent.keys (argCV m c) (argV m c) (ix4 b g ⟨n, hn⟩ d) else 0)
    (fun n hn => by
      have hx : ∀ e : Fin 64, iblk m c 0 t (ix2 ⟨64 * hh + e, by omega⟩ cc)
          = ((qr e : ℝ) : EReal) * ((1 / 8 / Real.log 2 : ℝ) : EReal) := fun e => by
        rw [block_q m c t b g s hb hg hs, Soft.eighth, Soft.div_log_two, hq]
        congr 4
        apply Fin.ext
        simp only
        omega
      refine (Finset.sum_congr rfl fun e _ => congrArg₂ (· * ·)
        ((block_key m c t b g s hb hg n hn e).trans (hkr n hn e)) (hx e)).trans ?_
      rw [Soft.score_scaled qr (kr n)]
      simp only [sc, mul_div_assoc])
    (fun n hn => by
      rw [block_val m c t b g s hb hg, dif_pos hn, Cert.ReferenceIdeal.Latent.keys_apply])
  rw [hout, Soft.quotient_eq (by norm_num) sc _ (fun _ => rfl) _ hm hl,
    Cert.ReferenceIdeal.Latent.out_apply _ _ _ _ _ b g hh ⟨256 * s + cc, by omega⟩ d sc ?_ _ rfl _ rfl]
  · refine Finset.sum_congr rfl fun n _ => ?_
    rw [dif_pos n.isLt]
  · intro n
    rw [Cert.ReferenceIdeal.Latent.scores_apply, Soft.eighth]
    simp only [Cert.ReferenceIdeal.Latent.queries_apply, Cert.ReferenceIdeal.Latent.keys_apply, hkr n n.isLt, hq]
    exact Soft.score_mul qr (kr n) _

/-- The claim. -/
theorem algebraic : Cert.algebraic_KernelIdeal_ReferenceIdeal_pre_finite := by
  intro m ρ m' ρ' hpre hagree
  refine ⟨fun c => Cert.ReferenceIdeal.Latent.out (argQ m c) (argK m c) (argV m c) (argCK m c) (argCV m c), ?_, ?_⟩
  · exact (θ_run Cert.KernelIdeal.defs _ _).mono (fun _ h c => ⟨(h c).1.trans (array m c hpre), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := hagree c
    refine (Cert.ReferenceIdeal.Latent.res_eq m' c).trans ?_
    rw [h0, h1, h2, h3, h4]

end Cert.GqaEq

end
-- ==== Proof.MlaBlock.lean ====
/- The second kernel's body at one grid point, as two streams.

   A block of queries holds four heads, two to a stream, side by side in 512 columns. A key has two parts side by side in
   256 lanes: the two heads' own 64 features each, and 32 features that all heads share, padded to 128. A stream takes
   the keys and values of a sequence 256 at a time: two chunks from the cache, sixteen of the sequence. `step` is what
   the body does with one chunk, `stream` the fold of `step` over a list of chunks. The printed body cuts this text into
   payloads at arbitrary places; `out_lo` and `out_hi` say that what it stores is nevertheless the fold. -/
module

public import proofs.«01_k».proof.Proof.Gen.Kernel2Ideal.Frame

@[expose] public section

set_option maxRecDepth 16384

noncomputable section

namespace Cert.Kernel2Ideal.Latent

open Cert.Kernel2Ideal Cert.Kernel2Ideal.Gen Idealize.ShloMosaic

variable {F : FTy → Type} [FloatOps F]

/-- A chunk: 256 keys, and the values of the stream's two heads. -/
structure Chunk (F : FTy → Type) where
  k : FVec F S256x256 .bf16
  v : FVec F S64x256 .bf16
  v' : FVec F S64x256 .bf16

/-- The scores of 256 keys against a stream's 512 query columns. -/
def score (q : FVec F S256x512 .bf16) (k : FVec F S256x256 .bf16) : FVec F S256x512 .f32 :=
  matmul dot_S256x256_S256x512_S256x512_1_0_0_1_n_n none k q (constant S256x512 .f32 0x00000000#32)

/-- The largest score of every column, after a chunk's scores `s`. -/
def nextM (m : FVec F S1x512 .f32) (s : FVec F S256x512 .f32) : FVec F S1x512 .f32 :=
  maximumf m (shapeCast S1x512 (multiReduction .maximumf [0] S512 s 0xFF800000#32 reduces_S256x512_S512 (.inl rfl) rfl)
    shapeCasts_S512_S1x512)

/-- A head's values, below which stand sixteen rows of ones, applied to weights. -/
def weigh (v : FVec F S64x256 .bf16) (p : FVec F S256x256 .bf16) : FVec F S80x256 .f32 :=
  matmul dot_S80x256_S256x256_S80x256_1_0_0_1_n_n none
    (concatenate S80x256 0 [⟨S64x256, v⟩, ⟨S16x256, k0_pay6 (F := F)⟩] concatenates_S64x256_S16x256_S80x256_d0) p
    (constant S80x256 .f32 0x00000000#32)

/-- The accumulator after a chunk: `m` the largest score before it and `m'` the largest after it, `s` its scores, `v` and
    `w` the values of the two heads. -/
def nextA (m m' : FVec F S1x512 .f32) (a : FVec F S80x512 .f32) (s : FVec F S256x512 .f32) (v w : FVec F S64x256 .bf16) :
    FVec F S80x512 .f32 :=
  have p : FVec F S256x512 .bf16 :=
    truncf .bf16 (exp2 (subf s (broadcastTo S256x512 m' broadcasts_S1x512_S256x512))) bitsLt_bf16_f32
  addf (mulf (broadcastTo S80x512 (exp2 (subf m m')) broadcasts_S1x512_S80x512) a)
    (concatenate S80x512 1 [⟨S80x256, weigh v (extractStridedSlice S256x256 ![0, 0] p slices_S256x512_o0_0_S256x256)⟩,
      ⟨S80x256, weigh w (extractStridedSlice S256x256 ![0, 256] p slices_S256x512_o0_256_S256x256)⟩]
      concatenates_S80x256_S80x256_S80x512_d1)

/-- One chunk of a stream with queries `q`. -/
def step (q : FVec F S256x512 .bf16) (st : FVec F S1x512 .f32 × FVec F S80x512 .f32) (ch : Chunk F) :
    FVec F S1x512 .f32 × FVec F S80x512 .f32 :=
  (nextM st.1 (score q ch.k), nextA st.1 (nextM st.1 (score q ch.k)) st.2 (score q ch.k) ch.v ch.v')

/-- What a stream holds after the chunks of a list, in order. -/
def stream (q : FVec F S256x512 .bf16) (l : List (Chunk F)) : FVec F S1x512 .f32 × FVec F S80x512 .f32 :=
  l.foldl (step q) (k0_pay7, k0_pay9)

/-- The weighted sums of the values over the sum of the weights. -/
def quot (a : FVec F S80x512 .f32) : FVec F S64x512 .f32 :=
  divf (extractStridedSlice S64x512 ![0, 0] a slices_S80x512_o0_0_S64x512)
    (broadcastTo S64x512 (extractStridedSlice S1x512 ![64, 0] a slices_S80x512_o64_0_S1x512) broadcasts_S1x512_S64x512)

/-- The first 256 columns of a stream's quotient. -/
def lowHalf (x : FVec F S64x512 .f32) : FVec F S64x256 .bf16 :=
  truncf .bf16 (extractStridedSlice S64x256 ![0, 0] x slices_S64x512_o0_0_S64x256) bitsLt_bf16_f32

/-- A chunk of the cache. -/
def cacheChunk (kn : Vec F S256x128 .bf16) (kr : Vec F S1x256x128 .bf16) (v w : Vec F S64x256 .bf16) : Chunk F :=
  ⟨concatenate S256x256 1 [⟨S256x128, shapeCast S256x128 kn shapeCasts_S256x128_S256x128⟩,
      ⟨S256x128, shapeCast S256x128 kr shapeCasts_S1x256x128_S256x128⟩] concatenates_S256x128_S256x128_S256x256_d1,
    shapeCast S64x256 v shapeCasts_S64x256_S64x256, shapeCast S64x256 w shapeCasts_S64x256_S64x256⟩

/-- A chunk of the sequence. -/
def seqChunk (kn kr : Vec F S256x128 .bf16) (v w : Vec F S64x256 .bf16) : Chunk F :=
  ⟨concatenate S256x256 1 [⟨S256x128, shapeCast S256x128 kn shapeCasts_S256x128_S256x128⟩,
      ⟨S256x128, shapeCast S256x128 kr shapeCasts_S256x128_S256x128⟩] concatenates_S256x128_S256x128_S256x256_d1,
    shapeCast S64x256 v shapeCasts_S64x256_S64x256, shapeCast S64x256 w shapeCasts_S64x256_S64x256⟩

variable (x0 : Vec F S256x256 .bf16) (x1 : Vec F S128x256 .bf16) (x2 : Vec F S512x256 .bf16) (x3 : Vec F S1x512x128 .bf16)
  (x4 : Vec F S256x512 .bf16) (x5 : Vec F S4096x256 .bf16) (x6 : Vec F S4096x128 .bf16) (x7 : Vec F S256x4096 .bf16)

/-- The eighteen chunks of the first stream: heads 0 and 1 of the block. -/
def chunksLo : List (Chunk F) :=
  [cacheChunk (View.ld x2 r0_8) (View.ld x3 r0_9) (View.ld x4 r0_13) (View.ld x4 r0_14),
   cacheChunk (View.ld x2 r0_11) (View.ld x3 r0_12) (View.ld x4 r0_20) (View.ld x4 r0_21),
   seqChunk (View.ld x5 r0_18) (View.ld x6 r0_19) (View.ld x7 r0_27) (View.ld x7 r0_28),
   seqChunk (View.ld x5 r0_25) (View.ld x6 r0_26) (View.ld x7 r0_34) (View.ld x7 r0_35),
   seqChunk (View.ld x5 r0_32) (View.ld x6 r0_33) (View.ld x7 r0_41) (View.ld x7 r0_42),
   seqChunk (View.ld x5 r0_39) (View.ld x6 r0_40) (View.ld x7 r0_48) (View.ld x7 r0_49),
   seqChunk (View.ld x5 r0_46) (View.ld x6 r0_47) (View.ld x7 r0_55) (View.ld x7 r0_56),
   seqChunk (View.ld x5 r0_53) (View.ld x6 r0_54) (View.ld x7 r0_62) (View.ld x7 r0_63),
   seqChunk (View.ld x5 r0_60) (View.ld x6 r0_61) (View.ld x7 r0_69) (View.ld x7 r0_70),
   seqChunk (View.ld x5 r0_67) (View.ld x6 r0_68) (View.ld x7 r0_76) (View.ld x7 r0_77),
   seqChunk (View.ld x5 r0_74) (View.ld x6 r0_75) (View.ld x7 r0_83) (View.ld x7 r0_84),
   seqChunk (View.ld x5 r0_81) (View.ld x6 r0_82) (View.ld x7 r0_90) (View.ld x7 r0_91),
   seqChunk (View.ld x5 r0_88) (View.ld x6 r0_89) (View.ld x7 r0_97) (View.ld x7 r0_98),
   seqChunk (View.ld x5 r0_95) (View.ld x6 r0_96) (View.ld x7 r0_104) (View.ld x7 r0_105),
   seqChunk (View.ld x5 r0_102) (View.ld x6 r0_103) (View.ld x7 r0_111) (View.ld x7 r0_112),
   seqChunk (View.ld x5 r0_109) (View.ld x6 r0_110) (View.ld x7 r0_118) (View.ld x7 r0_119),
   seqChunk (View.ld x5 r0_116) (View.ld x6 r0_117) (View.ld x7 r0_125) (View.ld x7 r0_126),
   seqChunk (View.ld x5 r0_123) (View.ld x6 r0_124) (View.ld x7 r0_130) (View.ld x7 r0_131)]

/-- The eighteen chunks of the second stream: heads 2 and 3 of the block. -/
def chunksHi : List (Chunk F) :=
  [cacheChunk (View.ld x2 r0_10) (View.ld x3 r0_9) (View.ld x4 r0_16) (View.ld x4 r0_17),
   cacheChunk (View.ld x2 r0_15) (View.ld x3 r0_12) (View.ld x4 r0_23) (View.ld x4 r0_24),
   seqChunk (View.ld x5 r0_22) (View.ld x6 r0_19) (View.ld x7 r0_30) (View.ld x7 r0_31),
   seqChunk (View.ld x5 r0_29) (View.ld x6 r0_26) (View.ld x7 r0_37) (View.ld x7 r0_38),
   seqChunk (View.ld x5 r0_36) (View.ld x6 r0_33) (View.ld x7 r0_44) (View.ld x7 r0_45),
   seqChunk (View.ld x5 r0_43) (View.ld x6 r0_40) (View.ld x7 r0_51) (View.ld x7 r0_52),
   seqChunk (View.ld x5 r0_50) (View.ld x6 r0_47) (View.ld x7 r0_58) (View.ld x7 r0_59),
   seqChunk (View.ld x5 r0_57) (View.ld x6 r0_54) (View.ld x7 r0_65) (View.ld x7 r0_66),
   seqChunk (View.ld x5 r0_64) (View.ld x6 r0_61) (View.ld x7 r0_72) (View.ld x7 r0_73),
   seqChunk (View.ld x5 r0_71) (View.ld x6 r0_68) (View.ld x7 r0_79) (View.ld x7 r0_80),
   seqChunk (View.ld x5 r0_78) (View.ld x6 r0_75) (View.ld x7 r0_86) (View.ld x7 r0_87),
   seqChunk (View.ld x5 r0_85) (View.ld x6 r0_82) (View.ld x7 r0_93) (View.ld x7 r0_94),
   seqChunk (View.ld x5 r0_92) (View.ld x6 r0_89) (View.ld x7 r0_100) (View.ld x7 r0_101),
   seqChunk (View.ld x5 r0_99) (View.ld x6 r0_96) (View.ld x7 r0_107) (View.ld x7 r0_108),
   seqChunk (View.ld x5 r0_106) (View.ld x6 r0_103) (View.ld x7 r0_114) (View.ld x7 r0_115),
   seqChunk (View.ld x5 r0_113) (View.ld x6 r0_110) (View.ld x7 r0_121) (View.ld x7 r0_122),
   seqChunk (View.ld x5 r0_120) (View.ld x6 r0_117) (View.ld x7 r0_128) (View.ld x7 r0_129),
   seqChunk (View.ld x5 r0_127) (View.ld x6 r0_124) (View.ld x7 r0_132) (View.ld x7 r0_133)]

/-- The queries of the first stream. -/
def qlo : FVec F S256x512 .bf16 := k0_pay4 (View.ld x0 r0_0) (View.ld x1 r0_1) (View.ld x0 r0_2) (View.ld x1 r0_3)

/-- The queries of the second stream. -/
def qhi : FVec F S256x512 .bf16 := k0_pay5 (View.ld x0 r0_4) (View.ld x1 r0_5) (View.ld x0 r0_6) (View.ld x1 r0_7)

set_option maxHeartbeats 4000000 in
/-- The first stream's quotient is the fold's. -/
theorem out_lo : k0_pay157 (k0_pay235 x0 x1 x2 x3 x4 x5 x6 x7) (k0_pay236 x0 x1 x2 x3 x4 x5 x6 x7)
      (k0_pay240 x0 x1 x2 x3 x4 x5 x6 x7) (k0_pay241 x0 x1 x2 x3 x4 x5 x6 x7)
    = quot (stream (qlo x0 x1) (chunksLo x2 x3 x4 x5 x6 x7)).2 := by
  rfl

set_option maxHeartbeats 4000000 in
/-- The second stream's quotient is the fold's. -/
theorem out_hi : k0_pay158 (k0_pay164 x0 x1 x2 x3 x4 x5 x6 x7) (k0_pay237 x0 x1 x2 x3 x4 x5 x6 x7)
      (k0_pay238 x0 x1 x2 x3 x4 x5 x6 x7) (k0_pay239 x0 x1 x2 x3 x4 x5 x6 x7) (View.ld x7 r0_132) (View.ld x7 r0_133)
    = quot (stream (qhi x0 x1) (chunksHi x2 x3 x4 x5 x6 x7)).2 := by
  rfl

end Cert.Kernel2Ideal.Latent

end
-- ==== Proof.MlaValue.lean ====
/- What one grid point of the second kernel stores, over the extended reals.

   A column of a stream is one query. `stream_inv` says that after a list of chunks the column holds the largest score
   and the rescaled sums (`Soft.Inv`); `lo_read`, `hi_read` that the eighteen chunks are the cache's 512 entries and then
   the sequence's 4096; `qlo_sum`, `qhi_sum` that the zeros around a head's query rows restrict the product with 256 key
   lanes to the head's own 64 lanes and the 32 shared ones. -/
module

public import proofs.«01_k».proof.Proof.MlaBlock
public import proofs.«01_k».proof.Proof.Finite
public import Idealize.ShloMosaic.Lib.Pipeline.ValueKit

@[expose] public section

set_option maxRecDepth 16384

noncomputable section

namespace Cert.Kernel2Ideal.Latent

open Cert.Kernel2Ideal Cert.Kernel2Ideal.Gen Idealize.ShloMosaic

theorem score_apply (q : FVec Ideal S256x512 .bf16) (k : FVec Ideal S256x256 .bf16) (t : Fin 256) (j : Fin 512) :
    score q k (ix2 t j) = ∑ d : Fin 256, k (ix2 t d) * q (ix2 d j) := by
  pointwise [score]

theorem nextM_apply (m : FVec Ideal S1x512 .f32) (s : FVec Ideal S256x512 .f32) (j : Fin 512) :
    nextM m s (ix2 0 j) = max (m (ix2 0 j)) (Finset.univ.sup fun t : Fin 256 => s (ix2 t j)) := by
  pointwise [nextM]
  rw [Soft.ofBits_neg_inf]
  rfl

theorem weigh_apply (v : FVec Ideal S64x256 .bf16) (p : FVec Ideal S256x256 .bf16) (r : Fin 80) (j : Fin 256) :
    weigh v p (ix2 r j) = ∑ t : Fin 256, p (ix2 t j) * (if h : (r : ℕ) < 64 then v (ix2 ⟨r, h⟩ t) else 1) := by
  pointwise [weigh, k0_pay6]
  exact Finset.sum_congr rfl fun t _ => mul_comm _ _

theorem nextA_apply (m m' : FVec Ideal S1x512 .f32) (a : FVec Ideal S80x512 .f32) (s : FVec Ideal S256x512 .f32)
    (v w : FVec Ideal S64x256 .bf16) (r : Fin 80) (h : Fin 2) (cc : Fin 256) :
    nextA m m' a s v w (ix2 r ⟨256 * h + cc, by omega⟩)
      = Ideal.exp2 (m (ix2 0 ⟨256 * h + cc, by omega⟩) - m' (ix2 0 ⟨256 * h + cc, by omega⟩)) * a (ix2 r ⟨256 * h + cc, by omega⟩)
      + ∑ t : Fin 256, Ideal.exp2 (s (ix2 t ⟨256 * h + cc, by omega⟩) - m' (ix2 0 ⟨256 * h + cc, by omega⟩))
          * (if hr : (r : ℕ) < 64 then (if h = 0 then v else w) (ix2 ⟨r, hr⟩ t) else 1) := by
  obtain rfl | rfl : h = 0 ∨ h = 1 := by omega
  all_goals
    pointwise [nextA, weigh_apply]
    simp
    rfl

theorem quot_apply (a : FVec Ideal S80x512 .f32) (d : Fin 64) (j : Fin 512) :
    quot a (ix2 d j) = Ideal.div (a (ix2 ⟨d, by omega⟩ j)) (a (ix2 64 j)) := by
  pointwise [quot]

/-- After the chunks of `l` a column of the stream's head `h` whose scores are the reals `S` holds the running maximum and,
    in row `r`, the rescaled sum of the row's entries `W`. -/
theorem stream_inv (q : FVec Ideal S256x512 .bf16) (h : Fin 2) (cc : Fin 256) (r : Fin 80) (S : ℕ → ℝ) (W : ℕ → EReal)
    (l : List (Chunk Ideal)) :
    (∀ (c : ℕ) (hc : c < l.length) (t : Fin 256), score q l[c].k (ix2 t ⟨256 * h + cc, by omega⟩) = S (256 * c + t)) →
    (∀ (c : ℕ) (hc : c < l.length) (t : Fin 256),
      (if hr : (r : ℕ) < 64 then (if h = 0 then l[c].v else l[c].v') (ix2 ⟨r, hr⟩ t) else 1) = W (256 * c + t)) →
    Soft.Inv (256 * l.length) S W
      ((stream q l).1 (ix2 0 ⟨256 * h + cc, by omega⟩)) ((stream q l).2 (ix2 r ⟨256 * h + cc, by omega⟩)) := by
  induction l using List.reverseRecOn with
  | nil =>
    intro _ _
    have h1 : (stream q []).1 (ix2 0 ⟨256 * h + cc, by omega⟩) = ⊥ := Soft.ofBits_neg_inf
    have h2 : (stream q []).2 (ix2 r ⟨256 * h + cc, by omega⟩) = 0 := Ideal.ofBits_zero_f32
    rw [h1, h2]
    exact Soft.Inv.zero S W
  | append_singleton l ch ih =>
    intro hS hW
    have hk : ∀ t : Fin 256, score q ch.k (ix2 t ⟨256 * h + cc, by omega⟩) = S (256 * l.length + t) := fun t => by
      simpa using hS l.length (by simp) t
    have hv : ∀ t : Fin 256, (if hr : (r : ℕ) < 64 then (if h = 0 then ch.v else ch.v') (ix2 ⟨r, hr⟩ t) else 1)
        = W (256 * l.length + t) := fun t => by
      simpa using hW l.length (by simp) t
    have := ih (fun c hc t => by
        have h := hS c (by simp; omega) t
        rwa [List.getElem_append_left hc] at h)
      (fun c hc t => by
        have h := hW c (by simp; omega) t
        rwa [List.getElem_append_left hc] at h)
    have hst : stream q (l ++ [ch]) = step q (stream q l) ch := by simp [stream]
    rw [hst, List.length_append, List.length_singleton, Nat.mul_add, Nat.mul_one]
    refine this.step (c := 256) (by norm_num) ?_ ?_
    · simp only [step, nextM_apply, hk]
    · simp only [step, nextA_apply, hk, hv]

/-- The heads' own key features of a point in order: the cache's, then the sequence's. -/
def own (x2 : Vec Ideal S512x256 .bf16) (x5 : Vec Ideal S4096x256 .bf16) (n : ℕ) (hn : n < 4608) (d : Fin 256) : EReal :=
  if h : n < 512 then x2 (ix2 ⟨n, h⟩ d) else x5 (ix2 ⟨n - 512, by omega⟩ d)

/-- The shared key features of a point in order: the cache's, then the sequence's. -/
def common (x3 : Vec Ideal S1x512x128 .bf16) (x6 : Vec Ideal S4096x128 .bf16) (n : ℕ) (hn : n < 4608) (d : Fin 128) : EReal :=
  if h : n < 512 then x3 (ix3 0 ⟨n, h⟩ d) else x6 (ix2 ⟨n - 512, by omega⟩ d)

/-- The values of a point in order: the cache's, then the sequence's. -/
def val (x4 : Vec Ideal S256x512 .bf16) (x7 : Vec Ideal S256x4096 .bf16) (d : Fin 256) (n : ℕ) (hn : n < 4608) : EReal :=
  if h : n < 512 then x4 (ix2 d ⟨n, h⟩) else x7 (ix2 d ⟨n - 512, by omega⟩)

section Reads

variable (x0 : Vec Ideal S256x256 .bf16) (x1 : Vec Ideal S128x256 .bf16) (x2 : Vec Ideal S512x256 .bf16)
  (x3 : Vec Ideal S1x512x128 .bf16) (x4 : Vec Ideal S256x512 .bf16) (x5 : Vec Ideal S4096x256 .bf16)
  (x6 : Vec Ideal S4096x128 .bf16) (x7 : Vec Ideal S256x4096 .bf16)

/-- What chunk `c` of the stream `s` holds. -/
def Holds (s : Fin 2) (c : ℕ) (hc : c < 18) (ch : Chunk Ideal) : Prop :=
  ∀ t : Fin 256,
    (∀ d : Fin 256, ch.k (ix2 t d) = if h : (d : ℕ) < 128 then own x2 x5 (256 * c + t) (by omega) ⟨128 * s + d, by omega⟩
      else common x3 x6 (256 * c + t) (by omega) ⟨d - 128, by omega⟩)
    ∧ (∀ d : Fin 64, ch.v (ix2 d t) = val x4 x7 ⟨128 * s + d, by omega⟩ (256 * c + t) (by omega))
    ∧ ∀ d : Fin 64, ch.v' (ix2 d t) = val x4 x7 ⟨128 * s + 64 + d, by omega⟩ (256 * c + t) (by omega)

theorem cacheChunk_k (kn : Vec Ideal S256x128 .bf16) (kr : Vec Ideal S1x256x128 .bf16) (v w : Vec Ideal S64x256 .bf16)
    (t d : Fin 256) : (cacheChunk kn kr v w).k (ix2 t d)
      = if h : (d : ℕ) < 128 then kn (ix2 t ⟨d, h⟩) else kr (ix3 0 t ⟨d - 128, by omega⟩) := by
  pointwise [cacheChunk]

theorem seqChunk_k (kn kr : Vec Ideal S256x128 .bf16) (v w : Vec Ideal S64x256 .bf16)
    (t d : Fin 256) : (seqChunk kn kr v w).k (ix2 t d)
      = if h : (d : ℕ) < 128 then kn (ix2 t ⟨d, h⟩) else kr (ix2 t ⟨d - 128, by omega⟩) := by
  pointwise [seqChunk]

set_option maxHeartbeats 4000000 in
theorem lo_read (c : ℕ) (hc : c < 18) : Holds x2 x3 x4 x5 x6 x7 0 c hc ((chunksLo x2 x3 x4 x5 x6 x7)[c]'hc) := by
  intro t
  interval_cases c <;>
  · simp only [chunksLo, List.getElem_cons_zero, List.getElem_cons_succ, own, common, val]
    refine ⟨fun d => ?_, fun d => ?_, fun d => ?_⟩
    · first | rw [cacheChunk_k] | rw [seqChunk_k]
      refine dite_congr rfl (fun h => ?_) fun h => ?_
      all_goals
        first | rw [dif_pos (by omega)] | rw [dif_neg (by omega)]
        pointwise
        try (congr 2 <;> apply Fin.ext <;> simp <;> omega)
    all_goals
      first | rw [dif_pos (by omega)] | rw [dif_neg (by omega)]
      pointwise [cacheChunk, seqChunk]
      try (congr 2 <;> apply Fin.ext <;> simp <;> omega)

set_option maxHeartbeats 4000000 in
theorem hi_read (c : ℕ) (hc : c < 18) : Holds x2 x3 x4 x5 x6 x7 1 c hc ((chunksHi x2 x3 x4 x5 x6 x7)[c]'hc) := by
  intro t
  interval_cases c <;>
  · simp only [chunksHi, List.getElem_cons_zero, List.getElem_cons_succ, own, common, val]
    refine ⟨fun d => ?_, fun d => ?_, fun d => ?_⟩
    · first | rw [cacheChunk_k] | rw [seqChunk_k]
      refine dite_congr rfl (fun h => ?_) fun h => ?_
      all_goals
        first | rw [dif_pos (by omega)] | rw [dif_neg (by omega)]
        pointwise
        try (congr 2 <;> apply Fin.ext <;> simp <;> omega)
    all_goals
      first | rw [dif_pos (by omega)] | rw [dif_neg (by omega)]
      pointwise [cacheChunk, seqChunk]
      try (congr 2 <;> apply Fin.ext <;> simp <;> omega)

/-- A sum over the query rows of the first stream's head `h`. -/
theorem qlo_sum (f : Fin 256 → EReal) (h : Fin 2) (cc : Fin 256) :
    ∑ d : Fin 256, f d * qlo x0 x1 (ix2 d ⟨256 * h + cc, by omega⟩)
      = ∑ e : Fin 64, f ⟨64 * h + e, by omega⟩ * x0 (ix2 ⟨64 * h + e, by omega⟩ cc)
        + ∑ e : Fin 32, f ⟨128 + e, by omega⟩ * x1 (ix2 ⟨32 * h + e, by omega⟩ cc) := by
  obtain rfl | rfl : h = 0 ∨ h = 1 := by omega
  all_goals
    pointwise [qlo, k0_pay4, k0_pay2, k0_pay3]
    rw [Soft.sum_lanes]
    simp [Nat.add_sub_add_left, show ∀ a : ℕ, 128 + a - 64 - 64 = a by omega, show ∀ a : ℕ, 160 + a - 64 - 64 = 32 + a by omega,
      show ∀ a : ℕ, ¬ 128 + a < 64 by omega, show ∀ a : ℕ, ¬ 160 + a < 64 by omega, show ∀ a : ℕ, ¬ 128 + a - 64 < 64 by omega,
      show ∀ a : ℕ, ¬ 160 + a - 64 < 64 by omega]

/-- The same of the second stream. -/
theorem qhi_sum (f : Fin 256 → EReal) (h : Fin 2) (cc : Fin 256) :
    ∑ d : Fin 256, f d * qhi x0 x1 (ix2 d ⟨256 * h + cc, by omega⟩)
      = ∑ e : Fin 64, f ⟨64 * h + e, by omega⟩ * x0 (ix2 ⟨128 + 64 * h + e, by omega⟩ cc)
        + ∑ e : Fin 32, f ⟨128 + e, by omega⟩ * x1 (ix2 ⟨64 + 32 * h + e, by omega⟩ cc) := by
  obtain rfl | rfl : h = 0 ∨ h = 1 := by omega
  all_goals
    pointwise [qhi, k0_pay5, k0_pay2, k0_pay3]
    rw [Soft.sum_lanes]
    simp [Nat.add_sub_add_left, show ∀ a : ℕ, 128 + a - 64 - 64 = a by omega, show ∀ a : ℕ, 160 + a - 64 - 64 = 32 + a by omega,
      show ∀ a : ℕ, ¬ 128 + a < 64 by omega, show ∀ a : ℕ, ¬ 160 + a < 64 by omega, show ∀ a : ℕ, ¬ 128 + a - 64 < 64 by omega,
      show ∀ a : ℕ, ¬ 160 + a - 64 < 64 by omega]

/-- The running maximum and sums of a query column over the point's 4608 keys, for a stream whose chunks are `l`. -/
theorem chunks_inv (s : Fin 2) (l : List (Chunk Ideal)) (hl : l.length = 18)
    (hread : ∀ (c : ℕ) (hc : c < 18), Holds x2 x3 x4 x5 x6 x7 s c hc (l[c]'(by omega)))
    (q : FVec Ideal S256x512 .bf16) (h : Fin 2) (cc : Fin 256) (S : ℕ → ℝ) (V : ℕ → EReal) (d : Fin 64)
    (hS : ∀ n hn, ∑ e : Fin 256, (if he : (e : ℕ) < 128 then own x2 x5 n hn ⟨128 * s + e, by omega⟩
      else common x3 x6 n hn ⟨e - 128, by omega⟩) * q (ix2 e ⟨256 * h + cc, by omega⟩) = S n)
    (hV : ∀ n hn, val x4 x7 ⟨128 * s + 64 * h + d, by omega⟩ n hn = V n) :
    ∃ m a b : EReal, Soft.Inv 4608 S V m a ∧ Soft.Inv 4608 S (fun _ => 1) m b
      ∧ quot (stream q l).2 (ix2 d ⟨256 * h + cc, by omega⟩) = Ideal.div a b := by
  have hk : ∀ (c : ℕ) (hc : c < l.length) (t : Fin 256),
      score q l[c].k (ix2 t ⟨256 * h + cc, by omega⟩) = S (256 * c + t) := fun c hc t => by
    rw [score_apply, ← hS _ (by omega)]
    exact Finset.sum_congr rfl fun e _ => by rw [(hread c (by omega) t).1 e]
  have hv := stream_inv q h cc ⟨d, by omega⟩ S V l hk fun c hc t => by
    rw [dif_pos d.isLt, ← hV _ (by omega)]
    obtain ⟨-, h1, h2⟩ := hread c (by omega) t
    obtain rfl | rfl : h = 0 ∨ h = 1 := by omega
    · exact h1 d
    · exact h2 d
  have ho := stream_inv q h cc 64 S (fun _ => 1) l hk fun c hc t => rfl
  rw [hl] at hv ho
  exact ⟨_, _, _, hv, ho, quot_apply _ d _⟩

end Reads

/-- Four stores of two streams' quotients, two heads each, read at head `2 * s + h`. -/
theorem tiles_read (A B : FVec Ideal S64x512 .f32) (s h : Fin 2) (d : Fin 64) (cc : Fin 256) :
    View.canon (Val := Elt Ideal) [(⟨r0_6, k0_pay1 B⟩ : View.Piece (Elt Ideal) S256x256 .bf16), ⟨r0_4, lowHalf B⟩,
        ⟨r0_2, k0_pay1 A⟩, ⟨r0_0, lowHalf A⟩] (ix2 ⟨128 * s + 64 * h + d, by omega⟩ cc)
      = (if s = 0 then A else B) (ix2 d ⟨256 * h + cc, by omega⟩) := by
  canon_tiles x hx
  all_goals
    idx_vars x
    pointwise [k0_pay1, lowHalf] at *
    split_ifs with h
    · first | omega | (congr 2 <;> (apply Fin.ext; try simp only) <;> omega)
    · first | omega | (congr 2 <;> (apply Fin.ext; try simp only) <;> omega)

theorem out_eq (x0 : Vec Ideal S256x256 .bf16) (x1 : Vec Ideal S128x256 .bf16) (x2 : Vec Ideal S512x256 .bf16)
    (x3 : Vec Ideal S1x512x128 .bf16) (x4 : Vec Ideal S256x512 .bf16) (x5 : Vec Ideal S4096x256 .bf16)
    (x6 : Vec Ideal S4096x128 .bf16) (x7 : Vec Ideal S256x4096 .bf16) :
    out0_8 x0 x1 x2 x3 x4 x5 x6 x7 = View.canon
      [⟨r0_6, k0_pay1 (quot (stream (qhi x0 x1) (chunksHi x2 x3 x4 x5 x6 x7)).2)⟩,
       ⟨r0_4, lowHalf (quot (stream (qhi x0 x1) (chunksHi x2 x3 x4 x5 x6 x7)).2)⟩,
       ⟨r0_2, k0_pay1 (quot (stream (qlo x0 x1) (chunksLo x2 x3 x4 x5 x6 x7)).2)⟩,
       ⟨r0_0, lowHalf (quot (stream (qlo x0 x1) (chunksLo x2 x3 x4 x5 x6 x7)).2)⟩] := by
  rw [← out_lo, ← out_hi]
  rfl

/-- The block a point stores: at head `2 * s + h` and feature `d` of the block and query `cc`, the quotient of the two sums
    over the point's 4608 keys. -/
theorem block_apply (x0 : Vec Ideal S256x256 .bf16) (x1 : Vec Ideal S128x256 .bf16) (x2 : Vec Ideal S512x256 .bf16)
    (x3 : Vec Ideal S1x512x128 .bf16) (x4 : Vec Ideal S256x512 .bf16) (x5 : Vec Ideal S4096x256 .bf16)
    (x6 : Vec Ideal S4096x128 .bf16) (x7 : Vec Ideal S256x4096 .bf16) (s h : Fin 2) (d : Fin 64) (cc : Fin 256)
    (S : ℕ → ℝ) (V : ℕ → EReal)
    (hS : ∀ n hn, ∑ e : Fin 64, own x2 x5 n hn ⟨128 * s + 64 * h + e, by omega⟩ * x0 (ix2 ⟨128 * s + 64 * h + e, by omega⟩ cc)
      + ∑ e : Fin 32, common x3 x6 n hn ⟨e, by omega⟩ * x1 (ix2 ⟨64 * s + 32 * h + e, by omega⟩ cc) = S n)
    (hV : ∀ n hn, val x4 x7 ⟨128 * s + 64 * h + d, by omega⟩ n hn = V n) :
    ∃ m a b : EReal, Soft.Inv 4608 S V m a ∧ Soft.Inv 4608 S (fun _ => 1) m b
      ∧ out0_8 x0 x1 x2 x3 x4 x5 x6 x7 (ix2 ⟨128 * s + 64 * h + d, by omega⟩ cc) = Ideal.div a b := by
  rw [out_eq, tiles_read]
  obtain rfl | rfl : s = 0 ∨ s = 1 := by omega
  · refine chunks_inv x2 x3 x4 x5 x6 x7 0 _ rfl (fun c hc => lo_read x2 x3 x4 x5 x6 x7 c hc) (qlo x0 x1) h cc S V d
      (fun n hn => ?_) hV
    rw [qlo_sum, ← hS n hn]
    refine congrArg₂ (· + ·) (Finset.sum_congr rfl fun e _ => ?_) (Finset.sum_congr rfl fun e _ => ?_)
    · rw [dif_pos (by simp only; omega)]
      congr 3 <;> simp <;> omega
    · rw [dif_neg (by simp only; omega)]
      congr 3 <;> simp
  · refine chunks_inv x2 x3 x4 x5 x6 x7 1 _ rfl (fun c hc => hi_read x2 x3 x4 x5 x6 x7 c hc) (qhi x0 x1) h cc S V d
      (fun n hn => ?_) hV
    rw [qhi_sum, ← hS n hn]
    refine congrArg₂ (· + ·) (Finset.sum_congr rfl fun e _ => ?_) (Finset.sum_congr rfl fun e _ => ?_)
    · rw [dif_pos (by simp only; omega)]
      congr 3 <;> simp <;> omega
    · rw [dif_neg (by simp only; omega)]
      congr 3 <;> simp

end Cert.Kernel2Ideal.Latent

end
-- ==== Proof.MlaArray.lean ====
/- The second kernel's whole result, from the blocks of its grid points. -/
module

public import proofs.«01_k».proof.Proof.MlaValue
public import proofs.«01_k».proof.Proof.Gen.Kernel2Ideal.Value

@[expose] public section

set_option maxRecDepth 16384

noncomputable section

namespace Cert.Kernel2Ideal.Latent

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The argument arrays, at their types: the queries' own and shared-key parts, the keys' two parts, the values, and the
    cache's keys in two parts and its values. -/
abbrev argQN : FVec Ideal S20480x512 .f32 := m ((c : Thread nD τ).loc main_arg0)
@[inherit_doc argQN] abbrev argQR : FVec Ideal S20480x256 .f32 := m ((c : Thread nD τ).loc main_arg1)
@[inherit_doc argQN] abbrev argKN : FVec Ideal S20480x512 .f32 := m ((c : Thread nD τ).loc main_arg2)
@[inherit_doc argQN] abbrev argKR : FVec Ideal S20480x32 .f32 := m ((c : Thread nD τ).loc main_arg3)
@[inherit_doc argQN] abbrev argV : FVec Ideal S20480x512 .f32 := m ((c : Thread nD τ).loc main_arg4)
@[inherit_doc argQN] abbrev argCN : FVec Ideal S2048x512 .f32 := m ((c : Thread nD τ).loc main_arg5)
@[inherit_doc argQN] abbrev argCR : FVec Ideal S4x1x512x32 .f32 := m ((c : Thread nD τ).loc main_arg6)
@[inherit_doc argQN] abbrev argCV : FVec Ideal S2048x512 .f32 := m ((c : Thread nD τ).loc main_arg7)

theorem entry_qn (j : Fin 512) (p : Fin 20480) :
    V m c main_v5 (ix2 j p) = argQN m c (ix2 p j)
      * Ideal.div (Ideal.ofBits .f32 0x3DD105EC#32) (Ideal.log (Ideal.ofBits .f32 0x40000000#32)) := by
  simp only [V, hostOps0, hostOps0_1, hostOps0_2, hostOps0_3, hostOps0_4, List.flatten_cons, List.flatten_nil,
    List.append_nil, List.cons_append, List.nil_append]
  entry_read
  pointwise

theorem entry_qr (j : Fin 256) (p : Fin 20480) :
    V m c main_v9 (ix2 j p) = argQR m c (ix2 p j)
      * Ideal.div (Ideal.ofBits .f32 0x3DD105EC#32) (Ideal.log (Ideal.ofBits .f32 0x40000000#32)) := by
  simp only [V, hostOps0, hostOps0_1, hostOps0_2, hostOps0_3, hostOps0_4, List.flatten_cons, List.flatten_nil,
    List.append_nil, List.cons_append, List.nil_append]
  entry_read
  pointwise

theorem entry_kr (p : Fin 20480) (e : Fin 32) :
    V m c main_v11 (ix2 p ⟨e, by omega⟩) = argKR m c (ix2 p e) := by
  simp only [V, hostOps0, hostOps0_1, hostOps0_2, hostOps0_3, hostOps0_4, List.flatten_cons, List.flatten_nil,
    List.append_nil, List.cons_append, List.nil_append]
  entry_read
  refine (show _ = pad S20480x128 ![0, 0] ![0, 96] ![0, 0] (argKR m c) (sitofp .f32 (constantI S_ 32 0#32))
    pads_S20480x32_S20480x128_000_0960 h_S_ (ix2 p ⟨e, by omega⟩) from rfl).trans ?_
  pointwise

theorem entry_cr (b : Fin 4) (n : Fin 512) (e : Fin 32) :
    V m c main_v14 (ix3 b n ⟨e, by omega⟩) = argCR m c (ix4 b 0 n e) := by
  simp only [V, hostOps0, hostOps0_1, hostOps0_2, hostOps0_3, hostOps0_4, List.flatten_cons, List.flatten_nil,
    List.append_nil, List.cons_append, List.nil_append]
  entry_read
  refine (show _ = pad S4x512x128 ![0, 0, 0] ![0, 0, 96] ![0, 0, 0] (shapeCast S4x512x32 (argCR m c) shapeCasts_S4x1x512x32_S4x512x32)
    (sitofp .f32 (constantI S_ 32 0#32)) pads_S4x512x32_S4x512x128_000_000_0960 h_S_ (ix3 b n ⟨e, by omega⟩) from rfl).trans ?_
  pointwise

theorem entry_kn (p : Fin 20480) (j : Fin 512) : V m c main_v15 (ix2 p j) = argKN m c (ix2 p j) := by
  simp only [V, hostOps0, hostOps0_1, hostOps0_2, hostOps0_3, hostOps0_4, List.flatten_cons, List.flatten_nil,
    List.append_nil, List.cons_append, List.nil_append]
  entry_read
  pointwise

theorem entry_v (j : Fin 512) (p : Fin 20480) : V m c main_v17 (ix2 j p) = argV m c (ix2 p j) := by
  simp only [V, hostOps0, hostOps0_1, hostOps0_2, hostOps0_3, hostOps0_4, List.flatten_cons, List.flatten_nil,
    List.append_nil, List.cons_append, List.nil_append]
  entry_read
  pointwise

theorem entry_cn (p : Fin 2048) (j : Fin 512) : V m c main_v18 (ix2 p j) = argCN m c (ix2 p j) := by
  simp only [V, hostOps0, hostOps0_1, hostOps0_2, hostOps0_3, hostOps0_4, List.flatten_cons, List.flatten_nil,
    List.append_nil, List.cons_append, List.nil_append]
  entry_read
  pointwise

theorem entry_cv (j : Fin 512) (p : Fin 2048) : V m c main_v20 (ix2 j p) = argCV m c (ix2 p j) := by
  simp only [V, hostOps0, hostOps0_1, hostOps0_2, hostOps0_3, hostOps0_4, List.flatten_cons, List.flatten_nil,
    List.append_nil, List.cons_append, List.nil_append]
  entry_read
  pointwise

/-- The block indices of a point's windows, from its coordinates. -/
theorem blocks_at : ∀ t : Fin grid0.N,
    win0_0.index t = ![(grid0.coords t 1).val, 16 + 16 * (grid0.coords t 0).val + (grid0.coords t 2).val]
    ∧ win0_1.index t = ![(grid0.coords t 1).val, 16 + 16 * (grid0.coords t 0).val + (grid0.coords t 2).val]
    ∧ win0_2.index t = ![(grid0.coords t 0).val, (grid0.coords t 1).val]
    ∧ win0_3.index t = ![(grid0.coords t 0).val, 0, 0]
    ∧ win0_4.index t = ![(grid0.coords t 1).val, (grid0.coords t 0).val]
    ∧ win0_5.index t = ![1 + (grid0.coords t 0).val, (grid0.coords t 1).val]
    ∧ win0_6.index t = ![1 + (grid0.coords t 0).val, 0]
    ∧ win0_7.index t = ![(grid0.coords t 1).val, 1 + (grid0.coords t 0).val]
    ∧ win0_8.index t = ![(grid0.coords t 1).val, 16 * (grid0.coords t 0).val + (grid0.coords t 2).val] := by
  decide +kernel

/-- The kernel's array is `G` where every point's block is `G`'s. -/
theorem array_eq (G : FVec Ideal S512x16384 .bf16)
    (h : ∀ (t : Fin cfg0.N) (b : Fin 4) (p : Fin 2) (j : Fin 16) (_ : (grid0.coords t 0).val = b.val)
      (_ : (grid0.coords t 1).val = p.val) (_ : (grid0.coords t 2).val = j.val) (s h : Fin 2) (d : Fin 64) (cc : Fin 256),
      out0_8 (iblk m c 0 t) (iblk m c 1 t) (iblk m c 2 t) (iblk m c 3 t) (iblk m c 4 t) (iblk m c 5 t) (iblk m c 6 t)
          (iblk m c 7 t) (ix2 ⟨128 * s + 64 * h + d, by omega⟩ cc)
        = G (ix2 ⟨256 * p + 128 * s + 64 * h + d, by omega⟩ ⟨4096 * b + (256 * j + cc), by omega⟩)) :
    (dats m 0 c).arrAt 8 cfg0.N = G := by
  refine (dats m 0 c).arrAt_eq_of_covers 8 _ (by decide +kernel) fun t hf y => ?_
  blk_simp
  rw [after0_8]
  idx_vars y
  have hy := h t ⟨_, (grid0.coords t 0).isLt⟩ ⟨_, (grid0.coords t 1).isLt⟩ ⟨_, (grid0.coords t 2).isLt⟩ rfl rfl rfl
    ⟨y0 / 128, by omega⟩ ⟨y0 / 64 % 2, by omega⟩ ⟨y0 % 64, by omega⟩ y1
  have h0 : 128 * (y0 / 128 : ℕ) + 64 * (y0 / 64 % 2 : ℕ) + (y0 % 64 : ℕ) = y0 := by omega
  simp only [h0] at hy
  refine hy.trans ?_
  blk_ext [blocks_at t]

variable (t : Fin cfg0.N) (b : Fin 4) (p : Fin 2) (j : Fin 16)
  (hb : (grid0.coords t 0).val = b.val) (hp : (grid0.coords t 1).val = p.val) (hj : (grid0.coords t 2).val = j.val)

include hb hp hj in
theorem block_qn (r cc : Fin 256) :
    iblk m c 0 t (ix2 r cc) = argQN m c (ix2 ⟨4096 + (4096 * b + (256 * j + cc)), by omega⟩ ⟨256 * p + r, by omega⟩)
      * Ideal.div (Ideal.ofBits .f32 0x3DD105EC#32) (Ideal.log (Ideal.ofBits .f32 0x40000000#32)) := by
  rw [← entry_qn]
  blk_ext [iblk, blocks_at t]

include hb hp hj in
theorem block_qr (r : Fin 128) (cc : Fin 256) :
    iblk m c 1 t (ix2 r cc) = argQR m c (ix2 ⟨4096 + (4096 * b + (256 * j + cc)), by omega⟩ ⟨128 * p + r, by omega⟩)
      * Ideal.div (Ideal.ofBits .f32 0x3DD105EC#32) (Ideal.log (Ideal.ofBits .f32 0x40000000#32)) := by
  rw [← entry_qr]
  blk_ext [iblk, blocks_at t]

include hb hp in
theorem block_own (n : ℕ) (hn : n < 4608) (r : Fin 256) :
    own (iblk m c 2 t) (iblk m c 5 t) n hn r
      = if h : n < 512 then argCN m c (ix2 ⟨512 * b + n, by omega⟩ ⟨256 * p + r, by omega⟩)
        else argKN m c (ix2 ⟨4096 + (4096 * b + (n - 512)), by omega⟩ ⟨256 * p + r, by omega⟩) := by
  unfold own
  refine dite_congr rfl (fun h => ?_) fun h => ?_
  · rw [← entry_cn]
    blk_ext [iblk, blocks_at t]
  · rw [← entry_kn]
    blk_ext [iblk, blocks_at t]

include hb in
theorem block_common (n : ℕ) (hn : n < 4608) (e : Fin 32) :
    common (iblk m c 3 t) (iblk m c 6 t) n hn ⟨e, by omega⟩
      = if h : n < 512 then argCR m c (ix4 b 0 ⟨n, h⟩ e)
        else argKR m c (ix2 ⟨4096 + (4096 * b + (n - 512)), by omega⟩ e) := by
  unfold common
  refine dite_congr rfl (fun h => ?_) fun h => ?_
  · rw [← entry_cr]
    blk_ext [iblk, blocks_at t]
  · rw [← entry_kr]
    blk_ext [iblk, blocks_at t]

include hb hp in
theorem block_val (n : ℕ) (hn : n < 4608) (r : Fin 256) :
    val (iblk m c 4 t) (iblk m c 7 t) r n hn
      = if h : n < 512 then argCV m c (ix2 ⟨512 * b + n, by omega⟩ ⟨256 * p + r, by omega⟩)
        else argV m c (ix2 ⟨4096 + (4096 * b + (n - 512)), by omega⟩ ⟨256 * p + r, by omega⟩) := by
  unfold val
  refine dite_congr rfl (fun h => ?_) fun h => ?_
  · rw [← entry_cv]
    blk_ext [iblk, blocks_at t]
  · rw [← entry_v]
    blk_ext [iblk, blocks_at t]

end Cert.Kernel2Ideal.Latent

end
-- ==== Proof.MlaRef.lean ====
/- The second reference's result at an index.

   The composed term of the reference's host operations is cut at its own steps: the arrays by batch, position and head,
   the queries and keys of 96 features, the scores, the weights (a softmax over the keys), the weighted values. Each is
   read at an index. -/
module

public import proofs.«01_k».proof.Proof.Gen.Reference2Ideal.Run
public import proofs.«01_k».proof.Proof.Soft

@[expose] public section

set_option maxRecDepth 16384

noncomputable section

namespace Cert.Reference2Ideal.Latent

open Cert.Reference2Ideal Cert.Reference2Ideal.Gen Cert.Reference2Ideal.Value Idealize.ShloMosaic Idealize.ShloMosaic.TcCoe
open Idealize.SL.Sem

/-- The latent tokens of an array of 8 heads of 64 features, by batch, position, head and feature. -/
def latent (x : FVec Ideal S20480x512 .f32) : FVec Ideal S4x4096x8x64 .f32 :=
  shapeCast S4x4096x8x64 (extractStridedSlice S16384x512 ![4096, 0] x slices_S20480x512_S16384x512_4096_0)
    shapeCasts_S16384x512_S4x4096x8x64

/-- The heads' own key features (or the values): the cache's positions, then the sequence's. -/
def whole (cx : FVec Ideal S2048x512 .f32) (x : FVec Ideal S20480x512 .f32) : FVec Ideal S4x4608x8x64 .f32 :=
  concatenate S4x4608x8x64 1 [⟨S4x512x8x64, shapeCast S4x512x8x64 cx shapeCasts_S2048x512_S4x512x8x64⟩,
    ⟨S4x4096x8x64, latent x⟩] concatenates_S4x512x8x64_S4x4096x8x64_S4x4608x8x64_d1

/-- The shared key features: the cache's positions, then the sequence's. -/
def shared (cr : FVec Ideal S4x1x512x32 .f32) (kr : FVec Ideal S20480x32 .f32) : FVec Ideal S4x4608x32 .f32 :=
  concatenate S4x4608x32 1 [⟨S4x512x32, shapeCast S4x512x32 cr shapeCasts_S4x1x512x32_S4x512x32⟩,
    ⟨S4x4096x32, shapeCast S4x4096x32 (shapeCast S4x4096x1x32
      (extractStridedSlice S16384x32 ![4096, 0] kr slices_S20480x32_S16384x32_4096_0) shapeCasts_S16384x32_S4x4096x1x32)
      shapeCasts_S4x4096x1x32_S4x4096x32⟩] concatenates_S4x512x32_S4x4096x32_S4x4608x32_d1

/-- The keys of 96 features. -/
def keys (kn : FVec Ideal S4x4608x8x64 .f32) (kr : FVec Ideal S4x4608x32 .f32) : FVec Ideal S4x4608x8x96 .f32 :=
  concatenate S4x4608x8x96 3 [⟨S4x4608x8x64, kn⟩,
    ⟨S4x4608x8x32, broadcastInDim S4x4608x8x32 ![0, 1, 2, 3] bcast_S4x4608x1x32_S4x4608x8x32_0_1_2_3
      (broadcastInDim S4x4608x1x32 ![0, 1, 3] bcast_S4x4608x32_S4x4608x1x32_0_1_3 kr)⟩]
    concatenates_S4x4608x8x64_S4x4608x8x32_S4x4608x8x96_d3

/-- The latent queries of 96 features. -/
def queries (qn : FVec Ideal S20480x512 .f32) (qr : FVec Ideal S20480x256 .f32) : FVec Ideal S4x4096x8x96 .f32 :=
  concatenate S4x4096x8x96 3 [⟨S4x4096x8x64, latent qn⟩,
    ⟨S4x4096x8x32, shapeCast S4x4096x8x32
      (extractStridedSlice S16384x256 ![4096, 0] qr slices_S20480x256_S16384x256_4096_0) shapeCasts_S16384x256_S4x4096x8x32⟩]
    concatenates_S4x4096x8x64_S4x4096x8x32_S4x4096x8x96_d3

/-- The scaled scores. -/
def scores (q : FVec Ideal S4x4096x8x96 .f32) (k : FVec Ideal S4x4608x8x96 .f32) : FVec Ideal S4x8x4096x4608 .f32 :=
  mulf (Host.dotGeneral dot_S4x4096x8x96_S4x4608x8x96_S4x8x4096x4608_3_3_1_1_02_02 none q k)
    (broadcastInDim S4x8x4096x4608 ![] bcast_S_S4x8x4096x4608 (constant S_ .f32 0x3DD105EC#32))

/-- The largest score of every query. -/
def rowMax (s : FVec Ideal S4x8x4096x4608 .f32) : FVec Ideal S4x8x4096 .f32 :=
  Host.reduce FloatOps.maximumf s (constant S_ .f32 0xFF800000#32) reducesTo_S4x8x4096x4608_S4x8x4096_d3 h_S_

/-- The exponentials of the scores less the numbers `m`, one for every query. -/
def expos (s : FVec Ideal S4x8x4096x4608 .f32) (m : FVec Ideal S4x8x4096 .f32) : FVec Ideal S4x8x4096x4608 .f32 :=
  Host.exp (subf s (broadcastInDim S4x8x4096x4608 ![0, 1, 2, 3] bcast_S4x8x4096x1_S4x8x4096x4608_0_1_2_3
    (broadcastInDim S4x8x4096x1 ![0, 1, 2] bcast_S4x8x4096_S4x8x4096x1_0_1_2
      (maximumf (broadcastInDim S4x8x4096 ![] bcast_S_S4x8x4096 (constant S_ .f32 0xFF800000#32)) m))))

/-- The exponentials over their sum. -/
def weights (e : FVec Ideal S4x8x4096x4608 .f32) : FVec Ideal S4x8x4096x4608 .f32 :=
  Host.divf e (broadcastInDim S4x8x4096x4608 ![0, 1, 2, 3] bcast_S4x8x4096x1_S4x8x4096x4608_0_1_2_3
    (broadcastInDim S4x8x4096x1 ![0, 1, 2] bcast_S4x8x4096_S4x8x4096x1_0_1_2
      (Host.reduceAdd e (constant S_ .f32 0x00000000#32) reducesTo_S4x8x4096x4608_S4x8x4096_d3 h_S_)))

/-- The weighted values, laid out by feature and token. -/
def result (w : FVec Ideal S4x8x4096x4608 .f32) (v : FVec Ideal S4x4608x8x64 .f32) : FVec Ideal S512x16384 .bf16 :=
  truncf .bf16 (transpose S512x16384 [1, 0] (shapeCast S16384x512
    (transpose S4x4096x8x64 [0, 3, 1, 2]
      (Host.dotGeneral dot_S4x4608x8x64_S4x8x4096x4608_S4x8x64x4096_1_3_3_2_02_01 none v w)
      transposes_S4x8x64x4096_S4x4096x8x64_0_3_1_2) shapeCasts_S4x4096x8x64_S16384x512)
    transposes_S16384x512_S512x16384_1_0) bitsLt_bf16_f32

/-- The reference as a function of its arrays. -/
def out (qn : FVec Ideal S20480x512 .f32) (qr : FVec Ideal S20480x256 .f32) (kn : FVec Ideal S20480x512 .f32)
    (kr : FVec Ideal S20480x32 .f32) (v : FVec Ideal S20480x512 .f32) (ckn : FVec Ideal S2048x512 .f32)
    (ckr : FVec Ideal S4x1x512x32 .f32) (cv : FVec Ideal S2048x512 .f32) : FVec Ideal S512x16384 .bf16 :=
  have s : FVec Ideal S4x8x4096x4608 .f32 := scores (queries qn qr) (keys (whole ckn kn) (shared ckr kr))
  result (weights (expos s (rowMax s))) (whole cv v)

theorem res_eq (m : (ℓ : Loc nD τ sig) → Buf (Elt Ideal) ℓ) (c : Dev nD) :
    res_out0 m c = out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) := by
  rfl

theorem latent_apply (x : FVec Ideal S20480x512 .f32) (b : Fin 4) (t : Fin 4096) (h : Fin 8) (e : Fin 64) :
    latent x (ix4 b t h e) = x (ix2 ⟨4096 + (4096 * b + t), by omega⟩ ⟨64 * h + e, by omega⟩) := by
  pointwise [latent]
  congr 3 <;> omega

theorem whole_apply (cx : FVec Ideal S2048x512 .f32) (x : FVec Ideal S20480x512 .f32) (b : Fin 4) (n : Fin 4608)
    (h : Fin 8) (e : Fin 64) :
    whole cx x (ix4 b n h e) = if hn : (n : ℕ) < 512 then cx (ix2 ⟨512 * b + n, by omega⟩ ⟨64 * h + e, by omega⟩)
      else x (ix2 ⟨4096 + (4096 * b + (n - 512)), by omega⟩ ⟨64 * h + e, by omega⟩) := by
  pointwise [whole, latent]
  refine dite_congr rfl (fun _ => ?_) fun _ => ?_
  all_goals congr 3 <;> omega

theorem shared_apply (cr : FVec Ideal S4x1x512x32 .f32) (kr : FVec Ideal S20480x32 .f32) (b : Fin 4) (n : Fin 4608)
    (e : Fin 32) :
    shared cr kr (ix3 b n e) = if hn : (n : ℕ) < 512 then cr (ix4 b 0 ⟨n, hn⟩ e)
      else kr (ix2 ⟨4096 + (4096 * b + (n - 512)), by omega⟩ e) := by
  pointwise [shared]
  refine dite_congr rfl (fun _ => rfl) fun _ => ?_
  congr 3 <;> omega

theorem keys_apply (kn : FVec Ideal S4x4608x8x64 .f32) (kr : FVec Ideal S4x4608x32 .f32) (b : Fin 4) (n : Fin 4608)
    (h : Fin 8) (e : Fin 96) :
    keys kn kr (ix4 b n h e) = if he : (e : ℕ) < 64 then kn (ix4 b n h ⟨e, he⟩) else kr (ix3 b n ⟨e - 64, by omega⟩) := by
  pointwise [keys]

theorem queries_apply (qn : FVec Ideal S20480x512 .f32) (qr : FVec Ideal S20480x256 .f32) (b : Fin 4) (t : Fin 4096)
    (h : Fin 8) (e : Fin 96) :
    queries qn qr (ix4 b t h e) = if he : (e : ℕ) < 64
      then qn (ix2 ⟨4096 + (4096 * b + t), by omega⟩ ⟨64 * h + e, by omega⟩)
      else qr (ix2 ⟨4096 + (4096 * b + t), by omega⟩ ⟨32 * h + (e - 64), by omega⟩) := by
  pointwise [queries, latent]
  refine dite_congr rfl (fun _ => ?_) fun _ => ?_
  all_goals congr 3 <;> omega

theorem scores_apply (q : FVec Ideal S4x4096x8x96 .f32) (k : FVec Ideal S4x4608x8x96 .f32) (b : Fin 4) (h : Fin 8)
    (t : Fin 4096) (n : Fin 4608) :
    scores q k (ix4 b h t n) = (∑ e : Fin 96, q (ix4 b t h e) * k (ix4 b n h e)) * Ideal.ofBits .f32 0x3DD105EC#32 := by
  pointwise [scores]

theorem rowMax_apply (s : FVec Ideal S4x8x4096x4608 .f32) (b : Fin 4) (h : Fin 8) (t : Fin 4096) :
    rowMax s (ix3 b h t) = Finset.univ.fold max ⊥ fun n' : Fin 4608 => s (ix4 b h t n') := by
  have hm := Soft.hostMax4_apply s (constant (F := Ideal) S_ .f32 0xFF800000#32)
    reducesTo_S4x8x4096x4608_S4x8x4096_d3 (by decide) h_S_ b h t
  have he : constant (F := Ideal) S_ .f32 0xFF800000#32 (Shape.Idx.first h_S_) = ⊥ := Soft.ofBits_neg_inf
  rw [he] at hm
  exact hm

theorem expos_apply (s : FVec Ideal S4x8x4096x4608 .f32) (m : FVec Ideal S4x8x4096 .f32) (b : Fin 4) (h : Fin 8)
    (t : Fin 4096) (n : Fin 4608) :
    expos s m (ix4 b h t n) = Ideal.exp (s (ix4 b h t n) - max ⊥ (m (ix3 b h t))) := by
  pointwise [expos, Soft.ofBits_neg_inf]

theorem weights_apply (e : FVec Ideal S4x8x4096x4608 .f32) (b : Fin 4) (h : Fin 8) (t : Fin 4096) (n : Fin 4608) :
    weights e (ix4 b h t n) = Ideal.div (e (ix4 b h t n)) (0 + ∑ n' : Fin 4608, e (ix4 b h t n')) := by
  pointwise [weights]

theorem result_apply (w : FVec Ideal S4x8x4096x4608 .f32) (v : FVec Ideal S4x4608x8x64 .f32) (r : Fin 512) (j : Fin 16384) :
    result w v (ix2 r j) = ∑ n : Fin 4608, w (ix4 ⟨j / 4096, by omega⟩ ⟨r / 64, by omega⟩ ⟨j % 4096, by omega⟩ n)
      * v (ix4 ⟨j / 4096, by omega⟩ n ⟨r / 64, by omega⟩ ⟨r % 64, by omega⟩) := by
  pointwise [result]
  exact Finset.sum_congr rfl fun n _ => mul_comm _ _

/-- The reference at feature `r` and token `j`, for scores that are known to be the reals `s` at that token's head. -/
theorem out_apply (qn : FVec Ideal S20480x512 .f32) (qr : FVec Ideal S20480x256 .f32) (kn : FVec Ideal S20480x512 .f32)
    (kr : FVec Ideal S20480x32 .f32) (v : FVec Ideal S20480x512 .f32) (ckn : FVec Ideal S2048x512 .f32)
    (ckr : FVec Ideal S4x1x512x32 .f32) (cv : FVec Ideal S2048x512 .f32)
    (b : Fin 4) (h : Fin 8) (t : Fin 4096) (e : Fin 64) (s : ℕ → ℝ)
    (hs : ∀ n : Fin 4608, scores (queries qn qr) (keys (whole ckn kn) (shared ckr kr)) (ix4 b h t n) = s n)
    (r : Fin 512) (hr : (r : ℕ) = 64 * h + e) (j : Fin 16384) (hj : (j : ℕ) = 4096 * b + t) :
    out qn qr kn kr v ckn ckr cv (ix2 r j) = ∑ n : Fin 4608, Ideal.div
      (Ideal.exp ((s n : EReal) - max ⊥ (Finset.univ.fold max ⊥ fun j : Fin 4608 => (s j : EReal))))
      (0 + ∑ j : Fin 4608, Ideal.exp ((s j : EReal) - max ⊥ (Finset.univ.fold max ⊥ fun j : Fin 4608 => (s j : EReal))))
      * whole cv v (ix4 b n h e) := by
  have h1 : (⟨j / 4096, by omega⟩ : Fin 4) = b := Fin.ext (by simp only; omega)
  have h2 : (⟨r / 64, by omega⟩ : Fin 8) = h := Fin.ext (by simp only; omega)
  have h4 : (⟨j % 4096, by omega⟩ : Fin 4096) = t := Fin.ext (by simp only; omega)
  have h5 : (⟨r % 64, by omega⟩ : Fin 64) = e := Fin.ext (by simp only; omega)
  have hM := rowMax_apply (scores (queries qn qr) (keys (whole ckn kn) (shared ckr kr))) b h t
  simp only [out, result_apply, h1, h2, h4, h5]
  simp only [weights_apply, expos_apply, hs] at hM ⊢
  rw [hM]

end Cert.Reference2Ideal.Latent

end
-- ==== Proof.MlaEq.lean ====
/- The multi-head latent attention's claim: the kernel's result is the reference's, where queries and keys are finite. -/
module

public import proofs.«01_k».proof.Proof.MlaArray
public import proofs.«01_k».proof.Proof.MlaRef
public import proofs.«01_k».proof.Proof.Finite
public import proofs.«01_k».proof.Proof.Gen.Pre_finite2
public import proofs.«01_k».proof.Defs

@[expose] public section

set_option maxRecDepth 16384

noncomputable section

namespace Cert.MlaEq

open Cert.Kernel2Ideal Cert.Kernel2Ideal.Gen Cert.Kernel2Ideal.Latent Idealize.ShloMosaic Idealize.ShloMosaic.TcCoe
open Idealize.SL.Sem

variable (m : (ℓ : Loc nD τ sig) → Buf (Elt Ideal) ℓ) (c : Dev nD)

/-- The precondition: both parts of the queries, of the keys and of the cache's keys are real numbers. -/
theorem real_args (h : Cert.Pre_Kernel2Ideal_finite2 m) :
    (∀ i, ∃ r : ℝ, argQN m c i = r) ∧ (∀ i, ∃ r : ℝ, argQR m c i = r) ∧ (∀ i, ∃ r : ℝ, argKN m c i = r)
      ∧ (∀ i, ∃ r : ℝ, argKR m c i = r) ∧ (∀ i, ∃ r : ℝ, argCN m c i = r) ∧ ∀ i, ∃ r : ℝ, argCR m c i = r := by
  have h1 := congrFun (h c) (fun a => a.elim0)
  dsimp only [Cert.Pre_finite2.fn, Cert.Pre_finite2.fn_part1, andi] at h1
  obtain ⟨h1, p6⟩ := (IntOp.andi_eq_one).mp h1
  obtain ⟨h1, p5⟩ := (IntOp.andi_eq_one).mp h1
  obtain ⟨h1, p4⟩ := (IntOp.andi_eq_one).mp h1
  obtain ⟨h1, p3⟩ := (IntOp.andi_eq_one).mp h1
  obtain ⟨p1, p2⟩ := (IntOp.andi_eq_one).mp h1
  exact ⟨fun i => Soft.real_of_all _ _ _ _ _ _ p1 i, fun i => Soft.real_of_all _ _ _ _ _ _ p2 i,
    fun i => Soft.real_of_all _ _ _ _ _ _ p3 i, fun i => Soft.real_of_all _ _ _ _ _ _ p4 i,
    fun i => Soft.real_of_all _ _ _ _ _ _ p5 i, fun i => Soft.real_of_all _ _ _ _ _ _ p6 i⟩

/-- The reference's function of the arguments. -/
abbrev wanted : FVec Ideal S512x16384 .bf16 := Cert.Reference2Ideal.Latent.out (argQN m c) (argQR m c) (argKN m c) (argKR m c)
  (argV m c) (argCN m c) (argCR m c) (argCV m c)

/-- The kernel's array is the reference's function of the arguments. -/
theorem array (h : Cert.Pre_Kernel2Ideal_finite2 m) : (dats m 0 c).arrAt 8 cfg0.N = wanted m c := by
  obtain ⟨hqn, hqr, hkn, hkr, hcn, hcr⟩ := real_args m c h
  choose qn hqn using hqn
  choose qr hqr using hqr
  choose kn hkn using hkn
  choose kr hkr using hkr
  choose cn hcn using hcn
  choose cr hcr using hcr
  obtain ⟨f, hf⟩ := Soft.factor
  refine array_eq m c _ fun t b p j hb hp hj s h d cc => ?_
  -- the queries and keys, and the scores in the reference's form
  let H : Fin 8 := ⟨4 * p + 2 * s + h, by omega⟩
  let kN : ℕ → Fin 64 → ℝ := fun n e => if hn : n < 512 then cn (ix2 ⟨512 * b + n, by omega⟩ ⟨64 * (4 * p + 2 * s + h) + e, by omega⟩)
    else if hn : n < 4608 then kn (ix2 ⟨4096 + (4096 * b + (n - 512)), by omega⟩ ⟨64 * (4 * p + 2 * s + h) + e, by omega⟩) else 0
  let kR : ℕ → Fin 32 → ℝ := fun n e => if hn : n < 512 then cr (ix4 b 0 ⟨n, hn⟩ e)
    else if hn : n < 4608 then kr (ix2 ⟨4096 + (4096 * b + (n - 512)), by omega⟩ e) else 0
  let qN : Fin 64 → ℝ := fun e => qn (ix2 ⟨4096 + (4096 * b + (256 * j + cc)), by omega⟩ ⟨64 * (4 * p + 2 * s + h) + e, by omega⟩)
  let qR : Fin 32 → ℝ := fun e => qr (ix2 ⟨4096 + (4096 * b + (256 * j + cc)), by omega⟩ ⟨32 * (4 * p + 2 * s + h) + e, by omega⟩)
  let sc : ℕ → ℝ := fun n => (∑ e, qN e * kN n e + ∑ e, qR e * kR n e) * f
  have hkN : ∀ (n : ℕ) (hn : n < 4608) (e : Fin 64),
      (if h' : n < 512 then argCN m c (ix2 ⟨512 * b + n, by omega⟩ ⟨64 * (4 * p + 2 * s + h) + e, by omega⟩)
        else argKN m c (ix2 ⟨4096 + (4096 * b + (n - 512)), by omega⟩ ⟨64 * (4 * p + 2 * s + h) + e, by omega⟩)) = ((kN n e : ℝ) : EReal) := by
    intro n hn e
    by_cases h' : n < 512
    · simp only [kN, dif_pos h', hcn]
    · simp only [kN, dif_neg h', dif_pos hn, hkn]
  have hkR : ∀ (n : ℕ) (hn : n < 4608) (e : Fin 32), (if h' : n < 512 then argCR m c (ix4 b 0 ⟨n, h'⟩ e)
      else argKR m c (ix2 ⟨4096 + (4096 * b + (n - 512)), by omega⟩ e)) = ((kR n e : ℝ) : EReal) := by
    intro n hn e
    by_cases h' : n < 512
    · simp only [kR, dif_pos h', hcr]
    · simp only [kR, dif_neg h', dif_pos hn, hkr]
  have lane : ∀ e : ℕ, 256 * (p : ℕ) + (128 * s + 64 * h + e) = 64 * (4 * p + 2 * s + h) + e := fun e => by omega
  have lane' : ∀ e : ℕ, 128 * (p : ℕ) + (64 * s + 32 * h + e) = 32 * (4 * p + 2 * s + h) + e := fun e => by omega
  obtain ⟨M, a, l, hm, hl, hout⟩ := block_apply (iblk m c 0 t) (iblk m c 1 t) (iblk m c 2 t) (iblk m c 3 t)
    (iblk m c 4 t) (iblk m c 5 t) (iblk m c 6 t) (iblk m c 7 t) s h d cc (fun n => sc n / Real.log 2)
    (fun n => if hn : n < 4608 then Cert.Reference2Ideal.Latent.whole (argCV m c) (argV m c) (ix4 b ⟨n, hn⟩ H d) else 0)
    (fun n hn => by
      have hN : ∀ e : Fin 64, own (iblk m c 2 t) (iblk m c 5 t) n hn ⟨128 * s + 64 * h + e, by omega⟩
          * iblk m c 0 t (ix2 ⟨128 * s + 64 * h + e, by omega⟩ cc)
          = ((kN n e : ℝ) : EReal) * (((qN e : ℝ) : EReal) * ((f / Real.log 2 : ℝ) : EReal)) := fun e => by
        rw [block_own m c t b p j hb hp, block_qn m c t b p j hb hp hj, hf, Soft.div_log_two, ← hkN n hn]
        simp only [lane, hqn]
        rfl
      have hR : ∀ e : Fin 32, common (iblk m c 3 t) (iblk m c 6 t) n hn ⟨e, by omega⟩
          * iblk m c 1 t (ix2 ⟨64 * s + 32 * h + e, by omega⟩ cc)
          = ((kR n e : ℝ) : EReal) * (((qR e : ℝ) : EReal) * ((f / Real.log 2 : ℝ) : EReal)) := fun e => by
        rw [block_common m c t b p j hb, block_qr m c t b p j hb hp hj, hf, Soft.div_log_two, ← hkR n hn]
        simp only [lane', hqr]
        rfl
      rw [Finset.sum_congr rfl fun e _ => hN e, Finset.sum_congr rfl fun e _ => hR e, Soft.score_scaled qN (kN n),
        Soft.score_scaled qR (kR n), ← EReal.coe_add]
      congr 1
      simp only [sc]
      ring)
    (fun n hn => by
      rw [block_val m c t b p j hb hp, dif_pos hn, Cert.Reference2Ideal.Latent.whole_apply]
      simp only [lane]
      rfl)
  unfold wanted
  rw [hout, Soft.quotient_eq (by norm_num) sc _ (fun _ => rfl) _ hm hl,
    Cert.Reference2Ideal.Latent.out_apply _ _ _ _ _ _ _ _ b H ⟨256 * j + cc, by omega⟩ d sc ?_ _ (by simp only [H]; omega) _ rfl]
  · refine Finset.sum_congr rfl fun n _ => ?_
    rw [dif_pos n.isLt]
  · intro n
    rw [Cert.Reference2Ideal.Latent.scores_apply, hf, Soft.sum_features]
    have hN : ∀ e : Fin 64, Cert.Reference2Ideal.Latent.queries (argQN m c) (argQR m c) (ix4 b ⟨256 * j + cc, by omega⟩ H ⟨e, by omega⟩)
        * Cert.Reference2Ideal.Latent.keys (Cert.Reference2Ideal.Latent.whole (argCN m c) (argKN m c))
          (Cert.Reference2Ideal.Latent.shared (argCR m c) (argKR m c)) (ix4 b n H ⟨e, by omega⟩)
        = ((qN e : ℝ) : EReal) * ((kN n e : ℝ) : EReal) := fun e => by
      rw [Cert.Reference2Ideal.Latent.queries_apply, Cert.Reference2Ideal.Latent.keys_apply, dif_pos e.isLt, dif_pos e.isLt,
        Cert.Reference2Ideal.Latent.whole_apply, ← hkN n n.isLt, hqn]
    have hR : ∀ e : Fin 32, Cert.Reference2Ideal.Latent.queries (argQN m c) (argQR m c) (ix4 b ⟨256 * j + cc, by omega⟩ H ⟨64 + e, by omega⟩)
        * Cert.Reference2Ideal.Latent.keys (Cert.Reference2Ideal.Latent.whole (argCN m c) (argKN m c))
          (Cert.Reference2Ideal.Latent.shared (argCR m c) (argKR m c)) (ix4 b n H ⟨64 + e, by omega⟩)
        = ((qR e : ℝ) : EReal) * ((kR n e : ℝ) : EReal) := fun e => by
      rw [Cert.Reference2Ideal.Latent.queries_apply, Cert.Reference2Ideal.Latent.keys_apply, dif_neg (by simp only; omega),
        dif_neg (by simp only; omega), Cert.Reference2Ideal.Latent.shared_apply, hqr]
      simp only [Nat.add_sub_cancel_left]
      rw [← hkR n n.isLt]
    rw [Finset.sum_congr rfl fun e _ => hN e, Finset.sum_congr rfl fun e _ => hR e]
    simp only [← EReal.coe_mul, ← Soft.coe_sum, ← EReal.coe_add]
    rfl

/-- The claim. -/
theorem algebraic : Cert.algebraic_Kernel2Ideal_Reference2Ideal_pre_finite2 := by
  intro m ρ m' ρ' hpre hagree
  refine ⟨fun c => wanted m c, ?_, ?_⟩
  · exact (θ_run Cert.Kernel2Ideal.defs _ _).mono (fun _ h c => ⟨(h c).1.trans (array m c hpre), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2, h3, h4, h5, h6, h7⟩ := hagree c
    refine (Cert.Reference2Ideal.Latent.res_eq m' c).trans ?_
    rw [h0, h1, h2, h3, h4, h5, h6, h7]

end Cert.MlaEq

end
-- ==== Proof.OddSpec.lean ====
/- The odd layer's projections of one token, over the extended reals, as functions of the entries of the argument arrays:
   what the kernel's entries and the reference's entries are both shown to be. -/
module

public import Idealize.ShloMosaic.Lib.Pipeline.ValueKit

@[expose] public section

set_option maxRecDepth 16384

noncomputable section

namespace Cert.Odd

open Idealize.ShloMosaic

/-- The entry at feature `k` of `x` over the root of its mean square, `w` being the number of features. -/
def unit {n : ℕ} (w : EReal) (x : Fin n → EReal) (k : Fin n) : EReal :=
  x k * Ideal.rsqrt (Ideal.div (∑ j, x j * x j) w + Ideal.ofBits .f32 0x358637BD#32)

/-- The modulated norm of a token's features `x`: `g` the norm's weights, `sc` and `sh` the modulation's scale and shift. -/
def modulated (x g sc sh : Fin 1024 → EReal) (k : Fin 1024) : EReal :=
  unit (Ideal.ofBits .f32 0x44800000#32) x k * g k * (Ideal.ofBits .f32 0x3F800000#32 + sc k) + sh k

/-- A whole number as a float. -/
abbrev num (n : ℕ) : EReal := FloatOps.sitofp (F := Ideal) .f32 (BitVec.ofNat 32 n)

/-- The eight frequencies of the rotation. -/
def freq (l : ℕ) : EReal :=
  Ideal.pow (Ideal.ofBits .f32 0x461C4000#32)
    (Ideal.div (-(Ideal.ofBits .f32 0x40000000#32 * num l)) (Ideal.ofBits .f32 0x41800000#32))

/-- The angle at token `i` of a sequence, of a grid 64 wide, and lane `e` of a head: the first 16 lanes turn by the row, the
    others by the column. -/
def angle (i : ℕ) (e : ℕ) : EReal := num (if e < 16 then i / 64 else i % 64) * freq (e % 8)

/-- The lanes `z` of a head of token `p` after the rotation; the context's tokens are not rotated. -/
def rotated (p : Fin 20480) (z : Fin 32 → EReal) (e : Fin 32) : EReal :=
  if (p : ℕ) < 4096 then z e
  else if (e : ℕ) % 16 < 8 then
    z e * Ideal.cos (angle (p % 4096) e) - z ⟨(e + 8) % 32, by omega⟩ * Ideal.sin (angle (p % 4096) e)
  else z e * Ideal.cos (angle (p % 4096) e) + z ⟨(e + 24) % 32, by omega⟩ * Ideal.sin (angle (p % 4096) e)

/-- The rotation, axis by axis. -/
theorem rotated_lanes (p : Fin 20480) (hp : ¬(p : ℕ) < 4096) (i : ℕ) (hi : (p : ℕ) % 4096 = i) (z : Fin 32 → EReal) (e : Fin 32) :
    rotated p z e = if h : (e : ℕ) < 16 then
        if h' : (e : ℕ) < 8 then
          z e * Ideal.cos (num (i / 64) * freq e) - z ⟨8 + e, by omega⟩ * Ideal.sin (num (i / 64) * freq e)
        else z ⟨8 + (e - 8), by omega⟩ * Ideal.cos (num (i / 64) * freq (e - 8))
          + z ⟨e - 8, by omega⟩ * Ideal.sin (num (i / 64) * freq (e - 8))
      else if h' : (e : ℕ) - 16 < 8 then
        z ⟨16 + (e - 16), by omega⟩ * Ideal.cos (num (i % 64) * freq (e - 16))
          - z ⟨16 + (8 + (e - 16)), by omega⟩ * Ideal.sin (num (i % 64) * freq (e - 16))
      else z ⟨16 + (8 + (e - 16 - 8)), by omega⟩ * Ideal.cos (num (i % 64) * freq (e - 16 - 8))
        + z ⟨16 + (e - 16 - 8), by omega⟩ * Ideal.sin (num (i % 64) * freq (e - 16 - 8)) := by
  unfold rotated angle
  rw [if_neg hp, hi]
  have q : ∀ a b (ha : a < 32) (hb : b < 32), a = b → z ⟨a, ha⟩ = z ⟨b, hb⟩ := fun a b ha hb h => congrArg z (Fin.ext h)
  have f : ∀ a b, a = b → freq a = freq b := fun a b h => congrArg freq h
  by_cases h : (e : ℕ) < 16
  · by_cases h' : (e : ℕ) < 8
    · rw [if_pos (by omega), if_pos h, dif_pos h, dif_pos h', f (e % 8) e (by omega), q ((e + 8) % 32) (8 + e) _ _ (by omega)]
    · rw [if_neg (by omega), if_pos h, dif_pos h, dif_neg h', f (e % 8) (e - 8) (by omega),
        q ((e + 24) % 32) (e - 8) _ _ (by omega), q (8 + (e - 8)) e _ e.isLt (by omega)]
  · by_cases h' : (e : ℕ) - 16 < 8
    · rw [if_pos (by omega), if_neg h, dif_neg h, dif_pos h', f (e % 8) (e - 16) (by omega),
        q ((e + 8) % 32) (16 + (8 + (e - 16))) _ _ (by omega), q (16 + (e - 16)) e _ e.isLt (by omega)]
    · rw [if_neg (by omega), if_neg h, dif_neg h, dif_neg h', f (e % 8) (e - 16 - 8) (by omega),
        q ((e + 24) % 32) (16 + (e - 16 - 8)) _ _ (by omega), q (16 + (8 + (e - 16 - 8))) e _ e.isLt (by omega)]

/-- The argument arrays' entries: the tokens' features, the layer's modulation, its norm's weights, the input weights, the
    latent norms' weights, the query weights, and the key and value weights. -/
structure Args where
  /-- The tokens' features. -/
  x : Fin 20480 → Fin 1024 → EReal
  /-- The layer's modulation, by sequence. -/
  mod : Fin 8 → Fin 6144 → EReal
  /-- The norm's weights. -/
  g : Fin 1024 → EReal
  /-- The input weights. -/
  w : Fin 1024 → Fin 1952 → EReal
  /-- The query latents' norm weights. -/
  gq : Fin 256 → EReal
  /-- The key and value latents' norm weights. -/
  gk : Fin 128 → EReal
  /-- The query weights. -/
  wq : Fin 256 → Fin 768 → EReal
  /-- The key and value weights. -/
  wk : Fin 128 → Fin 1024 → EReal

variable (A : Args)

/-- The product of the modulated norm of token `p` and column `j` of the input weights. -/
def proj (p : Fin 20480) (j : Fin 1952) : EReal :=
  ∑ k : Fin 1024, modulated (A.x p) A.g (fun k => A.mod ⟨p / 4096, by omega⟩ ⟨1024 + k, by omega⟩)
    (fun k => A.mod ⟨p / 4096, by omega⟩ ⟨k, by omega⟩) k * A.w k j

/-- The normalised key and value latents. -/
def ckv (p : Fin 20480) (k : Fin 128) : EReal :=
  unit (Ideal.ofBits .f32 0x43000000#32) (fun k : Fin 128 => proj A p ⟨256 + k, by omega⟩) k * A.gk k

/-- The queries, 96 features a head. -/
def query (p : Fin 20480) (j : Fin 768) : EReal :=
  ∑ k : Fin 256, unit (Ideal.ofBits .f32 0x43800000#32) (fun k : Fin 256 => proj A p ⟨k, by omega⟩) k * A.gq k * A.wq k j

/-- The keys and values, 128 features a head. -/
def kv (p : Fin 20480) (j : Fin 1024) : EReal := ∑ k : Fin 128, ckv A p k * A.wk k j

/-- The scaled own features of the queries. -/
def resQ (j : Fin 512) (p : Fin 20480) : EReal :=
  query A p ⟨j / 64 * 96 + j % 64, by omega⟩ * Ideal.ofBits .f32 0x3E16C740#32

/-- The scaled and rotated shared features of the queries. -/
def resR (j : Fin 256) (p : Fin 20480) : EReal :=
  rotated p (fun e => query A p ⟨j / 32 * 96 + (64 + e), by omega⟩) ⟨j % 32, by omega⟩ * Ideal.ofBits .f32 0x3E16C740#32

/-- The rotated shared key features, padded by zeros to 128. -/
def resK (p : Fin 20480) (j : Fin 128) : EReal :=
  if h : (j : ℕ) < 32 then rotated p (fun e => proj A p ⟨384 + e, by omega⟩) ⟨j, h⟩ else 0

/-- The gate. -/
def resG (p : Fin 20480) (j : Fin 512) : EReal := proj A p ⟨416 + j, by omega⟩

/-- The gated convolution's input. -/
def resZ (p : Fin 20480) (j : Fin 512) : EReal := proj A p ⟨928 + j, by omega⟩ * proj A p ⟨1440 + j, by omega⟩

/-- The keys' own features. -/
def resN (p : Fin 20480) (j : Fin 512) : EReal := kv A p ⟨j / 64 * 128 + j % 64, by omega⟩

/-- The values. -/
def resV (j : Fin 512) (p : Fin 20480) : EReal := kv A p ⟨j / 64 * 128 + (64 + j % 64), by omega⟩

end Cert.Odd

end
-- ==== Proof.OddValue.lean ====
/- What one grid point of the odd layer's projections computes, over the extended reals: the entries of every value it stores,
   from the entries of its blocks. -/
module

public import proofs.«01_k».proof.Proof.Gen.Kernel3Ideal.Frame
public import proofs.«01_k».proof.Proof.OddSpec

@[expose] public section

set_option maxRecDepth 16384

noncomputable section

namespace Cert.Kernel3Ideal.Odd

open Cert.Kernel3Ideal Cert.Kernel3Ideal.Gen Idealize.ShloMosaic
open Cert.Odd (unit modulated)

theorem proj_apply (x : FVec Ideal S256x1024 .f32) (g : FVec Ideal S1x1024 .f32) (sc sh : FVec Ideal S1x1x1x1024 .f32)
    (w : FVec Ideal S1024x2048 .bf16) (r : Fin 256) (j : Fin 2048) :
    k0_pay2 (F := Ideal) x g sc sh w (ix2 r j) = ∑ k : Fin 1024, modulated (fun k => x (ix2 r k)) (fun k => g (ix2 0 k))
      (fun k => sc (ix4 0 0 0 k)) (fun k => sh (ix4 0 0 0 k)) k * w (ix2 k j) := by
  pointwise [k0_pay2, modulated, unit]

theorem query_apply (z : FVec Ideal S256x256 .f32) (g : FVec Ideal S1x256 .f32) (w : FVec Ideal S256x768 .bf16)
    (r : Fin 256) (j : Fin 768) :
    k0_pay8 z g w (ix2 r j) = ∑ k : Fin 256, unit (Ideal.ofBits .f32 0x43800000#32) (fun k => z (ix2 r k)) k * g (ix2 0 k)
      * w (ix2 k j) := by
  pointwise [k0_pay8, unit]

theorem latent_apply (z : FVec Ideal S256x128 .f32) (g : FVec Ideal S1x128 .f32) (r : Fin 256) (j : Fin 128) :
    k0_pay17 z g (ix2 r j) = unit (Ideal.ofBits .f32 0x43000000#32) (fun k => z (ix2 r k)) j * g (ix2 0 j) := by
  pointwise [k0_pay17, unit]

theorem expand_apply (z : FVec Ideal S256x128 .bf16) (w : FVec Ideal S128x1024 .bf16) (r : Fin 256) (j : Fin 1024) :
    k0_pay19 z w (ix2 r j) = ∑ k : Fin 128, z (ix2 r k) * w (ix2 k j) := by
  pointwise [k0_pay19]

/-- The lane's number modulo 16, as the kernel computes it. -/
abbrev lane16 (j : BitVec 32) : BitVec 32 :=
  IntOp.remsi ArithUnit.vector j (Scalar.select (Scalar.cmpi CmpIPredicate.eq 16#32 0#32) 1#32 16#32)

/-- The lanes whose partner lies 8 lanes on. -/
theorem lane_lt : ∀ j : Fin 256, IntOp.cmpi CmpIPredicate.slt
    (Scalar.select (IntOp.andi (IntOp.xori (IntOp.cmpi CmpIPredicate.slt (lane16 (BitVec.ofNat 32 j)) 0#32)
        (Scalar.cmpi CmpIPredicate.slt (Scalar.select (Scalar.cmpi CmpIPredicate.eq 16#32 0#32) 1#32 16#32) 0#32))
      (IntOp.cmpi CmpIPredicate.ne (lane16 (BitVec.ofNat 32 j)) 0#32))
      (IntOp.addi (lane16 (BitVec.ofNat 32 j)) (Scalar.select (Scalar.cmpi CmpIPredicate.eq 16#32 0#32) 1#32 16#32))
      (lane16 (BitVec.ofNat 32 j))) 8#32 = if (j : ℕ) % 16 < 8 then 1#1 else 0#1 := by
  decide +kernel

theorem rotK_apply (z co si : FVec Ideal S256x128 .f32) (r : Fin 256) (j : Fin 128) :
    k0_pay22 z co si (ix2 r j) = z (ix2 r j) * co (ix2 r j)
      + (if (j : ℕ) % 16 < 8 then z (ix2 r ⟨(j + 8) % 128, by omega⟩) else z (ix2 r ⟨(j + 120) % 128, by omega⟩))
        * si (ix2 r j) := by
  have hl := lane_lt ⟨j, by omega⟩
  pointwise [k0_pay22]
  rw [hl]
  split_ifs <;> rfl

theorem rotQ_apply (z co si : FVec Ideal S256x256 .f32) (r j : Fin 256) :
    k0_pay16 z co si (iota .tc S256x256 32 [1] iota_S256x256_d1_w32) (Scalar.select (Scalar.cmpi .eq 16#32 0#32) 1#32 16#32)
        k0_pay15 (ix2 j r) = (z (ix2 r j) * co (ix2 r j)
      + (if (j : ℕ) % 16 < 8 then z (ix2 r ⟨(j + 8) % 256, by omega⟩) else z (ix2 r ⟨(j + 248) % 256, by omega⟩))
        * si (ix2 r j)) * Ideal.ofBits .f32 0x3E16C740#32 := by
  have hl := lane_lt j
  pointwise [k0_pay16, k0_pay15]
  rw [hl]
  split_ifs <;> rfl

/-- The rows `256 * s ..` of the point's tokens. -/
def rows (x : Vec Ideal S1024x1024 .f32) : Fin 4 → FVec Ideal S256x1024 .f32 :=
  ![View.ld x r0_0, View.ld x r0_14, View.ld x r0_20, View.ld x r0_26]

/-- The rows of a table. -/
def tabs (x : Vec Ideal S1x1024x128 .f32) : Fin 4 → FVec Ideal S1x256x128 .f32 :=
  ![View.ld x r0_8, View.ld x r0_16, View.ld x r0_22, View.ld x r0_28]

theorem rows_apply (x : Vec Ideal S1024x1024 .f32) (s : Fin 4) (r : Fin 256) (k : Fin 1024) :
    rows x s (ix2 r k) = x (ix2 ⟨256 * s + r, by omega⟩ k) := by
  obtain rfl | rfl | rfl | rfl : s = 0 ∨ s = 1 ∨ s = 2 ∨ s = 3 := by omega
  all_goals
    simp only [rows, tabs, Matrix.cons_val]
    pointwise
    try (congr 3 <;> simp <;> omega)

theorem tabs_apply (x : Vec Ideal S1x1024x128 .f32) (s : Fin 4) (r : Fin 256) (k : Fin 128) :
    tabs x s (ix3 0 r k) = x (ix3 0 ⟨256 * s + r, by omega⟩ k) := by
  obtain rfl | rfl | rfl | rfl : s = 0 ∨ s = 1 ∨ s = 2 ∨ s = 3 := by omega
  all_goals
    simp only [rows, tabs, Matrix.cons_val]
    pointwise
    try (congr 3 <;> simp <;> omega)

/-- Four stores of 256 rows each, read at a row. -/
theorem tilesK (P : Fin 4 → FVec Ideal S256x128 .f32) (s : Fin 4) (r : Fin 256) (j : Fin 128) :
    View.canon (Val := Elt Ideal) [(⟨r0_31, P 3⟩ : View.Piece (Elt Ideal) S1024x128 .f32), ⟨r0_25, P 2⟩, ⟨r0_19, P 1⟩,
      ⟨r0_12, P 0⟩] (ix2 ⟨256 * s + r, by omega⟩ j) = P s (ix2 r j) := by
  obtain rfl | rfl | rfl | rfl : s = 0 ∨ s = 1 ∨ s = 2 ∨ s = 3 := by omega
  all_goals
    canon_tiles x hx
    all_goals
      idx_vars x
      pointwise at *
      first | omega | (congr 2 <;> (apply Fin.ext; try simp only) <;> omega)

/-- Four stores of 256 rows each, read at a row. -/
theorem tilesKb (P : Fin 4 → FVec Ideal S256x128 .bf16) (s : Fin 4) (r : Fin 256) (j : Fin 128) :
    View.canon (Val := Elt Ideal) [(⟨r0_31, P 3⟩ : View.Piece (Elt Ideal) S1024x128 .bf16), ⟨r0_25, P 2⟩, ⟨r0_19, P 1⟩,
      ⟨r0_12, P 0⟩] (ix2 ⟨256 * s + r, by omega⟩ j) = P s (ix2 r j) := by
  obtain rfl | rfl | rfl | rfl : s = 0 ∨ s = 1 ∨ s = 2 ∨ s = 3 := by omega
  all_goals
    canon_tiles x hx
    all_goals
      idx_vars x
      pointwise at *
      first | omega | (congr 2 <;> (apply Fin.ext; try simp only) <;> omega)

/-- Four stores of 256 rows each, read at a row. -/
theorem tilesW (P : Fin 4 → FVec Ideal S256x512 .f32) (s : Fin 4) (r : Fin 256) (j : Fin 512) :
    View.canon (Val := Elt Ideal) [(⟨r0_27, P 3⟩ : View.Piece (Elt Ideal) S1024x512 .f32), ⟨r0_21, P 2⟩, ⟨r0_15, P 1⟩,
      ⟨r0_5, P 0⟩] (ix2 ⟨256 * s + r, by omega⟩ j) = P s (ix2 r j) := by
  obtain rfl | rfl | rfl | rfl : s = 0 ∨ s = 1 ∨ s = 2 ∨ s = 3 := by omega
  all_goals
    canon_tiles x hx
    all_goals
      idx_vars x
      pointwise at *
      first | omega | (congr 2 <;> (apply Fin.ext; try simp only) <;> omega)

/-- Four stores of 256 rows each, read at a row. -/
theorem tilesWb (P : Fin 4 → FVec Ideal S256x512 .bf16) (s : Fin 4) (r : Fin 256) (j : Fin 512) :
    View.canon (Val := Elt Ideal) [(⟨r0_27, P 3⟩ : View.Piece (Elt Ideal) S1024x512 .bf16), ⟨r0_21, P 2⟩, ⟨r0_15, P 1⟩,
      ⟨r0_5, P 0⟩] (ix2 ⟨256 * s + r, by omega⟩ j) = P s (ix2 r j) := by
  obtain rfl | rfl | rfl | rfl : s = 0 ∨ s = 1 ∨ s = 2 ∨ s = 3 := by omega
  all_goals
    canon_tiles x hx
    all_goals
      idx_vars x
      pointwise at *
      first | omega | (congr 2 <;> (apply Fin.ext; try simp only) <;> omega)

/-- Four stores of 256 columns each, read at a column. -/
theorem tilesT (P : Fin 4 → FVec Ideal S512x256 .bf16) (s : Fin 4) (r : Fin 256) (j : Fin 512) :
    View.canon (Val := Elt Ideal) [(⟨r0_29, P 3⟩ : View.Piece (Elt Ideal) S512x1024 .bf16), ⟨r0_23, P 2⟩, ⟨r0_17, P 1⟩,
      ⟨r0_9, P 0⟩] (ix2 j ⟨256 * s + r, by omega⟩) = P s (ix2 j r) := by
  obtain rfl | rfl | rfl | rfl : s = 0 ∨ s = 1 ∨ s = 2 ∨ s = 3 := by omega
  all_goals
    canon_tiles x hx
    all_goals
      idx_vars x
      pointwise at *
      first | omega | (congr 2 <;> (apply Fin.ext; try simp only) <;> omega)

/-- Four stores of 256 columns each, read at a column. -/
theorem tilesR (P : Fin 4 → FVec Ideal S256x256 .bf16) (s : Fin 4) (r : Fin 256) (j : Fin 256) :
    View.canon (Val := Elt Ideal) [(⟨r0_30, P 3⟩ : View.Piece (Elt Ideal) S256x1024 .bf16), ⟨r0_24, P 2⟩, ⟨r0_18, P 1⟩,
      ⟨r0_10, P 0⟩] (ix2 j ⟨256 * s + r, by omega⟩) = P s (ix2 j r) := by
  obtain rfl | rfl | rfl | rfl : s = 0 ∨ s = 1 ∨ s = 2 ∨ s = 3 := by omega
  all_goals
    canon_tiles x hx
    all_goals
      idx_vars x
      pointwise at *
      first | omega | (congr 2 <;> (apply Fin.ext; try simp only) <;> omega)

variable (x0 : Vec Ideal S1024x1024 .f32) (x1 : Vec Ideal S1x1x6x1024 .f32) (x2 : Vec Ideal S1x1024 .f32)
  (x3 : Vec Ideal S1024x2048 .bf16) (x4 : Vec Ideal S1x256 .f32) (x5 : Vec Ideal S1x128 .f32) (x6 : Vec Ideal S256x768 .bf16)
  (x7 : Vec Ideal S128x1024 .bf16) (x8 x9 : Vec Ideal S1x1024x128 .f32)

/-- The entry of the token `p` of the block and the column `j` in the product with the input weights. -/
def proj (p : Fin 1024) (j : Fin 2048) : EReal :=
  ∑ k : Fin 1024, modulated (fun k => x0 (ix2 p k)) (fun k => x2 (ix2 0 k)) (fun k => x1 (ix4 0 0 1 k))
    (fun k => x1 (ix4 0 0 0 k)) k * x3 (ix2 k j)

/-- The normalised latent key and value features of the token `p`. -/
def ckv (p : Fin 1024) (k : Fin 128) : EReal :=
  unit (Ideal.ofBits .f32 0x43000000#32) (fun k : Fin 128 => proj x0 x1 x2 x3 p ⟨256 + k, by omega⟩) k * x5 (ix2 0 k)

/-- The queries of the token `p`. -/
def query (p : Fin 1024) (j : Fin 768) : EReal :=
  ∑ k : Fin 256, unit (Ideal.ofBits .f32 0x43800000#32) (fun k : Fin 256 => proj x0 x1 x2 x3 p ⟨k, by omega⟩) k * x4 (ix2 0 k)
    * x6 (ix2 k j)

/-- The product of 256 tokens with the input weights. -/
abbrev pr (s : Fin 4) : FVec Ideal S256x2048 .f32 :=
  k0_pay2 (rows x0 s) (View.ld x2 r0_1) (View.ld x1 r0_2) (View.ld x1 r0_3) (View.ld x3 r0_4)

theorem pr_apply (s : Fin 4) (r : Fin 256) (j : Fin 2048) :
    pr x0 x1 x2 x3 s (ix2 r j) = proj x0 x1 x2 x3 ⟨256 * s + r, by omega⟩ j := by
  rw [pr, proj_apply]
  simp only [rows_apply]
  unfold proj
  pointwise

theorem out15 (s : Fin 4) (r : Fin 256) (j : Fin 512) :
    out0_15 x0 x1 x2 x3 x4 x5 x6 x7 x8 x9 (ix2 ⟨256 * s + r, by omega⟩ j)
      = proj x0 x1 x2 x3 ⟨256 * s + r, by omega⟩ ⟨512 + j, by omega⟩ := by
  refine (congrFun (show out0_15 x0 x1 x2 x3 x4 x5 x6 x7 x8 x9 = _ from rfl) _).trans
    ((tilesW (fun s => k0_pay6 (rows x0 s) (View.ld x2 r0_1) (View.ld x1 r0_2) (View.ld x1 r0_3) (View.ld x3 r0_4)) s r j).trans ?_)
  have h := pr_apply x0 x1 x2 x3 s r ⟨512 + j, by omega⟩
  rw [← h]
  pointwise [k0_pay6]

theorem out16 (s : Fin 4) (r : Fin 256) (j : Fin 512) :
    out0_16 x0 x1 x2 x3 x4 x5 x6 x7 x8 x9 (ix2 ⟨256 * s + r, by omega⟩ j)
      = proj x0 x1 x2 x3 ⟨256 * s + r, by omega⟩ ⟨1024 + j, by omega⟩
        * proj x0 x1 x2 x3 ⟨256 * s + r, by omega⟩ ⟨1536 + j, by omega⟩ := by
  refine (congrFun (show out0_16 x0 x1 x2 x3 x4 x5 x6 x7 x8 x9 = _ from rfl) _).trans
    ((tilesW (fun s => k0_pay7 (rows x0 s) (View.ld x2 r0_1) (View.ld x1 r0_2) (View.ld x1 r0_3) (View.ld x3 r0_4)) s r j).trans ?_)
  rw [← pr_apply, ← pr_apply]
  pointwise [k0_pay7]

theorem ckv_apply (s : Fin 4) (r : Fin 256) (j : Fin 128) :
    k0_pay17 (k0_pay4 (rows x0 s) (View.ld x2 r0_1) (View.ld x1 r0_2) (View.ld x1 r0_3) (View.ld x3 r0_4)) (View.ld x5 r0_11)
      (ix2 r j) = ckv x0 x1 x2 x3 x5 ⟨256 * s + r, by omega⟩ j := by
  rw [latent_apply]
  unfold ckv
  simp only [← pr_apply]
  pointwise [k0_pay4]

theorem out12 (s : Fin 4) (r : Fin 256) (j : Fin 128) :
    out0_12 x0 x1 x2 x3 x4 x5 x6 x7 x8 x9 (ix2 ⟨256 * s + r, by omega⟩ j)
      = ckv x0 x1 x2 x3 x5 ⟨256 * s + r, by omega⟩ j := by
  refine (congrFun (show out0_12 x0 x1 x2 x3 x4 x5 x6 x7 x8 x9 = _ from rfl) _).trans
    ((tilesK (fun s => k0_pay17 (k0_pay4 (rows x0 s) (View.ld x2 r0_1) (View.ld x1 r0_2) (View.ld x1 r0_3) (View.ld x3 r0_4))
      (View.ld x5 r0_11)) s r j).trans (ckv_apply ..))

/-- The rotated shared keys of the token `p`, from the tables' block. -/
def key (p : Fin 1024) (j : Fin 128) : EReal :=
  proj x0 x1 x2 x3 p ⟨384 + j, by omega⟩ * x8 (ix3 0 p j)
    + (if (j : ℕ) % 16 < 8 then proj x0 x1 x2 x3 p ⟨384 + (j + 8) % 128, by omega⟩
        else proj x0 x1 x2 x3 p ⟨384 + (j + 120) % 128, by omega⟩) * x9 (ix3 0 p j)

theorem key_apply (s : Fin 4) (r : Fin 256) (j : Fin 128) :
    k0_pay22 (k0_pay5 (rows x0 s) (View.ld x2 r0_1) (View.ld x1 r0_2) (View.ld x1 r0_3) (View.ld x3 r0_4))
      (k0_pay9 (tabs x8 s)) (k0_pay10 (tabs x9 s)) (ix2 r j) = key x0 x1 x2 x3 x8 x9 ⟨256 * s + r, by omega⟩ j := by
  rw [rotK_apply]
  unfold key
  simp only [← pr_apply, ← tabs_apply]
  pointwise [k0_pay5, k0_pay9, k0_pay10]

theorem out13 (s : Fin 4) (r : Fin 256) (j : Fin 128) :
    out0_13 x0 x1 x2 x3 x4 x5 x6 x7 x8 x9 (ix2 ⟨256 * s + r, by omega⟩ j)
      = key x0 x1 x2 x3 x8 x9 ⟨256 * s + r, by omega⟩ j := by
  refine (congrFun (show out0_13 x0 x1 x2 x3 x4 x5 x6 x7 x8 x9 = _ from rfl) _).trans
    ((tilesK (fun s => k0_pay22 (k0_pay5 (rows x0 s) (View.ld x2 r0_1) (View.ld x1 r0_2) (View.ld x1 r0_3) (View.ld x3 r0_4))
      (k0_pay9 (tabs x8 s)) (k0_pay10 (tabs x9 s))) s r j).trans (key_apply ..))

theorem out14 (s : Fin 4) (r : Fin 256) (j : Fin 128) :
    out0_14 x0 x1 x2 x3 x4 x5 x6 x7 x8 x9 (ix2 ⟨256 * s + r, by omega⟩ j)
      = key x0 x1 x2 x3 x8 x9 ⟨256 * s + r, by omega⟩ j := by
  refine (congrFun (show out0_14 x0 x1 x2 x3 x4 x5 x6 x7 x8 x9 = _ from rfl) _).trans
    ((tilesKb (fun s => k0_pay23 (k0_pay5 (rows x0 s) (View.ld x2 r0_1) (View.ld x1 r0_2) (View.ld x1 r0_3) (View.ld x3 r0_4))
      (k0_pay9 (tabs x8 s)) (k0_pay10 (tabs x9 s))) s r j).trans ?_)
  rw [← key_apply]
  rfl

theorem query_block (s : Fin 4) (r : Fin 256) (j : Fin 768) :
    k0_pay8 (k0_pay3 (rows x0 s) (View.ld x2 r0_1) (View.ld x1 r0_2) (View.ld x1 r0_3) (View.ld x3 r0_4)) (View.ld x4 r0_6)
      (View.ld x6 r0_7) (ix2 r j) = query x0 x1 x2 x3 x4 x6 ⟨256 * s + r, by omega⟩ j := by
  rw [query_apply]
  unfold query
  simp only [← pr_apply]
  pointwise [k0_pay3]

theorem out10 (s : Fin 4) (r : Fin 256) (j : Fin 512) :
    out0_10 x0 x1 x2 x3 x4 x5 x6 x7 x8 x9 (ix2 j ⟨256 * s + r, by omega⟩)
      = query x0 x1 x2 x3 x4 x6 ⟨256 * s + r, by omega⟩ ⟨j, by omega⟩ * Ideal.ofBits .f32 0x3E16C740#32 := by
  refine (congrFun (show out0_10 x0 x1 x2 x3 x4 x5 x6 x7 x8 x9 = _ from rfl) _).trans
    ((tilesT (fun s => k0_pay11 (k0_pay3 (rows x0 s) (View.ld x2 r0_1) (View.ld x1 r0_2) (View.ld x1 r0_3) (View.ld x3 r0_4))
      (View.ld x4 r0_6) (View.ld x6 r0_7)) s r j).trans ?_)
  rw [← query_block]
  pointwise [k0_pay11]

theorem out11 (s : Fin 4) (r : Fin 256) (j : Fin 256) :
    out0_11 x0 x1 x2 x3 x4 x5 x6 x7 x8 x9 (ix2 j ⟨256 * s + r, by omega⟩)
      = (query x0 x1 x2 x3 x4 x6 ⟨256 * s + r, by omega⟩ ⟨512 + j, by omega⟩
          * x8 (ix3 0 ⟨256 * s + r, by omega⟩ ⟨j % 128, by omega⟩)
        + (if (j : ℕ) % 16 < 8 then query x0 x1 x2 x3 x4 x6 ⟨256 * s + r, by omega⟩ ⟨512 + (j + 8) % 256, by omega⟩
            else query x0 x1 x2 x3 x4 x6 ⟨256 * s + r, by omega⟩ ⟨512 + (j + 248) % 256, by omega⟩)
          * x9 (ix3 0 ⟨256 * s + r, by omega⟩ ⟨j % 128, by omega⟩)) * Ideal.ofBits .f32 0x3E16C740#32 := by
  refine (congrFun (show out0_11 x0 x1 x2 x3 x4 x5 x6 x7 x8 x9 = _ from rfl) _).trans
    ((tilesR (fun s => k0_pay16 (k0_pay12 (k0_pay3 (rows x0 s) (View.ld x2 r0_1) (View.ld x1 r0_2) (View.ld x1 r0_3)
      (View.ld x3 r0_4)) (View.ld x4 r0_6) (View.ld x6 r0_7)) (k0_pay13 (tabs x8 s)) (k0_pay14 (tabs x9 s))
      (iota .tc S256x256 32 [1] iota_S256x256_d1_w32) (Scalar.select (Scalar.cmpi .eq 16#32 0#32) 1#32 16#32) k0_pay15) s r j).trans ?_)
  rw [rotQ_apply]
  simp only [← query_block, ← tabs_apply]
  pointwise [k0_pay12, k0_pay13, k0_pay14, k0_pay9, k0_pay10]
  have ht : ∀ x : Vec Ideal S1x1024x128 .f32, (if h : (j : ℕ) < 128 then tabs x s (ix3 0 r ⟨j, h⟩)
      else tabs x s (ix3 0 r ⟨j - 128, by omega⟩)) = tabs x s (ix3 0 r ⟨j % 128, by omega⟩) := fun x => by
    split_ifs with h
    · congr 3
      omega
    · congr 3
      omega
  simp only [ht]

theorem out17 (s : Fin 4) (r : Fin 256) (j : Fin 512) :
    out0_17 x0 x1 x2 x3 x4 x5 x6 x7 x8 x9 (ix2 ⟨256 * s + r, by omega⟩ j)
      = ∑ k : Fin 128, ckv x0 x1 x2 x3 x5 ⟨256 * s + r, by omega⟩ k * x7 (ix2 k ⟨j, by omega⟩) := by
  refine (congrFun (show out0_17 x0 x1 x2 x3 x4 x5 x6 x7 x8 x9 = _ from rfl) _).trans
    ((tilesWb (fun s => k0_pay20 (k0_pay18 (k0_pay4 (rows x0 s) (View.ld x2 r0_1) (View.ld x1 r0_2) (View.ld x1 r0_3)
      (View.ld x3 r0_4)) (View.ld x5 r0_11)) (View.ld x7 r0_13)) s r j).trans ?_)
  simp only [← ckv_apply]
  pointwise [k0_pay20, expand_apply, k0_pay18]

theorem out18 (s : Fin 4) (r : Fin 256) (j : Fin 512) :
    out0_18 x0 x1 x2 x3 x4 x5 x6 x7 x8 x9 (ix2 j ⟨256 * s + r, by omega⟩)
      = ∑ k : Fin 128, ckv x0 x1 x2 x3 x5 ⟨256 * s + r, by omega⟩ k * x7 (ix2 k ⟨512 + j, by omega⟩) := by
  refine (congrFun (show out0_18 x0 x1 x2 x3 x4 x5 x6 x7 x8 x9 = _ from rfl) _).trans
    ((tilesT (fun s => k0_pay21 (k0_pay18 (k0_pay4 (rows x0 s) (View.ld x2 r0_1) (View.ld x1 r0_2) (View.ld x1 r0_3)
      (View.ld x3 r0_4)) (View.ld x5 r0_11)) (View.ld x7 r0_13)) s r j).trans ?_)
  simp only [← ckv_apply]
  pointwise [k0_pay21, expand_apply, k0_pay18]

end Cert.Kernel3Ideal.Odd

end
-- ==== Proof.OddTable.lean ====
/- The rotation's tables: the arrays of cosines and sines the odd layer's projections enter with. -/
module

public import proofs.«01_k».proof.Proof.OddSpec
public import proofs.«01_k».proof.Proof.Gen.Kernel3Ideal.Frame

@[expose] public section

set_option maxRecDepth 16384

noncomputable section

namespace Cert.Kernel3Ideal.Odd

open Cert.Kernel3Ideal Cert.Kernel3Ideal.Gen Idealize.ShloMosaic Idealize.ShloMosaic.TcCoe Idealize.SL.Sem
open Cert.Odd (freq angle)

variable (m : (ℓ : Loc nD τ sig) → Buf (Elt Ideal) ℓ) (c : Dev nD)

/-- The numbers of the 4096 tokens of a sequence. -/
abbrev tok : IVec S4096 32 := iotaInDim S4096 32 0
/-- A number at every token. -/
abbrev all (n : BitVec 32) : IVec S4096 32 := broadcastInDim S4096 ![] bcast_S_S4096 (constantI S_ 32 n)

def rowIdx : IVec S4096 32 :=
  select (andi (cmpi .ne (signi tok) (broadcastInDim S4096 ![] bcast_S_S4096 (signi (constantI S_ 32 64#32))))
    (cmpi .ne (Host.remsi tok (all 64#32)) (all 0#32))) (subi (Host.divsi tok (all 64#32)) (all 1#32)) (Host.divsi tok (all 64#32))

theorem rowIdx_apply : ∀ i : Fin 4096, rowIdx (ix1 i) = BitVec.ofNat 32 (i / 64) := by
  decide +kernel

def step : IVec S_ 32 := select (cmpi .eq (constantI S_ 32 64#32) (constantI S_ 32 0#32)) (constantI S_ 32 1#32) (constantI S_ 32 64#32)
abbrev steps : IVec S4096 32 := broadcastInDim S4096 ![] bcast_S_S4096 step

def colIdx : IVec S4096 32 :=
  select (andi (cmpi .ne (cmpi .slt (Host.remsi tok steps) (all 0#32))
      (broadcastInDim S4096 ![] bcast_S_S4096 (cmpi .slt step (constantI S_ 32 0#32))))
    (cmpi .ne (Host.remsi tok steps) (all 0#32))) (addi (Host.remsi tok steps) steps) (Host.remsi tok steps)

theorem colIdx_apply : ∀ i : Fin 4096, colIdx (ix1 i) = BitVec.ofNat 32 (i % 64) := by
  decide +kernel

/-- The eight frequencies. -/
def freqs : FVec Ideal S8 .f32 := Host.powf (broadcastInDim S8 ![] bcast_S_S8 (constant S_ .f32 0x461C4000#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

def ang (idx : IVec S4096 32) : FVec Ideal S4096x8 .f32 :=
  mulf (broadcastInDim S4096x8 ![0, 1] bcast_S4096x1_S4096x8_0_1 (broadcastInDim S4096x1 ![0] bcast_S4096_S4096x1_0 (sitofp .f32 idx)))
    (broadcastInDim S4096x8 ![0, 1] bcast_S1x8_S4096x8_0_1 (broadcastInDim S1x8 ![1] bcast_S8_S1x8_1 freqs))

/-- A table of 128 lanes from one of 32. -/
def tile (x : FVec Ideal S4096x32 .f32) : FVec Ideal S4x1024x128 .f32 :=
  shapeCast S4x1024x128 (shapeCast S4096x128 (broadcastInDim S1x4096x4x32 ![0, 1, 2, 3] bcast_S1x4096x1x32_S1x4096x4x32_0_1_2_3
    (shapeCast S1x4096x1x32 x shapeCasts_S4096x32_S1x4096x1x32)) shapeCasts_S1x4096x4x32_S4096x128) shapeCasts_S4096x128_S4x1024x128

/-- The buffers once the angles are there. -/
def mid : Valuation τ sig (Elt Ideal) :=
  StableHlo.after (hostOps0_4.take 25) (StableHlo.after (List.flatten [hostOps0, hostOps0_1, hostOps0_2, hostOps0_3]) (fun b => m (c, b)))

theorem V_mid (b : Ref sig .tc) : V m c b = StableHlo.after (hostOps0_4.drop 25) (mid m c) b := by
  have h : List.flatten [hostOps0, hostOps0_1, hostOps0_2, hostOps0_3, hostOps0_4 (F := Ideal)]
      = List.flatten [hostOps0, hostOps0_1, hostOps0_2, hostOps0_3] ++ (hostOps0_4.take 25 ++ hostOps0_4.drop 25) := by
    rw [List.take_append_drop]
    simp only [List.flatten_cons, List.flatten_nil, List.append_assoc, List.append_nil]
  unfold V mid
  rw [h, StableHlo.after_append, StableHlo.after_append]

set_option maxHeartbeats 4000000 in
theorem mid_row : mid m c main_v20 = ang rowIdx := by rfl

set_option maxHeartbeats 4000000 in
theorem mid_col : mid m c main_v25 = ang colIdx := by rfl

/-- A table by token and lane from the rows' values and the columns'. -/
def table (a b c d : FVec Ideal S4096x8 .f32) : FVec Ideal S4x1024x128 .f32 :=
  tile (concatenate S4096x32 1 [⟨S4096x8, a⟩, ⟨S4096x8, b⟩, ⟨S4096x8, c⟩, ⟨S4096x8, d⟩]
    concatenates_S4096x8_S4096x8_S4096x8_S4096x8_S4096x32_d1)

theorem after_cos (W : Valuation τ sig (Elt Ideal)) : StableHlo.after (hostOps0_4.drop 25) W main_v47
    = concatenate S5x1024x128 0 [⟨S1x1024x128, broadcastInDim S1x1024x128 ![] bcast_S_S1x1024x128 (constant S_ .f32 0x3F800000#32)⟩,
      ⟨S4x1024x128, table (Host.cos (W main_v20)) (Host.cos (W main_v20)) (Host.cos (W main_v25)) (Host.cos (W main_v25))⟩]
      concatenates_S1x1024x128_S4x1024x128_S5x1024x128_d0 := by
  rfl

theorem after_sin (W : Valuation τ sig (Elt Ideal)) : StableHlo.after (hostOps0_4.drop 25) W main_v49
    = concatenate S5x1024x128 0 [⟨S1x1024x128, broadcastInDim S1x1024x128 ![] bcast_S_S1x1024x128 (constant S_ .f32 0x00000000#32)⟩,
      ⟨S4x1024x128, table (Host.negf (Host.sin (W main_v20))) (Host.sin (W main_v20)) (Host.negf (Host.sin (W main_v25)))
        (Host.sin (W main_v25))⟩]
      concatenates_S1x1024x128_S4x1024x128_S5x1024x128_d0 := by
  rfl

theorem ang_apply (idx : IVec S4096 32) (i : Fin 4096) (l : Fin 8) :
    ang idx (ix2 i l) = FloatOps.sitofp (F := Ideal) .f32 (idx (ix1 i)) * freq l := by
  pointwise [ang, freqs]
  rfl

theorem table_apply (a b c d : FVec Ideal S4096x8 .f32) (u : Fin 4) (r : Fin 1024) (j : Fin 128) :
    table a b c d (ix3 u r j) = if (j : ℕ) % 32 < 8 then a (ix2 ⟨u * 1024 + r, by omega⟩ ⟨j % 8, by omega⟩)
      else if (j : ℕ) % 32 < 16 then b (ix2 ⟨u * 1024 + r, by omega⟩ ⟨j % 8, by omega⟩)
      else if (j : ℕ) % 32 < 24 then c (ix2 ⟨u * 1024 + r, by omega⟩ ⟨j % 8, by omega⟩)
      else d (ix2 ⟨u * 1024 + r, by omega⟩ ⟨j % 8, by omega⟩) := by
  pointwise [table, tile]
  by_cases h0 : (j : ℕ) % 32 < 8
  · rw [dif_pos h0, if_pos h0]
    exact congrArg a (congrArg (ix2 _) (Fin.ext (by dsimp only; omega)))
  by_cases h1 : (j : ℕ) % 32 < 16
  · rw [dif_neg h0, dif_pos (by omega), if_neg h0, if_pos h1]
    exact congrArg b (congrArg (ix2 _) (Fin.ext (by dsimp only; omega)))
  by_cases h2 : (j : ℕ) % 32 < 24
  · rw [dif_neg h0, dif_neg (by omega), dif_pos (by omega), if_neg h0, if_neg h1, if_pos h2]
    exact congrArg c (congrArg (ix2 _) (Fin.ext (by dsimp only; omega)))
  · rw [dif_neg h0, dif_neg (by omega), dif_neg (by omega), if_neg h0, if_neg h1, if_neg h2]
    exact congrArg d (congrArg (ix2 _) (Fin.ext (by dsimp only; omega)))

/-- The cosines' table is ones at the context's tokens. -/
theorem entry_cos0 (r : Fin 1024) (j : Fin 128) : V m c main_v47 (ix3 0 r j) = Ideal.ofBits .f32 0x3F800000#32 := by
  rw [V_mid, after_cos]
  pointwise

/-- The sines' table is zeros at the context's tokens. -/
theorem entry_sin0 (r : Fin 1024) (j : Fin 128) : V m c main_v49 (ix3 0 r j) = Ideal.ofBits .f32 0x00000000#32 := by
  rw [V_mid, after_sin]
  pointwise

theorem entry_cos (u : Fin 4) (r : Fin 1024) (j : Fin 128) :
    V m c main_v47 (ix3 ⟨1 + u, by omega⟩ r j) = Ideal.cos (angle (u * 1024 + r) (j % 32)) := by
  rw [V_mid, after_cos, mid_row, mid_col]
  pointwise
  rw [table_apply]
  split_ifs
  all_goals
    first
    | omega
    | (pointwise [ang_apply, rowIdx_apply, colIdx_apply, angle, Cert.Odd.num]
       rw [show (j : ℕ) % 32 % 8 = j % 8 by omega]
       split_ifs
       all_goals first | omega | rfl)

theorem entry_sin (u : Fin 4) (r : Fin 1024) (j : Fin 128) :
    V m c main_v49 (ix3 ⟨1 + u, by omega⟩ r j)
      = if (j : ℕ) % 16 < 8 then -Ideal.sin (angle (u * 1024 + r) (j % 32)) else Ideal.sin (angle (u * 1024 + r) (j % 32)) := by
  rw [V_mid, after_sin, mid_row, mid_col]
  pointwise
  rw [table_apply]
  split_ifs
  all_goals
    first
    | omega
    | (pointwise [ang_apply, rowIdx_apply, colIdx_apply, angle, Cert.Odd.num]
       rw [show (j : ℕ) % 32 % 8 = j % 8 by omega]
       split_ifs
       all_goals first | omega | rfl)

end Cert.Kernel3Ideal.Odd

end
-- ==== Proof.OddArray.lean ====
/- The arrays the odd layer's projections enter with, and their results from the blocks of the grid points. -/
module

public import proofs.«01_k».proof.Proof.OddValue
public import proofs.«01_k».proof.Proof.OddTable
public import proofs.«01_k».proof.Proof.Gen.Kernel3Ideal.Value

@[expose] public section

set_option maxRecDepth 16384

noncomputable section

namespace Cert.Kernel3Ideal.Odd

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The argument arrays, at their types: the tokens' features, the modulation, the layers' norm weights, the input weights, the
    two latent norms' weights, and the query and the key and value weights. -/
abbrev argX : FVec Ideal S20480x1024 .f32 := m ((c : Thread nD τ).loc main_arg0)
@[inherit_doc argX] abbrev argM : FVec Ideal S2x8x6144 .f32 := m ((c : Thread nD τ).loc main_arg1)
@[inherit_doc argX] abbrev argG : FVec Ideal S2x1024 .f32 := m ((c : Thread nD τ).loc main_arg2)
@[inherit_doc argX] abbrev argW : FVec Ideal S1x1024x1952 .f32 := m ((c : Thread nD τ).loc main_arg3)
@[inherit_doc argX] abbrev argGq : FVec Ideal S1x256 .f32 := m ((c : Thread nD τ).loc main_arg4)
@[inherit_doc argX] abbrev argGk : FVec Ideal S1x128 .f32 := m ((c : Thread nD τ).loc main_arg5)
@[inherit_doc argX] abbrev argWq : FVec Ideal S1x256x768 .f32 := m ((c : Thread nD τ).loc main_arg6)
@[inherit_doc argX] abbrev argWk : FVec Ideal S1x128x1024 .f32 := m ((c : Thread nD τ).loc main_arg7)

theorem entry_mod (b : Fin 8) (q : Fin 6) (k : Fin 1024) :
    V m c main_v0 (ix4 1 b q k) = argM m c (ix3 1 b ⟨q * 1024 + k, by omega⟩) := by
  simp only [V, hostOps0, List.flatten_cons, List.flatten_nil,
    List.append_nil, List.cons_append, List.nil_append]
  entry_read
  pointwise

theorem entry_norm (k : Fin 1024) : V m c main_v72 (ix2 0 k) = argG m c (ix2 1 k) := by
  simp only [V, hostOps0, List.flatten_cons, List.flatten_nil,
    List.append_nil, List.cons_append, List.nil_append]
  entry_read
  pointwise

theorem entry_gq (k : Fin 256) : V m c main_v74 (ix2 0 k) = argGq m c (ix2 0 k) := by
  simp only [V, hostOps0, List.flatten_cons, List.flatten_nil,
    List.append_nil, List.cons_append, List.nil_append]
  entry_read
  pointwise

theorem entry_gk (k : Fin 128) : V m c main_v76 (ix2 0 k) = argGk m c (ix2 0 k) := by
  simp only [V, hostOps0, List.flatten_cons, List.flatten_nil,
    List.append_nil, List.cons_append, List.nil_append]
  entry_read
  pointwise

theorem entry_w (k : Fin 1024) (j : Fin 2048) :
    V m c main_v55 (ix2 k j) = if h : (j : ℕ) < 416 then argW m c (ix3 0 k ⟨j, by omega⟩)
      else if h : (j : ℕ) < 512 then 0 else argW m c (ix3 0 k ⟨j - 96, by omega⟩) := by
  refine (show V m c main_v55 (ix2 k j) = truncf .bf16 (concatenate S1024x2048 1
    [⟨S1024x416, extractStridedSlice S1024x416 ![0, 0] (shapeCast S1024x1952 (argW m c) shapeCasts_S1x1024x1952_S1024x1952)
        slices_S1024x1952_S1024x416_0_0⟩,
      ⟨S1024x96, broadcastInDim S1024x96 ![] bcast_S_S1024x96 (constant S_ .f32 0x00000000#32)⟩,
      ⟨S1024x1536, extractStridedSlice S1024x1536 ![0, 416] (shapeCast S1024x1952 (argW m c) shapeCasts_S1x1024x1952_S1024x1952)
        slices_S1024x1952_S1024x1536_0_416⟩]
    concatenates_S1024x416_S1024x96_S1024x1536_S1024x2048_d1) bitsLt_bf16_f32 (ix2 k j) from rfl).trans ?_
  pointwise
  by_cases h : (j : ℕ) < 416
  · rw [dif_pos h, dif_pos h]
  by_cases h' : (j : ℕ) < 512
  · rw [dif_neg h, dif_pos (by omega), dif_neg h, dif_pos h']
  · rw [dif_neg h, dif_neg (by omega), dif_neg h, dif_neg h']
    exact congrArg (argW m c) (congrArg (ix3 0 k) (Fin.ext (by dsimp only; omega)))

/-- The query weights' columns are the heads' own features first, then the shared ones. -/
theorem entry_wq (k : Fin 256) (j : Fin 768) :
    V m c main_v63 (ix2 k j) = if h : (j : ℕ) < 512 then argWq m c (ix3 0 k ⟨j / 64 * 96 + j % 64, by omega⟩)
      else argWq m c (ix3 0 k ⟨(j - 512) / 32 * 96 + (64 + (j - 512) % 32), by omega⟩) := by
  simp only [V, hostOps0, List.flatten_cons, List.flatten_nil,
    List.append_nil, List.cons_append, List.nil_append]
  entry_read
  pointwise

/-- The key and value weights' columns are the heads' key features first, then the values. -/
theorem entry_wk (k : Fin 128) (j : Fin 1024) :
    V m c main_v71 (ix2 k j) = if h : (j : ℕ) < 512 then argWk m c (ix3 0 k ⟨j / 64 * 128 + j % 64, by omega⟩)
      else argWk m c (ix3 0 k ⟨(j - 512) / 64 * 128 + (64 + (j - 512) % 64), by omega⟩) := by
  simp only [V, hostOps0, List.flatten_cons, List.flatten_nil,
    List.append_nil, List.cons_append, List.nil_append]
  entry_read
  pointwise

/-- The block indices of a point's windows: the point is a block of 1024 tokens, four to a sequence; the tables' block is the
    first at the context and the place in the sequence after it elsewhere. -/
theorem blocks_at : ∀ t : Fin grid0.N,
    win0_0.index t = ![t.val, 0]
    ∧ win0_1.index t = ![1, t.val / 4, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![if t.val < 4 then 0 else 1 + t.val % 4, 0, 0]
    ∧ win0_9.index t = ![if t.val < 4 then 0 else 1 + t.val % 4, 0, 0]
    ∧ win0_10.index t = ![0, t.val]
    ∧ win0_11.index t = ![0, t.val]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![0, t.val] := by
  decide +kernel

/-- The number of points. -/
theorem points (t : Fin cfg0.N) : t.val < 20 := lt_of_lt_of_eq t.isLt (by decide +kernel)

theorem array_eq10 (G : FVec Ideal S512x20480 .bf16)
    (h : ∀ (t : Fin cfg0.N) (s : Fin 4) (r : Fin 256) (j : Fin 512),
      out0_10 (iblk m c 0 t) (iblk m c 1 t) (iblk m c 2 t) (iblk m c 3 t) (iblk m c 4 t) (iblk m c 5 t)
          (iblk m c 6 t) (iblk m c 7 t) (iblk m c 8 t) (iblk m c 9 t) (ix2 j ⟨256 * s + r, by omega⟩)
        = G (ix2 j ⟨1024 * t + (256 * s + r), by have := points t; omega⟩)) :
    (dats m 0 c).arrAt 10 cfg0.N = G := by
  refine (dats m 0 c).arrAt_eq_of_covers 10 _ (by decide +kernel) fun t hf y => ?_
  blk_simp
  rw [after0_10]
  idx_vars y
  have hy := h t ⟨y1 / 256, by omega⟩ ⟨y1 % 256, by omega⟩ y0
  have h0 : 256 * (y1 / 256 : ℕ) + (y1 % 256 : ℕ) = y1 := by omega
  simp only [h0] at hy
  refine hy.trans ?_
  blk_ext [blocks_at t]

theorem array_eq11 (G : FVec Ideal S256x20480 .bf16)
    (h : ∀ (t : Fin cfg0.N) (s : Fin 4) (r : Fin 256) (j : Fin 256),
      out0_11 (iblk m c 0 t) (iblk m c 1 t) (iblk m c 2 t) (iblk m c 3 t) (iblk m c 4 t) (iblk m c 5 t)
          (iblk m c 6 t) (iblk m c 7 t) (iblk m c 8 t) (iblk m c 9 t) (ix2 j ⟨256 * s + r, by omega⟩)
        = G (ix2 j ⟨1024 * t + (256 * s + r), by have := points t; omega⟩)) :
    (dats m 0 c).arrAt 11 cfg0.N = G := by
  refine (dats m 0 c).arrAt_eq_of_covers 11 _ (by decide +kernel) fun t hf y => ?_
  blk_simp
  rw [after0_11]
  idx_vars y
  have hy := h t ⟨y1 / 256, by omega⟩ ⟨y1 % 256, by omega⟩ y0
  have h0 : 256 * (y1 / 256 : ℕ) + (y1 % 256 : ℕ) = y1 := by omega
  simp only [h0] at hy
  refine hy.trans ?_
  blk_ext [blocks_at t]

theorem array_eq12 (G : FVec Ideal S20480x128 .f32)
    (h : ∀ (t : Fin cfg0.N) (s : Fin 4) (r : Fin 256) (j : Fin 128),
      out0_12 (iblk m c 0 t) (iblk m c 1 t) (iblk m c 2 t) (iblk m c 3 t) (iblk m c 4 t) (iblk m c 5 t)
          (iblk m c 6 t) (iblk m c 7 t) (iblk m c 8 t) (iblk m c 9 t) (ix2 ⟨256 * s + r, by omega⟩ j)
        = G (ix2 ⟨1024 * t + (256 * s + r), by have := points t; omega⟩ j)) :
    (dats m 0 c).arrAt 12 cfg0.N = G := by
  refine (dats m 0 c).arrAt_eq_of_covers 12 _ (by decide +kernel) fun t hf y => ?_
  blk_simp
  rw [after0_12]
  idx_vars y
  have hy := h t ⟨y0 / 256, by omega⟩ ⟨y0 % 256, by omega⟩ y1
  have h0 : 256 * (y0 / 256 : ℕ) + (y0 % 256 : ℕ) = y0 := by omega
  simp only [h0] at hy
  refine hy.trans ?_
  blk_ext [blocks_at t]

theorem array_eq13 (G : FVec Ideal S20480x128 .f32)
    (h : ∀ (t : Fin cfg0.N) (s : Fin 4) (r : Fin 256) (j : Fin 128),
      out0_13 (iblk m c 0 t) (iblk m c 1 t) (iblk m c 2 t) (iblk m c 3 t) (iblk m c 4 t) (iblk m c 5 t)
          (iblk m c 6 t) (iblk m c 7 t) (iblk m c 8 t) (iblk m c 9 t) (ix2 ⟨256 * s + r, by omega⟩ j)
        = G (ix2 ⟨1024 * t + (256 * s + r), by have := points t; omega⟩ j)) :
    (dats m 0 c).arrAt 13 cfg0.N = G := by
  refine (dats m 0 c).arrAt_eq_of_covers 13 _ (by decide +kernel) fun t hf y => ?_
  blk_simp
  rw [after0_13]
  idx_vars y
  have hy := h t ⟨y0 / 256, by omega⟩ ⟨y0 % 256, by omega⟩ y1
  have h0 : 256 * (y0 / 256 : ℕ) + (y0 % 256 : ℕ) = y0 := by omega
  simp only [h0] at hy
  refine hy.trans ?_
  blk_ext [blocks_at t]

theorem array_eq14 (G : FVec Ideal S20480x128 .bf16)
    (h : ∀ (t : Fin cfg0.N) (s : Fin 4) (r : Fin 256) (j : Fin 128),
      out0_14 (iblk m c 0 t) (iblk m c 1 t) (iblk m c 2 t) (iblk m c 3 t) (iblk m c 4 t) (iblk m c 5 t)
          (iblk m c 6 t) (iblk m c 7 t) (iblk m c 8 t) (iblk m c 9 t) (ix2 ⟨256 * s + r, by omega⟩ j)
        = G (ix2 ⟨1024 * t + (256 * s + r), by have := points t; omega⟩ j)) :
    (dats m 0 c).arrAt 14 cfg0.N = G := by
  refine (dats m 0 c).arrAt_eq_of_covers 14 _ (by decide +kernel) fun t hf y => ?_
  blk_simp
  rw [after0_14]
  idx_vars y
  have hy := h t ⟨y0 / 256, by omega⟩ ⟨y0 % 256, by omega⟩ y1
  have h0 : 256 * (y0 / 256 : ℕ) + (y0 % 256 : ℕ) = y0 := by omega
  simp only [h0] at hy
  refine hy.trans ?_
  blk_ext [blocks_at t]

theorem array_eq15 (G : FVec Ideal S20480x512 .bf16)
    (h : ∀ (t : Fin cfg0.N) (s : Fin 4) (r : Fin 256) (j : Fin 512),
      out0_15 (iblk m c 0 t) (iblk m c 1 t) (iblk m c 2 t) (iblk m c 3 t) (iblk m c 4 t) (iblk m c 5 t)
          (iblk m c 6 t) (iblk m c 7 t) (iblk m c 8 t) (iblk m c 9 t) (ix2 ⟨256 * s + r, by omega⟩ j)
        = G (ix2 ⟨1024 * t + (256 * s + r), by have := points t; omega⟩ j)) :
    (dats m 0 c).arrAt 15 cfg0.N = G := by
  refine (dats m 0 c).arrAt_eq_of_covers 15 _ (by decide +kernel) fun t hf y => ?_
  blk_simp
  rw [after0_15]
  idx_vars y
  have hy := h t ⟨y0 / 256, by omega⟩ ⟨y0 % 256, by omega⟩ y1
  have h0 : 256 * (y0 / 256 : ℕ) + (y0 % 256 : ℕ) = y0 := by omega
  simp only [h0] at hy
  refine hy.trans ?_
  blk_ext [blocks_at t]

theorem array_eq16 (G : FVec Ideal S20480x512 .bf16)
    (h : ∀ (t : Fin cfg0.N) (s : Fin 4) (r : Fin 256) (j : Fin 512),
      out0_16 (iblk m c 0 t) (iblk m c 1 t) (iblk m c 2 t) (iblk m c 3 t) (iblk m c 4 t) (iblk m c 5 t)
          (iblk m c 6 t) (iblk m c 7 t) (iblk m c 8 t) (iblk m c 9 t) (ix2 ⟨256 * s + r, by omega⟩ j)
        = G (ix2 ⟨1024 * t + (256 * s + r), by have := points t; omega⟩ j)) :
    (dats m 0 c).arrAt 16 cfg0.N = G := by
  refine (dats m 0 c).arrAt_eq_of_covers 16 _ (by decide +kernel) fun t hf y => ?_
  blk_simp
  rw [after0_16]
  idx_vars y
  have hy := h t ⟨y0 / 256, by omega⟩ ⟨y0 % 256, by omega⟩ y1
  have h0 : 256 * (y0 / 256 : ℕ) + (y0 % 256 : ℕ) = y0 := by omega
  simp only [h0] at hy
  refine hy.trans ?_
  blk_ext [blocks_at t]

theorem array_eq17 (G : FVec Ideal S20480x512 .bf16)
    (h : ∀ (t : Fin cfg0.N) (s : Fin 4) (r : Fin 256) (j : Fin 512),
      out0_17 (iblk m c 0 t) (iblk m c 1 t) (iblk m c 2 t) (iblk m c 3 t) (iblk m c 4 t) (iblk m c 5 t)
          (iblk m c 6 t) (iblk m c 7 t) (iblk m c 8 t) (iblk m c 9 t) (ix2 ⟨256 * s + r, by omega⟩ j)
        = G (ix2 ⟨1024 * t + (256 * s + r), by have := points t; omega⟩ j)) :
    (dats m 0 c).arrAt 17 cfg0.N = G := by
  refine (dats m 0 c).arrAt_eq_of_covers 17 _ (by decide +kernel) fun t hf y => ?_
  blk_simp
  rw [after0_17]
  idx_vars y
  have hy := h t ⟨y0 / 256, by omega⟩ ⟨y0 % 256, by omega⟩ y1
  have h0 : 256 * (y0 / 256 : ℕ) + (y0 % 256 : ℕ) = y0 := by omega
  simp only [h0] at hy
  refine hy.trans ?_
  blk_ext [blocks_at t]

theorem array_eq18 (G : FVec Ideal S512x20480 .bf16)
    (h : ∀ (t : Fin cfg0.N) (s : Fin 4) (r : Fin 256) (j : Fin 512),
      out0_18 (iblk m c 0 t) (iblk m c 1 t) (iblk m c 2 t) (iblk m c 3 t) (iblk m c 4 t) (iblk m c 5 t)
          (iblk m c 6 t) (iblk m c 7 t) (iblk m c 8 t) (iblk m c 9 t) (ix2 j ⟨256 * s + r, by omega⟩)
        = G (ix2 j ⟨1024 * t + (256 * s + r), by have := points t; omega⟩)) :
    (dats m 0 c).arrAt 18 cfg0.N = G := by
  refine (dats m 0 c).arrAt_eq_of_covers 18 _ (by decide +kernel) fun t hf y => ?_
  blk_simp
  rw [after0_18]
  idx_vars y
  have hy := h t ⟨y1 / 256, by omega⟩ ⟨y1 % 256, by omega⟩ y0
  have h0 : 256 * (y1 / 256 : ℕ) + (y1 % 256 : ℕ) = y1 := by omega
  simp only [h0] at hy
  refine hy.trans ?_
  blk_ext [blocks_at t]

/-- The argument arrays' entries. -/
def args : Cert.Odd.Args where
  x p k := argX m c (ix2 p k)
  mod b k := argM m c (ix3 1 b k)
  g k := argG m c (ix2 1 k)
  w k j := argW m c (ix3 0 k j)
  gq k := argGq m c (ix2 0 k)
  gk k := argGk m c (ix2 0 k)
  wq k j := argWq m c (ix3 0 k j)
  wk k j := argWk m c (ix3 0 k j)

end Cert.Kernel3Ideal.Odd

end
-- ==== Proof.OddBlocks.lean ====
/- The blocks of a grid point of the odd layer's projections, and the point's results, from the argument arrays. -/
module

public import proofs.«01_k».proof.Proof.OddArray

@[expose] public section

set_option maxRecDepth 16384

noncomputable section

namespace Cert.Kernel3Ideal.Odd

open Cert.Kernel3Ideal Cert.Kernel3Ideal.Gen Idealize.ShloMosaic Idealize.ShloMosaic.TcCoe Idealize.SL.Sem
open Cert.Odd (unit modulated rotated)

variable (m : (ℓ : Loc nD τ sig) → Buf (Elt Ideal) ℓ) (c : Dev nD)

variable (t : Fin cfg0.N) (ht : t.val < 20)

theorem block_x (p k : Fin 1024) : iblk m c 0 t (ix2 p k) = (args m c).x ⟨1024 * t + p, by omega⟩ k := by
  show _ = argX m c _
  blk_ext [iblk, blocks_at t]

theorem block_mod (p : Fin 1024) (q : Fin 6) (k : Fin 1024) :
    iblk m c 1 t (ix4 0 0 q k) = (args m c).mod ⟨(1024 * t + p) / 4096, by omega⟩ ⟨q * 1024 + k, by omega⟩ := by
  refine Eq.trans ?_ (entry_mod m c _ q k)
  blk_ext [iblk, blocks_at t]

theorem block_g (k : Fin 1024) : iblk m c 2 t (ix2 0 k) = (args m c).g k := by
  refine Eq.trans ?_ (entry_norm m c k)
  blk_ext [iblk, blocks_at t]

theorem block_w (k : Fin 1024) (j : Fin 2048) : iblk m c 3 t (ix2 k j) = if h : (j : ℕ) < 416 then (args m c).w k ⟨j, by omega⟩
      else if h : (j : ℕ) < 512 then 0 else (args m c).w k ⟨j - 96, by omega⟩ := by
  refine Eq.trans ?_ (entry_w m c k j)
  blk_ext [iblk, blocks_at t]

theorem block_gq (k : Fin 256) : iblk m c 4 t (ix2 0 k) = (args m c).gq k := by
  refine Eq.trans ?_ (entry_gq m c k)
  blk_ext [iblk, blocks_at t]

theorem block_gk (k : Fin 128) : iblk m c 5 t (ix2 0 k) = (args m c).gk k := by
  refine Eq.trans ?_ (entry_gk m c k)
  blk_ext [iblk, blocks_at t]

theorem block_wq (k : Fin 256) (j : Fin 768) : iblk m c 6 t (ix2 k j)
    = if h : (j : ℕ) < 512 then (args m c).wq k ⟨j / 64 * 96 + j % 64, by omega⟩
      else (args m c).wq k ⟨(j - 512) / 32 * 96 + (64 + (j - 512) % 32), by omega⟩ := by
  refine Eq.trans ?_ (entry_wq m c k j)
  blk_ext [iblk, blocks_at t]

theorem block_wk (k : Fin 128) (j : Fin 1024) : iblk m c 7 t (ix2 k j)
    = if h : (j : ℕ) < 512 then (args m c).wk k ⟨j / 64 * 128 + j % 64, by omega⟩
      else (args m c).wk k ⟨(j - 512) / 64 * 128 + (64 + (j - 512) % 64), by omega⟩ := by
  refine Eq.trans ?_ (entry_wk m c k j)
  blk_ext [iblk, blocks_at t]

theorem place8 (n : ℕ) (hn : n < 5) (hw : win0_8.index t = ![n, 0, 0]) (r : Fin 1024) (j : Fin 128) :
    iblk m c 8 t (ix3 0 r j) = V m c main_v47 (ix3 ⟨n, hn⟩ r j) := by
  blk_ext [iblk, hw]

theorem block_cos (r : Fin 1024) (j : Fin 128) : iblk m c 8 t (ix3 0 r j)
    = if t.val < 4 then 1 else Ideal.cos (Cert.Odd.angle (t.val % 4 * 1024 + r) (j % 32)) := by
  have hw := (blocks_at t).2.2.2.2.2.2.2.2.1
  by_cases h : t.val < 4
  · rw [if_pos h] at hw
    rw [if_pos h, ← Ideal.ofBits_one_f32, ← entry_cos0 m c r j]
    blk_ext [iblk, hw]
  · obtain ⟨u, hu⟩ : ∃ u : Fin 4, t.val % 4 = u := ⟨⟨t.val % 4, by omega⟩, rfl⟩
    rw [if_neg h, hu] at hw
    rw [if_neg h, hu, ← entry_cos m c u r j]
    exact place8 m c t _ _ hw r j

theorem place9 (n : ℕ) (hn : n < 5) (hw : win0_9.index t = ![n, 0, 0]) (r : Fin 1024) (j : Fin 128) :
    iblk m c 9 t (ix3 0 r j) = V m c main_v49 (ix3 ⟨n, hn⟩ r j) := by
  blk_ext [iblk, hw]

theorem block_sin (r : Fin 1024) (j : Fin 128) : iblk m c 9 t (ix3 0 r j)
    = if t.val < 4 then 0 else if (j : ℕ) % 16 < 8 then -Ideal.sin (Cert.Odd.angle (t.val % 4 * 1024 + r) (j % 32))
      else Ideal.sin (Cert.Odd.angle (t.val % 4 * 1024 + r) (j % 32)) := by
  have hw := (blocks_at t).2.2.2.2.2.2.2.2.2.1
  by_cases h : t.val < 4
  · rw [if_pos h] at hw
    rw [if_pos h, ← Ideal.ofBits_zero_f32, ← entry_sin0 m c r j]
    blk_ext [iblk, hw]
  · obtain ⟨u, hu⟩ : ∃ u : Fin 4, t.val % 4 = u := ⟨⟨t.val % 4, by omega⟩, rfl⟩
    rw [if_neg h, hu] at hw
    rw [if_neg h, hu, ← entry_sin m c u r j]
    exact place9 m c t _ _ hw r j

theorem proj_at (p : Fin 1024) (j : Fin 2048) (v : Fin 1024 → EReal) (hv : ∀ k, iblk m c 3 t (ix2 k j) = v k) :
    proj (iblk m c 0 t) (iblk m c 1 t) (iblk m c 2 t) (iblk m c 3 t) p j
      = ∑ k : Fin 1024, modulated ((args m c).x ⟨1024 * t + p, by omega⟩) (args m c).g
          (fun k => (args m c).mod ⟨(1024 * t + p) / 4096, by omega⟩ ⟨1024 + k, by omega⟩)
          (fun k => (args m c).mod ⟨(1024 * t + p) / 4096, by omega⟩ ⟨k, by omega⟩) k * v k := by
  have h0 : ∀ k : Fin 1024, iblk m c 1 t (ix4 0 0 0 k) = (args m c).mod ⟨(1024 * t + p) / 4096, by omega⟩ ⟨k, by omega⟩ :=
    fun k => (block_mod m c t ht p 0 k).trans (congrArg _ (Fin.ext ((congrArg (· + (k : ℕ)) (Nat.zero_mul 1024)).trans (Nat.zero_add _))))
  have h1 : ∀ k : Fin 1024, iblk m c 1 t (ix4 0 0 1 k)
      = (args m c).mod ⟨(1024 * t + p) / 4096, by omega⟩ ⟨1024 + k, by omega⟩ :=
    fun k => (block_mod m c t ht p 1 k).trans (congrArg _ (Fin.ext (congrArg (· + (k : ℕ)) (Nat.one_mul 1024))))
  unfold proj
  simp only [h0, h1, hv, block_x m c t ht, block_g]

theorem projA (p : Fin 1024) (j : ℕ) (h : j < 416) :
    proj (iblk m c 0 t) (iblk m c 1 t) (iblk m c 2 t) (iblk m c 3 t) p ⟨j, by omega⟩ = Cert.Odd.proj (args m c) ⟨1024 * t + p, by omega⟩ ⟨j, by omega⟩ :=
  proj_at m c t ht p _ _ fun k => (block_w m c t k _).trans (dif_pos h)

include ht in
theorem proj0 (p : Fin 1024) (j : ℕ) (h : 416 ≤ j) (h' : j < 512) :
    proj (iblk m c 0 t) (iblk m c 1 t) (iblk m c 2 t) (iblk m c 3 t) p ⟨j, by omega⟩ = 0 := by
  rw [proj_at m c t ht p _ (fun _ => 0) fun k => (block_w m c t k _).trans ((dif_neg (by dsimp only; omega)).trans (dif_pos h'))]
  simp only [mul_zero, Finset.sum_const_zero]

theorem projB (p : Fin 1024) (j : ℕ) (h : 512 ≤ j) (h' : j < 2048) :
    proj (iblk m c 0 t) (iblk m c 1 t) (iblk m c 2 t) (iblk m c 3 t) p ⟨j, by omega⟩ = Cert.Odd.proj (args m c) ⟨1024 * t + p, by omega⟩ ⟨j - 96, by omega⟩ :=
  proj_at m c t ht p _ _ fun k => (block_w m c t k _).trans ((dif_neg (by dsimp only; omega)).trans (dif_neg (by dsimp only; omega)))

theorem ckv_at (p : Fin 1024) (k : Fin 128) :
    ckv (iblk m c 0 t) (iblk m c 1 t) (iblk m c 2 t) (iblk m c 3 t) (iblk m c 5 t) p k = Cert.Odd.ckv (args m c) ⟨1024 * t + p, by omega⟩ k := by
  have h : ∀ k : Fin 128, proj (iblk m c 0 t) (iblk m c 1 t) (iblk m c 2 t) (iblk m c 3 t) p ⟨256 + k, by omega⟩
      = Cert.Odd.proj (args m c) ⟨1024 * t + p, by omega⟩ ⟨256 + k, by omega⟩ := fun k => projA m c t ht p _ (by omega)
  unfold ckv Cert.Odd.ckv
  simp only [h, block_gk]

theorem query_at (p : Fin 1024) (j j' : Fin 768) (hv : ∀ k, iblk m c 6 t (ix2 k j) = (args m c).wq k j') :
    query (iblk m c 0 t) (iblk m c 1 t) (iblk m c 2 t) (iblk m c 3 t) (iblk m c 4 t) (iblk m c 6 t) p j = Cert.Odd.query (args m c) ⟨1024 * t + p, by omega⟩ j' := by
  have h : ∀ k : Fin 256, proj (iblk m c 0 t) (iblk m c 1 t) (iblk m c 2 t) (iblk m c 3 t) p ⟨k, by omega⟩
      = Cert.Odd.proj (args m c) ⟨1024 * t + p, by omega⟩ ⟨k, by omega⟩ := fun k => projA m c t ht p _ (by omega)
  unfold query Cert.Odd.query
  simp only [h, block_gq, hv]

theorem queryA (p : Fin 1024) (j : Fin 512) :
    query (iblk m c 0 t) (iblk m c 1 t) (iblk m c 2 t) (iblk m c 3 t) (iblk m c 4 t) (iblk m c 6 t) p ⟨j, by omega⟩
      = Cert.Odd.query (args m c) ⟨1024 * t + p, by omega⟩ ⟨j / 64 * 96 + j % 64, by omega⟩ :=
  query_at m c t ht p _ _ fun k => (block_wq m c t k _).trans (dif_pos j.isLt)

theorem queryB (p : Fin 1024) (j : ℕ) (hj : j < 256) (h : ℕ) (e : Fin 32) (hh : h < 8) (he : j = h * 32 + e) :
    query (iblk m c 0 t) (iblk m c 1 t) (iblk m c 2 t) (iblk m c 3 t) (iblk m c 4 t) (iblk m c 6 t) p ⟨512 + j, by omega⟩
      = Cert.Odd.query (args m c) ⟨1024 * t + p, by omega⟩ ⟨h * 96 + (64 + e), by omega⟩ :=
  query_at m c t ht p _ _ fun k => (block_wq m c t k _).trans ((dif_neg (by dsimp only; omega)).trans
    (congrArg ((args m c).wq k) (Fin.ext (by dsimp only; omega))))

theorem kvA (p : Fin 1024) (j : Fin 512) :
    ∑ k : Fin 128, ckv (iblk m c 0 t) (iblk m c 1 t) (iblk m c 2 t) (iblk m c 3 t) (iblk m c 5 t) p k * iblk m c 7 t (ix2 k ⟨j, by omega⟩)
      = Cert.Odd.resN (args m c) ⟨1024 * t + p, by omega⟩ j := by
  have h : ∀ k : Fin 128, iblk m c 7 t (ix2 k ⟨j, by omega⟩) = (args m c).wk k ⟨j / 64 * 128 + j % 64, by omega⟩ :=
    fun k => (block_wk m c t k _).trans (dif_pos j.isLt)
  unfold Cert.Odd.resN Cert.Odd.kv
  simp only [h, ckv_at m c t ht]

theorem kvB (p : Fin 1024) (j : Fin 512) :
    ∑ k : Fin 128, ckv (iblk m c 0 t) (iblk m c 1 t) (iblk m c 2 t) (iblk m c 3 t) (iblk m c 5 t) p k * iblk m c 7 t (ix2 k ⟨512 + j, by omega⟩)
      = Cert.Odd.resV (args m c) j ⟨1024 * t + p, by omega⟩ := by
  have h : ∀ k : Fin 128, iblk m c 7 t (ix2 k ⟨512 + j, by omega⟩)
      = (args m c).wk k ⟨j / 64 * 128 + (64 + j % 64), by omega⟩ :=
    fun k => (block_wk m c t k _).trans ((dif_neg (by dsimp only; omega)).trans
      (congrArg ((args m c).wk k) (Fin.ext (by dsimp only; omega))))
  unfold Cert.Odd.resV Cert.Odd.kv
  simp only [h, ckv_at m c t ht]

/-- A lane and its partner, times the tables' entries, are the lane after the rotation. -/
theorem turned (p : Fin 1024) (j : Fin 128) (z : Fin 32 → EReal) (e : Fin 32) (he : (j : ℕ) % 32 = e) :
    z e * iblk m c 8 t (ix3 0 p j)
      + (if (j : ℕ) % 16 < 8 then z ⟨(e + 8) % 32, by omega⟩ else z ⟨(e + 24) % 32, by omega⟩) * iblk m c 9 t (ix3 0 p j)
      = rotated ⟨1024 * t + p, by omega⟩ z e := by
  rw [block_cos, block_sin, rotated, he]
  dsimp only
  by_cases h : t.val < 4
  · rw [if_pos h, if_pos h, if_pos (show 1024 * (t : ℕ) + p < 4096 by omega), mul_one, mul_zero, add_zero]
  · rw [if_neg h, if_neg h, if_neg (show ¬1024 * (t : ℕ) + p < 4096 by omega),
      show (1024 * (t : ℕ) + p) % 4096 = t % 4 * 1024 + p by omega]
    by_cases h' : (j : ℕ) % 16 < 8
    · rw [if_pos h', if_pos h', if_pos (show (e : ℕ) % 16 < 8 by omega), mul_neg, ← sub_eq_add_neg]
    · rw [if_neg h', if_neg h', if_neg (show ¬(e : ℕ) % 16 < 8 by omega)]

theorem projK (p : Fin 1024) (j : ℕ) (hj : j < 128) (e : Fin 32) (he : j = e) :
    proj (iblk m c 0 t) (iblk m c 1 t) (iblk m c 2 t) (iblk m c 3 t) p ⟨384 + j, by omega⟩ = Cert.Odd.proj (args m c) ⟨1024 * t + p, by omega⟩ ⟨384 + e, by omega⟩ := by
  subst he
  exact projA m c t ht p _ (by omega)

theorem key_at (p : Fin 1024) (j : Fin 128) :
    key (iblk m c 0 t) (iblk m c 1 t) (iblk m c 2 t) (iblk m c 3 t) (iblk m c 8 t) (iblk m c 9 t) p j = Cert.Odd.resK (args m c) ⟨1024 * t + p, by omega⟩ j := by
  unfold key Cert.Odd.resK
  by_cases hj : (j : ℕ) < 32
  · rw [dif_pos hj, ← turned m c t ht p j _ ⟨j, hj⟩ (by dsimp only; omega), projK m c t ht p j j.isLt ⟨j, hj⟩ rfl]
    by_cases h : (j : ℕ) % 16 < 8
    · rw [if_pos h, if_pos h, projK m c t ht p _ (by omega) ⟨(j + 8) % 32, by omega⟩ (by dsimp only; omega)]
    · rw [if_neg h, if_neg h, projK m c t ht p _ (by omega) ⟨(j + 24) % 32, by omega⟩ (by dsimp only; omega)]
  · rw [dif_neg hj, proj0 m c t ht p _ (by omega) (by omega), zero_mul, zero_add]
    by_cases h : (j : ℕ) % 16 < 8
    · rw [if_pos h, proj0 m c t ht p _ (by omega) (by omega), zero_mul]
    · rw [if_neg h, proj0 m c t ht p _ (by omega) (by omega), zero_mul]

theorem queryR_at (p : Fin 1024) (j : Fin 256) :
    (query (iblk m c 0 t) (iblk m c 1 t) (iblk m c 2 t) (iblk m c 3 t) (iblk m c 4 t) (iblk m c 6 t) p ⟨512 + j, by omega⟩
        * iblk m c 8 t (ix3 0 p ⟨j % 128, by omega⟩)
      + (if (j : ℕ) % 16 < 8 then
            query (iblk m c 0 t) (iblk m c 1 t) (iblk m c 2 t) (iblk m c 3 t) (iblk m c 4 t) (iblk m c 6 t) p ⟨512 + (j + 8) % 256, by omega⟩
          else query (iblk m c 0 t) (iblk m c 1 t) (iblk m c 2 t) (iblk m c 3 t) (iblk m c 4 t) (iblk m c 6 t) p ⟨512 + (j + 248) % 256, by omega⟩)
        * iblk m c 9 t (ix3 0 p ⟨j % 128, by omega⟩)) * Ideal.ofBits .f32 0x3E16C740#32
      = Cert.Odd.resR (args m c) j ⟨1024 * t + p, by omega⟩ := by
  unfold Cert.Odd.resR
  congr 1
  rw [← turned m c t ht p ⟨j % 128, by omega⟩ _ ⟨j % 32, by omega⟩ (by dsimp only; omega),
    queryB m c t ht p j j.isLt (j / 32) ⟨j % 32, by omega⟩ (by omega) (by dsimp only; omega)]
  have h16 : (j : ℕ) % 128 % 16 = j % 16 := by omega
  dsimp only
  rw [h16]
  by_cases h : (j : ℕ) % 16 < 8
  · rw [if_pos h, if_pos h,
      queryB m c t ht p _ (by omega) (j / 32) ⟨(j % 32 + 8) % 32, by omega⟩ (by omega) (by dsimp only; omega)]
  · rw [if_neg h, if_neg h,
      queryB m c t ht p _ (by omega) (j / 32) ⟨(j % 32 + 24) % 32, by omega⟩ (by omega) (by dsimp only; omega)]

end Cert.Kernel3Ideal.Odd

end
-- ==== Proof.OddRef.lean ====
/- The third reference's results at an index.

   The composed terms of the reference's host operations are cut at its own steps: the product with the input weights, the
   latents' norms and products, the angles, the rotation. Each is read at an index. -/
module

public import proofs.«01_k».proof.Proof.OddSpec
public import proofs.«01_k».proof.Proof.Gen.Reference3Ideal.Run

@[expose] public section

set_option maxRecDepth 16384

noncomputable section

namespace Cert.Reference3Ideal.Odd

open Cert.Reference3Ideal Cert.Reference3Ideal.Gen Cert.Reference3Ideal.Value Idealize.ShloMosaic Idealize.ShloMosaic.TcCoe
open Idealize.SL.Sem
open Cert.Odd (unit modulated num freq angle rotated rotated_lanes Args)

/-- The tokens by sequence. -/
def seqs (x : FVec Ideal S20480x1024 .f32) : FVec Ideal S5x4096x1024 .f32 :=
  shapeCast _ x shapeCasts_S20480x1024_S5x4096x1024

/-- The modulation by sequence. -/
def mods (m : FVec Ideal S2x8x6144 .f32) : FVec Ideal S5x1x6144 .f32 :=
  broadcastInDim S5x1x6144 ![0, 2] bcast_S5x6144_S5x1x6144_0_2 (shapeCast _ (extractStridedSlice S1x5x6144 ![1, 0, 0] m
    slices_S2x8x6144_S1x5x6144_1_0_0) shapeCasts_S1x5x6144_S5x6144)

/-- The product of the modulated norm and the input weights. -/
def prod (x : FVec Ideal S20480x1024 .f32) (m : FVec Ideal S2x8x6144 .f32) (g : FVec Ideal S2x1024 .f32)
    (w : FVec Ideal S1x1024x1952 .f32) : FVec Ideal S5x4096x1952 .f32 :=
  Host.dotGeneral dot_S5x4096x1024_S1024x1952_S5x4096x1952_2_0_01_1_n_n none (addf (mulf (mulf (mulf (seqs x) (broadcastInDim
    S5x4096x1024 ![0, 1, 2] bcast_S5x4096x1_S5x4096x1024_0_1_2 (Host.rsqrt (addf (Host.divf (broadcastInDim S5x4096x1 ![0, 1]
    bcast_S5x4096_S5x4096x1_0_1 (Host.reduceAdd (mulf (seqs x) (seqs x)) (constant S_ .f32 0x00000000#32)
    reducesTo_S5x4096x1024_S5x4096_d2 h_S_)) (broadcastInDim S5x4096x1 ![] bcast_S_S5x4096x1 (constant S_ .f32
    0x44800000#32))) (broadcastInDim S5x4096x1 ![] bcast_S_S5x4096x1 (constant S_ .f32 0x358637BD#32)))))) (broadcastInDim
    S5x4096x1024 ![0, 1, 2] bcast_S1x1x1024_S5x4096x1024_0_1_2 (broadcastInDim S1x1x1024 ![2] bcast_S1024_S1x1x1024_2
    (shapeCast _ (extractStridedSlice S1x1024 ![1, 0] g slices_S2x1024_S1x1024_1_0) shapeCasts_S1x1024_S1024))))
    (broadcastInDim S5x4096x1024 ![0, 1, 2] bcast_S5x1x1024_S5x4096x1024_0_1_2 (addf (broadcastInDim S5x1x1024 ![]
    bcast_S_S5x1x1024 (constant S_ .f32 0x3F800000#32)) (extractStridedSlice S5x1x1024 ![0, 0, 1024] (mods m)
    slices_S5x1x6144_S5x1x1024_0_0_1024)))) (broadcastInDim S5x4096x1024 ![0, 1, 2] bcast_S5x1x1024_S5x4096x1024_0_1_2
    (extractStridedSlice S5x1x1024 ![0, 0, 0] (mods m) slices_S5x1x6144_S5x1x1024_0_0_0))) (shapeCast _ w
    shapeCasts_S1x1024x1952_S1024x1952)

theorem prod_apply (x : FVec Ideal S20480x1024 .f32) (m : FVec Ideal S2x8x6144 .f32) (g : FVec Ideal S2x1024 .f32)
    (w : FVec Ideal S1x1024x1952 .f32) (b : Fin 5) (i : Fin 4096) (j : Fin 1952) :
    prod x m g w (ix3 b i j) = ∑ k : Fin 1024, modulated (fun k => x (ix2 ⟨b * 4096 + i, by omega⟩ k)) (fun k => g (ix2 1 k))
      (fun k => m (ix3 1 ⟨b, by omega⟩ ⟨1024 + k, by omega⟩)) (fun k => m (ix3 1 ⟨b, by omega⟩ ⟨k, by omega⟩)) k
        * w (ix3 0 k j) := by
  pointwise [prod, seqs, mods, modulated, unit]

/-- The queries of the latents `x`. -/
def heads (x : FVec Ideal S5x4096x256 .f32) (g : FVec Ideal S1x256 .f32) (w : FVec Ideal S1x256x768 .f32) :
    FVec Ideal S5x4096x8x96 .f32 :=
  shapeCast _ (Host.dotGeneral dot_S5x4096x256_S256x768_S5x4096x768_2_0_01_1_n_n none (mulf (mulf x (broadcastInDim
    S5x4096x256 ![0, 1, 2] bcast_S5x4096x1_S5x4096x256_0_1_2 (Host.rsqrt (addf (Host.divf (broadcastInDim S5x4096x1 ![0, 1]
    bcast_S5x4096_S5x4096x1_0_1 (Host.reduceAdd (mulf x x) (constant S_ .f32 0x00000000#32) reducesTo_S5x4096x256_S5x4096_d2
    h_S_)) (broadcastInDim S5x4096x1 ![] bcast_S_S5x4096x1 (constant S_ .f32 0x43800000#32))) (broadcastInDim S5x4096x1 ![]
    bcast_S_S5x4096x1 (constant S_ .f32 0x358637BD#32)))))) (broadcastInDim S5x4096x256 ![0, 1, 2]
    bcast_S1x1x256_S5x4096x256_0_1_2 (broadcastInDim S1x1x256 ![2] bcast_S256_S1x1x256_2 (shapeCast _ g
    shapeCasts_S1x256_S256)))) (shapeCast _ w shapeCasts_S1x256x768_S256x768)) shapeCasts_S5x4096x768_S5x4096x8x96

theorem heads_apply (x : FVec Ideal S5x4096x256 .f32) (g : FVec Ideal S1x256 .f32) (w : FVec Ideal S1x256x768 .f32)
    (b : Fin 5) (i : Fin 4096) (h : Fin 8) (e : Fin 96) :
    heads x g w (ix4 b i h e) = ∑ k : Fin 256, unit (Ideal.ofBits .f32 0x43800000#32) (fun k => x (ix3 b i k)) k * g (ix2 0 k)
      * w (ix3 0 k ⟨h * 96 + e, by omega⟩) := by
  pointwise [heads, unit]

/-- The normalised latents. -/
def norm (x : FVec Ideal S5x4096x128 .f32) (g : FVec Ideal S1x128 .f32) : FVec Ideal S5x4096x128 .f32 :=
  mulf (mulf x (broadcastInDim S5x4096x128 ![0, 1, 2] bcast_S5x4096x1_S5x4096x128_0_1_2 (Host.rsqrt (addf (Host.divf
    (broadcastInDim S5x4096x1 ![0, 1] bcast_S5x4096_S5x4096x1_0_1 (Host.reduceAdd (mulf x x) (constant S_ .f32 0x00000000#32)
    reducesTo_S5x4096x128_S5x4096_d2 h_S_)) (broadcastInDim S5x4096x1 ![] bcast_S_S5x4096x1 (constant S_ .f32
    0x43000000#32))) (broadcastInDim S5x4096x1 ![] bcast_S_S5x4096x1 (constant S_ .f32 0x358637BD#32)))))) (broadcastInDim
    S5x4096x128 ![0, 1, 2] bcast_S1x1x128_S5x4096x128_0_1_2 (broadcastInDim S1x1x128 ![2] bcast_S128_S1x1x128_2 (shapeCast _
    g shapeCasts_S1x128_S128)))

theorem norm_apply (x : FVec Ideal S5x4096x128 .f32) (g : FVec Ideal S1x128 .f32) (b : Fin 5) (i : Fin 4096) (k : Fin 128) :
    norm x g (ix3 b i k) = unit (Ideal.ofBits .f32 0x43000000#32) (fun k => x (ix3 b i k)) k * g (ix2 0 k) := by
  pointwise [norm, unit]

/-- The keys and values of the normalised latents. -/
def pairs (x : FVec Ideal S5x4096x128 .f32) (w : FVec Ideal S1x128x1024 .f32) : FVec Ideal S5x4096x8x128 .f32 :=
  shapeCast _ (Host.dotGeneral dot_S5x4096x128_S128x1024_S5x4096x1024_2_0_01_1_n_n none x (shapeCast _ w
    shapeCasts_S1x128x1024_S128x1024)) shapeCasts_S5x4096x1024_S5x4096x8x128

theorem pairs_apply (x : FVec Ideal S5x4096x128 .f32) (w : FVec Ideal S1x128x1024 .f32)
    (b : Fin 5) (i : Fin 4096) (h : Fin 8) (e : Fin 128) :
    pairs x w (ix4 b i h e) = ∑ k : Fin 128, x (ix3 b i k) * w (ix3 0 k ⟨h * 128 + e, by omega⟩) := by
  pointwise [pairs]

/-- The frequencies. -/
def freqs : FVec Ideal S8 .f32 :=
  Host.powf (broadcastInDim S8 ![] bcast_S_S8 (constant S_ .f32 0x461C4000#32)) (Host.divf (Host.negf (addf (broadcastInDim
    S8 ![] bcast_S_S8 (constant S_ .f32 0x00000000#32)) (mulf (broadcastInDim S8 ![] bcast_S_S8 (constant S_ .f32
    0x40000000#32)) (sitofp .f32 (iotaInDim S8 32 0))))) (broadcastInDim S8 ![] bcast_S_S8 (constant S_ .f32 0x41800000#32)))

theorem freqs_apply (l : Fin 8) : freqs (ix1 l) = freq l := by
  pointwise [freqs, freq]

/-- The row's angles. -/
def rows : FVec Ideal S4096x8 .f32 :=
  mulf (broadcastInDim S4096x8 ![0, 1] bcast_S4096x1_S4096x8_0_1 (broadcastInDim S4096x1 ![0] bcast_S4096_S4096x1_0
    (shapeCast _ (broadcastInDim S64x64 ![0] bcast_S64_S64x64_0 (sitofp .f32 (iotaInDim S64 32 0)))
    shapeCasts_S64x64_S4096))) (broadcastInDim S4096x8 ![0, 1] bcast_S1x8_S4096x8_0_1 (broadcastInDim S1x8 ![1]
    bcast_S8_S1x8_1 freqs))

/-- The column's angles. -/
def cols : FVec Ideal S4096x8 .f32 :=
  mulf (broadcastInDim S4096x8 ![0, 1] bcast_S4096x1_S4096x8_0_1 (broadcastInDim S4096x1 ![0] bcast_S4096_S4096x1_0
    (shapeCast _ (broadcastInDim S64x64 ![0, 1] bcast_S1x64_S64x64_0_1 (shapeCast _ (sitofp .f32 (iotaInDim S64 32 0))
    shapeCasts_S64_S1x64)) shapeCasts_S64x64_S4096))) (broadcastInDim S4096x8 ![0, 1] bcast_S1x8_S4096x8_0_1 (broadcastInDim
    S1x8 ![1] bcast_S8_S1x8_1 freqs))

theorem rows_apply (i : Fin 4096) (l : Fin 8) : rows (ix2 i l) = num (i / 64) * freq l := by
  pointwise [rows, freqs_apply]

theorem cols_apply (i : Fin 4096) (l : Fin 8) : cols (ix2 i l) = num (i % 64) * freq l := by
  pointwise [cols, freqs_apply]

/-- The rotation of an axis's lanes of the queries' heads by the angles `a`. -/
def axisQ (z : FVec Ideal S4x4096x8x16 .f32) (a : FVec Ideal S4096x8 .f32) : FVec Ideal S4x4096x8x16 .f32 :=
  have co := broadcastInDim S4x4096x8x8 ![0, 1, 2, 3] bcast_S1x4096x1x8_S4x4096x8x8_0_1_2_3 (broadcastInDim S1x4096x1x8 ![1, 2, 3]
    bcast_S4096x1x8_S1x4096x1x8_1_2_3 (Host.cos (broadcastInDim S4096x1x8 ![0, 2] bcast_S4096x8_S4096x1x8_0_2 a)))
  have si := broadcastInDim S4x4096x8x8 ![0, 1, 2, 3] bcast_S1x4096x1x8_S4x4096x8x8_0_1_2_3 (broadcastInDim S1x4096x1x8 ![1, 2, 3]
    bcast_S4096x1x8_S1x4096x1x8_1_2_3 (Host.sin (broadcastInDim S4096x1x8 ![0, 2] bcast_S4096x8_S4096x1x8_0_2 a)))
  have u := extractStridedSlice S4x4096x8x8 ![0, 0, 0, 0] z slices_S4x4096x8x16_S4x4096x8x8_0_0_0_0
  have v := extractStridedSlice S4x4096x8x8 ![0, 0, 0, 8] z slices_S4x4096x8x16_S4x4096x8x8_0_0_0_8
  concatenate S4x4096x8x16 3 [⟨S4x4096x8x8, subf (mulf u co) (mulf v si)⟩, ⟨S4x4096x8x8, addf (mulf v co) (mulf u si)⟩]
    concatenates_S4x4096x8x8_S4x4096x8x8_S4x4096x8x16_d3

theorem axisQ_apply (z : FVec Ideal S4x4096x8x16 .f32) (a : FVec Ideal S4096x8 .f32) (b : Fin 4) (i : Fin 4096) (h : Fin 8)
    (e : Fin 16) :
    axisQ z a (ix4 b i h e) = if he : (e : ℕ) < 8 then
        z (ix4 b i h ⟨e, by omega⟩) * Ideal.cos (a (ix2 i ⟨e, he⟩)) - z (ix4 b i h ⟨8 + e, by omega⟩) * Ideal.sin (a (ix2 i ⟨e, he⟩))
      else z (ix4 b i h ⟨8 + (e - 8), by omega⟩) * Ideal.cos (a (ix2 i ⟨e - 8, by omega⟩))
        + z (ix4 b i h ⟨e - 8, by omega⟩) * Ideal.sin (a (ix2 i ⟨e - 8, by omega⟩)) := by
  pointwise [axisQ]

/-- The queries' shared features after the rotation, the context's left as they are. -/
def turnQ (z : FVec Ideal S5x4096x8x32 .f32) : FVec Ideal S5x4096x8x32 .f32 :=
  have y := extractStridedSlice S4x4096x8x32 ![1, 0, 0, 0] z slices_S5x4096x8x32_S4x4096x8x32_1_0_0_0
  concatenate S5x4096x8x32 0
    [⟨S1x4096x8x32, extractStridedSlice S1x4096x8x32 ![0, 0, 0, 0] z slices_S5x4096x8x32_S1x4096x8x32_0_0_0_0⟩,
      ⟨S4x4096x8x32, concatenate S4x4096x8x32 3
        [⟨S4x4096x8x16, axisQ (extractStridedSlice S4x4096x8x16 ![0, 0, 0, 0] y slices_S4x4096x8x32_S4x4096x8x16_0_0_0_0) rows⟩,
          ⟨S4x4096x8x16, axisQ (extractStridedSlice S4x4096x8x16 ![0, 0, 0, 16] y slices_S4x4096x8x32_S4x4096x8x16_0_0_0_16) cols⟩]
        concatenates_S4x4096x8x16_S4x4096x8x16_S4x4096x8x32_d3⟩]
    concatenates_S1x4096x8x32_S4x4096x8x32_S5x4096x8x32_d0

theorem turnQ_apply (z : FVec Ideal S5x4096x8x32 .f32) (b : Fin 5) (i : Fin 4096) (h : Fin 8) (e : Fin 32) :
    turnQ z (ix4 b i h e) = rotated ⟨b * 4096 + i, by omega⟩ (fun e => z (ix4 b i h e)) e := by
  pointwise [turnQ, axisQ_apply, rows_apply, cols_apply]
  by_cases hb : (b : ℕ) < 1
  · rw [dif_pos hb, rotated, if_pos (by dsimp only; omega)]
  · have e1 : ∀ h, (⟨1 + (b - 1), h⟩ : Fin 5) = b := fun h => Fin.ext (by dsimp only; omega)
    rw [dif_neg hb, rotated_lanes _ (by dsimp only; omega) i (by dsimp only; omega)]
    simp only [e1]

/-- The rotation of an axis's lanes of the shared keys by the angles `a`. -/
def axisK (z : FVec Ideal S4x4096x16 .f32) (a : FVec Ideal S4096x8 .f32) : FVec Ideal S4x4096x16 .f32 :=
  have co := broadcastInDim S4x4096x8 ![0, 1, 2] bcast_S1x4096x8_S4x4096x8_0_1_2 (broadcastInDim S1x4096x8 ![1, 2]
    bcast_S4096x8_S1x4096x8_1_2 (Host.cos a))
  have si := broadcastInDim S4x4096x8 ![0, 1, 2] bcast_S1x4096x8_S4x4096x8_0_1_2 (broadcastInDim S1x4096x8 ![1, 2]
    bcast_S4096x8_S1x4096x8_1_2 (Host.sin a))
  have u := extractStridedSlice S4x4096x8 ![0, 0, 0] z slices_S4x4096x16_S4x4096x8_0_0_0
  have v := extractStridedSlice S4x4096x8 ![0, 0, 8] z slices_S4x4096x16_S4x4096x8_0_0_8
  concatenate S4x4096x16 2 [⟨S4x4096x8, subf (mulf u co) (mulf v si)⟩, ⟨S4x4096x8, addf (mulf v co) (mulf u si)⟩]
    concatenates_S4x4096x8_S4x4096x8_S4x4096x16_d2

theorem axisK_apply (z : FVec Ideal S4x4096x16 .f32) (a : FVec Ideal S4096x8 .f32) (b : Fin 4) (i : Fin 4096) (e : Fin 16) :
    axisK z a (ix3 b i e) = if he : (e : ℕ) < 8 then
        z (ix3 b i ⟨e, by omega⟩) * Ideal.cos (a (ix2 i ⟨e, he⟩)) - z (ix3 b i ⟨8 + e, by omega⟩) * Ideal.sin (a (ix2 i ⟨e, he⟩))
      else z (ix3 b i ⟨8 + (e - 8), by omega⟩) * Ideal.cos (a (ix2 i ⟨e - 8, by omega⟩))
        + z (ix3 b i ⟨e - 8, by omega⟩) * Ideal.sin (a (ix2 i ⟨e - 8, by omega⟩)) := by
  pointwise [axisK]

/-- The shared keys after the rotation, the context's left as they are. -/
def turnK (z : FVec Ideal S5x4096x32 .f32) : FVec Ideal S5x4096x32 .f32 :=
  have y := extractStridedSlice S4x4096x32 ![1, 0, 0] z slices_S5x4096x32_S4x4096x32_1_0_0
  concatenate S5x4096x32 0
    [⟨S1x4096x32, extractStridedSlice S1x4096x32 ![0, 0, 0] z slices_S5x4096x32_S1x4096x32_0_0_0⟩,
      ⟨S4x4096x32, concatenate S4x4096x32 2
        [⟨S4x4096x16, axisK (extractStridedSlice S4x4096x16 ![0, 0, 0] y slices_S4x4096x32_S4x4096x16_0_0_0) rows⟩,
          ⟨S4x4096x16, axisK (extractStridedSlice S4x4096x16 ![0, 0, 16] y slices_S4x4096x32_S4x4096x16_0_0_16) cols⟩]
        concatenates_S4x4096x16_S4x4096x16_S4x4096x32_d2⟩]
    concatenates_S1x4096x32_S4x4096x32_S5x4096x32_d0

theorem turnK_apply (z : FVec Ideal S5x4096x32 .f32) (b : Fin 5) (i : Fin 4096) (e : Fin 32) :
    turnK z (ix3 b i e) = rotated ⟨b * 4096 + i, by omega⟩ (fun e => z (ix3 b i e)) e := by
  pointwise [turnK, axisK_apply, rows_apply, cols_apply]
  by_cases hb : (b : ℕ) < 1
  · rw [dif_pos hb, rotated, if_pos (by dsimp only; omega)]
  · have e1 : ∀ h, (⟨1 + (b - 1), h⟩ : Fin 5) = b := fun h => Fin.ext (by dsimp only; omega)
    rw [dif_neg hb, rotated_lanes _ (by dsimp only; omega) i (by dsimp only; omega)]
    simp only [e1]

variable (x : FVec Ideal S20480x1024 .f32) (m : FVec Ideal S2x8x6144 .f32) (g : FVec Ideal S2x1024 .f32)
  (w : FVec Ideal S1x1024x1952 .f32) (gq : FVec Ideal S1x256 .f32) (gk : FVec Ideal S1x128 .f32)
  (wq : FVec Ideal S1x256x768 .f32) (wk : FVec Ideal S1x128x1024 .f32)

/-- The argument arrays' entries. -/
def args : Args where
  x p k := x (ix2 p k)
  mod b k := m (ix3 1 b k)
  g k := g (ix2 1 k)
  w k j := w (ix3 0 k j)
  gq k := gq (ix2 0 k)
  gk k := gk (ix2 0 k)
  wq k j := wq (ix3 0 k j)
  wk k j := wk (ix3 0 k j)

theorem prod_eq (p : Fin 20480) (j : Fin 1952) :
    prod x m g w (ix3 ⟨p / 4096, by omega⟩ ⟨p % 4096, by omega⟩ j) = Cert.Odd.proj (args x m g w gq gk wq wk) p j := by
  have e : ∀ h, (⟨(p : ℕ) / 4096 * 4096 + p % 4096, h⟩ : Fin 20480) = p := fun h => Fin.ext (by dsimp only; omega)
  rw [prod_apply]
  simp only [e]
  rfl

/-- The queries, of the arguments. -/
abbrev qs := heads (extractStridedSlice S5x4096x256 ![0, 0, 0] (prod x m g w) slices_S5x4096x1952_S5x4096x256_0_0_0) gq wq

/-- The normalised key and value latents, of the arguments. -/
abbrev cs := norm (extractStridedSlice S5x4096x128 ![0, 0, 256] (prod x m g w) slices_S5x4096x1952_S5x4096x128_0_0_256) gk

theorem qs_eq (p : Fin 20480) (h : Fin 8) (e : Fin 96) :
    qs x m g w gq wq (ix4 ⟨p / 4096, by omega⟩ ⟨p % 4096, by omega⟩ h e)
      = Cert.Odd.query (args x m g w gq gk wq wk) p ⟨h * 96 + e, by omega⟩ := by
  rw [qs, heads_apply]
  pointwise [prod_eq x m g w gq gk wq wk]
  rfl

theorem cs_eq (p : Fin 20480) (k : Fin 128) :
    cs x m g w gk (ix3 ⟨p / 4096, by omega⟩ ⟨p % 4096, by omega⟩ k) = Cert.Odd.ckv (args x m g w gq gk wq wk) p k := by
  rw [cs, norm_apply]
  pointwise [prod_eq x m g w gq gk wq wk]
  rfl

theorem pairs_eq (p : Fin 20480) (h : Fin 8) (e : Fin 128) :
    pairs (cs x m g w gk) wk (ix4 ⟨p / 4096, by omega⟩ ⟨p % 4096, by omega⟩ h e)
      = Cert.Odd.kv (args x m g w gq gk wq wk) p ⟨h * 128 + e, by omega⟩ := by
  rw [pairs_apply]
  simp only [cs_eq x m g w gq gk wq wk]
  rfl

/-- The results. -/
abbrev res200 : FVec Ideal S512x20480 .bf16 :=
  truncf .bf16 (transpose S512x20480 [1, 0] (mulf (shapeCast S20480x512 (extractStridedSlice S5x4096x8x64 ![0, 0, 0, 0]
    (qs x m g w gq wq) slices_S5x4096x8x96_S5x4096x8x64_0_0_0_0) shapeCasts_S5x4096x8x64_S20480x512)
    (broadcastInDim S20480x512 ![] bcast_S_S20480x512 (constant S_ .f32 0x3E16C740#32))) transposes_S20480x512_S512x20480_1_0)
    bitsLt_bf16_f32
@[inherit_doc res200] abbrev res205 : FVec Ideal S256x20480 .bf16 :=
  truncf .bf16 (transpose S256x20480 [1, 0] (mulf (shapeCast S20480x256 (turnQ (extractStridedSlice S5x4096x8x32 ![0, 0, 0, 64]
    (qs x m g w gq wq) slices_S5x4096x8x96_S5x4096x8x32_0_0_0_64)) shapeCasts_S5x4096x8x32_S20480x256)
    (broadcastInDim S20480x256 ![] bcast_S_S20480x256 (constant S_ .f32 0x3E16C740#32))) transposes_S20480x256_S256x20480_1_0)
    bitsLt_bf16_f32
@[inherit_doc res200] abbrev res206 : FVec Ideal S20480x128 .f32 :=
  shapeCast S20480x128 (cs x m g w gk) shapeCasts_S5x4096x128_S20480x128
@[inherit_doc res200] abbrev res195 : FVec Ideal S20480x128 .f32 :=
  pad S20480x128 ![0, 0] ![0, 96] ![0, 0] (shapeCast S20480x32 (turnK (extractStridedSlice S5x4096x32 ![0, 0, 384] (prod x m g w)
    slices_S5x4096x1952_S5x4096x32_0_0_384)) shapeCasts_S5x4096x32_S20480x32) (sitofp .f32 (constantI S_ 32 0#32))
    pads_S20480x32_S20480x128_000_0960 h_S_
@[inherit_doc res200] abbrev res208 : FVec Ideal S20480x512 .f32 :=
  shapeCast S20480x512 (extractStridedSlice S5x4096x512 ![0, 0, 416] (prod x m g w) slices_S5x4096x1952_S5x4096x512_0_0_416)
    shapeCasts_S5x4096x512_S20480x512
@[inherit_doc res200] abbrev res210 : FVec Ideal S20480x512 .f32 :=
  shapeCast S20480x512 (mulf
    (extractStridedSlice S5x4096x512 ![0, 0, 928] (prod x m g w) slices_S5x4096x1952_S5x4096x512_0_0_928)
    (extractStridedSlice S5x4096x512 ![0, 0, 1440] (prod x m g w) slices_S5x4096x1952_S5x4096x512_0_0_1440))
    shapeCasts_S5x4096x512_S20480x512
@[inherit_doc res200] abbrev res212 : FVec Ideal S20480x512 .bf16 :=
  truncf .bf16 (shapeCast S20480x512 (extractStridedSlice S5x4096x8x64 ![0, 0, 0, 0] (pairs (cs x m g w gk) wk)
    slices_S5x4096x8x128_S5x4096x8x64_0_0_0_0) shapeCasts_S5x4096x8x64_S20480x512) bitsLt_bf16_f32
@[inherit_doc res200] abbrev res215 : FVec Ideal S512x20480 .bf16 :=
  truncf .bf16 (transpose S512x20480 [1, 0] (shapeCast S20480x512 (extractStridedSlice S5x4096x8x64 ![0, 0, 0, 64]
    (pairs (cs x m g w gk) wk) slices_S5x4096x8x128_S5x4096x8x64_0_0_0_64) shapeCasts_S5x4096x8x64_S20480x512)
    transposes_S20480x512_S512x20480_1_0) bitsLt_bf16_f32

theorem res200_apply (j : Fin 512) (p : Fin 20480) :
    res200 x m g w gq wq (ix2 j p) = Cert.Odd.resQ (args x m g w gq gk wq wk) j p := by
  pointwise [qs_eq x m g w gq gk wq wk, Cert.Odd.resQ]

theorem res205_apply (j : Fin 256) (p : Fin 20480) :
    res205 x m g w gq wq (ix2 j p) = Cert.Odd.resR (args x m g w gq gk wq wk) j p := by
  pointwise [turnQ_apply, qs_eq x m g w gq gk wq wk, Cert.Odd.resR]
  have e : ∀ h, (⟨(p : ℕ) / 4096 * 4096 + p % 4096, h⟩ : Fin 20480) = p := fun h => Fin.ext (by dsimp only; omega)
  simp only [e]

theorem res206_apply (p : Fin 20480) (j : Fin 128) :
    res206 x m g w gk (ix2 p j) = Cert.Odd.ckv (args x m g w gq gk wq wk) p j := by
  pointwise [cs_eq x m g w gq gk wq wk]

theorem res195_apply (p : Fin 20480) (j : Fin 128) :
    res195 x m g w (ix2 p j) = Cert.Odd.resK (args x m g w gq gk wq wk) p j := by
  pointwise [turnK_apply, prod_eq x m g w gq gk wq wk, Cert.Odd.resK]
  have e : ∀ h, (⟨(p : ℕ) / 4096 * 4096 + p % 4096, h⟩ : Fin 20480) = p := fun h => Fin.ext (by dsimp only; omega)
  have e' : FloatOps.sitofp (F := Ideal) .f32 0#32 = 0 := by simp [FloatOps.sitofp]
  simp only [e, e']

theorem res208_apply (p : Fin 20480) (j : Fin 512) :
    res208 x m g w (ix2 p j) = Cert.Odd.resG (args x m g w gq gk wq wk) p j := by
  pointwise [prod_eq x m g w gq gk wq wk, Cert.Odd.resG]

theorem res210_apply (p : Fin 20480) (j : Fin 512) :
    res210 x m g w (ix2 p j) = Cert.Odd.resZ (args x m g w gq gk wq wk) p j := by
  pointwise [prod_eq x m g w gq gk wq wk, Cert.Odd.resZ]

theorem res212_apply (p : Fin 20480) (j : Fin 512) :
    res212 x m g w gk wk (ix2 p j) = Cert.Odd.resN (args x m g w gq gk wq wk) p j := by
  pointwise [pairs_eq x m g w gq gk wq wk, Cert.Odd.resN]

theorem res215_apply (j : Fin 512) (p : Fin 20480) :
    res215 x m g w gk wk (ix2 j p) = Cert.Odd.resV (args x m g w gq gk wq wk) j p := by
  pointwise [pairs_eq x m g w gq gk wq wk, Cert.Odd.resV]

end Cert.Reference3Ideal.Odd

end
-- ==== Proof.OddEq.lean ====
/- The projections of the odd layer equal the reference's on every input. -/
module

public import proofs.«01_k».proof.Proof.OddBlocks
public import proofs.«01_k».proof.Proof.OddRef
public import proofs.«01_k».proof.Defs
public import Idealize.ShloMosaic.Adequacy

@[expose] public section

set_option maxRecDepth 16384

noncomputable section

namespace Cert.OddEq

open Idealize.ShloMosaic Idealize.ShloMosaic.TcCoe Idealize.SL.Sem
open Cert.Kernel3Ideal Cert.Kernel3Ideal.Gen Cert.Kernel3Ideal.Odd
open Cert.Reference3Ideal.Odd (res200 res205 res206 res195 res208 res210 res212 res215 res200_apply res205_apply res206_apply
  res195_apply res208_apply res210_apply res212_apply res215_apply)

variable (m : (ℓ : Loc nD τ sig) → Buf (Elt Ideal) ℓ) (c : Dev nD)

theorem array10 : (dats m 0 c).arrAt 10 cfg0.N = res200 (argX m c) (argM m c) (argG m c) (argW m c) (argGq m c) (argWq m c) := by
  refine array_eq10 m c _ fun t s r j => ?_
  have ht := points t
  rw [out10]
  refine Eq.trans ?_ (res200_apply (argX m c) (argM m c) (argG m c) (argW m c) (argGq m c) (argGk m c) (argWq m c)
    (argWk m c) _ _).symm
  exact by rw [queryA m c t ht]; rfl

theorem array11 : (dats m 0 c).arrAt 11 cfg0.N = res205 (argX m c) (argM m c) (argG m c) (argW m c) (argGq m c) (argWq m c) := by
  refine array_eq11 m c _ fun t s r j => ?_
  have ht := points t
  rw [out11]
  refine Eq.trans ?_ (res205_apply (argX m c) (argM m c) (argG m c) (argW m c) (argGq m c) (argGk m c) (argWq m c)
    (argWk m c) _ _).symm
  exact queryR_at m c t ht _ _

theorem array12 : (dats m 0 c).arrAt 12 cfg0.N = res206 (argX m c) (argM m c) (argG m c) (argW m c) (argGk m c) := by
  refine array_eq12 m c _ fun t s r j => ?_
  have ht := points t
  rw [out12]
  refine Eq.trans ?_ (res206_apply (argX m c) (argM m c) (argG m c) (argW m c) (argGq m c) (argGk m c) (argWq m c)
    (argWk m c) _ _).symm
  exact ckv_at m c t ht _ _

theorem array13 : (dats m 0 c).arrAt 13 cfg0.N = res195 (argX m c) (argM m c) (argG m c) (argW m c) := by
  refine array_eq13 m c _ fun t s r j => ?_
  have ht := points t
  rw [out13]
  refine Eq.trans ?_ (res195_apply (argX m c) (argM m c) (argG m c) (argW m c) (argGq m c) (argGk m c) (argWq m c)
    (argWk m c) _ _).symm
  exact key_at m c t ht _ _

theorem array14 : (dats m 0 c).arrAt 14 cfg0.N = res195 (argX m c) (argM m c) (argG m c) (argW m c) := by
  refine array_eq14 m c _ fun t s r j => ?_
  have ht := points t
  rw [out14]
  refine Eq.trans ?_ (res195_apply (argX m c) (argM m c) (argG m c) (argW m c) (argGq m c) (argGk m c) (argWq m c)
    (argWk m c) _ _).symm
  exact key_at m c t ht _ _

theorem array15 : (dats m 0 c).arrAt 15 cfg0.N = res208 (argX m c) (argM m c) (argG m c) (argW m c) := by
  refine array_eq15 m c _ fun t s r j => ?_
  have ht := points t
  rw [out15]
  refine Eq.trans ?_ (res208_apply (argX m c) (argM m c) (argG m c) (argW m c) (argGq m c) (argGk m c) (argWq m c)
    (argWk m c) _ _).symm
  exact (projB m c t ht _ _ (by omega) (by omega)).trans
    (congrArg (Cert.Odd.proj (args m c) _) (Fin.ext (by dsimp only; omega)))

theorem array16 : (dats m 0 c).arrAt 16 cfg0.N = res210 (argX m c) (argM m c) (argG m c) (argW m c) := by
  refine array_eq16 m c _ fun t s r j => ?_
  have ht := points t
  rw [out16]
  refine Eq.trans ?_ (res210_apply (argX m c) (argM m c) (argG m c) (argW m c) (argGq m c) (argGk m c) (argWq m c)
    (argWk m c) _ _).symm
  exact congrArg₂ (· * ·)
    ((projB m c t ht _ _ (by omega) (by omega)).trans (congrArg (Cert.Odd.proj (args m c) _) (Fin.ext (by dsimp only; omega))))
    ((projB m c t ht _ _ (by omega) (by omega)).trans (congrArg (Cert.Odd.proj (args m c) _) (Fin.ext (by dsimp only; omega))))

theorem array17 : (dats m 0 c).arrAt 17 cfg0.N = res212 (argX m c) (argM m c) (argG m c) (argW m c) (argGk m c) (argWk m c) := by
  refine array_eq17 m c _ fun t s r j => ?_
  have ht := points t
  rw [out17]
  refine Eq.trans ?_ (res212_apply (argX m c) (argM m c) (argG m c) (argW m c) (argGq m c) (argGk m c) (argWq m c)
    (argWk m c) _ _).symm
  exact kvA m c t ht _ _

theorem array18 : (dats m 0 c).arrAt 18 cfg0.N = res215 (argX m c) (argM m c) (argG m c) (argW m c) (argGk m c) (argWk m c) := by
  refine array_eq18 m c _ fun t s r j => ?_
  have ht := points t
  rw [out18]
  refine Eq.trans ?_ (res215_apply (argX m c) (argM m c) (argG m c) (argW m c) (argGq m c) (argGk m c) (argWq m c)
    (argWk m c) _ _).symm
  exact kvB m c t ht _ _

/-- The claim. -/
theorem algebraic : Cert.algebraic_Kernel3Ideal_Reference3Ideal := by
  intro m ρ m' ρ' _ hagree
  refine ⟨fun c => res200 (argX m c) (argM m c) (argG m c) (argW m c) (argGq m c) (argWq m c),
    fun c => res205 (argX m c) (argM m c) (argG m c) (argW m c) (argGq m c) (argWq m c),
    fun c => res206 (argX m c) (argM m c) (argG m c) (argW m c) (argGk m c),
    fun c => res195 (argX m c) (argM m c) (argG m c) (argW m c),
    fun c => res195 (argX m c) (argM m c) (argG m c) (argW m c),
    fun c => res208 (argX m c) (argM m c) (argG m c) (argW m c),
    fun c => res210 (argX m c) (argM m c) (argG m c) (argW m c),
    fun c => res212 (argX m c) (argM m c) (argG m c) (argW m c) (argGk m c) (argWk m c),
    fun c => res215 (argX m c) (argM m c) (argG m c) (argW m c) (argGk m c) (argWk m c), ?_, ?_⟩
  · exact (θ_run Cert.Kernel3Ideal.defs _ _).mono (fun _ h c => by
        obtain ⟨h10, h11, h12, h13, h14, h15, h16, h17, h18, hr⟩ := h c
        exact ⟨h10.trans (array10 m c), h11.trans (array11 m c), h12.trans (array12 m c), h13.trans (array13 m c),
          h14.trans (array14 m c), h15.trans (array15 m c), h16.trans (array16 m c), h17.trans (array17 m c),
          h18.trans (array18 m c), hr⟩)
      (Cert.Kernel3Ideal.Value.run_blocks (F := Ideal) m ρ)
  · refine (θ_run Cert.Reference3Ideal.defs _ _).mono (fun _ h c => ?_) (Cert.Reference3Ideal.Value.run (F := Ideal) m' ρ')
    obtain ⟨g0, g1, g2, g3, g4, g5, g6, g7⟩ := hagree c
    obtain ⟨h10, h11, h12, h13, h14, h15, h16, h17, h18, hr⟩ := h c
    have e0 : argX m c =
        m' ((c.tc : Thread Cert.Reference3Ideal.nD Cert.Reference3Ideal.τ).loc Cert.Reference3Ideal.main_arg0) := g0.symm
    have e1 : argM m c =
        m' ((c.tc : Thread Cert.Reference3Ideal.nD Cert.Reference3Ideal.τ).loc Cert.Reference3Ideal.main_arg1) := g1.symm
    have e2 : argG m c =
        m' ((c.tc : Thread Cert.Reference3Ideal.nD Cert.Reference3Ideal.τ).loc Cert.Reference3Ideal.main_arg2) := g2.symm
    have e3 : argW m c =
        m' ((c.tc : Thread Cert.Reference3Ideal.nD Cert.Reference3Ideal.τ).loc Cert.Reference3Ideal.main_arg3) := g3.symm
    have e4 : argGq m c =
        m' ((c.tc : Thread Cert.Reference3Ideal.nD Cert.Reference3Ideal.τ).loc Cert.Reference3Ideal.main_arg4) := g4.symm
    have e5 : argGk m c =
        m' ((c.tc : Thread Cert.Reference3Ideal.nD Cert.Reference3Ideal.τ).loc Cert.Reference3Ideal.main_arg5) := g5.symm
    have e6 : argWq m c =
        m' ((c.tc : Thread Cert.Reference3Ideal.nD Cert.Reference3Ideal.τ).loc Cert.Reference3Ideal.main_arg6) := g6.symm
    have e7 : argWk m c =
        m' ((c.tc : Thread Cert.Reference3Ideal.nD Cert.Reference3Ideal.τ).loc Cert.Reference3Ideal.main_arg7) := g7.symm
    beta_reduce
    rw [e0, e1, e2, e3, e4, e5, e6, e7]
    exact ⟨h10.trans rfl, h11.trans rfl, h12.trans rfl, h13.trans rfl, h14.trans rfl, h15.trans rfl, h16.trans rfl,
      h17.trans rfl, h18.trans rfl, hr⟩

end Cert.OddEq

end
-- ==== Proof.EvSpec.lean ====
/- The even layer's projections of one token, over the extended reals, as functions of the entries of the argument arrays:
   what the kernel's entries and the reference's entries are both shown to be.

   The kernel takes the mean squares of all heads by one product with a matrix of ones and zeros (`head_sum`), of the squares
   and of what a rounding of them leaves (`spread`); the rest is zero where the squares are real numbers, which they are for
   real arguments (`proj_real`). -/
module

public import proofs.«01_k».proof.Proof.OddSpec
public import proofs.«01_k».proof.Proof.Finite

@[expose] public section

set_option maxRecDepth 16384

noncomputable section

namespace Cert.Ev

open Idealize.ShloMosaic
open Cert.Odd (unit modulated num)

/-- The sixteen frequencies of the rotation. -/
def freq (l : ℕ) : EReal :=
  Ideal.pow (Ideal.ofBits .f32 0x461C4000#32)
    (Ideal.div (-(Ideal.ofBits .f32 0x40000000#32 * num l)) (Ideal.ofBits .f32 0x42000000#32))

/-- The angle at token `i` of a sequence, of a grid 64 wide, and lane `e` of a head: the first 32 lanes turn by the row, the
    others by the column. -/
def angle (i : ℕ) (e : ℕ) : EReal := num (if e < 32 then i / 64 else i % 64) * freq (e % 16)

/-- The lanes `z` of a head of token `p` after the rotation; the context's tokens are not rotated. -/
def rotated (p : Fin 20480) (z : Fin 64 → EReal) (e : Fin 64) : EReal :=
  if (p : ℕ) < 4096 then z e
  else if (e : ℕ) % 32 < 16 then
    z e * Ideal.cos (angle (p % 4096) e) - z ⟨(e + 16) % 64, by omega⟩ * Ideal.sin (angle (p % 4096) e)
  else z e * Ideal.cos (angle (p % 4096) e) + z ⟨(e + 48) % 64, by omega⟩ * Ideal.sin (angle (p % 4096) e)

/-- The rotation, axis by axis. -/
theorem rotated_lanes (p : Fin 20480) (hp : ¬(p : ℕ) < 4096) (i : ℕ) (hi : (p : ℕ) % 4096 = i) (z : Fin 64 → EReal) (e : Fin 64) :
    rotated p z e = if h : (e : ℕ) < 32 then
        if h' : (e : ℕ) < 16 then
          z e * Ideal.cos (num (i / 64) * freq e) - z ⟨16 + e, by omega⟩ * Ideal.sin (num (i / 64) * freq e)
        else z ⟨16 + (e - 16), by omega⟩ * Ideal.cos (num (i / 64) * freq (e - 16))
          + z ⟨e - 16, by omega⟩ * Ideal.sin (num (i / 64) * freq (e - 16))
      else if h' : (e : ℕ) - 32 < 16 then
        z ⟨32 + (e - 32), by omega⟩ * Ideal.cos (num (i % 64) * freq (e - 32))
          - z ⟨32 + (16 + (e - 32)), by omega⟩ * Ideal.sin (num (i % 64) * freq (e - 32))
      else z ⟨32 + (16 + (e - 32 - 16)), by omega⟩ * Ideal.cos (num (i % 64) * freq (e - 32 - 16))
        + z ⟨32 + (e - 32 - 16), by omega⟩ * Ideal.sin (num (i % 64) * freq (e - 32 - 16)) := by
  unfold rotated angle
  rw [if_neg hp, hi]
  have q : ∀ a b (ha : a < 64) (hb : b < 64), a = b → z ⟨a, ha⟩ = z ⟨b, hb⟩ := fun a b ha hb h => congrArg z (Fin.ext h)
  have f : ∀ a b, a = b → freq a = freq b := fun a b h => congrArg freq h
  by_cases h : (e : ℕ) < 32
  · by_cases h' : (e : ℕ) < 16
    · rw [if_pos (by omega), if_pos h, dif_pos h, dif_pos h', f (e % 16) e (by omega), q ((e + 16) % 64) (16 + e) _ _ (by omega)]
    · rw [if_neg (by omega), if_pos h, dif_pos h, dif_neg h', f (e % 16) (e - 16) (by omega),
        q ((e + 48) % 64) (e - 16) _ _ (by omega), q (16 + (e - 16)) e _ e.isLt (by omega)]
  · by_cases h' : (e : ℕ) - 32 < 16
    · rw [if_pos (by omega), if_neg h, dif_neg h, dif_pos h', f (e % 16) (e - 32) (by omega),
        q ((e + 16) % 64) (32 + (16 + (e - 32))) _ _ (by omega), q (32 + (e - 32)) e _ e.isLt (by omega)]
    · rw [if_neg (by omega), if_neg h, dif_neg h, dif_neg h', f (e % 16) (e - 32 - 16) (by omega),
        q ((e + 48) % 64) (32 + (e - 32 - 16)) _ _ (by omega), q (32 + (16 + (e - 32 - 16))) e _ e.isLt (by omega)]

/-- The argument arrays' entries: the tokens' features, the layer's modulation, its norm's weights, the input weights, the
    norms' weights of the queries and of the keys, and the gating's weights and biases. -/
structure Args where
  /-- The tokens' features: the context's tokens first. -/
  x : Fin 20480 → Fin 1024 → EReal
  /-- The layer's modulation, by sequence. -/
  mod : Fin 8 → Fin 6144 → EReal
  /-- The norm's weights. -/
  g : Fin 1024 → EReal
  /-- The input weights. -/
  w : Fin 1024 → Fin 1792 → EReal
  /-- The queries' norm weights. -/
  gq : Fin 64 → EReal
  /-- The keys' norm weights. -/
  gk : Fin 64 → EReal
  /-- The gating's weights, by group. -/
  ws : Fin 8 → Fin 128 → Fin 128 → EReal
  /-- The gating's biases, by group. -/
  bs : Fin 8 → Fin 128 → EReal

variable (A : Args)

/-- The product of the modulated norm of token `p` and column `j` of the input weights. -/
def proj (p : Fin 20480) (j : Fin 1792) : EReal :=
  ∑ k : Fin 1024, modulated (A.x p) A.g (fun k => A.mod ⟨p / 4096, by omega⟩ ⟨1024 + k, by omega⟩)
    (fun k => A.mod ⟨p / 4096, by omega⟩ ⟨k, by omega⟩) k * A.w k j

/-- The gated features: a group's features are mixed over the tokens of their chunk of 128. -/
def resA (p : Fin 20480) (j : Fin 512) : EReal :=
  proj A p ⟨j, by omega⟩ * (∑ q : Fin 128, A.ws ⟨j / 64, by omega⟩ ⟨p % 128, by omega⟩ q
    * proj A ⟨p / 128 * 128 + q, by omega⟩ ⟨512 + j, by omega⟩ + A.bs ⟨j / 64, by omega⟩ ⟨p % 128, by omega⟩)

/-- The normalised queries of head `h`. -/
def query (p : Fin 20480) (h : Fin 8) (e : Fin 64) : EReal :=
  unit (Ideal.ofBits .f32 0x42800000#32) (fun e : Fin 64 => proj A p ⟨1024 + (h * 64 + e), by omega⟩) e * A.gq e

/-- The normalised keys of head `h`. -/
def key (p : Fin 20480) (h : Fin 2) (e : Fin 64) : EReal :=
  unit (Ideal.ofBits .f32 0x42800000#32) (fun e : Fin 64 => proj A p ⟨1536 + (h * 64 + e), by omega⟩) e * A.gk e

/-- The rotated and scaled queries. -/
def resQ (j : Fin 512) (p : Fin 20480) : EReal :=
  rotated p (query A p ⟨j / 64, by omega⟩) ⟨j % 64, by omega⟩ * Ideal.ofBits .f32 0x3E38AA3B#32

/-- The rotated keys. -/
def resK (p : Fin 20480) (j : Fin 128) : EReal := rotated p (key A p ⟨j / 64, by omega⟩) ⟨j % 64, by omega⟩

/-- The values. -/
def resV (p : Fin 20480) (j : Fin 128) : EReal := proj A p ⟨1664 + j, by omega⟩

/-! ## Real numbers -/

/-- An extended real that is a real number. -/
def Real' (x : EReal) : Prop := ∃ r : ℝ, x = r

theorem Real'.add {x y : EReal} : Real' x → Real' y → Real' (x + y)
  | ⟨a, ha⟩, ⟨b, hb⟩ => ⟨a + b, by rw [ha, hb, EReal.coe_add]⟩

theorem Real'.mul {x y : EReal} : Real' x → Real' y → Real' (x * y)
  | ⟨a, ha⟩, ⟨b, hb⟩ => ⟨a * b, by rw [ha, hb, EReal.coe_mul]⟩

theorem Real'.sum {n : ℕ} {x : Fin n → EReal} (h : ∀ k, Real' (x k)) : Real' (∑ k, x k) := by
  choose a ha using h
  exact ⟨∑ k, a k, by simp only [ha, Cert.Soft.coe_sum]⟩

theorem thousand : Ideal.ofBits .f32 0x44800000#32 = ((1024 : ℝ) : EReal) := by
  simp [Ideal.ofBits, Ideal.ieee]
  rw [← EReal.coe_mul]
  norm_num

theorem sixtyfour : Ideal.ofBits .f32 0x42800000#32 = ((64 : ℝ) : EReal) := by
  simp [Ideal.ofBits, Ideal.ieee]
  rw [← EReal.coe_mul]
  norm_num

theorem part64 : Ideal.ofBits .f32 0x3C800000#32 = ((1 / 64 : ℝ) : EReal) := by
  simp [Ideal.ofBits, Ideal.ieee]
  rw [← EReal.coe_mul]
  norm_num

theorem small : ∃ r : ℝ, 0 < r ∧ Ideal.ofBits .f32 0x358637BD#32 = (r : EReal) := by
  simp [Ideal.ofBits, Ideal.ieee]
  exact ⟨_, by positivity, (EReal.coe_mul _ _).symm⟩

/-- A feature of real numbers over the root of their mean square is a real number. -/
theorem unit_real (x : Fin 1024 → EReal) (hx : ∀ k, Real' (x k)) (k : Fin 1024) :
    Real' (unit (Ideal.ofBits .f32 0x44800000#32) x k) := by
  choose a ha using hx
  obtain ⟨e, he, h⟩ := small
  unfold unit
  refine Real'.mul ⟨a k, ha k⟩ ?_
  have hs : ∑ j, x j * x j = ((∑ j, a j * a j : ℝ) : EReal) := by
    simp only [ha, ← EReal.coe_mul, Cert.Soft.coe_sum]
  have hp : 0 < (∑ j, a j * a j) * (1 / 1024) + e := by
    have : 0 ≤ ∑ j, a j * a j := Finset.sum_nonneg fun j _ => mul_self_nonneg _
    positivity
  rw [hs, thousand, Ideal.div_coe (by norm_num), h, ← EReal.coe_mul, ← EReal.coe_add, Ideal.rsqrt_coe, if_neg (by linarith),
    if_neg hp.ne']
  exact ⟨_, rfl⟩

theorem proj_real (hx : ∀ p k, Real' (A.x p k)) (hm : ∀ b k, Real' (A.mod b k)) (hg : ∀ k, Real' (A.g k))
    (hw : ∀ k j, Real' (A.w k j)) (p : Fin 20480) (j : Fin 1792) : Real' (proj A p j) := by
  refine Real'.sum fun k => Real'.mul ?_ (hw _ _)
  unfold modulated
  refine Real'.add (Real'.mul (Real'.mul (unit_real _ (hx p) k) (hg k)) (Real'.add ⟨1, ?_⟩ (hm _ _))) (hm _ _)
  rw [Ideal.ofBits_one_f32, EReal.coe_one]

/-- A sum over all lanes of those in one head. -/
theorem head_sum {n : ℕ} (a : Fin n → EReal) (h : ℕ) (hh : h * 64 + 64 ≤ n) :
    ∑ k : Fin n, a k * (if (k : ℕ) / 64 = h then 1 else 0) = ∑ e : Fin 64, a ⟨h * 64 + e, by omega⟩ := by
  refine (Fintype.sum_of_injective (fun e : Fin 64 => (⟨h * 64 + e, by omega⟩ : Fin n)) ?_ _ _ ?_ ?_).symm
  · intro x y hxy
    have := congrArg Fin.val hxy
    exact Fin.ext (by dsimp only at this; omega)
  · intro k hk
    have : ¬(k : ℕ) / 64 = h := fun hc => hk ⟨⟨k - h * 64, by omega⟩, Fin.ext (by dsimp only; omega)⟩
    rw [if_neg this, mul_zero]
  · intro e
    rw [if_pos (show (h * 64 + (e : ℕ)) / 64 = h by omega), mul_one]

/-- A lane over the root of the mean square of its head, as the kernel computes it: `b` is the matrix of the heads' lanes. -/
def spread {n : ℕ} (z : Fin n → EReal) (b : Fin n → Fin n → EReal) (j : Fin n) : EReal :=
  z j * Ideal.rsqrt ((∑ k, z k * z k * b k j + ∑ k, (z k * z k - z k * z k) * b k j) * Ideal.ofBits .f32 0x3C800000#32
    + Ideal.ofBits .f32 0x358637BD#32)

theorem spread_eq {n : ℕ} (z : Fin n → EReal) (hz : ∀ k, Real' (z k)) (b : Fin n → Fin n → EReal)
    (hb : ∀ k j, b k j = if (k : ℕ) / 64 = (j : ℕ) / 64 then 1 else 0) (j : Fin n) (h : ℕ) (hh : h * 64 + 64 ≤ n)
    (e : Fin 64) (he : (j : ℕ) = h * 64 + e) :
    spread z b j = unit (Ideal.ofBits .f32 0x42800000#32) (fun e : Fin 64 => z ⟨h * 64 + e, by omega⟩) e := by
  have h0 : ∀ k, z k * z k - z k * z k = 0 := fun k => by
    obtain ⟨a, ha⟩ := (hz k).mul (hz k)
    rw [ha, ← EReal.coe_sub, sub_self, EReal.coe_zero]
  have hj : (j : ℕ) / 64 = h := by omega
  have e0 : z j = z ⟨h * 64 + e, by omega⟩ := congrArg z (Fin.ext he)
  unfold spread unit
  simp only [h0, zero_mul, Finset.sum_const_zero, add_zero, hb, hj]
  rw [head_sum (fun k => z k * z k) h hh, sixtyfour, Ideal.div_coe (by norm_num), part64, e0]

end Cert.Ev

end
-- ==== Proof.EvValue.lean ====
/- What one grid point of the even layer's projections computes, over the extended reals: the entries of every value it stores,
   from the entries of its blocks. -/
module

public import proofs.«01_k».proof.Proof.Gen.Kernel4Ideal.Frame
public import proofs.«01_k».proof.Proof.EvSpec

@[expose] public section

set_option maxRecDepth 16384

noncomputable section

namespace Cert.Kernel4Ideal.Ev

open Cert.Kernel4Ideal Cert.Kernel4Ideal.Gen Idealize.ShloMosaic
open Cert.Odd (unit modulated)
open Cert.Ev (spread)

/-- The point's tokens: of the context at the first four points. -/
def rows (i : grid0.Coords) (a b : Vec Ideal S1024x1024 .f32) : FVec Ideal S1024x1024 .f32 :=
  Scalar.select (Scalar.cmpi .slt (BitVec.ofNat 32 (i 0).val) 4#32) a b

/-- The product of the tokens `x` with the input weights. -/
def prod (x : FVec Ideal S1024x1024 .f32) (g : FVec Ideal S1x1024 .f32) (sc sh : FVec Ideal S1x1x1x1024 .f32)
    (w : FVec Ideal S1024x1792 .bf16) (p : Fin 1024) (j : Fin 1792) : EReal :=
  ∑ k : Fin 1024, modulated (fun k => x (ix2 p k)) (fun k => g (ix2 0 k))
      (fun k => sc (ix4 0 0 0 k)) (fun k => sh (ix4 0 0 0 k)) k * w (ix2 k j)

theorem select_cast (c : BitVec 1) (a b : Vec Ideal S1024x1024 .f32) :
    (Scalar.select c (shapeCast S1024x1024 a shapeCasts_S1024x1024_S1024x1024 : FVec Ideal S1024x1024 .f32)
      (shapeCast S1024x1024 b shapeCasts_S1024x1024_S1024x1024)) = Scalar.select c a b := by
  have e : ∀ x : Vec Ideal S1024x1024 .f32, (shapeCast S1024x1024 x shapeCasts_S1024x1024_S1024x1024 : FVec Ideal S1024x1024 .f32) = x := fun x => by
    funext i
    idx_vars i
    pointwise
  rw [e, e]

theorem prod_apply (i : grid0.Coords) (a b : Vec Ideal S1024x1024 .f32) (g : FVec Ideal S1x1024 .f32)
    (sc sh : FVec Ideal S1x1x1x1024 .f32) (w : FVec Ideal S1024x1792 .bf16) (r : Fin 1024) (j : Fin 1792) :
    k0_pay2 (F := Ideal) i a b g sc sh w (ix2 r j) = prod (rows i a b) g sc sh w r j := by
  unfold k0_pay2
  dsimp only
  rw [select_cast]
  change _ = prod (rows i a b) g sc sh w r j
  rw [show Scalar.select (Scalar.cmpi .slt (BitVec.ofNat 32 (i 0).val) 4#32) a b = rows i a b from rfl]
  generalize rows i a b = x
  pointwise [prod, modulated, unit]

theorem normQ_apply (y : FVec Ideal S1024x1792 .f32) (bd : Vec Ideal S512x512 .bf16) (g : Vec Ideal S1x512 .f32)
    (r : Fin 1024) (j : Fin 512) :
    k0_pay9 y bd g (ix2 r j) = spread (fun k : Fin 512 => y (ix2 r ⟨1024 + k, by omega⟩)) (fun k j => bd (ix2 k j)) j * g (ix2 0 j) := by
  pointwise [k0_pay9, k0_pay6, spread]

theorem normK_apply (y : FVec Ideal S1024x1792 .f32) (bd : Vec Ideal S512x512 .bf16) (g : Vec Ideal S1x128 .f32)
    (r : Fin 1024) (j : Fin 128) :
    k0_pay11 (k0_pay10 y bd) g (ix2 r j) = spread (fun k : Fin 128 => y (ix2 r ⟨1536 + k, by omega⟩))
      (fun k j => bd (ix2 ⟨k, by omega⟩ ⟨j, by omega⟩)) j * g (ix2 0 j) := by
  pointwise [k0_pay11, k0_pay10, k0_pay6, spread]

/-- The lane's number modulo 32, as the kernel computes it. -/
abbrev lane32 (j : BitVec 32) : BitVec 32 :=
  IntOp.remsi ArithUnit.vector j (Scalar.select (Scalar.cmpi CmpIPredicate.eq 32#32 0#32) 1#32 32#32)

/-- The lanes whose partner lies 16 lanes on. -/
theorem lane_lt : ∀ j : Fin 512, IntOp.cmpi CmpIPredicate.slt
    (Scalar.select (IntOp.andi (IntOp.xori (IntOp.cmpi CmpIPredicate.slt (lane32 (BitVec.ofNat 32 j)) 0#32)
        (Scalar.cmpi CmpIPredicate.slt (Scalar.select (Scalar.cmpi CmpIPredicate.eq 32#32 0#32) 1#32 32#32) 0#32))
      (IntOp.cmpi CmpIPredicate.ne (lane32 (BitVec.ofNat 32 j)) 0#32))
      (IntOp.addi (lane32 (BitVec.ofNat 32 j)) (Scalar.select (Scalar.cmpi CmpIPredicate.eq 32#32 0#32) 1#32 32#32))
      (lane32 (BitVec.ofNat 32 j))) 16#32 = if (j : ℕ) % 32 < 16 then 1#1 else 0#1 := by
  decide +kernel

theorem rotK_apply (co si z : FVec Ideal S1024x128 .f32) (r : Fin 1024) (j : Fin 128) :
    k0_pay17 co si z (Scalar.select (Scalar.cmpi .eq 32#32 0#32) 1#32 32#32) k0_pay13 k0_pay14 k0_pay15 k0_pay16 (ix2 r j)
      = z (ix2 r j) * co (ix2 r j)
        + (if (j : ℕ) % 32 < 16 then z (ix2 r ⟨(j + 16) % 128, by omega⟩) else z (ix2 r ⟨(j + 112) % 128, by omega⟩))
          * si (ix2 r j) := by
  have hl := lane_lt ⟨j, by omega⟩
  pointwise [k0_pay17, k0_pay13, k0_pay14, k0_pay15, k0_pay16]
  rw [hl]
  split_ifs <;> rfl

/-- Four copies of a table of 128 lanes, side by side. -/
theorem wide (x : FVec Ideal S1024x128 .f32) (r : Fin 1024) (j : Fin 512) :
    concatenate S1024x512 1 [⟨S1024x128, x⟩, ⟨S1024x128, x⟩, ⟨S1024x128, x⟩, ⟨S1024x128, x⟩]
      concatenates_S1024x128_S1024x128_S1024x128_S1024x128_S1024x512_d1 (ix2 r j) = x (ix2 r ⟨j % 128, by omega⟩) := by
  pointwise
  have e : ∀ (a : ℕ) (h : a < 128), a = j % 128 → x (ix2 r ⟨a, h⟩) = x (ix2 r ⟨j % 128, by omega⟩) :=
    fun a h ha => congrArg x (congrArg (ix2 r) (Fin.ext ha))
  split_ifs <;> exact e _ _ (by omega)

theorem rotQ_apply (co si : FVec Ideal S1024x128 .f32) (z : FVec Ideal S1024x512 .f32) (r : Fin 1024) (j : Fin 512) :
    k0_pay12 co si z (ix2 r j) = z (ix2 r j) * co (ix2 r ⟨j % 128, by omega⟩)
        + (if (j : ℕ) % 32 < 16 then z (ix2 r ⟨(j + 16) % 512, by omega⟩) else z (ix2 r ⟨(j + 496) % 512, by omega⟩))
          * si (ix2 r ⟨j % 128, by omega⟩) := by
  have hl := lane_lt j
  unfold k0_pay12
  dsimp only
  pointwise [wide]
  rw [hl]
  split_ifs <;> rfl

/-- The mixing of a pair of groups: the weights `w` times a chunk's features, those of the first group in the first 64 lanes
    against the first 128 weights, those of the second group in the others against the last. -/
def mix (va : FVec Ideal S1024x512 .bf16) (o : Fin 2 → ℕ) (h : S1024x512.Slices o S128x128) (w : Vec Ideal S1x128x256 .bf16) :
    FVec Ideal S128x128 .f32 :=
  matmul dot_S128x256_S256x128_S128x128_1_0_0_1_n_n none (shapeCast S128x256 w shapeCasts_S1x128x256_S128x256 : FVec Ideal S128x256 .bf16)
    (concatenate S256x128 0
      [⟨S128x128, select (cmpi .slt (iota .tc S128x128 32 [1] iota_S128x128_d1_w32) (broadcast S128x128 64#32))
          (extractStridedSlice S128x128 o va h) (broadcast S128x128 (Scalar.ofBits .bf16 0x0000#16))⟩,
        ⟨S128x128, select (cmpi .slt (iota .tc S128x128 32 [1] iota_S128x128_d1_w32) (broadcast S128x128 64#32))
          (broadcast S128x128 (Scalar.ofBits .bf16 0x0000#16)) (extractStridedSlice S128x128 o va h)⟩]
      concatenates_S128x128_S128x128_S256x128_d0) (constant S128x128 .f32 0x00000000#32)

/-- A chunk of the gated features. -/
def gate (u : FVec Ideal S1024x512 .f32) (va : FVec Ideal S1024x512 .bf16) (ws : Vec Ideal S4x128x256 .bf16)
    (bs : Vec Ideal S128x512 .f32) (o : ℕ) (h0 : S1024x512.Slices ![o, 0] S128x128) (h1 : S1024x512.Slices ![o, 128] S128x128)
    (h2 : S1024x512.Slices ![o, 256] S128x128) (h3 : S1024x512.Slices ![o, 384] S128x128)
    (hu : S1024x512.Slices ![o, 0] S128x512) : FVec Ideal S128x512 .bf16 :=
  truncf .bf16 (mulf (extractStridedSlice S128x512 ![o, 0] u hu) (addf (concatenate S128x512 1
    [⟨S128x128, mix va _ h0 (View.ld ws r0_12)⟩, ⟨S128x128, mix va _ h1 (View.ld ws r0_13)⟩,
      ⟨S128x128, mix va _ h2 (View.ld ws r0_14)⟩, ⟨S128x128, mix va _ h3 (View.ld ws r0_15)⟩]
    concatenates_S128x128_S128x128_S128x128_S128x128_S128x512_d1) (shapeCast S128x512 (View.ld bs r0_16) shapeCasts_S128x512_S128x512)))
    bitsLt_bf16_f32

theorem low_lt : ∀ j : Fin 128, IntOp.cmpi CmpIPredicate.slt (BitVec.ofNat 32 j) 64#32 = if (j : ℕ) < 64 then 1#1 else 0#1 := by
  decide +kernel

theorem mix_apply (va : FVec Ideal S1024x512 .bf16) (o0 o1 : ℕ) (h : S1024x512.Slices ![o0, o1] S128x128)
    (g0 : o0 + 128 ≤ 1024) (g1 : o1 + 128 ≤ 512) (w : Vec Ideal S1x128x256 .bf16) (r j : Fin 128) :
    mix va _ h w (ix2 r j) = ∑ q : Fin 128, w (ix3 0 r ⟨(j : ℕ) / 64 * 128 + q, by omega⟩)
      * va (ix2 ⟨o0 + q, by omega⟩ ⟨o1 + j, by omega⟩) := by
  have hl := low_lt j
  pointwise [mix]
  rw [hl]
  by_cases hj : (j : ℕ) < 64
  · rw [if_pos hj]
    refine (congrArg₂ (· + ·) rfl Finset.sum_const_zero).trans ((add_zero _).trans (Finset.sum_congr rfl fun q _ => ?_))
    exact congrArg (· * _) (congrArg w (congrArg (ix3 0 r) (Fin.ext (by dsimp only; omega))))
  · rw [if_neg hj]
    refine (congrArg₂ (· + ·) Finset.sum_const_zero rfl).trans ((zero_add _).trans (Finset.sum_congr rfl fun q _ => ?_))
    exact congrArg (· * _) (congrArg w (congrArg (ix3 0 r) (Fin.ext (by dsimp only; omega))))

theorem gate_apply (u : FVec Ideal S1024x512 .f32) (va : FVec Ideal S1024x512 .bf16) (ws : Vec Ideal S4x128x256 .bf16)
    (bs : Vec Ideal S128x512 .f32) (o : ℕ) (h0 : S1024x512.Slices ![o, 0] S128x128) (h1 : S1024x512.Slices ![o, 128] S128x128)
    (h2 : S1024x512.Slices ![o, 256] S128x128) (h3 : S1024x512.Slices ![o, 384] S128x128)
    (hu : S1024x512.Slices ![o, 0] S128x512) (g : o + 128 ≤ 1024) (r : Fin 128) (j : Fin 512) :
    gate u va ws bs o h0 h1 h2 h3 hu (ix2 r j) = u (ix2 ⟨o + r, by omega⟩ j)
      * (∑ q : Fin 128, ws (ix3 ⟨j / 128, by omega⟩ r ⟨j % 128 / 64 * 128 + q, by omega⟩) * va (ix2 ⟨o + q, by omega⟩ j)
        + bs (ix2 r j)) := by
  pointwise [gate]
  have e0 := fun j => mix_apply va o 0 h0 g (by omega) (View.ld ws r0_12) r j
  have e1 := fun j => mix_apply va o 128 h1 g (by omega) (View.ld ws r0_13) r j
  have e2 := fun j => mix_apply va o 256 h2 g (by omega) (View.ld ws r0_14) r j
  have e3 := fun j => mix_apply va o 384 h3 g (by omega) (View.ld ws r0_15) r j
  have w0 : ∀ k : Fin 256, (View.ld ws r0_12 : Vec Ideal S1x128x256 .bf16) (ix3 0 r k) = ws (ix3 0 r k) := fun k => by pointwise
  have w1 : ∀ k : Fin 256, (View.ld ws r0_13 : Vec Ideal S1x128x256 .bf16) (ix3 0 r k) = ws (ix3 1 r k) := fun k => by pointwise
  have w2 : ∀ k : Fin 256, (View.ld ws r0_14 : Vec Ideal S1x128x256 .bf16) (ix3 0 r k) = ws (ix3 2 r k) := fun k => by pointwise
  have w3 : ∀ k : Fin 256, (View.ld ws r0_15 : Vec Ideal S1x128x256 .bf16) (ix3 0 r k) = ws (ix3 3 r k) := fun k => by pointwise
  simp only [e0, e1, e2, e3, w0, w1, w2, w3]
  have f : ∀ (a a' : Fin 4) (b b' : ℕ) (hb : b < 256) (hb' : b' < 256), (a : ℕ) = a' → b = b' →
      ws (ix3 a r ⟨b, hb⟩) = ws (ix3 a' r ⟨b', hb'⟩) := fun a a' b b' hb hb' h h' => by
    obtain rfl : a = a' := Fin.ext h
    subst h'
    rfl
  have v : ∀ (q : Fin 1024) (b : ℕ) (hb : b < 512), b = j → va (ix2 q ⟨b, hb⟩) = va (ix2 q j) := fun q b hb h =>
    congrArg va (congrArg (ix2 q) (Fin.ext h))
  congr 2
  split_ifs
  all_goals
    refine Finset.sum_congr rfl fun q _ => ?_
    rw [v _ _ _ (by omega)]
    refine congrArg (· * _) (f _ _ _ _ _ _ ?_ ?_)
    all_goals
      first
      | omega
      | (show (0 : ℕ) = j / 128; omega)
      | (show (1 : ℕ) = j / 128; omega)
      | (show (2 : ℕ) = j / 128; omega)
      | (show (3 : ℕ) = j / 128; omega)

variable (i : grid0.Coords) (x0 x1 : Vec Ideal S1024x1024 .f32) (x2 : Vec Ideal S1x1x6x1024 .f32) (x3 : Vec Ideal S1x1024 .f32)
  (x4 : Vec Ideal S1024x1792 .bf16) (x5 : Vec Ideal S1x512 .f32) (x6 : Vec Ideal S1x128 .f32) (x7 x8 : Vec Ideal S1x1024x128 .f32)
  (x9 : Vec Ideal S4x128x256 .bf16) (x10 : Vec Ideal S128x512 .f32) (x11 : Vec Ideal S512x512 .bf16)

/-- The entry of the token `p` of the block and the column `j` in the product with the input weights. -/
def proj (p : Fin 1024) (j : Fin 1792) : EReal :=
  ∑ k : Fin 1024, modulated (fun k => rows i x0 x1 (ix2 p k)) (fun k => x3 (ix2 0 k)) (fun k => x2 (ix4 0 0 1 k))
    (fun k => x2 (ix4 0 0 0 k)) k * x4 (ix2 k j)

theorem proj_apply (p : Fin 1024) (j : Fin 1792) :
    k0_pay60 i x0 x1 x2 x3 x4 x5 x6 x7 x8 x9 x10 x11 (ix2 p j) = proj i x0 x1 x2 x3 x4 p j := by
  have hx : ∀ x : Vec Ideal S1024x1024 .f32, (View.ld x r0_0 : Vec Ideal S1024x1024 .f32) = x := fun x => by
    funext y
    idx_vars y
    pointwise
  unfold k0_pay60
  rw [prod_apply, hx, hx]
  unfold prod proj
  generalize rows i x0 x1 = x
  pointwise

/-- The results of the point before the casts: the queries and the keys after their norms, and after the rotation. -/
def query (p : Fin 1024) (j : Fin 512) : EReal :=
  spread (fun k : Fin 512 => proj i x0 x1 x2 x3 x4 p ⟨1024 + k, by omega⟩) (fun k j => x11 (ix2 k j)) j * x5 (ix2 0 j)
@[inherit_doc query] def key (p : Fin 1024) (j : Fin 128) : EReal :=
  spread (fun k : Fin 128 => proj i x0 x1 x2 x3 x4 p ⟨1536 + k, by omega⟩) (fun k j => x11 (ix2 ⟨k, by omega⟩ ⟨j, by omega⟩)) j
    * x6 (ix2 0 j)
@[inherit_doc query] def keyR (p : Fin 1024) (j : Fin 128) : EReal :=
  key i x0 x1 x2 x3 x4 x6 x11 p j * x7 (ix3 0 p j)
    + (if (j : ℕ) % 32 < 16 then key i x0 x1 x2 x3 x4 x6 x11 p ⟨(j + 16) % 128, by omega⟩
        else key i x0 x1 x2 x3 x4 x6 x11 p ⟨(j + 112) % 128, by omega⟩) * x8 (ix3 0 p j)

theorem query_apply (p : Fin 1024) (j : Fin 512) :
    k0_pay9 (k0_pay60 i x0 x1 x2 x3 x4 x5 x6 x7 x8 x9 x10 x11) (View.ld x11 r0_5) (View.ld x5 r0_7) (ix2 p j)
      = query i x0 x1 x2 x3 x4 x5 x11 p j := by
  rw [normQ_apply]
  unfold query
  simp only [proj_apply]
  pointwise

theorem key_apply (p : Fin 1024) (j : Fin 128) :
    k0_pay11 (k0_pay10 (k0_pay60 i x0 x1 x2 x3 x4 x5 x6 x7 x8 x9 x10 x11) (View.ld x11 r0_5)) (View.ld x6 r0_8) (ix2 p j)
      = key i x0 x1 x2 x3 x4 x6 x11 p j := by
  rw [normK_apply]
  unfold key
  simp only [proj_apply]
  pointwise

/-- A store of a whole buffer, read back. -/
theorem whole9 (w : FVec Ideal S512x1024 .bf16) (j : Fin 512) (p : Fin 1024) :
    View.canon (Val := Elt Ideal) [(⟨r0_9, w⟩ : View.Piece (Elt Ideal) S512x1024 .bf16)] (ix2 j p) = w (ix2 j p) := by
  canon_tiles x hx
  all_goals
    idx_vars x
    pointwise at *
    first | omega | (congr 2 <;> (apply Fin.ext; try simp only) <;> omega)
@[inherit_doc whole9] theorem whole10 (w : FVec Ideal S1024x128 .f32) (p : Fin 1024) (j : Fin 128) :
    View.canon (Val := Elt Ideal) [(⟨r0_10, w⟩ : View.Piece (Elt Ideal) S1024x128 .f32)] (ix2 p j) = w (ix2 p j) := by
  canon_tiles x hx
  all_goals
    idx_vars x
    pointwise at *
    first | omega | (congr 2 <;> (apply Fin.ext; try simp only) <;> omega)
@[inherit_doc whole9] theorem whole10b (w : FVec Ideal S1024x128 .bf16) (p : Fin 1024) (j : Fin 128) :
    View.canon (Val := Elt Ideal) [(⟨r0_10, w⟩ : View.Piece (Elt Ideal) S1024x128 .bf16)] (ix2 p j) = w (ix2 p j) := by
  canon_tiles x hx
  all_goals
    idx_vars x
    pointwise at *
    first | omega | (congr 2 <;> (apply Fin.ext; try simp only) <;> omega)
@[inherit_doc whole9] theorem whole11 (w : FVec Ideal S128x1024 .bf16) (j : Fin 128) (p : Fin 1024) :
    View.canon (Val := Elt Ideal) [(⟨r0_11, w⟩ : View.Piece (Elt Ideal) S128x1024 .bf16)] (ix2 j p) = w (ix2 j p) := by
  canon_tiles x hx
  all_goals
    idx_vars x
    pointwise at *
    first | omega | (congr 2 <;> (apply Fin.ext; try simp only) <;> omega)

/-- Eight stores of 128 rows each, read at a row. -/
theorem tiles (P : Fin 8 → FVec Ideal S128x512 .bf16) (s : Fin 8) (r : Fin 128) (j : Fin 512) :
    View.canon (Val := Elt Ideal) [(⟨r0_24, P 7⟩ : View.Piece (Elt Ideal) S1024x512 .bf16), ⟨r0_23, P 6⟩, ⟨r0_22, P 5⟩,
      ⟨r0_21, P 4⟩, ⟨r0_20, P 3⟩, ⟨r0_19, P 2⟩, ⟨r0_18, P 1⟩, ⟨r0_17, P 0⟩] (ix2 ⟨128 * s + r, by omega⟩ j) = P s (ix2 r j) := by
  obtain rfl | rfl | rfl | rfl | rfl | rfl | rfl | rfl : s = 0 ∨ s = 1 ∨ s = 2 ∨ s = 3 ∨ s = 4 ∨ s = 5 ∨ s = 6 ∨ s = 7 := by omega
  all_goals
    canon_tiles x hx
    all_goals
      idx_vars x
      pointwise at *
      first | omega | (congr 2 <;> (apply Fin.ext; try simp only) <;> omega)

/-- The chunk `s` of the gated features, from the two halves of the feature columns. -/
def chunk (u : FVec Ideal S1024x512 .f32) (va : FVec Ideal S1024x512 .bf16) : Fin 8 → FVec Ideal S128x512 .bf16
  | 0 => gate u va x9 x10 0 slices_S1024x512_o0_0_S128x128 slices_S1024x512_o0_128_S128x128 slices_S1024x512_o0_256_S128x128 slices_S1024x512_o0_384_S128x128 slices_S1024x512_o0_0_S128x512
  | 1 => gate u va x9 x10 128 slices_S1024x512_o128_0_S128x128 slices_S1024x512_o128_128_S128x128 slices_S1024x512_o128_256_S128x128 slices_S1024x512_o128_384_S128x128 slices_S1024x512_o128_0_S128x512
  | 2 => gate u va x9 x10 256 slices_S1024x512_o256_0_S128x128 slices_S1024x512_o256_128_S128x128 slices_S1024x512_o256_256_S128x128 slices_S1024x512_o256_384_S128x128 slices_S1024x512_o256_0_S128x512
  | 3 => gate u va x9 x10 384 slices_S1024x512_o384_0_S128x128 slices_S1024x512_o384_128_S128x128 slices_S1024x512_o384_256_S128x128 slices_S1024x512_o384_384_S128x128 slices_S1024x512_o384_0_S128x512
  | 4 => gate u va x9 x10 512 slices_S1024x512_o512_0_S128x128 slices_S1024x512_o512_128_S128x128 slices_S1024x512_o512_256_S128x128 slices_S1024x512_o512_384_S128x128 slices_S1024x512_o512_0_S128x512
  | 5 => gate u va x9 x10 640 slices_S1024x512_o640_0_S128x128 slices_S1024x512_o640_128_S128x128 slices_S1024x512_o640_256_S128x128 slices_S1024x512_o640_384_S128x128 slices_S1024x512_o640_0_S128x512
  | 6 => gate u va x9 x10 768 slices_S1024x512_o768_0_S128x128 slices_S1024x512_o768_128_S128x128 slices_S1024x512_o768_256_S128x128 slices_S1024x512_o768_384_S128x128 slices_S1024x512_o768_0_S128x512
  | 7 => gate u va x9 x10 896 slices_S1024x512_o896_0_S128x128 slices_S1024x512_o896_128_S128x128 slices_S1024x512_o896_256_S128x128 slices_S1024x512_o896_384_S128x128 slices_S1024x512_o896_0_S128x512

theorem chunk_apply (u : FVec Ideal S1024x512 .f32) (va : FVec Ideal S1024x512 .bf16) (s : Fin 8) (r : Fin 128) (j : Fin 512) :
    chunk x9 x10 u va s (ix2 r j) = u (ix2 ⟨128 * s + r, by omega⟩ j)
      * (∑ q : Fin 128, x9 (ix3 ⟨j / 128, by omega⟩ r ⟨j % 128 / 64 * 128 + q, by omega⟩) * va (ix2 ⟨128 * s + q, by omega⟩ j)
        + x10 (ix2 r j)) := by
  obtain rfl | rfl | rfl | rfl | rfl | rfl | rfl | rfl : s = 0 ∨ s = 1 ∨ s = 2 ∨ s = 3 ∨ s = 4 ∨ s = 5 ∨ s = 6 ∨ s = 7 := by omega
  all_goals exact gate_apply u va x9 x10 _ _ _ _ _ _ (by omega) r j

theorem out12 (s : Fin 8) (r : Fin 128) (j : Fin 512) :
    out0_12 i x0 x1 x2 x3 x4 x5 x6 x7 x8 x9 x10 x11 (ix2 ⟨128 * s + r, by omega⟩ j)
      = proj i x0 x1 x2 x3 x4 ⟨128 * s + r, by omega⟩ ⟨j, by omega⟩
        * (∑ q : Fin 128, x9 (ix3 ⟨j / 128, by omega⟩ r ⟨j % 128 / 64 * 128 + q, by omega⟩)
            * proj i x0 x1 x2 x3 x4 ⟨128 * s + q, by omega⟩ ⟨512 + j, by omega⟩
          + x10 (ix2 r j)) := by
  refine (congrFun (show out0_12 i x0 x1 x2 x3 x4 x5 x6 x7 x8 x9 x10 x11 = _ from rfl) _).trans
    ((tiles (chunk x9 x10 (k0_pay61 i x0 x1 x2 x3 x4 x5 x6 x7 x8 x9 x10 x11) (k0_pay62 i x0 x1 x2 x3 x4 x5 x6 x7 x8 x9 x10 x11)) s r j).trans ?_)
  rw [chunk_apply]
  have e : ∀ (p : Fin 1024) (j : Fin 512), k0_pay61 i x0 x1 x2 x3 x4 x5 x6 x7 x8 x9 x10 x11 (ix2 p j)
      = proj i x0 x1 x2 x3 x4 p ⟨j, by omega⟩ := fun p j => by
    rw [← proj_apply (x5 := x5) (x6 := x6) (x7 := x7) (x8 := x8) (x9 := x9) (x10 := x10) (x11 := x11)]
    unfold k0_pay61 k0_pay60 k0_pay3
    generalize k0_pay2 i (View.ld x0 r0_0) (View.ld x1 r0_0) (View.ld x3 r0_1) (View.ld x2 r0_2) (View.ld x2 r0_3) (View.ld x4 r0_4) = y
    pointwise
  have f : ∀ (p : Fin 1024) (j : Fin 512), k0_pay62 i x0 x1 x2 x3 x4 x5 x6 x7 x8 x9 x10 x11 (ix2 p j)
      = proj i x0 x1 x2 x3 x4 p ⟨512 + j, by omega⟩ := fun p j => by
    rw [← proj_apply (x5 := x5) (x6 := x6) (x7 := x7) (x8 := x8) (x9 := x9) (x10 := x10) (x11 := x11)]
    unfold k0_pay62 k0_pay60 k0_pay4
    generalize k0_pay2 i (View.ld x0 r0_0) (View.ld x1 r0_0) (View.ld x3 r0_1) (View.ld x2 r0_2) (View.ld x2 r0_3) (View.ld x4 r0_4) = y
    pointwise
  simp only [e, f]

theorem out13 (p : Fin 1024) (j : Fin 512) : out0_13 i x0 x1 x2 x3 x4 x5 x6 x7 x8 x9 x10 x11 (ix2 j p)
    = (query i x0 x1 x2 x3 x4 x5 x11 p j * x7 (ix3 0 p ⟨j % 128, by omega⟩)
        + (if (j : ℕ) % 32 < 16 then query i x0 x1 x2 x3 x4 x5 x11 p ⟨(j + 16) % 512, by omega⟩
            else query i x0 x1 x2 x3 x4 x5 x11 p ⟨(j + 496) % 512, by omega⟩) * x8 (ix3 0 p ⟨j % 128, by omega⟩))
      * Scalar.ofBits (F := Ideal) .f32 0x3E38AA3B#32 := by
  unfold out0_13
  rw [whole9]
  pointwise [k0_pay18]
  rw [rotQ_apply]
  simp only [query_apply]
  pointwise [k0_pay64, k0_pay65, k0_pay7, k0_pay8]

theorem key17 (p : Fin 1024) (j : Fin 128) : k0_pay17 (k0_pay64 i x0 x1 x2 x3 x4 x5 x6 x7 x8 x9 x10 x11) (k0_pay65 i x0 x1 x2 x3 x4 x5 x6 x7 x8 x9 x10 x11) (k0_pay66 i x0 x1 x2 x3 x4 x5 x6 x7 x8 x9 x10 x11) (Scalar.select (Scalar.cmpi .eq 32#32 0#32) 1#32 32#32) (k0_pay67 i x0 x1 x2 x3 x4 x5 x6 x7 x8 x9 x10 x11) (k0_pay68 i x0 x1 x2 x3 x4 x5 x6 x7 x8 x9 x10 x11) (k0_pay69 i x0 x1 x2 x3 x4 x5 x6 x7 x8 x9 x10 x11) (k0_pay70 i x0 x1 x2 x3 x4 x5 x6 x7 x8 x9 x10 x11) (ix2 p j)
    = keyR i x0 x1 x2 x3 x4 x6 x7 x8 x11 p j := by
  refine (rotK_apply (k0_pay64 i x0 x1 x2 x3 x4 x5 x6 x7 x8 x9 x10 x11) (k0_pay65 i x0 x1 x2 x3 x4 x5 x6 x7 x8 x9 x10 x11)
    (k0_pay66 i x0 x1 x2 x3 x4 x5 x6 x7 x8 x9 x10 x11) p j).trans ?_
  unfold k0_pay66 keyR
  simp only [key_apply]
  pointwise [k0_pay64, k0_pay65, k0_pay7, k0_pay8]

theorem out14 (p : Fin 1024) (j : Fin 128) : out0_14 i x0 x1 x2 x3 x4 x5 x6 x7 x8 x9 x10 x11 (ix2 p j)
    = keyR i x0 x1 x2 x3 x4 x6 x7 x8 x11 p j := by
  unfold out0_14
  rw [whole10, key17]

theorem out15 (p : Fin 1024) (j : Fin 128) : out0_15 i x0 x1 x2 x3 x4 x5 x6 x7 x8 x9 x10 x11 (ix2 p j)
    = keyR i x0 x1 x2 x3 x4 x6 x7 x8 x11 p j := by
  unfold out0_15 k0_pay19
  rw [whole10b]
  exact key17 i x0 x1 x2 x3 x4 x5 x6 x7 x8 x9 x10 x11 p j

theorem v_apply (p : Fin 1024) (j : Fin 128) : k0_pay63 i x0 x1 x2 x3 x4 x5 x6 x7 x8 x9 x10 x11 (ix2 p j)
    = proj i x0 x1 x2 x3 x4 p ⟨1664 + j, by omega⟩ := by
  rw [← proj_apply (x5 := x5) (x6 := x6) (x7 := x7) (x8 := x8) (x9 := x9) (x10 := x10) (x11 := x11)]
  unfold k0_pay63 k0_pay5
  generalize k0_pay60 i x0 x1 x2 x3 x4 x5 x6 x7 x8 x9 x10 x11 = y
  pointwise

theorem out16 (p : Fin 1024) (j : Fin 128) : out0_16 i x0 x1 x2 x3 x4 x5 x6 x7 x8 x9 x10 x11 (ix2 p j)
    = proj i x0 x1 x2 x3 x4 p ⟨1664 + j, by omega⟩ := by
  unfold out0_16
  rw [whole10, v_apply]

theorem out17 (p : Fin 1024) (j : Fin 128) : out0_17 i x0 x1 x2 x3 x4 x5 x6 x7 x8 x9 x10 x11 (ix2 j p)
    = proj i x0 x1 x2 x3 x4 p ⟨1664 + j, by omega⟩ := by
  unfold out0_17
  rw [whole11, ← v_apply (x5 := x5) (x6 := x6) (x7 := x7) (x8 := x8) (x9 := x9) (x10 := x10) (x11 := x11)]
  generalize k0_pay63 i x0 x1 x2 x3 x4 x5 x6 x7 x8 x9 x10 x11 = y
  pointwise [k0_pay20]

end Cert.Kernel4Ideal.Ev

end
-- ==== Proof.EvTable.lean ====
/- The rotation's tables: the arrays of cosines and sines the even layer's projections enter with, and the matrix of the heads'
   lanes. -/
module

public import proofs.«01_k».proof.Proof.EvSpec
public import proofs.«01_k».proof.Proof.Gen.Kernel4Ideal.Frame

@[expose] public section

set_option maxRecDepth 16384

noncomputable section

namespace Cert.Kernel4Ideal.Ev

open Cert.Kernel4Ideal Cert.Kernel4Ideal.Gen Idealize.ShloMosaic Idealize.ShloMosaic.TcCoe Idealize.SL.Sem
open Cert.Ev (freq angle)

variable (m : (ℓ : Loc nD τ sig) → Buf (Elt Ideal) ℓ) (c : Dev nD)

/-- The numbers of the 4096 tokens of a sequence. -/
abbrev tok : IVec S4096 32 := iotaInDim S4096 32 0
/-- A number at every token. -/
abbrev all (n : BitVec 32) : IVec S4096 32 := broadcastInDim S4096 ![] bcast_S_S4096 (constantI S_ 32 n)

def rowIdx : IVec S4096 32 :=
  select (andi (cmpi .ne (signi tok) (broadcastInDim S4096 ![] bcast_S_S4096 (signi (constantI S_ 32 64#32))))
    (cmpi .ne (Host.remsi tok (all 64#32)) (all 0#32))) (subi (Host.divsi tok (all 64#32)) (all 1#32)) (Host.divsi tok (all 64#32))

theorem rowIdx_apply : ∀ i : Fin 4096, rowIdx (ix1 i) = BitVec.ofNat 32 (i / 64) := by
  decide +kernel

def step : IVec S_ 32 := select (cmpi .eq (constantI S_ 32 64#32) (constantI S_ 32 0#32)) (constantI S_ 32 1#32) (constantI S_ 32 64#32)
abbrev steps : IVec S4096 32 := broadcastInDim S4096 ![] bcast_S_S4096 step

def colIdx : IVec S4096 32 :=
  select (andi (cmpi .ne (cmpi .slt (Host.remsi tok steps) (all 0#32))
      (broadcastInDim S4096 ![] bcast_S_S4096 (cmpi .slt step (constantI S_ 32 0#32))))
    (cmpi .ne (Host.remsi tok steps) (all 0#32))) (addi (Host.remsi tok steps) steps) (Host.remsi tok steps)

theorem colIdx_apply : ∀ i : Fin 4096, colIdx (ix1 i) = BitVec.ofNat 32 (i % 64) := by
  decide +kernel

/-- The sixteen frequencies. -/
def freqs : FVec Ideal S16 .f32 := Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

def ang (idx : IVec S4096 32) : FVec Ideal S4096x16 .f32 :=
  mulf (broadcastInDim S4096x16 ![0, 1] bcast_S4096x1_S4096x16_0_1 (broadcastInDim S4096x1 ![0] bcast_S4096_S4096x1_0 (sitofp .f32 idx)))
    (broadcastInDim S4096x16 ![0, 1] bcast_S1x16_S4096x16_0_1 (broadcastInDim S1x16 ![1] bcast_S16_S1x16_1 freqs))

/-- A table of 128 lanes from one of 64. -/
def tile (x : FVec Ideal S4096x64 .f32) : FVec Ideal S4x1024x128 .f32 :=
  shapeCast S4x1024x128 (shapeCast S4096x128 (broadcastInDim S1x4096x2x64 ![0, 1, 2, 3] bcast_S1x4096x1x64_S1x4096x2x64_0_1_2_3
    (shapeCast S1x4096x1x64 x shapeCasts_S4096x64_S1x4096x1x64)) shapeCasts_S1x4096x2x64_S4096x128) shapeCasts_S4096x128_S4x1024x128

/-- The buffers once the angles are there. -/
def mid : Valuation τ sig (Elt Ideal) :=
  StableHlo.after (hostOps0_4.take 25) (StableHlo.after (List.flatten [hostOps0, hostOps0_1, hostOps0_2, hostOps0_3]) (fun b => m (c, b)))

theorem V_mid (b : Ref sig .tc) : V m c b = StableHlo.after (List.flatten [hostOps0_4.drop 25, hostOps0_5, hostOps0_6]) (mid m c) b := by
  have h : List.flatten [hostOps0, hostOps0_1, hostOps0_2, hostOps0_3, hostOps0_4, hostOps0_5, hostOps0_6 (F := Ideal)]
      = List.flatten [hostOps0, hostOps0_1, hostOps0_2, hostOps0_3] ++ (hostOps0_4.take 25 ++ List.flatten [hostOps0_4.drop 25, hostOps0_5, hostOps0_6]) := by
    conv_lhs => rw [show hostOps0_4 (F := Ideal) = hostOps0_4.take 25 ++ hostOps0_4.drop 25 from (List.take_append_drop 25 _).symm]
    simp only [List.flatten_cons, List.flatten_nil, List.append_assoc, List.append_nil]
  unfold V mid
  rw [h, StableHlo.after_append, StableHlo.after_append]

set_option maxHeartbeats 4000000 in
theorem mid_row : mid m c main_v22 = ang rowIdx := by rfl

set_option maxHeartbeats 4000000 in
theorem mid_col : mid m c main_v27 = ang colIdx := by rfl

/-- A table by token and lane from the rows' values and the columns'. -/
def table (a b c d : FVec Ideal S4096x16 .f32) : FVec Ideal S4x1024x128 .f32 :=
  tile (concatenate S4096x64 1 [⟨S4096x16, a⟩, ⟨S4096x16, b⟩, ⟨S4096x16, c⟩, ⟨S4096x16, d⟩]
    concatenates_S4096x16_S4096x16_S4096x16_S4096x16_S4096x64_d1)

theorem after_cos (W : Valuation τ sig (Elt Ideal)) : StableHlo.after (List.flatten [hostOps0_4.drop 25, hostOps0_5, hostOps0_6]) W main_v49
    = concatenate S5x1024x128 0 [⟨S1x1024x128, broadcastInDim S1x1024x128 ![] bcast_S_S1x1024x128 (constant S_ .f32 0x3F800000#32)⟩,
      ⟨S4x1024x128, table (Host.cos (W main_v22)) (Host.cos (W main_v22)) (Host.cos (W main_v27)) (Host.cos (W main_v27))⟩]
      concatenates_S1x1024x128_S4x1024x128_S5x1024x128_d0 := by
  rfl

theorem after_sin (W : Valuation τ sig (Elt Ideal)) : StableHlo.after (List.flatten [hostOps0_4.drop 25, hostOps0_5, hostOps0_6]) W main_v51
    = concatenate S5x1024x128 0 [⟨S1x1024x128, broadcastInDim S1x1024x128 ![] bcast_S_S1x1024x128 (constant S_ .f32 0x00000000#32)⟩,
      ⟨S4x1024x128, table (Host.negf (Host.sin (W main_v22))) (Host.sin (W main_v22)) (Host.negf (Host.sin (W main_v27)))
        (Host.sin (W main_v27))⟩]
      concatenates_S1x1024x128_S4x1024x128_S5x1024x128_d0 := by
  rfl

theorem ang_apply (idx : IVec S4096 32) (i : Fin 4096) (l : Fin 16) :
    ang idx (ix2 i l) = FloatOps.sitofp (F := Ideal) .f32 (idx (ix1 i)) * freq l := by
  pointwise [ang, freqs]
  rfl

theorem table_apply (a b c d : FVec Ideal S4096x16 .f32) (u : Fin 4) (r : Fin 1024) (j : Fin 128) :
    table a b c d (ix3 u r j) = if (j : ℕ) % 64 < 16 then a (ix2 ⟨u * 1024 + r, by omega⟩ ⟨j % 16, by omega⟩)
      else if (j : ℕ) % 64 < 32 then b (ix2 ⟨u * 1024 + r, by omega⟩ ⟨j % 16, by omega⟩)
      else if (j : ℕ) % 64 < 48 then c (ix2 ⟨u * 1024 + r, by omega⟩ ⟨j % 16, by omega⟩)
      else d (ix2 ⟨u * 1024 + r, by omega⟩ ⟨j % 16, by omega⟩) := by
  pointwise [table, tile]
  by_cases h0 : (j : ℕ) % 64 < 16
  · rw [dif_pos h0, if_pos h0]
    exact congrArg a (congrArg (ix2 _) (Fin.ext (by dsimp only; omega)))
  by_cases h1 : (j : ℕ) % 64 < 32
  · rw [dif_neg h0, dif_pos (by omega), if_neg h0, if_pos h1]
    exact congrArg b (congrArg (ix2 _) (Fin.ext (by dsimp only; omega)))
  by_cases h2 : (j : ℕ) % 64 < 48
  · rw [dif_neg h0, dif_neg (by omega), dif_pos (by omega), if_neg h0, if_neg h1, if_pos h2]
    exact congrArg c (congrArg (ix2 _) (Fin.ext (by dsimp only; omega)))
  · rw [dif_neg h0, dif_neg (by omega), dif_neg (by omega), if_neg h0, if_neg h1, if_neg h2]
    exact congrArg d (congrArg (ix2 _) (Fin.ext (by dsimp only; omega)))

/-- The cosines' table is ones at the context's tokens. -/
theorem entry_cos0 (r : Fin 1024) (j : Fin 128) : V m c main_v49 (ix3 0 r j) = Ideal.ofBits .f32 0x3F800000#32 := by
  rw [V_mid, after_cos]
  pointwise

/-- The sines' table is zeros at the context's tokens. -/
theorem entry_sin0 (r : Fin 1024) (j : Fin 128) : V m c main_v51 (ix3 0 r j) = Ideal.ofBits .f32 0x00000000#32 := by
  rw [V_mid, after_sin]
  pointwise

theorem entry_cos (u : Fin 4) (r : Fin 1024) (j : Fin 128) :
    V m c main_v49 (ix3 ⟨1 + u, by omega⟩ r j) = Ideal.cos (angle (u * 1024 + r) (j % 64)) := by
  rw [V_mid, after_cos, mid_row, mid_col]
  pointwise
  rw [table_apply]
  split_ifs
  all_goals
    first
    | omega
    | (pointwise [ang_apply, rowIdx_apply, colIdx_apply, angle, Cert.Odd.num]
       rw [show (j : ℕ) % 64 % 16 = j % 16 by omega]
       split_ifs
       all_goals first | omega | rfl)

theorem entry_sin (u : Fin 4) (r : Fin 1024) (j : Fin 128) :
    V m c main_v51 (ix3 ⟨1 + u, by omega⟩ r j)
      = if (j : ℕ) % 32 < 16 then -Ideal.sin (angle (u * 1024 + r) (j % 64)) else Ideal.sin (angle (u * 1024 + r) (j % 64)) := by
  rw [V_mid, after_sin, mid_row, mid_col]
  pointwise
  rw [table_apply]
  split_ifs
  all_goals
    first
    | omega
    | (pointwise [ang_apply, rowIdx_apply, colIdx_apply, angle, Cert.Odd.num]
       rw [show (j : ℕ) % 64 % 16 = j % 16 by omega]
       split_ifs
       all_goals first | omega | rfl)

/-- The numbers of the lanes, and a number at every lane. -/
abbrev lane : IVec S512 32 := iotaInDim S512 32 0
@[inherit_doc lane] abbrev every (n : BitVec 32) : IVec S512 32 := broadcastInDim S512 ![] bcast_S_S512 (constantI S_ 32 n)

/-- The heads of the lanes. -/
def headIdx : IVec S512 32 :=
  select (andi (cmpi .ne (signi lane) (broadcastInDim S512 ![] bcast_S_S512 (signi (constantI S_ 32 64#32))))
    (cmpi .ne (Host.remsi lane (every 64#32)) (every 0#32))) (subi (Host.divsi lane (every 64#32)) (every 1#32))
    (Host.divsi lane (every 64#32))

theorem headIdx_apply : ∀ i : Fin 512, headIdx (ix1 i) = BitVec.ofNat 32 (i / 64) := by
  decide +kernel

theorem heads_eq : V m c main_v59 = uitofp (F := Ideal) .bf16 (cmpi .eq
    (broadcastInDim S512x512 ![0, 1] bcast_S512x1_S512x512_0_1 (broadcastInDim S512x1 ![0] bcast_S512_S512x1_0 headIdx))
    (broadcastInDim S512x512 ![0, 1] bcast_S1x512_S512x512_0_1 (broadcastInDim S1x512 ![1] bcast_S512_S1x512_1 headIdx))) := by
  rfl

theorem same_head (k j : Fin 512) : IntOp.cmpi .eq (BitVec.ofNat 32 (k / 64)) (BitVec.ofNat 32 (j / 64))
    = if (k : ℕ) / 64 = j / 64 then 1#1 else 0#1 := by
  have : ∀ a b : Fin 8, IntOp.cmpi .eq (BitVec.ofNat 32 a) (BitVec.ofNat 32 b) = if a = b then 1#1 else 0#1 := by decide
  have h := this ⟨k / 64, by omega⟩ ⟨j / 64, by omega⟩
  simpa only [Fin.mk.injEq] using h

/-- The matrix of the heads' lanes. -/
theorem entry_heads (k j : Fin 512) : @Eq EReal (V m c main_v59 (ix2 k j)) (if (k : ℕ) / 64 = j / 64 then 1 else 0) := by
  rw [heads_eq]
  pointwise [headIdx_apply]
  rw [same_head]
  split_ifs <;> simp [FloatOps.uitofp] <;> rfl

end Cert.Kernel4Ideal.Ev

end
-- ==== Proof.EvArray.lean ====
/- The arrays the even layer's projections enter with, and their results from the blocks of the grid points. -/
module

public import proofs.«01_k».proof.Proof.EvValue
public import proofs.«01_k».proof.Proof.EvTable
public import proofs.«01_k».proof.Proof.Gen.Kernel4Ideal.Value

@[expose] public section

set_option maxRecDepth 16384

noncomputable section

namespace Cert.Kernel4Ideal.Ev

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The argument arrays, at their types: the features of the context's tokens and of the other sequences', the modulation, the
    layers' norm weights, the input weights, the queries' and the keys' norm weights, and the gating's weights and biases. -/
abbrev argX : FVec Ideal S16x256x1024 .f32 := m ((c : Thread nD τ).loc main_arg0)
@[inherit_doc argX] abbrev argY : FVec Ideal S4x4096x1024 .f32 := m ((c : Thread nD τ).loc main_arg1)
@[inherit_doc argX] abbrev argM : FVec Ideal S2x8x6144 .f32 := m ((c : Thread nD τ).loc main_arg2)
@[inherit_doc argX] abbrev argG : FVec Ideal S2x1024 .f32 := m ((c : Thread nD τ).loc main_arg3)
@[inherit_doc argX] abbrev argW : FVec Ideal S1x1024x1792 .f32 := m ((c : Thread nD τ).loc main_arg4)
@[inherit_doc argX] abbrev argGq : FVec Ideal S1x64 .f32 := m ((c : Thread nD τ).loc main_arg5)
@[inherit_doc argX] abbrev argGk : FVec Ideal S1x64 .f32 := m ((c : Thread nD τ).loc main_arg6)
@[inherit_doc argX] abbrev argS : FVec Ideal S1x8x128x128 .f32 := m ((c : Thread nD τ).loc main_arg7)
@[inherit_doc argX] abbrev argB : FVec Ideal S1x8x128 .f32 := m ((c : Thread nD τ).loc main_arg8)

theorem entry_x (p : Fin 4096) (k : Fin 1024) : V m c main_v0 (ix2 p k) = argX m c (ix3 ⟨p / 256, by omega⟩ ⟨p % 256, by omega⟩ k) := by
  simp only [V, hostOps0, hostOps0_1, hostOps0_2, hostOps0_3, hostOps0_4, hostOps0_5, hostOps0_6, List.flatten_cons,
    List.flatten_nil, List.append_nil, List.cons_append, List.nil_append]
  entry_read
  pointwise

theorem entry_y (p : Fin 16384) (k : Fin 1024) : V m c main_v1 (ix2 p k) = argY m c (ix3 ⟨p / 4096, by omega⟩ ⟨p % 4096, by omega⟩ k) := by
  simp only [V, hostOps0, hostOps0_1, hostOps0_2, hostOps0_3, hostOps0_4, hostOps0_5, hostOps0_6, List.flatten_cons,
    List.flatten_nil, List.append_nil, List.cons_append, List.nil_append]
  entry_read
  pointwise

theorem entry_mod (b : Fin 8) (q : Fin 6) (k : Fin 1024) : V m c main_v2 (ix4 0 b q k) = argM m c (ix3 0 b ⟨q * 1024 + k, by omega⟩) := by
  simp only [V, hostOps0, hostOps0_1, hostOps0_2, hostOps0_3, hostOps0_4, hostOps0_5, hostOps0_6, List.flatten_cons,
    List.flatten_nil, List.append_nil, List.cons_append, List.nil_append]
  entry_read
  pointwise

theorem entry_norm (k : Fin 1024) : V m c main_v64 (ix2 0 k) = argG m c (ix2 0 k) := by
  simp only [V, hostOps0, hostOps0_1, hostOps0_2, hostOps0_3, hostOps0_4, hostOps0_5, hostOps0_6, List.flatten_cons,
    List.flatten_nil, List.append_nil, List.cons_append, List.nil_append]
  entry_read
  pointwise

theorem entry_w (k : Fin 1024) (j : Fin 1792) : V m c main_v66 (ix2 k j) = argW m c (ix3 0 k j) := by
  simp only [V, hostOps0, hostOps0_1, hostOps0_2, hostOps0_3, hostOps0_4, hostOps0_5, hostOps0_6, List.flatten_cons,
    List.flatten_nil, List.append_nil, List.cons_append, List.nil_append]
  entry_read
  pointwise

theorem entry_gq (j : Fin 512) : V m c main_v71 (ix2 0 j) = argGq m c (ix2 0 ⟨j % 64, by omega⟩) := by
  simp only [V, hostOps0, hostOps0_1, hostOps0_2, hostOps0_3, hostOps0_4, hostOps0_5, hostOps0_6, List.flatten_cons,
    List.flatten_nil, List.append_nil, List.cons_append, List.nil_append]
  entry_read
  pointwise

theorem entry_gk (j : Fin 128) : V m c main_v76 (ix2 0 j) = argGk m c (ix2 0 ⟨j % 64, by omega⟩) := by
  simp only [V, hostOps0, hostOps0_1, hostOps0_2, hostOps0_3, hostOps0_4, hostOps0_5, hostOps0_6, List.flatten_cons,
    List.flatten_nil, List.append_nil, List.cons_append, List.nil_append]
  entry_read
  pointwise

theorem entry_b (r : Fin 128) (j : Fin 512) : V m c main_v63 (ix2 r j) = argB m c (ix3 0 ⟨j / 64, by omega⟩ r) := by
  simp only [V, hostOps0, hostOps0_1, hostOps0_2, hostOps0_3, hostOps0_4, hostOps0_5, hostOps0_6, List.flatten_cons,
    List.flatten_nil, List.append_nil, List.cons_append, List.nil_append]
  entry_read
  pointwise

theorem gating_eq : V m c main_v82 = truncf .bf16 (concatenate S4x128x256 2
    [⟨S4x128x128, shapeCast S4x128x128 (Host.slice S1x4x128x128 ![0, 0, 0, 0] ![1, 2, 1, 1] (argS m c)
        slicesBy_S1x8x128x128_S1x4x128x128_0s1_0s2_0s1_0s1) shapeCasts_S1x4x128x128_S4x128x128⟩,
      ⟨S4x128x128, shapeCast S4x128x128 (Host.slice S1x4x128x128 ![0, 1, 0, 0] ![1, 2, 1, 1] (argS m c)
        slicesBy_S1x8x128x128_S1x4x128x128_0s1_1s2_0s1_0s1) shapeCasts_S1x4x128x128_S4x128x128⟩]
    concatenates_S4x128x128_S4x128x128_S4x128x256_d2) bitsLt_bf16_f32 := by
  rfl

/-- The gating's weights lie in pairs of groups side by side. -/
theorem entry_s (u : Fin 4) (r : Fin 128) (q : Fin 256) :
    V m c main_v82 (ix3 u r q) = argS m c (ix4 0 ⟨2 * u + q / 128, by omega⟩ r ⟨q % 128, by omega⟩) := by
  rw [gating_eq]
  pointwise
  split_ifs
  all_goals
    refine congrArg (argS m c) ?_
    congr 1 <;> exact Fin.ext (by dsimp only; omega)

/-- The block indices of a point's windows: the point is a block of 1024 tokens, four to a sequence; the tables' block is the
    first at the context and the place in the sequence after it elsewhere. -/
theorem blocks_at : ∀ t : Fin grid0.N,
    win0_0.index t = ![min t.val 3, 0]
    ∧ win0_1.index t = ![t.val - 4, 0]
    ∧ win0_2.index t = ![0, t.val / 4, 0, 0]
    ∧ win0_3.index t = ![0, 0]
    ∧ win0_4.index t = ![0, 0]
    ∧ win0_5.index t = ![0, 0]
    ∧ win0_6.index t = ![0, 0]
    ∧ win0_7.index t = ![if t.val < 4 then 0 else 1 + t.val % 4, 0, 0]
    ∧ win0_8.index t = ![if t.val < 4 then 0 else 1 + t.val % 4, 0, 0]
    ∧ win0_9.index t = ![0, 0, 0]
    ∧ win0_10.index t = ![0, 0]
    ∧ win0_11.index t = ![0, 0]
    ∧ win0_12.index t = ![t.val, 0]
    ∧ win0_13.index t = ![0, t.val]
    ∧ win0_14.index t = ![t.val, 0]
    ∧ win0_15.index t = ![t.val, 0]
    ∧ win0_16.index t = ![t.val, 0]
    ∧ win0_17.index t = ![0, t.val] := by
  decide +kernel

/-- The number of points. -/
theorem points (t : Fin cfg0.N) : t.val < 20 := lt_of_lt_of_eq t.isLt (by decide +kernel)

/-- The first four points take the context's block. -/
theorem first_points : ∀ t : Fin grid0.N, Scalar.cmpi .slt (BitVec.ofNat 32 (grid0.coords t 0).val) 4#32
    = if t.val < 4 then 1#1 else 0#1 := by
  decide +kernel

theorem array_eq12 (G : FVec Ideal S20480x512 .bf16)
    (h : ∀ (t : Fin cfg0.N) (p : Fin 1024) (j : Fin 512),
      out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
          (ix2 p j) = G (ix2 ⟨1024 * t + p, by have := points t; omega⟩ j)) :
    (dats m 0 c).arrAt 12 cfg0.N = G := by
  refine (dats m 0 c).arrAt_eq_of_covers 12 _ (by decide +kernel) fun t hf y => ?_
  blk_simp
  rw [after0_12]
  idx_vars y
  refine (h t y0 y1).trans ?_
  blk_ext [blocks_at t]

theorem array_eq13 (G : FVec Ideal S512x20480 .bf16)
    (h : ∀ (t : Fin cfg0.N) (p : Fin 1024) (j : Fin 512),
      out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
          (ix2 j p) = G (ix2 j ⟨1024 * t + p, by have := points t; omega⟩)) :
    (dats m 0 c).arrAt 13 cfg0.N = G := by
  refine (dats m 0 c).arrAt_eq_of_covers 13 _ (by decide +kernel) fun t hf y => ?_
  blk_simp
  rw [after0_13]
  idx_vars y
  refine (h t y1 y0).trans ?_
  blk_ext [blocks_at t]

theorem array_eq14 (G : FVec Ideal S20480x128 .f32)
    (h : ∀ (t : Fin cfg0.N) (p : Fin 1024) (j : Fin 128),
      out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
          (ix2 p j) = G (ix2 ⟨1024 * t + p, by have := points t; omega⟩ j)) :
    (dats m 0 c).arrAt 14 cfg0.N = G := by
  refine (dats m 0 c).arrAt_eq_of_covers 14 _ (by decide +kernel) fun t hf y => ?_
  blk_simp
  rw [after0_14]
  idx_vars y
  refine (h t y0 y1).trans ?_
  blk_ext [blocks_at t]

theorem array_eq15 (G : FVec Ideal S20480x128 .bf16)
    (h : ∀ (t : Fin cfg0.N) (p : Fin 1024) (j : Fin 128),
      out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
          (ix2 p j) = G (ix2 ⟨1024 * t + p, by have := points t; omega⟩ j)) :
    (dats m 0 c).arrAt 15 cfg0.N = G := by
  refine (dats m 0 c).arrAt_eq_of_covers 15 _ (by decide +kernel) fun t hf y => ?_
  blk_simp
  rw [after0_15]
  idx_vars y
  refine (h t y0 y1).trans ?_
  blk_ext [blocks_at t]

theorem array_eq16 (G : FVec Ideal S20480x128 .f32)
    (h : ∀ (t : Fin cfg0.N) (p : Fin 1024) (j : Fin 128),
      out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
          (ix2 p j) = G (ix2 ⟨1024 * t + p, by have := points t; omega⟩ j)) :
    (dats m 0 c).arrAt 16 cfg0.N = G := by
  refine (dats m 0 c).arrAt_eq_of_covers 16 _ (by decide +kernel) fun t hf y => ?_
  blk_simp
  rw [after0_16]
  idx_vars y
  refine (h t y0 y1).trans ?_
  blk_ext [blocks_at t]

theorem array_eq17 (G : FVec Ideal S128x20480 .bf16)
    (h : ∀ (t : Fin cfg0.N) (p : Fin 1024) (j : Fin 128),
      out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
          (ix2 j p) = G (ix2 j ⟨1024 * t + p, by have := points t; omega⟩)) :
    (dats m 0 c).arrAt 17 cfg0.N = G := by
  refine (dats m 0 c).arrAt_eq_of_covers 17 _ (by decide +kernel) fun t hf y => ?_
  blk_simp
  rw [after0_17]
  idx_vars y
  refine (h t y1 y0).trans ?_
  blk_ext [blocks_at t]

/-- The argument arrays' entries. -/
def args : Cert.Ev.Args where
  x p k := if h : (p : ℕ) < 4096 then argX m c (ix3 ⟨p / 256, by omega⟩ ⟨p % 256, by omega⟩ k)
    else argY m c (ix3 ⟨(p - 4096) / 4096, by omega⟩ ⟨(p - 4096) % 4096, by omega⟩ k)
  mod b k := argM m c (ix3 0 b k)
  g k := argG m c (ix2 0 k)
  w k j := argW m c (ix3 0 k j)
  gq e := argGq m c (ix2 0 e)
  gk e := argGk m c (ix2 0 e)
  ws u r q := argS m c (ix4 0 u r q)
  bs u r := argB m c (ix3 0 u r)

end Cert.Kernel4Ideal.Ev

end
-- ==== Proof.EvBlocks.lean ====
/- The blocks of a grid point of the even layer's projections, and the point's results, from the argument arrays. -/
module

public import proofs.«01_k».proof.Proof.EvArray

@[expose] public section

set_option maxRecDepth 16384

noncomputable section

namespace Cert.Kernel4Ideal.Ev

open Cert.Kernel4Ideal Cert.Kernel4Ideal.Gen Idealize.ShloMosaic Idealize.ShloMosaic.TcCoe Idealize.SL.Sem
open Cert.Odd (unit modulated)
open Cert.Ev (rotated spread spread_eq Real')

variable (m : (ℓ : Loc nD τ sig) → Buf (Elt Ideal) ℓ) (c : Dev nD)

variable (t : Fin cfg0.N) (ht : t.val < 20)

theorem place0 (n : ℕ) (hn : n < 4) (hw : win0_0.index t = ![n, 0]) (p k : Fin 1024) :
    iblk m c 0 t (ix2 p k) = V m c main_v0 (ix2 ⟨1024 * n + p, by omega⟩ k) := by
  blk_ext [iblk, hw]

theorem place1 (n : ℕ) (hn : n < 16) (hw : win0_1.index t = ![n, 0]) (p k : Fin 1024) :
    iblk m c 1 t (ix2 p k) = V m c main_v1 (ix2 ⟨1024 * n + p, by omega⟩ k) := by
  blk_ext [iblk, hw]

/-- The point's tokens. -/
theorem rows_at (p k : Fin 1024) :
    rows (grid0.coords t) (iblk m c 0 t) (iblk m c 1 t) (ix2 p k) = (args m c).x ⟨1024 * t + p, by omega⟩ k := by
  have h0 := (blocks_at t).1
  have h1 := (blocks_at t).2.1
  unfold rows
  rw [first_points t]
  unfold args
  dsimp only
  by_cases h : t.val < 4
  · rw [if_pos h, dif_pos (show 1024 * (t : ℕ) + p < 4096 by omega)]
    refine (place0 m c t (min t 3) (by omega) h0 p k).trans ((entry_x m c _ k).trans ?_)
    exact congrArg (argX m c) (congrArg₂ (fun a b => ix3 a b k) (Fin.ext (by dsimp only; omega)) (Fin.ext (by dsimp only; omega)))
  · rw [if_neg h, dif_neg (show ¬1024 * (t : ℕ) + p < 4096 by omega)]
    refine (place1 m c t (t - 4) (by omega) h1 p k).trans ((entry_y m c _ k).trans ?_)
    exact congrArg (argY m c) (congrArg₂ (fun a b => ix3 a b k) (Fin.ext (by dsimp only; omega)) (Fin.ext (by dsimp only; omega)))

theorem block_mod (p : Fin 1024) (q : Fin 6) (k : Fin 1024) :
    iblk m c 2 t (ix4 0 0 q k) = (args m c).mod ⟨(1024 * t + p) / 4096, by omega⟩ ⟨q * 1024 + k, by omega⟩ := by
  refine Eq.trans ?_ (entry_mod m c _ q k)
  blk_ext [iblk, blocks_at t]

theorem block_g (k : Fin 1024) : iblk m c 3 t (ix2 0 k) = (args m c).g k := by
  refine Eq.trans ?_ (entry_norm m c k)
  blk_ext [iblk, blocks_at t]

theorem block_w (k : Fin 1024) (j : Fin 1792) : iblk m c 4 t (ix2 k j) = (args m c).w k j := by
  refine Eq.trans ?_ (entry_w m c k j)
  blk_ext [iblk, blocks_at t]

theorem block_gq (j : Fin 512) : iblk m c 5 t (ix2 0 j) = (args m c).gq ⟨j % 64, by omega⟩ := by
  refine Eq.trans ?_ (entry_gq m c j)
  blk_ext [iblk, blocks_at t]

theorem block_gk (j : Fin 128) : iblk m c 6 t (ix2 0 j) = (args m c).gk ⟨j % 64, by omega⟩ := by
  refine Eq.trans ?_ (entry_gk m c j)
  blk_ext [iblk, blocks_at t]

theorem block_s (u : Fin 4) (r : Fin 128) (q : Fin 256) :
    iblk m c 9 t (ix3 u r q) = (args m c).ws ⟨2 * u + q / 128, by omega⟩ r ⟨q % 128, by omega⟩ := by
  refine Eq.trans ?_ (entry_s m c u r q)
  blk_ext [iblk, blocks_at t]

theorem block_b (r : Fin 128) (j : Fin 512) : iblk m c 10 t (ix2 r j) = (args m c).bs ⟨j / 64, by omega⟩ r := by
  refine Eq.trans ?_ (entry_b m c r j)
  blk_ext [iblk, blocks_at t]

theorem block_heads (k j : Fin 512) : @Eq EReal (iblk m c 11 t (ix2 k j)) (if (k : ℕ) / 64 = j / 64 then 1 else 0) := by
  refine Eq.trans ?_ (entry_heads m c k j)
  blk_ext [iblk, blocks_at t]

theorem place7 (n : ℕ) (hn : n < 5) (hw : win0_7.index t = ![n, 0, 0]) (r : Fin 1024) (j : Fin 128) :
    iblk m c 7 t (ix3 0 r j) = V m c main_v49 (ix3 ⟨n, hn⟩ r j) := by
  blk_ext [iblk, hw]

theorem block_cos (r : Fin 1024) (j : Fin 128) : iblk m c 7 t (ix3 0 r j)
    = if t.val < 4 then 1 else Ideal.cos (Cert.Ev.angle (t.val % 4 * 1024 + r) (j % 64)) := by
  have hw := (blocks_at t).2.2.2.2.2.2.2.1
  by_cases h : t.val < 4
  · rw [if_pos h] at hw
    rw [if_pos h, ← Ideal.ofBits_one_f32, ← entry_cos0 m c r j]
    blk_ext [iblk, hw]
  · obtain ⟨u, hu⟩ : ∃ u : Fin 4, t.val % 4 = u := ⟨⟨t.val % 4, by omega⟩, rfl⟩
    rw [if_neg h, hu] at hw
    rw [if_neg h, hu, ← entry_cos m c u r j]
    exact place7 m c t _ _ hw r j

theorem place8 (n : ℕ) (hn : n < 5) (hw : win0_8.index t = ![n, 0, 0]) (r : Fin 1024) (j : Fin 128) :
    iblk m c 8 t (ix3 0 r j) = V m c main_v51 (ix3 ⟨n, hn⟩ r j) := by
  blk_ext [iblk, hw]

theorem block_sin (r : Fin 1024) (j : Fin 128) : iblk m c 8 t (ix3 0 r j)
    = if t.val < 4 then 0 else if (j : ℕ) % 32 < 16 then -Ideal.sin (Cert.Ev.angle (t.val % 4 * 1024 + r) (j % 64))
      else Ideal.sin (Cert.Ev.angle (t.val % 4 * 1024 + r) (j % 64)) := by
  have hw := (blocks_at t).2.2.2.2.2.2.2.2.1
  by_cases h : t.val < 4
  · rw [if_pos h] at hw
    rw [if_pos h, ← Ideal.ofBits_zero_f32, ← entry_sin0 m c r j]
    blk_ext [iblk, hw]
  · obtain ⟨u, hu⟩ : ∃ u : Fin 4, t.val % 4 = u := ⟨⟨t.val % 4, by omega⟩, rfl⟩
    rw [if_neg h, hu] at hw
    rw [if_neg h, hu, ← entry_sin m c u r j]
    exact place8 m c t _ _ hw r j

theorem proj_at (p : Fin 1024) (j : Fin 1792) :
    proj (grid0.coords t) (iblk m c 0 t) (iblk m c 1 t) (iblk m c 2 t) (iblk m c 3 t) (iblk m c 4 t) p j = Cert.Ev.proj (args m c) ⟨1024 * t + p, by omega⟩ j := by
  have h0 : ∀ k : Fin 1024, iblk m c 2 t (ix4 0 0 0 k) = (args m c).mod ⟨(1024 * t + p) / 4096, by omega⟩ ⟨k, by omega⟩ :=
    fun k => (block_mod m c t ht p 0 k).trans (congrArg _ (Fin.ext ((congrArg (· + (k : ℕ)) (Nat.zero_mul 1024)).trans (Nat.zero_add _))))
  have h1 : ∀ k : Fin 1024, iblk m c 2 t (ix4 0 0 1 k)
      = (args m c).mod ⟨(1024 * t + p) / 4096, by omega⟩ ⟨1024 + k, by omega⟩ :=
    fun k => (block_mod m c t ht p 1 k).trans (congrArg _ (Fin.ext (congrArg (· + (k : ℕ)) (Nat.one_mul 1024))))
  unfold proj Cert.Ev.proj
  simp only [h0, h1, rows_at m c t ht, block_g, block_w]

/-- A weight of the gating. -/
abbrev gating (u : Fin 4) (r : Fin 128) (q : Fin 256) : EReal := iblk m c 9 t (ix3 u r q)

theorem gated_at (s : Fin 8) (r : Fin 128) (j : Fin 512) :
    proj (grid0.coords t) (iblk m c 0 t) (iblk m c 1 t) (iblk m c 2 t) (iblk m c 3 t) (iblk m c 4 t) ⟨128 * s + r, by omega⟩ ⟨j, by omega⟩
        * (∑ q : Fin 128, gating m c t ⟨j / 128, by omega⟩ r ⟨j % 128 / 64 * 128 + q, by omega⟩
            * proj (grid0.coords t) (iblk m c 0 t) (iblk m c 1 t) (iblk m c 2 t) (iblk m c 3 t) (iblk m c 4 t) ⟨128 * s + q, by omega⟩ ⟨512 + j, by omega⟩
          + iblk m c 10 t (ix2 r j))
      = Cert.Ev.resA (args m c) ⟨1024 * t + (128 * s + r), by omega⟩ j := by
  have hr : ∀ h, (⟨(1024 * t + (128 * s + r)) % 128, h⟩ : Fin 128) = r := fun h => Fin.ext (by dsimp only; omega)
  have hq : ∀ (q : Fin 128) h, (⟨(1024 * t + (128 * s + r)) / 128 * 128 + q, h⟩ : Fin 20480)
      = ⟨1024 * t + (128 * s + q), by omega⟩ := fun q h => Fin.ext (by dsimp only; omega)
  have hs : ∀ q : Fin 128, gating m c t ⟨j / 128, by omega⟩ r ⟨j % 128 / 64 * 128 + q, by omega⟩
      = (args m c).ws ⟨j / 64, by omega⟩ r q := fun q => (block_s m c t _ _ _).trans
    (congrArg₂ (fun a b => (args m c).ws a r b) (Fin.ext (by dsimp only; omega)) (Fin.ext (by dsimp only; omega)))
  unfold Cert.Ev.resA
  simp only [proj_at m c t ht, hr, hq, hs, block_b]

variable (hR : ∀ p j, Real' (Cert.Ev.proj (args m c) p j))

include hR in
theorem query_at (p : Fin 1024) (j : ℕ) (hj : j < 512) (h : Fin 8) (e : Fin 64) (he : j = h * 64 + e) :
    query (grid0.coords t) (iblk m c 0 t) (iblk m c 1 t) (iblk m c 2 t) (iblk m c 3 t) (iblk m c 4 t) (iblk m c 5 t) (iblk m c 11 t) p ⟨j, hj⟩
      = Cert.Ev.query (args m c) ⟨1024 * t + p, by omega⟩ h e := by
  have e1 : ∀ h', (⟨j % 64, h'⟩ : Fin 64) = e := fun h' => Fin.ext (by dsimp only; omega)
  unfold query Cert.Ev.query
  simp only [proj_at m c t ht, block_gq, e1]
  rw [spread_eq _ (fun k => hR _ _) _ (fun k j => block_heads m c t k j) _ h (by omega) e he]

include hR in
theorem key_at (p : Fin 1024) (j : ℕ) (hj : j < 128) (h : Fin 2) (e : Fin 64) (he : j = h * 64 + e) :
    key (grid0.coords t) (iblk m c 0 t) (iblk m c 1 t) (iblk m c 2 t) (iblk m c 3 t) (iblk m c 4 t) (iblk m c 6 t) (iblk m c 11 t) p ⟨j, hj⟩
      = Cert.Ev.key (args m c) ⟨1024 * t + p, by omega⟩ h e := by
  have e1 : ∀ h', (⟨j % 64, h'⟩ : Fin 64) = e := fun h' => Fin.ext (by dsimp only; omega)
  unfold key Cert.Ev.key
  simp only [proj_at m c t ht, block_gk, e1]
  have hb : ∀ k j : Fin 128, @Eq EReal (iblk m c 11 t (ix2 ⟨k, by omega⟩ ⟨j, by omega⟩)) (if (k : ℕ) / 64 = j / 64 then 1 else 0) :=
    fun k j => block_heads m c t ⟨k, by omega⟩ ⟨j, by omega⟩
  rw [spread_eq _ (fun k => hR _ _) _ hb _ h (by omega) e he]

/-- A lane and its partner, times the tables' entries, are the lane after the rotation. -/
theorem turned (p : Fin 1024) (j : Fin 128) (z : Fin 64 → EReal) (e : Fin 64) (he : (j : ℕ) % 64 = e) :
    z e * iblk m c 7 t (ix3 0 p j)
      + (if (j : ℕ) % 32 < 16 then z ⟨(e + 16) % 64, by omega⟩ else z ⟨(e + 48) % 64, by omega⟩) * iblk m c 8 t (ix3 0 p j)
      = rotated ⟨1024 * t + p, by omega⟩ z e := by
  rw [block_cos, block_sin, rotated, he]
  dsimp only
  by_cases h : t.val < 4
  · rw [if_pos h, if_pos h, if_pos (show 1024 * (t : ℕ) + p < 4096 by omega), mul_one, mul_zero, add_zero]
  · rw [if_neg h, if_neg h, if_neg (show ¬1024 * (t : ℕ) + p < 4096 by omega),
      show (1024 * (t : ℕ) + p) % 4096 = t % 4 * 1024 + p by omega]
    by_cases h' : (j : ℕ) % 32 < 16
    · rw [if_pos h', if_pos h', if_pos (show (e : ℕ) % 32 < 16 by omega), mul_neg, ← sub_eq_add_neg]
    · rw [if_neg h', if_neg h', if_neg (show ¬(e : ℕ) % 32 < 16 by omega)]

include hR in
theorem keyR_at (p : Fin 1024) (j : Fin 128) :
    keyR (grid0.coords t) (iblk m c 0 t) (iblk m c 1 t) (iblk m c 2 t) (iblk m c 3 t) (iblk m c 4 t) (iblk m c 6 t) (iblk m c 7 t) (iblk m c 8 t) (iblk m c 11 t) p j
      = Cert.Ev.resK (args m c) ⟨1024 * t + p, by omega⟩ j := by
  unfold keyR Cert.Ev.resK
  rw [← turned m c t ht p j _ ⟨j % 64, by omega⟩ rfl,
    key_at m c t ht hR p j j.isLt ⟨j / 64, by omega⟩ ⟨j % 64, by omega⟩ (by dsimp only; omega)]
  by_cases h : (j : ℕ) % 32 < 16
  · rw [if_pos h, if_pos h,
      key_at m c t ht hR p _ (by omega) ⟨j / 64, by omega⟩ ⟨(j % 64 + 16) % 64, by omega⟩ (by dsimp only; omega)]
  · rw [if_neg h, if_neg h,
      key_at m c t ht hR p _ (by omega) ⟨j / 64, by omega⟩ ⟨(j % 64 + 48) % 64, by omega⟩ (by dsimp only; omega)]

include hR in
theorem queryR_at (p : Fin 1024) (j : Fin 512) :
    (query (grid0.coords t) (iblk m c 0 t) (iblk m c 1 t) (iblk m c 2 t) (iblk m c 3 t) (iblk m c 4 t) (iblk m c 5 t) (iblk m c 11 t) p j * iblk m c 7 t (ix3 0 p ⟨j % 128, by omega⟩)
        + (if (j : ℕ) % 32 < 16 then query (grid0.coords t) (iblk m c 0 t) (iblk m c 1 t) (iblk m c 2 t) (iblk m c 3 t) (iblk m c 4 t) (iblk m c 5 t) (iblk m c 11 t) p ⟨(j + 16) % 512, by omega⟩
            else query (grid0.coords t) (iblk m c 0 t) (iblk m c 1 t) (iblk m c 2 t) (iblk m c 3 t) (iblk m c 4 t) (iblk m c 5 t) (iblk m c 11 t) p ⟨(j + 496) % 512, by omega⟩) * iblk m c 8 t (ix3 0 p ⟨j % 128, by omega⟩))
      * Scalar.ofBits (F := Ideal) .f32 0x3E38AA3B#32
      = Cert.Ev.resQ (args m c) j ⟨1024 * t + p, by omega⟩ := by
  unfold Cert.Ev.resQ
  refine congrArg (· * _) ?_
  rw [← turned m c t ht p ⟨j % 128, by omega⟩ _ ⟨j % 64, by omega⟩ (by dsimp only; omega),
    query_at m c t ht hR p j j.isLt ⟨j / 64, by omega⟩ ⟨j % 64, by omega⟩ (by dsimp only; omega)]
  have h32 : (j : ℕ) % 128 % 32 = j % 32 := by omega
  dsimp only
  rw [h32]
  by_cases h : (j : ℕ) % 32 < 16
  · rw [if_pos h, if_pos h,
      query_at m c t ht hR p _ (by omega) ⟨j / 64, by omega⟩ ⟨(j % 64 + 16) % 64, by omega⟩ (by dsimp only; omega)]
  · rw [if_neg h, if_neg h,
      query_at m c t ht hR p _ (by omega) ⟨j / 64, by omega⟩ ⟨(j % 64 + 48) % 64, by omega⟩ (by dsimp only; omega)]

end Cert.Kernel4Ideal.Ev

end
-- ==== Proof.EvRef.lean ====
/- The fourth reference's results at an index.

   The composed terms of the reference's host operations are cut at its own steps: the product with the input weights, the
   heads' norms, the angles, the rotation, the gating. Each is read at an index. -/
module

public import proofs.«01_k».proof.Proof.EvSpec
public import proofs.«01_k».proof.Proof.Gen.Reference4Ideal.Run

@[expose] public section

set_option maxRecDepth 16384

noncomputable section

namespace Cert.Reference4Ideal.Ev

open Cert.Reference4Ideal Cert.Reference4Ideal.Gen Cert.Reference4Ideal.Value Idealize.ShloMosaic Idealize.ShloMosaic.TcCoe
open Idealize.SL.Sem
open Cert.Odd (unit modulated num)
open Cert.Ev (freq angle rotated rotated_lanes Args)

/-- The tokens by sequence. -/
def seqs (x : FVec Ideal S16x256x1024 .f32) (y : FVec Ideal S4x4096x1024 .f32) : FVec Ideal S5x4096x1024 .f32 :=
  concatenate S5x4096x1024 0 [⟨S1x4096x1024, shapeCast S1x4096x1024 x shapeCasts_S16x256x1024_S1x4096x1024⟩, ⟨S4x4096x1024, y⟩]
    concatenates_S1x4096x1024_S4x4096x1024_S5x4096x1024_d0

theorem seqs_apply (x : FVec Ideal S16x256x1024 .f32) (y : FVec Ideal S4x4096x1024 .f32) (p : Fin 20480) (k : Fin 1024) :
    seqs x y (ix3 ⟨p / 4096, by omega⟩ ⟨p % 4096, by omega⟩ k)
      = if h : (p : ℕ) < 4096 then x (ix3 ⟨p / 256, by omega⟩ ⟨p % 256, by omega⟩ k)
        else y (ix3 ⟨(p - 4096) / 4096, by omega⟩ ⟨(p - 4096) % 4096, by omega⟩ k) := by
  pointwise [seqs]
  have ex : ∀ (a a' b b' : ℕ) (ha : a < 16) (ha' : a' < 16) (hb : b < 256) (hb' : b' < 256), a = a' → b = b' →
      x (ix3 ⟨a, ha⟩ ⟨b, hb⟩ k) = x (ix3 ⟨a', ha'⟩ ⟨b', hb'⟩ k) := fun a a' b b' ha ha' hb hb' h h' => by
    subst h
    subst h'
    rfl
  have ey : ∀ (a a' b b' : ℕ) (ha : a < 4) (ha' : a' < 4) (hb : b < 4096) (hb' : b' < 4096), a = a' → b = b' →
      y (ix3 ⟨a, ha⟩ ⟨b, hb⟩ k) = y (ix3 ⟨a', ha'⟩ ⟨b', hb'⟩ k) := fun a a' b b' ha ha' hb hb' h h' => by
    subst h
    subst h'
    rfl
  by_cases h : (p : ℕ) < 4096
  · rw [dif_pos (show (p : ℕ) / 4096 < 1 by omega), dif_pos h]
    exact ex _ _ _ _ _ _ _ _ (by omega) (by omega)
  · rw [dif_neg (show ¬(p : ℕ) / 4096 < 1 by omega), dif_neg h]
    exact ey _ _ _ _ _ _ _ _ (by omega) (by omega)

/-- The modulation by sequence. -/
def mods (m : FVec Ideal S2x8x6144 .f32) : FVec Ideal S5x1x6144 .f32 :=
  broadcastInDim S5x1x6144 ![0, 2] bcast_S5x6144_S5x1x6144_0_2 (shapeCast _ (extractStridedSlice S1x5x6144 ![0, 0, 0] m
    slices_S2x8x6144_S1x5x6144_0_0_0) shapeCasts_S1x5x6144_S5x6144)

/-- The product of the modulated norm and the input weights. -/
def prod (x : FVec Ideal S5x4096x1024 .f32) (m : FVec Ideal S2x8x6144 .f32) (g : FVec Ideal S2x1024 .f32)
    (w : FVec Ideal S1x1024x1792 .f32) : FVec Ideal S5x4096x1792 .f32 :=
  Host.dotGeneral dot_S5x4096x1024_S1024x1792_S5x4096x1792_2_0_01_1_n_n none (addf (mulf (mulf (mulf x (broadcastInDim
    S5x4096x1024 ![0, 1, 2] bcast_S5x4096x1_S5x4096x1024_0_1_2 (Host.rsqrt (addf (Host.divf (broadcastInDim S5x4096x1 ![0, 1]
    bcast_S5x4096_S5x4096x1_0_1 (Host.reduceAdd (mulf x x) (constant S_ .f32 0x00000000#32)
    reducesTo_S5x4096x1024_S5x4096_d2 h_S_)) (broadcastInDim S5x4096x1 ![] bcast_S_S5x4096x1 (constant S_ .f32
    0x44800000#32))) (broadcastInDim S5x4096x1 ![] bcast_S_S5x4096x1 (constant S_ .f32 0x358637BD#32)))))) (broadcastInDim
    S5x4096x1024 ![0, 1, 2] bcast_S1x1x1024_S5x4096x1024_0_1_2 (broadcastInDim S1x1x1024 ![2] bcast_S1024_S1x1x1024_2
    (shapeCast _ (extractStridedSlice S1x1024 ![0, 0] g slices_S2x1024_S1x1024_0_0) shapeCasts_S1x1024_S1024))))
    (broadcastInDim S5x4096x1024 ![0, 1, 2] bcast_S5x1x1024_S5x4096x1024_0_1_2 (addf (broadcastInDim S5x1x1024 ![]
    bcast_S_S5x1x1024 (constant S_ .f32 0x3F800000#32)) (extractStridedSlice S5x1x1024 ![0, 0, 1024] (mods m)
    slices_S5x1x6144_S5x1x1024_0_0_1024)))) (broadcastInDim S5x4096x1024 ![0, 1, 2] bcast_S5x1x1024_S5x4096x1024_0_1_2
    (extractStridedSlice S5x1x1024 ![0, 0, 0] (mods m) slices_S5x1x6144_S5x1x1024_0_0_0))) (shapeCast _ w
    shapeCasts_S1x1024x1792_S1024x1792)

theorem prod_apply (x : FVec Ideal S5x4096x1024 .f32) (m : FVec Ideal S2x8x6144 .f32) (g : FVec Ideal S2x1024 .f32)
    (w : FVec Ideal S1x1024x1792 .f32) (b : Fin 5) (i : Fin 4096) (j : Fin 1792) :
    prod x m g w (ix3 b i j) = ∑ k : Fin 1024, modulated (fun k => x (ix3 b i k)) (fun k => g (ix2 0 k))
      (fun k => m (ix3 0 ⟨b, by omega⟩ ⟨1024 + k, by omega⟩)) (fun k => m (ix3 0 ⟨b, by omega⟩ ⟨k, by omega⟩)) k
        * w (ix3 0 k j) := by
  pointwise [prod, mods, modulated, unit]

/-- The normalised queries of the product `y`. -/
def normQ (y : FVec Ideal S5x4096x1792 .f32) (g : FVec Ideal S1x64 .f32) : FVec Ideal S5x4096x8x64 .f32 :=
  have z : FVec Ideal S5x4096x8x64 .f32 := shapeCast _ (extractStridedSlice S5x4096x512 ![0, 0, 1024] y
    slices_S5x4096x1792_S5x4096x512_0_0_1024) shapeCasts_S5x4096x512_S5x4096x8x64
  mulf (mulf z (broadcastInDim S5x4096x8x64 ![0, 1, 2, 3] bcast_S5x4096x8x1_S5x4096x8x64_0_1_2_3 (Host.rsqrt (addf (Host.divf
    (broadcastInDim S5x4096x8x1 ![0, 1, 2] bcast_S5x4096x8_S5x4096x8x1_0_1_2 (Host.reduceAdd (mulf z z) (constant S_ .f32
    0x00000000#32) reducesTo_S5x4096x8x64_S5x4096x8_d3 h_S_)) (broadcastInDim S5x4096x8x1 ![] bcast_S_S5x4096x8x1 (constant S_
    .f32 0x42800000#32))) (broadcastInDim S5x4096x8x1 ![] bcast_S_S5x4096x8x1 (constant S_ .f32 0x358637BD#32))))))
    (broadcastInDim S5x4096x8x64 ![0, 1, 2, 3] bcast_S1x1x1x64_S5x4096x8x64_0_1_2_3 (broadcastInDim S1x1x1x64 ![3]
    bcast_S64_S1x1x1x64_3 (shapeCast _ g shapeCasts_S1x64_S64)))

theorem normQ_apply (y : FVec Ideal S5x4096x1792 .f32) (g : FVec Ideal S1x64 .f32) (b : Fin 5) (i : Fin 4096) (h : Fin 8)
    (e : Fin 64) :
    normQ y g (ix4 b i h e) = unit (Ideal.ofBits .f32 0x42800000#32) (fun e : Fin 64 => y (ix3 b i ⟨1024 + (h * 64 + e), by omega⟩)) e
      * g (ix2 0 e) := by
  pointwise [normQ, unit]

/-- The normalised keys of the product `y`. -/
def normK (y : FVec Ideal S5x4096x1792 .f32) (g : FVec Ideal S1x64 .f32) : FVec Ideal S5x4096x2x64 .f32 :=
  have z : FVec Ideal S5x4096x2x64 .f32 := shapeCast _ (extractStridedSlice S5x4096x128 ![0, 0, 1536] y
    slices_S5x4096x1792_S5x4096x128_0_0_1536) shapeCasts_S5x4096x128_S5x4096x2x64
  mulf (mulf z (broadcastInDim S5x4096x2x64 ![0, 1, 2, 3] bcast_S5x4096x2x1_S5x4096x2x64_0_1_2_3 (Host.rsqrt (addf (Host.divf
    (broadcastInDim S5x4096x2x1 ![0, 1, 2] bcast_S5x4096x2_S5x4096x2x1_0_1_2 (Host.reduceAdd (mulf z z) (constant S_ .f32
    0x00000000#32) reducesTo_S5x4096x2x64_S5x4096x2_d3 h_S_)) (broadcastInDim S5x4096x2x1 ![] bcast_S_S5x4096x2x1 (constant S_
    .f32 0x42800000#32))) (broadcastInDim S5x4096x2x1 ![] bcast_S_S5x4096x2x1 (constant S_ .f32 0x358637BD#32))))))
    (broadcastInDim S5x4096x2x64 ![0, 1, 2, 3] bcast_S1x1x1x64_S5x4096x2x64_0_1_2_3 (broadcastInDim S1x1x1x64 ![3]
    bcast_S64_S1x1x1x64_3 (shapeCast _ g shapeCasts_S1x64_S64)))

theorem normK_apply (y : FVec Ideal S5x4096x1792 .f32) (g : FVec Ideal S1x64 .f32) (b : Fin 5) (i : Fin 4096) (h : Fin 2)
    (e : Fin 64) :
    normK y g (ix4 b i h e) = unit (Ideal.ofBits .f32 0x42800000#32) (fun e : Fin 64 => y (ix3 b i ⟨1536 + (h * 64 + e), by omega⟩)) e
      * g (ix2 0 e) := by
  pointwise [normK, unit]

/-- The frequencies. -/
def freqs : FVec Ideal S16 .f32 :=
  Host.powf (broadcastInDim S16 ![] bcast_S_S16 (constant S_ .f32 0x461C4000#32)) (Host.divf (Host.negf (addf (broadcastInDim
    S16 ![] bcast_S_S16 (constant S_ .f32 0x00000000#32)) (mulf (broadcastInDim S16 ![] bcast_S_S16 (constant S_ .f32
    0x40000000#32)) (sitofp .f32 (iotaInDim S16 32 0))))) (broadcastInDim S16 ![] bcast_S_S16 (constant S_ .f32 0x42000000#32)))

theorem freqs_apply (l : Fin 16) : freqs (ix1 l) = freq l := by
  pointwise [freqs, freq]

/-- The row's angles. -/
def rows : FVec Ideal S4096x16 .f32 :=
  mulf (broadcastInDim S4096x16 ![0, 1] bcast_S4096x1_S4096x16_0_1 (broadcastInDim S4096x1 ![0] bcast_S4096_S4096x1_0
    (shapeCast _ (broadcastInDim S64x64 ![0] bcast_S64_S64x64_0 (sitofp .f32 (iotaInDim S64 32 0)))
    shapeCasts_S64x64_S4096))) (broadcastInDim S4096x16 ![0, 1] bcast_S1x16_S4096x16_0_1 (broadcastInDim S1x16 ![1]
    bcast_S16_S1x16_1 freqs))

/-- The column's angles. -/
def cols : FVec Ideal S4096x16 .f32 :=
  mulf (broadcastInDim S4096x16 ![0, 1] bcast_S4096x1_S4096x16_0_1 (broadcastInDim S4096x1 ![0] bcast_S4096_S4096x1_0
    (shapeCast _ (broadcastInDim S64x64 ![0, 1] bcast_S1x64_S64x64_0_1 (shapeCast _ (sitofp .f32 (iotaInDim S64 32 0))
    shapeCasts_S64_S1x64)) shapeCasts_S64x64_S4096))) (broadcastInDim S4096x16 ![0, 1] bcast_S1x16_S4096x16_0_1 (broadcastInDim
    S1x16 ![1] bcast_S16_S1x16_1 freqs))

theorem rows_apply (i : Fin 4096) (l : Fin 16) : rows (ix2 i l) = num (i / 64) * freq l := by
  pointwise [rows, freqs_apply]

theorem cols_apply (i : Fin 4096) (l : Fin 16) : cols (ix2 i l) = num (i % 64) * freq l := by
  pointwise [cols, freqs_apply]

/-- The rotation of an axis's lanes of the queries by the angles `a`. -/
def axisQ (z : FVec Ideal S4x4096x8x32 .f32) (a : FVec Ideal S4096x16 .f32) : FVec Ideal S4x4096x8x32 .f32 :=
  have co := broadcastInDim S4x4096x8x16 ![0, 1, 2, 3] bcast_S1x4096x1x16_S4x4096x8x16_0_1_2_3 (broadcastInDim S1x4096x1x16 ![1, 2, 3]
    bcast_S4096x1x16_S1x4096x1x16_1_2_3 (Host.cos (broadcastInDim S4096x1x16 ![0, 2] bcast_S4096x16_S4096x1x16_0_2 a)))
  have si := broadcastInDim S4x4096x8x16 ![0, 1, 2, 3] bcast_S1x4096x1x16_S4x4096x8x16_0_1_2_3 (broadcastInDim S1x4096x1x16 ![1, 2, 3]
    bcast_S4096x1x16_S1x4096x1x16_1_2_3 (Host.sin (broadcastInDim S4096x1x16 ![0, 2] bcast_S4096x16_S4096x1x16_0_2 a)))
  have u := extractStridedSlice S4x4096x8x16 ![0, 0, 0, 0] z slices_S4x4096x8x32_S4x4096x8x16_0_0_0_0
  have v := extractStridedSlice S4x4096x8x16 ![0, 0, 0, 16] z slices_S4x4096x8x32_S4x4096x8x16_0_0_0_16
  concatenate S4x4096x8x32 3 [⟨S4x4096x8x16, subf (mulf u co) (mulf v si)⟩, ⟨S4x4096x8x16, addf (mulf v co) (mulf u si)⟩]
    concatenates_S4x4096x8x16_S4x4096x8x16_S4x4096x8x32_d3

theorem axisQ_apply (z : FVec Ideal S4x4096x8x32 .f32) (a : FVec Ideal S4096x16 .f32) (b : Fin 4) (i : Fin 4096) (h : Fin 8)
    (e : Fin 32) :
    axisQ z a (ix4 b i h e) = if he : (e : ℕ) < 16 then
        z (ix4 b i h ⟨e, by omega⟩) * Ideal.cos (a (ix2 i ⟨e, he⟩)) - z (ix4 b i h ⟨16 + e, by omega⟩) * Ideal.sin (a (ix2 i ⟨e, he⟩))
      else z (ix4 b i h ⟨16 + (e - 16), by omega⟩) * Ideal.cos (a (ix2 i ⟨e - 16, by omega⟩))
        + z (ix4 b i h ⟨e - 16, by omega⟩) * Ideal.sin (a (ix2 i ⟨e - 16, by omega⟩)) := by
  pointwise [axisQ]

/-- The queries after the rotation, the context's left as they are. -/
def turnQ (z : FVec Ideal S5x4096x8x64 .f32) : FVec Ideal S5x4096x8x64 .f32 :=
  have y := extractStridedSlice S4x4096x8x64 ![1, 0, 0, 0] z slices_S5x4096x8x64_S4x4096x8x64_1_0_0_0
  concatenate S5x4096x8x64 0
    [⟨S1x4096x8x64, extractStridedSlice S1x4096x8x64 ![0, 0, 0, 0] z slices_S5x4096x8x64_S1x4096x8x64_0_0_0_0⟩,
      ⟨S4x4096x8x64, concatenate S4x4096x8x64 3
        [⟨S4x4096x8x32, axisQ (extractStridedSlice S4x4096x8x32 ![0, 0, 0, 0] y slices_S4x4096x8x64_S4x4096x8x32_0_0_0_0) rows⟩,
          ⟨S4x4096x8x32, axisQ (extractStridedSlice S4x4096x8x32 ![0, 0, 0, 32] y slices_S4x4096x8x64_S4x4096x8x32_0_0_0_32) cols⟩]
        concatenates_S4x4096x8x32_S4x4096x8x32_S4x4096x8x64_d3⟩]
    concatenates_S1x4096x8x64_S4x4096x8x64_S5x4096x8x64_d0

theorem turnQ_apply (z : FVec Ideal S5x4096x8x64 .f32) (b : Fin 5) (i : Fin 4096) (h : Fin 8) (e : Fin 64) :
    turnQ z (ix4 b i h e) = rotated ⟨b * 4096 + i, by omega⟩ (fun e => z (ix4 b i h e)) e := by
  pointwise [turnQ, axisQ_apply, rows_apply, cols_apply]
  by_cases hb : (b : ℕ) < 1
  · rw [dif_pos hb, rotated, if_pos (by dsimp only; omega)]
  · have e1 : ∀ h, (⟨1 + (b - 1), h⟩ : Fin 5) = b := fun h => Fin.ext (by dsimp only; omega)
    rw [dif_neg hb, rotated_lanes _ (by dsimp only; omega) i (by dsimp only; omega)]
    simp only [e1]

/-- The rotation of an axis's lanes of the keys by the angles `a`. -/
def axisK (z : FVec Ideal S4x4096x2x32 .f32) (a : FVec Ideal S4096x16 .f32) : FVec Ideal S4x4096x2x32 .f32 :=
  have co := broadcastInDim S4x4096x2x16 ![0, 1, 2, 3] bcast_S1x4096x1x16_S4x4096x2x16_0_1_2_3 (broadcastInDim S1x4096x1x16 ![1, 2, 3]
    bcast_S4096x1x16_S1x4096x1x16_1_2_3 (Host.cos (broadcastInDim S4096x1x16 ![0, 2] bcast_S4096x16_S4096x1x16_0_2 a)))
  have si := broadcastInDim S4x4096x2x16 ![0, 1, 2, 3] bcast_S1x4096x1x16_S4x4096x2x16_0_1_2_3 (broadcastInDim S1x4096x1x16 ![1, 2, 3]
    bcast_S4096x1x16_S1x4096x1x16_1_2_3 (Host.sin (broadcastInDim S4096x1x16 ![0, 2] bcast_S4096x16_S4096x1x16_0_2 a)))
  have u := extractStridedSlice S4x4096x2x16 ![0, 0, 0, 0] z slices_S4x4096x2x32_S4x4096x2x16_0_0_0_0
  have v := extractStridedSlice S4x4096x2x16 ![0, 0, 0, 16] z slices_S4x4096x2x32_S4x4096x2x16_0_0_0_16
  concatenate S4x4096x2x32 3 [⟨S4x4096x2x16, subf (mulf u co) (mulf v si)⟩, ⟨S4x4096x2x16, addf (mulf v co) (mulf u si)⟩]
    concatenates_S4x4096x2x16_S4x4096x2x16_S4x4096x2x32_d3

theorem axisK_apply (z : FVec Ideal S4x4096x2x32 .f32) (a : FVec Ideal S4096x16 .f32) (b : Fin 4) (i : Fin 4096) (h : Fin 2)
    (e : Fin 32) :
    axisK z a (ix4 b i h e) = if he : (e : ℕ) < 16 then
        z (ix4 b i h ⟨e, by omega⟩) * Ideal.cos (a (ix2 i ⟨e, he⟩)) - z (ix4 b i h ⟨16 + e, by omega⟩) * Ideal.sin (a (ix2 i ⟨e, he⟩))
      else z (ix4 b i h ⟨16 + (e - 16), by omega⟩) * Ideal.cos (a (ix2 i ⟨e - 16, by omega⟩))
        + z (ix4 b i h ⟨e - 16, by omega⟩) * Ideal.sin (a (ix2 i ⟨e - 16, by omega⟩)) := by
  pointwise [axisK]

/-- The keys after the rotation, the context's left as they are. -/
def turnK (z : FVec Ideal S5x4096x2x64 .f32) : FVec Ideal S5x4096x2x64 .f32 :=
  have y := extractStridedSlice S4x4096x2x64 ![1, 0, 0, 0] z slices_S5x4096x2x64_S4x4096x2x64_1_0_0_0
  concatenate S5x4096x2x64 0
    [⟨S1x4096x2x64, extractStridedSlice S1x4096x2x64 ![0, 0, 0, 0] z slices_S5x4096x2x64_S1x4096x2x64_0_0_0_0⟩,
      ⟨S4x4096x2x64, concatenate S4x4096x2x64 3
        [⟨S4x4096x2x32, axisK (extractStridedSlice S4x4096x2x32 ![0, 0, 0, 0] y slices_S4x4096x2x64_S4x4096x2x32_0_0_0_0) rows⟩,
          ⟨S4x4096x2x32, axisK (extractStridedSlice S4x4096x2x32 ![0, 0, 0, 32] y slices_S4x4096x2x64_S4x4096x2x32_0_0_0_32) cols⟩]
        concatenates_S4x4096x2x32_S4x4096x2x32_S4x4096x2x64_d3⟩]
    concatenates_S1x4096x2x64_S4x4096x2x64_S5x4096x2x64_d0

theorem turnK_apply (z : FVec Ideal S5x4096x2x64 .f32) (b : Fin 5) (i : Fin 4096) (h : Fin 2) (e : Fin 64) :
    turnK z (ix4 b i h e) = rotated ⟨b * 4096 + i, by omega⟩ (fun e => z (ix4 b i h e)) e := by
  pointwise [turnK, axisK_apply, rows_apply, cols_apply]
  by_cases hb : (b : ℕ) < 1
  · rw [dif_pos hb, rotated, if_pos (by dsimp only; omega)]
  · have e1 : ∀ h, (⟨1 + (b - 1), h⟩ : Fin 5) = b := fun h => Fin.ext (by dsimp only; omega)
    rw [dif_neg hb, rotated_lanes _ (by dsimp only; omega) i (by dsimp only; omega)]
    simp only [e1]

/-- The gated features of the product `y`. -/
def gated (y : FVec Ideal S5x4096x1792 .f32) (ws : FVec Ideal S1x8x128x128 .f32) (bs : FVec Ideal S1x8x128 .f32) :
    FVec Ideal S5x4096x512 .f32 :=
  mulf (extractStridedSlice S5x4096x512 ![0, 0, 0] y slices_S5x4096x1792_S5x4096x512_0_0_0) (shapeCast _ (addf (transpose
    S5x32x128x8x64 [1, 2, 4, 0, 3] (Host.dotGeneral dot_S5x32x128x8x64_S8x128x128_S8x5x32x64x128_2_2_014_1_3_0 none (shapeCast _
    (extractStridedSlice S5x4096x512 ![0, 0, 512] y slices_S5x4096x1792_S5x4096x512_0_0_512)
    shapeCasts_S5x4096x512_S5x32x128x8x64) (shapeCast _ ws shapeCasts_S1x8x128x128_S8x128x128))
    transposes_S8x5x32x64x128_S5x32x128x8x64_1_2_4_0_3) (broadcastInDim S5x32x128x8x64 ![0, 1, 2, 3, 4]
    bcast_S1x1x128x8x1_S5x32x128x8x64_0_1_2_3_4 (broadcastInDim S1x1x128x8x1 ![2, 3] bcast_S128x8_S1x1x128x8x1_2_3 (transpose
    S128x8 [1, 0] (shapeCast _ bs shapeCasts_S1x8x128_S8x128) transposes_S8x128_S128x8_1_0)))) shapeCasts_S5x32x128x8x64_S5x4096x512)

theorem gated_apply (y : FVec Ideal S5x4096x1792 .f32) (ws : FVec Ideal S1x8x128x128 .f32) (bs : FVec Ideal S1x8x128 .f32)
    (b : Fin 5) (i : Fin 4096) (j : Fin 512) :
    gated y ws bs (ix3 b i j) = y (ix3 b i ⟨j, by omega⟩)
      * (∑ q : Fin 128, ws (ix4 0 ⟨j / 64, by omega⟩ ⟨i % 128, by omega⟩ q)
          * y (ix3 b ⟨i / 128 * 128 + q, by omega⟩ ⟨512 + j, by omega⟩)
        + bs (ix3 0 ⟨j / 64, by omega⟩ ⟨i % 128, by omega⟩)) := by
  pointwise [gated]
  exact congrArg (_ * ·) (congrArg (· + _) (Finset.sum_congr rfl fun q _ => mul_comm _ _))

variable (x : FVec Ideal S16x256x1024 .f32) (y : FVec Ideal S4x4096x1024 .f32) (m : FVec Ideal S2x8x6144 .f32)
  (g : FVec Ideal S2x1024 .f32) (w : FVec Ideal S1x1024x1792 .f32) (gq gk : FVec Ideal S1x64 .f32)
  (ws : FVec Ideal S1x8x128x128 .f32) (bs : FVec Ideal S1x8x128 .f32)

/-- The argument arrays' entries. -/
def args : Args where
  x p k := if h : (p : ℕ) < 4096 then x (ix3 ⟨p / 256, by omega⟩ ⟨p % 256, by omega⟩ k)
    else y (ix3 ⟨(p - 4096) / 4096, by omega⟩ ⟨(p - 4096) % 4096, by omega⟩ k)
  mod b k := m (ix3 0 b k)
  g k := g (ix2 0 k)
  w k j := w (ix3 0 k j)
  gq e := gq (ix2 0 e)
  gk e := gk (ix2 0 e)
  ws u r q := ws (ix4 0 u r q)
  bs u r := bs (ix3 0 u r)

/-- The product, of the arguments. -/
abbrev pr := prod (seqs x y) m g w

theorem pr_eq (p : Fin 20480) (j : Fin 1792) :
    pr x y m g w (ix3 ⟨p / 4096, by omega⟩ ⟨p % 4096, by omega⟩ j) = Cert.Ev.proj (args x y m g w gq gk ws bs) p j := by
  rw [pr, prod_apply]
  simp only [seqs_apply]
  rfl

theorem query_eq (p : Fin 20480) (h : Fin 8) (e : Fin 64) :
    normQ (pr x y m g w) gq (ix4 ⟨p / 4096, by omega⟩ ⟨p % 4096, by omega⟩ h e)
      = Cert.Ev.query (args x y m g w gq gk ws bs) p h e := by
  rw [normQ_apply]
  simp only [pr_eq x y m g w gq gk ws bs]
  rfl

theorem key_eq (p : Fin 20480) (h : Fin 2) (e : Fin 64) :
    normK (pr x y m g w) gk (ix4 ⟨p / 4096, by omega⟩ ⟨p % 4096, by omega⟩ h e)
      = Cert.Ev.key (args x y m g w gq gk ws bs) p h e := by
  rw [normK_apply]
  simp only [pr_eq x y m g w gq gk ws bs]
  rfl

/-- The results. -/
abbrev res200 : FVec Ideal S20480x512 .bf16 :=
  truncf .bf16 (shapeCast S20480x512 (gated (pr x y m g w) ws bs) shapeCasts_S5x4096x512_S20480x512) bitsLt_bf16_f32
@[inherit_doc res200] abbrev res205 : FVec Ideal S512x20480 .bf16 :=
  truncf .bf16 (transpose S512x20480 [1, 0] (mulf (shapeCast S20480x512 (turnQ (normQ (pr x y m g w) gq))
    shapeCasts_S5x4096x8x64_S20480x512) (broadcastInDim S20480x512 ![] bcast_S_S20480x512 (constant S_ .f32 0x3E38AA3B#32)))
    transposes_S20480x512_S512x20480_1_0) bitsLt_bf16_f32
@[inherit_doc res200] abbrev res206 : FVec Ideal S20480x128 .f32 :=
  shapeCast S20480x128 (turnK (normK (pr x y m g w) gk)) shapeCasts_S5x4096x2x64_S20480x128
@[inherit_doc res200] abbrev res208 : FVec Ideal S20480x128 .bf16 :=
  truncf .bf16 (shapeCast S20480x128 (turnK (normK (pr x y m g w) gk)) shapeCasts_S5x4096x2x64_S20480x128) bitsLt_bf16_f32
@[inherit_doc res200] abbrev res209 : FVec Ideal S20480x128 .f32 :=
  shapeCast S20480x128 (extractStridedSlice S5x4096x128 ![0, 0, 1664] (pr x y m g w) slices_S5x4096x1792_S5x4096x128_0_0_1664)
    shapeCasts_S5x4096x128_S20480x128
@[inherit_doc res200] abbrev res212 : FVec Ideal S128x20480 .bf16 :=
  truncf .bf16 (transpose S128x20480 [1, 0] (shapeCast S20480x128 (extractStridedSlice S5x4096x128 ![0, 0, 1664] (pr x y m g w)
    slices_S5x4096x1792_S5x4096x128_0_0_1664) shapeCasts_S5x4096x128_S20480x128) transposes_S20480x128_S128x20480_1_0)
    bitsLt_bf16_f32

theorem res200_apply (p : Fin 20480) (j : Fin 512) :
    res200 x y m g w ws bs (ix2 p j) = Cert.Ev.resA (args x y m g w gq gk ws bs) p j := by
  pointwise [gated_apply, Cert.Ev.resA]
  have hp : (p : ℕ) % 4096 % 128 = p % 128 := by omega
  have e : ∀ (q : Fin 128) h h' (j : Fin 1792), pr x y m g w (ix3 ⟨p / 4096, h⟩ ⟨(p : ℕ) % 4096 / 128 * 128 + q, h'⟩ j)
      = Cert.Ev.proj (args x y m g w gq gk ws bs) ⟨p / 128 * 128 + q, by omega⟩ j := fun q h h' j => by
    rw [← pr_eq x y m g w gq gk ws bs]
    exact congrArg (pr x y m g w) (congrArg₂ (fun a b => ix3 a b j) (Fin.ext (by dsimp only; omega)) (Fin.ext (by dsimp only; omega)))
  simp only [hp, e, pr_eq x y m g w gq gk ws bs]
  rfl

theorem res205_apply (j : Fin 512) (p : Fin 20480) :
    res205 x y m g w gq (ix2 j p) = Cert.Ev.resQ (args x y m g w gq gk ws bs) j p := by
  pointwise [turnQ_apply, query_eq x y m g w gq gk ws bs, Cert.Ev.resQ]
  have e : ∀ h, (⟨(p : ℕ) / 4096 * 4096 + p % 4096, h⟩ : Fin 20480) = p := fun h => Fin.ext (by dsimp only; omega)
  simp only [e]

theorem res206_apply (p : Fin 20480) (j : Fin 128) :
    res206 x y m g w gk (ix2 p j) = Cert.Ev.resK (args x y m g w gq gk ws bs) p j := by
  pointwise [turnK_apply, key_eq x y m g w gq gk ws bs, Cert.Ev.resK]
  have e : ∀ h, (⟨(p : ℕ) / 4096 * 4096 + p % 4096, h⟩ : Fin 20480) = p := fun h => Fin.ext (by dsimp only; omega)
  simp only [e]

theorem res208_apply (p : Fin 20480) (j : Fin 128) :
    res208 x y m g w gk (ix2 p j) = Cert.Ev.resK (args x y m g w gq gk ws bs) p j := by
  rw [← res206_apply]
  pointwise

theorem res209_apply (p : Fin 20480) (j : Fin 128) :
    res209 x y m g w (ix2 p j) = Cert.Ev.resV (args x y m g w gq gk ws bs) p j := by
  pointwise [pr_eq x y m g w gq gk ws bs, Cert.Ev.resV]

theorem res212_apply (j : Fin 128) (p : Fin 20480) :
    res212 x y m g w (ix2 j p) = Cert.Ev.resV (args x y m g w gq gk ws bs) p j := by
  pointwise [pr_eq x y m g w gq gk ws bs, Cert.Ev.resV]

end Cert.Reference4Ideal.Ev

end
-- ==== Proof.EvEq.lean ====
/- The projections of the even layer equal the reference's where the arguments of the product are real numbers. -/
module

public import proofs.«01_k».proof.Proof.EvBlocks
public import proofs.«01_k».proof.Proof.EvRef
public import proofs.«01_k».proof.Proof.Gen.Pre_finite4
public import proofs.«01_k».proof.Proof.Gen.Reference4Ideal
public import proofs.«01_k».proof.Proof.Gen.Reference4Ideal.Run
public import proofs.«01_k».proof.Defs
public import Idealize.ShloMosaic.Adequacy

@[expose] public section

set_option maxRecDepth 16384

noncomputable section

namespace Cert.EvEq

open Idealize.ShloMosaic Idealize.ShloMosaic.TcCoe Idealize.SL.Sem
open Cert.Kernel4Ideal Cert.Kernel4Ideal.Gen Cert.Kernel4Ideal.Ev
open Cert.Ev (Real' proj_real)
open Cert.Reference4Ideal.Ev (res200 res205 res206 res208 res209 res212 res200_apply res205_apply res206_apply res208_apply
  res209_apply res212_apply)

variable (m : (ℓ : Loc nD τ sig) → Buf (Elt Ideal) ℓ) (c : Dev nD)

/-- The precondition: the tokens' features, the modulation, the norm's weights and the input weights are real numbers. -/
theorem real_args (h : Cert.Pre_Kernel4Ideal_finite4 m) :
    (∀ i, Real' (argX m c i)) ∧ (∀ i, Real' (argY m c i)) ∧ (∀ i, Real' (argM m c i)) ∧ (∀ i, Real' (argG m c i))
      ∧ ∀ i, Real' (argW m c i) := by
  have h1 := congrFun (h c) (fun a => a.elim0)
  dsimp only [Cert.Pre_finite4.fn, andi] at h1
  obtain ⟨h2, hw⟩ := (IntOp.andi_eq_one).mp h1
  obtain ⟨h3, hg⟩ := (IntOp.andi_eq_one).mp h2
  obtain ⟨h4, hm⟩ := (IntOp.andi_eq_one).mp h3
  obtain ⟨hx, hy⟩ := (IntOp.andi_eq_one).mp h4
  exact ⟨fun i => Soft.real_of_all _ _ _ _ _ _ hx i, fun i => Soft.real_of_all _ _ _ _ _ _ hy i,
    fun i => Soft.real_of_all _ _ _ _ _ _ hm i, fun i => Soft.real_of_all _ _ _ _ _ _ hg i,
    fun i => Soft.real_of_all _ _ _ _ _ _ hw i⟩

/-- The product with the input weights is real. -/
theorem real_proj (h : Cert.Pre_Kernel4Ideal_finite4 m) (p : Fin 20480) (j : Fin 1792) : Real' (Cert.Ev.proj (args m c) p j) := by
  obtain ⟨hx, hy, hm, hg, hw⟩ := real_args m c h
  refine proj_real (args m c) (fun p k => ?_) (fun b k => hm _) (fun k => hg _) (fun k j => hw _) p j
  unfold args
  dsimp only
  split_ifs
  · exact hx _
  · exact hy _

theorem array12 : (dats m 0 c).arrAt 12 cfg0.N
    = res200 (argX m c) (argY m c) (argM m c) (argG m c) (argW m c) (argS m c) (argB m c) := by
  refine array_eq12 m c _ fun t p j => ?_
  have ht := points t
  obtain ⟨s, r, rfl⟩ : ∃ (s : Fin 8) (r : Fin 128), p = ⟨128 * s + r, by omega⟩ :=
    ⟨⟨p / 128, by omega⟩, ⟨p % 128, by omega⟩, Fin.ext (by dsimp only; omega)⟩
  rw [out12]
  refine Eq.trans ?_ (res200_apply (argX m c) (argY m c) (argM m c) (argG m c) (argW m c) (argGq m c) (argGk m c)
    (argS m c) (argB m c) _ _).symm
  exact gated_at m c t ht s r j

theorem array13 (hpre : Cert.Pre_Kernel4Ideal_finite4 m) : (dats m 0 c).arrAt 13 cfg0.N
    = res205 (argX m c) (argY m c) (argM m c) (argG m c) (argW m c) (argGq m c) := by
  refine array_eq13 m c _ fun t p j => ?_
  have ht := points t
  rw [out13]
  refine Eq.trans ?_ (res205_apply (argX m c) (argY m c) (argM m c) (argG m c) (argW m c) (argGq m c) (argGk m c)
    (argS m c) (argB m c) _ _).symm
  exact queryR_at m c t ht (real_proj m c hpre) _ _

theorem array14 (hpre : Cert.Pre_Kernel4Ideal_finite4 m) : (dats m 0 c).arrAt 14 cfg0.N
    = res206 (argX m c) (argY m c) (argM m c) (argG m c) (argW m c) (argGk m c) := by
  refine array_eq14 m c _ fun t p j => ?_
  have ht := points t
  rw [out14]
  refine Eq.trans ?_ (res206_apply (argX m c) (argY m c) (argM m c) (argG m c) (argW m c) (argGq m c) (argGk m c)
    (argS m c) (argB m c) _ _).symm
  exact keyR_at m c t ht (real_proj m c hpre) _ _

theorem array15 (hpre : Cert.Pre_Kernel4Ideal_finite4 m) : (dats m 0 c).arrAt 15 cfg0.N
    = res208 (argX m c) (argY m c) (argM m c) (argG m c) (argW m c) (argGk m c) := by
  refine array_eq15 m c _ fun t p j => ?_
  have ht := points t
  rw [out15]
  refine Eq.trans ?_ (res208_apply (argX m c) (argY m c) (argM m c) (argG m c) (argW m c) (argGq m c) (argGk m c)
    (argS m c) (argB m c) _ _).symm
  exact keyR_at m c t ht (real_proj m c hpre) _ _

theorem array16 : (dats m 0 c).arrAt 16 cfg0.N
    = res209 (argX m c) (argY m c) (argM m c) (argG m c) (argW m c) := by
  refine array_eq16 m c _ fun t p j => ?_
  have ht := points t
  rw [out16]
  refine Eq.trans ?_ (res209_apply (argX m c) (argY m c) (argM m c) (argG m c) (argW m c) (argGq m c) (argGk m c)
    (argS m c) (argB m c) _ _).symm
  exact proj_at m c t ht _ _

theorem array17 : (dats m 0 c).arrAt 17 cfg0.N
    = res212 (argX m c) (argY m c) (argM m c) (argG m c) (argW m c) := by
  refine array_eq17 m c _ fun t p j => ?_
  have ht := points t
  rw [out17]
  refine Eq.trans ?_ (res212_apply (argX m c) (argY m c) (argM m c) (argG m c) (argW m c) (argGq m c) (argGk m c)
    (argS m c) (argB m c) _ _).symm
  exact proj_at m c t ht _ _

/-- The claim. -/
theorem algebraic : Cert.algebraic_Kernel4Ideal_Reference4Ideal_pre_finite4 := by
  intro m ρ m' ρ' hpre hagree
  refine ⟨fun c => res200 (argX m c) (argY m c) (argM m c) (argG m c) (argW m c) (argS m c) (argB m c),
    fun c => res205 (argX m c) (argY m c) (argM m c) (argG m c) (argW m c) (argGq m c),
    fun c => res206 (argX m c) (argY m c) (argM m c) (argG m c) (argW m c) (argGk m c),
    fun c => res208 (argX m c) (argY m c) (argM m c) (argG m c) (argW m c) (argGk m c),
    fun c => res209 (argX m c) (argY m c) (argM m c) (argG m c) (argW m c),
    fun c => res212 (argX m c) (argY m c) (argM m c) (argG m c) (argW m c), ?_, ?_⟩
  · exact (θ_run Cert.Kernel4Ideal.defs _ _).mono (fun _ h c => by
        obtain ⟨h12, h13, h14, h15, h16, h17, hr⟩ := h c
        exact ⟨h12.trans (array12 m c), h13.trans (array13 m c hpre), h14.trans (array14 m c hpre), h15.trans (array15 m c hpre),
          h16.trans (array16 m c), h17.trans (array17 m c), hr⟩)
      (Cert.Kernel4Ideal.Value.run_blocks (F := Ideal) m ρ)
  · refine (θ_run Cert.Reference4Ideal.defs _ _).mono (fun _ h c => ?_) (Cert.Reference4Ideal.Value.run (F := Ideal) m' ρ')
    obtain ⟨g0, g1, g2, g3, g4, g5, g6, g7, g8⟩ := hagree c
    obtain ⟨h12, h13, h14, h15, h16, h17, hr⟩ := h c
    have e0 : argX m c =
        m' ((c.tc : Thread Cert.Reference4Ideal.nD Cert.Reference4Ideal.τ).loc Cert.Reference4Ideal.main_arg0) := g0.symm
    have e1 : argY m c =
        m' ((c.tc : Thread Cert.Reference4Ideal.nD Cert.Reference4Ideal.τ).loc Cert.Reference4Ideal.main_arg1) := g1.symm
    have e2 : argM m c =
        m' ((c.tc : Thread Cert.Reference4Ideal.nD Cert.Reference4Ideal.τ).loc Cert.Reference4Ideal.main_arg2) := g2.symm
    have e3 : argG m c =
        m' ((c.tc : Thread Cert.Reference4Ideal.nD Cert.Reference4Ideal.τ).loc Cert.Reference4Ideal.main_arg3) := g3.symm
    have e4 : argW m c =
        m' ((c.tc : Thread Cert.Reference4Ideal.nD Cert.Reference4Ideal.τ).loc Cert.Reference4Ideal.main_arg4) := g4.symm
    have e5 : argGq m c =
        m' ((c.tc : Thread Cert.Reference4Ideal.nD Cert.Reference4Ideal.τ).loc Cert.Reference4Ideal.main_arg5) := g5.symm
    have e6 : argGk m c =
        m' ((c.tc : Thread Cert.Reference4Ideal.nD Cert.Reference4Ideal.τ).loc Cert.Reference4Ideal.main_arg6) := g6.symm
    have e7 : argS m c =
        m' ((c.tc : Thread Cert.Reference4Ideal.nD Cert.Reference4Ideal.τ).loc Cert.Reference4Ideal.main_arg7) := g7.symm
    have e8 : argB m c =
        m' ((c.tc : Thread Cert.Reference4Ideal.nD Cert.Reference4Ideal.τ).loc Cert.Reference4Ideal.main_arg8) := g8.symm
    beta_reduce
    rw [e0, e1, e2, e3, e4, e5, e6, e7, e8]
    exact ⟨h12.trans rfl, h13.trans rfl, h14.trans rfl, h15.trans rfl, h16.trans rfl, h17.trans rfl, hr⟩

end Cert.EvEq

end
-- ==== Proof.EoSpec.lean ====
/- The even layer's output of one token, over the extended reals, as functions of the entries of the argument arrays: what the
   kernel's entries and the reference's entries are both shown to be. -/
module

public import proofs.«01_k».proof.Proof.EvSpec

@[expose] public section

set_option maxRecDepth 16384

noncomputable section

namespace Cert.Eo

open Idealize.ShloMosaic
open Cert.Odd (modulated)
open Cert.Ev (Real' unit_real)

/-- The argument arrays' entries. -/
structure Args where
  /-- The gated features. -/
  a : Fin 20480 → Fin 512 → EReal
  /-- The attention's features, a token a column. -/
  b : Fin 512 → Fin 20480 → EReal
  /-- The tokens' features: the context's tokens first. -/
  x : Fin 20480 → Fin 1024 → EReal
  /-- The layer's modulation, by sequence. -/
  mod : Fin 8 → Fin 6144 → EReal
  /-- The second norm's weights. -/
  g : Fin 1024 → EReal
  /-- The output weights. -/
  w : Fin 1024 → Fin 1024 → EReal
  /-- The router's weights. -/
  r : Fin 1024 → Fin 16 → EReal

variable (A : Args)

/-- The tokens' features plus the gate times the output projection. -/
def resX (p : Fin 20480) (k : Fin 1024) : EReal :=
  A.x p k + A.mod ⟨p / 4096, by omega⟩ ⟨2048 + k, by omega⟩
    * (∑ j : Fin 512, A.a p j * A.w ⟨j, by omega⟩ k + ∑ j : Fin 512, A.b j p * A.w ⟨512 + j, by omega⟩ k)

/-- Their modulated norm. -/
def resH (p : Fin 20480) (k : Fin 1024) : EReal :=
  modulated (resX A p) A.g (fun k => A.mod ⟨p / 4096, by omega⟩ ⟨4096 + k, by omega⟩)
    (fun k => A.mod ⟨p / 4096, by omega⟩ ⟨3072 + k, by omega⟩) k

/-- The router's logits. -/
def resL (e : Fin 16) (p : Fin 20480) : EReal := ∑ k : Fin 1024, resH A p k * A.r k e

/-! ## Real numbers -/

theorem modulated_real (x g sc sh : Fin 1024 → EReal) (hx : ∀ k, Real' (x k)) (hg : ∀ k, Real' (g k)) (hc : ∀ k, Real' (sc k))
    (hs : ∀ k, Real' (sh k)) (k : Fin 1024) : Real' (modulated x g sc sh k) := by
  unfold modulated
  rw [Ideal.ofBits_one_f32]
  exact Real'.add (Real'.mul (Real'.mul (unit_real _ hx k) (hg k)) (Real'.add ⟨1, rfl⟩ (hc k))) (hs k)

theorem resX_real (ha : ∀ p j, Real' (A.a p j)) (hb : ∀ j p, Real' (A.b j p)) (hx : ∀ p k, Real' (A.x p k))
    (hm : ∀ b k, Real' (A.mod b k)) (hw : ∀ k j, Real' (A.w k j)) (p : Fin 20480) (k : Fin 1024) : Real' (resX A p k) :=
  Real'.add (hx _ _) (Real'.mul (hm _ _) (Real'.add (Real'.sum fun _ => Real'.mul (ha _ _) (hw _ _))
    (Real'.sum fun _ => Real'.mul (hb _ _) (hw _ _))))

/-- A real number less itself is zero. -/
theorem sub_self {x : EReal} : Real' x → x - x = 0
  | ⟨a, ha⟩ => by rw [ha, ← EReal.coe_sub, _root_.sub_self, EReal.coe_zero]

/-- A product of two arrays of real numbers, each split into a part and the rest. -/
theorem split_product (h w : Fin 1024 → EReal) (hh : ∀ k, Real' (h k)) (hw : ∀ k, Real' (w k)) :
    ∑ k, h k * w k + ∑ k, (h k - h k) * w k + (∑ k, h k * (w k - w k) + ∑ k, (h k - h k) * (w k - w k)) = ∑ k, h k * w k := by
  simp only [sub_self (hh _), sub_self (hw _), zero_mul, mul_zero, Finset.sum_const_zero, add_zero]

/-- A sum over 1024 features in its two halves. -/
theorem sum_halves (f : Fin 1024 → EReal) :
    ∑ k, f k = ∑ j : Fin 512, f ⟨j, by omega⟩ + ∑ j : Fin 512, f ⟨512 + j, by omega⟩ :=
  Fin.sum_univ_add (a := 512) (b := 512) f

end Cert.Eo

end
-- ==== Proof.EoValue.lean ====
/- What one grid point of the even layer's output computes, over the extended reals: the entries of every value it stores, from
   the entries of its blocks. -/
module

public import proofs.«01_k».proof.Proof.Gen.Kernel5Ideal.Frame
public import proofs.«01_k».proof.Proof.EoSpec

@[expose] public section

set_option maxRecDepth 16384

noncomputable section

namespace Cert.Kernel5Ideal.Eo

open Cert.Kernel5Ideal Cert.Kernel5Ideal.Gen Idealize.ShloMosaic
open Cert.Odd (unit modulated)

theorem x_apply (c : BitVec 1) (b b' : Vec Ideal S512x256 .bf16) (a : Vec Ideal S256x512 .bf16) (w w' : Vec Ideal S512x1024 .bf16)
    (x x' : Vec Ideal S256x1024 .f32) (g : Vec Ideal S1x1x1x1024 .f32) (r : Fin 256) (k : Fin 1024) :
    k0_pay9 (F := Ideal) c b b' a w w' x x' g (ix2 r k) = Scalar.select c x x' (ix2 r k) + g (ix4 0 0 0 k)
      * (∑ j : Fin 512, a (ix2 r j) * w (ix2 j k) + ∑ j : Fin 512, Scalar.select c b b' (ix2 j r) * w' (ix2 j k)) := by
  obtain rfl | rfl : c = 0#1 ∨ c = 1#1 := by
    revert c
    decide
  all_goals
    simp only [k0_pay9, Scalar.select]
    pointwise

theorem h_apply (x : FVec Ideal S256x1024 .f32) (g : FVec Ideal S1x1024 .f32) (sc sh : Vec Ideal S1x1x1x1024 .f32)
    (r : Fin 256) (k : Fin 1024) :
    k0_pay6 x g sc sh (ix2 r k) = modulated (fun k => x (ix2 r k)) (fun k => g (ix2 0 k)) (fun k => sc (ix4 0 0 0 k))
      (fun k => sh (ix4 0 0 0 k)) k := by
  pointwise [k0_pay6, modulated, unit]

theorem l_apply (x : FVec Ideal S256x1024 .f32) (g : FVec Ideal S1x1024 .f32) (sc sh : Vec Ideal S1x1x1x1024 .f32)
    (w : Vec Ideal S1024x128 .bf16) (r : Fin 256) (e : Fin 16) :
    k0_pay8 x g sc sh w w (ix2 e r) =
      ∑ k : Fin 1024, k0_pay6 x g sc sh (ix2 r k) * w (ix2 k ⟨e, by omega⟩)
        + ∑ k : Fin 1024, (k0_pay6 x g sc sh (ix2 r k) - k0_pay6 x g sc sh (ix2 r k)) * w (ix2 k ⟨e, by omega⟩)
      + (∑ k : Fin 1024, k0_pay6 x g sc sh (ix2 r k) * w (ix2 k ⟨16 + e, by omega⟩)
        + ∑ k : Fin 1024, (k0_pay6 x g sc sh (ix2 r k) - k0_pay6 x g sc sh (ix2 r k)) * w (ix2 k ⟨16 + e, by omega⟩)) := by
  unfold k0_pay8 k0_pay7
  generalize k0_pay6 x g sc sh = h
  pointwise

/-- The rows `256 * s ..` of the point's gated features. -/
def rowsA (x : Vec Ideal S1024x512 .bf16) : Fin 4 → Vec Ideal S256x512 .bf16 :=
  ![View.ld x r0_1, View.ld x r0_12, View.ld x r0_16, View.ld x r0_20]

/-- The columns `256 * s ..` of the point's attention. -/
def colsB (x : Vec Ideal S512x1024 .bf16) : Fin 4 → Vec Ideal S512x256 .bf16 :=
  ![View.ld x r0_0, View.ld x r0_11, View.ld x r0_15, View.ld x r0_19]

/-- The rows `256 * s ..` of the point's tokens. -/
def rowsX (x : Vec Ideal S1024x1024 .f32) : Fin 4 → Vec Ideal S256x1024 .f32 :=
  ![View.ld x r0_4, View.ld x r0_13, View.ld x r0_17, View.ld x r0_21]

theorem rowsA_apply (x : Vec Ideal S1024x512 .bf16) (s : Fin 4) (r : Fin 256) (k : Fin 512) :
    rowsA x s (ix2 r k) = x (ix2 ⟨256 * s + r, by omega⟩ k) := by
  obtain rfl | rfl | rfl | rfl : s = 0 ∨ s = 1 ∨ s = 2 ∨ s = 3 := by omega
  all_goals
    simp only [rowsA, Matrix.cons_val]
    pointwise
    try (congr 3 <;> simp <;> omega)

theorem colsB_apply (x : Vec Ideal S512x1024 .bf16) (s : Fin 4) (r : Fin 256) (k : Fin 512) :
    colsB x s (ix2 k r) = x (ix2 k ⟨256 * s + r, by omega⟩) := by
  obtain rfl | rfl | rfl | rfl : s = 0 ∨ s = 1 ∨ s = 2 ∨ s = 3 := by omega
  all_goals
    simp only [colsB, Matrix.cons_val]
    pointwise
    try (congr 3 <;> simp <;> omega)

theorem rowsX_apply (x : Vec Ideal S1024x1024 .f32) (s : Fin 4) (r : Fin 256) (k : Fin 1024) :
    rowsX x s (ix2 r k) = x (ix2 ⟨256 * s + r, by omega⟩ k) := by
  obtain rfl | rfl | rfl | rfl : s = 0 ∨ s = 1 ∨ s = 2 ∨ s = 3 := by omega
  all_goals
    simp only [rowsX, Matrix.cons_val]
    pointwise
    try (congr 3 <;> simp <;> omega)

/-- Four stores of 256 rows each, read at a row. -/
theorem tilesX (P : Fin 4 → FVec Ideal S256x1024 .f32) (s : Fin 4) (r : Fin 256) (j : Fin 1024) :
    View.canon (Val := Elt Ideal) [(⟨r0_21, P 3⟩ : View.Piece (Elt Ideal) S1024x1024 .f32), ⟨r0_17, P 2⟩, ⟨r0_13, P 1⟩,
      ⟨r0_4, P 0⟩] (ix2 ⟨256 * s + r, by omega⟩ j) = P s (ix2 r j) := by
  obtain rfl | rfl | rfl | rfl : s = 0 ∨ s = 1 ∨ s = 2 ∨ s = 3 := by omega
  all_goals
    canon_tiles x hx
    all_goals
      idx_vars x
      pointwise at *
      first | omega | (congr 2 <;> (apply Fin.ext; try simp only) <;> omega)

/-- Four stores of 256 rows each, read at a row. -/
theorem tilesH (P : Fin 4 → FVec Ideal S256x1024 .bf16) (s : Fin 4) (r : Fin 256) (j : Fin 1024) :
    View.canon (Val := Elt Ideal) [(⟨r0_21, P 3⟩ : View.Piece (Elt Ideal) S1024x1024 .bf16), ⟨r0_17, P 2⟩, ⟨r0_13, P 1⟩,
      ⟨r0_4, P 0⟩] (ix2 ⟨256 * s + r, by omega⟩ j) = P s (ix2 r j) := by
  obtain rfl | rfl | rfl | rfl : s = 0 ∨ s = 1 ∨ s = 2 ∨ s = 3 := by omega
  all_goals
    canon_tiles x hx
    all_goals
      idx_vars x
      pointwise at *
      first | omega | (congr 2 <;> (apply Fin.ext; try simp only) <;> omega)

/-- Four stores of 256 columns each, read at a column. -/
theorem tilesL (P : Fin 4 → FVec Ideal S16x256 .f32) (s : Fin 4) (r : Fin 256) (j : Fin 16) :
    View.canon (Val := Elt Ideal) [(⟨r0_22, P 3⟩ : View.Piece (Elt Ideal) S16x1024 .f32), ⟨r0_18, P 2⟩, ⟨r0_14, P 1⟩,
      ⟨r0_10, P 0⟩] (ix2 j ⟨256 * s + r, by omega⟩) = P s (ix2 j r) := by
  obtain rfl | rfl | rfl | rfl : s = 0 ∨ s = 1 ∨ s = 2 ∨ s = 3 := by omega
  all_goals
    canon_tiles x hx
    all_goals
      idx_vars x
      pointwise at *
      first | omega | (congr 2 <;> (apply Fin.ext; try simp only) <;> omega)

/-- The first of two blocks at the first four points, the second at the others. -/
abbrev pick {α : Type} (i : grid0.Coords) (a b : α) : α := Scalar.select (Scalar.cmpi .slt (BitVec.ofNat 32 (i 0).val) 4#32) a b

theorem pick_rows (i : grid0.Coords) (x x' : Vec Ideal S1024x1024 .f32) (s : Fin 4) (r : Fin 256) (k : Fin 1024) :
    pick i (rowsX x s) (rowsX x' s) (ix2 r k) = pick i x x' (ix2 ⟨256 * s + r, by omega⟩ k) := by
  unfold pick Scalar.select
  split_ifs
  · exact rowsX_apply ..
  · exact rowsX_apply ..

theorem pick_cols (i : grid0.Coords) (x x' : Vec Ideal S512x1024 .bf16) (s : Fin 4) (r : Fin 256) (k : Fin 512) :
    pick i (colsB x s) (colsB x' s) (ix2 k r) = pick i x x' (ix2 k ⟨256 * s + r, by omega⟩) := by
  unfold pick Scalar.select
  split_ifs
  · exact colsB_apply ..
  · exact colsB_apply ..

variable (i : grid0.Coords) (x0 : Vec Ideal S1024x512 .bf16) (x1 x2 : Vec Ideal S512x1024 .bf16) (x3 : Vec Ideal S1024x1024 .bf16)
  (x4 x5 : Vec Ideal S1024x1024 .f32) (x6 : Vec Ideal S1x1x6x1024 .f32) (x7 : Vec Ideal S1x1024 .f32) (x8 : Vec Ideal S1024x128 .bf16)

/-- The features of the token `p` of the block after the output projection. -/
def row (p k : Fin 1024) : EReal :=
  pick i x4 x5 (ix2 p k) + x6 (ix4 0 0 2 k) * (∑ j : Fin 512, x0 (ix2 p j) * x3 (ix2 ⟨j, by omega⟩ k)
    + ∑ j : Fin 512, pick i x1 x2 (ix2 j p) * x3 (ix2 ⟨512 + j, by omega⟩ k))

/-- Their modulated norm. -/
def norm (p k : Fin 1024) : EReal :=
  modulated (row i x0 x1 x2 x3 x4 x5 x6 p) (fun k => x7 (ix2 0 k)) (fun k => x6 (ix4 0 0 4 k)) (fun k => x6 (ix4 0 0 3 k)) k

/-- 256 tokens after the output projection. -/
abbrev px (s : Fin 4) : FVec Ideal S256x1024 .f32 :=
  k0_pay9 (Scalar.cmpi .slt (BitVec.ofNat 32 (i 0).val) 4#32) (colsB x1 s) (colsB x2 s) (rowsA x0 s) (View.ld x3 r0_2)
    (View.ld x3 r0_3) (rowsX x4 s) (rowsX x5 s) (View.ld x6 r0_5)

theorem px_apply (s : Fin 4) (r : Fin 256) (k : Fin 1024) :
    px i x0 x1 x2 x3 x4 x5 x6 s (ix2 r k) = row i x0 x1 x2 x3 x4 x5 x6 ⟨256 * s + r, by omega⟩ k := by
  have hx := pick_rows i x4 x5 s r k
  have hb := fun j => pick_cols i x1 x2 s r j
  rw [px, x_apply]
  unfold pick at hx hb
  simp only [hx, hb, rowsA_apply]
  unfold row pick
  clear hx hb
  generalize Scalar.select _ x4 x5 = a
  generalize Scalar.select _ x1 x2 = b
  pointwise

/-- Their modulated norm. -/
abbrev ph (s : Fin 4) : FVec Ideal S256x1024 .f32 :=
  k0_pay6 (px i x0 x1 x2 x3 x4 x5 x6 s) (k0_pay5 (View.ld x7 r0_6)) (View.ld x6 r0_7) (View.ld x6 r0_8)

theorem ph_apply (s : Fin 4) (r : Fin 256) (k : Fin 1024) :
    ph i x0 x1 x2 x3 x4 x5 x6 x7 s (ix2 r k) = norm i x0 x1 x2 x3 x4 x5 x6 x7 ⟨256 * s + r, by omega⟩ k := by
  rw [ph, h_apply]
  simp only [px_apply]
  unfold norm
  generalize row i x0 x1 x2 x3 x4 x5 x6 = y
  pointwise [k0_pay5]

theorem out9 (s : Fin 4) (r : Fin 256) (k : Fin 1024) :
    out0_9 i x0 x1 x2 x3 x4 x5 x6 x7 x8 (ix2 ⟨256 * s + r, by omega⟩ k)
      = row i x0 x1 x2 x3 x4 x5 x6 ⟨256 * s + r, by omega⟩ k :=
  (congrFun (show out0_9 i x0 x1 x2 x3 x4 x5 x6 x7 x8 = _ from rfl) _).trans
    ((tilesX (px i x0 x1 x2 x3 x4 x5 x6) s r k).trans (px_apply ..))

theorem out10 (s : Fin 4) (r : Fin 256) (k : Fin 1024) :
    out0_10 i x0 x1 x2 x3 x4 x5 x6 x7 x8 (ix2 ⟨256 * s + r, by omega⟩ k)
      = norm i x0 x1 x2 x3 x4 x5 x6 x7 ⟨256 * s + r, by omega⟩ k :=
  (congrFun (show out0_10 i x0 x1 x2 x3 x4 x5 x6 x7 x8 = _ from rfl) _).trans
    ((tilesH (fun s => k0_pay7 (px i x0 x1 x2 x3 x4 x5 x6 s) (k0_pay5 (View.ld x7 r0_6)) (View.ld x6 r0_7) (View.ld x6 r0_8))
      s r k).trans (ph_apply ..))

theorem out11 (s : Fin 4) (r : Fin 256) (e : Fin 16) (z : Fin 1024 → EReal)
    (hz : norm i x0 x1 x2 x3 x4 x5 x6 x7 ⟨256 * s + r, by omega⟩ = z) :
    out0_11 i x0 x1 x2 x3 x4 x5 x6 x7 x8 (ix2 e ⟨256 * s + r, by omega⟩)
      = ∑ k, z k * x8 (ix2 k ⟨e, by omega⟩) + ∑ k, (z k - z k) * x8 (ix2 k ⟨e, by omega⟩)
        + (∑ k, z k * x8 (ix2 k ⟨16 + e, by omega⟩) + ∑ k, (z k - z k) * x8 (ix2 k ⟨16 + e, by omega⟩)) := by
  refine (congrFun (show out0_11 i x0 x1 x2 x3 x4 x5 x6 x7 x8 = _ from rfl) _).trans
    ((tilesL (fun s => k0_pay8 (px i x0 x1 x2 x3 x4 x5 x6 s) (k0_pay5 (View.ld x7 r0_6)) (View.ld x6 r0_7) (View.ld x6 r0_8)
      (View.ld x8 r0_9) (View.ld x8 r0_9)) s r e).trans ?_)
  rw [l_apply]
  simp only [ph_apply, hz]
  pointwise

end Cert.Kernel5Ideal.Eo

end
-- ==== Proof.EoArray.lean ====
/- The arrays the even layer's output enters with, and its results from the blocks of the grid points. -/
module

public import proofs.«01_k».proof.Proof.EoValue
public import proofs.«01_k».proof.Proof.Gen.Kernel5Ideal.Value

@[expose] public section

set_option maxRecDepth 16384

noncomputable section

namespace Cert.Kernel5Ideal.Eo

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The argument arrays, at their types: the gated features, the attention of the context and of the other sequences, their
    tokens' features, the modulation, the layers' second norm weights, the output weights and the router's. -/
abbrev argA : FVec Ideal S20480x512 .f32 := m ((c : Thread nD τ).loc main_arg0)
@[inherit_doc argA] abbrev argB : FVec Ideal S512x4096 .f32 := m ((c : Thread nD τ).loc main_arg1)
@[inherit_doc argA] abbrev argC : FVec Ideal S512x16384 .f32 := m ((c : Thread nD τ).loc main_arg2)
@[inherit_doc argA] abbrev argX : FVec Ideal S16x256x1024 .f32 := m ((c : Thread nD τ).loc main_arg3)
@[inherit_doc argA] abbrev argY : FVec Ideal S4x4096x1024 .f32 := m ((c : Thread nD τ).loc main_arg4)
@[inherit_doc argA] abbrev argM : FVec Ideal S2x8x6144 .f32 := m ((c : Thread nD τ).loc main_arg5)
@[inherit_doc argA] abbrev argG : FVec Ideal S2x1024 .f32 := m ((c : Thread nD τ).loc main_arg6)
@[inherit_doc argA] abbrev argW : FVec Ideal S1x1024x1024 .f32 := m ((c : Thread nD τ).loc main_arg7)
@[inherit_doc argA] abbrev argR : FVec Ideal S2x1024x16 .f32 := m ((c : Thread nD τ).loc main_arg8)

theorem entry_a (p : Fin 20480) (j : Fin 512) : V m c main_v5 (ix2 p j) = argA m c (ix2 p j) := by
  simp only [V, hostOps0, List.flatten_cons, List.flatten_nil, List.append_nil, List.cons_append, List.nil_append]
  entry_read
  pointwise

theorem entry_b (j : Fin 512) (p : Fin 4096) : V m c main_v3 (ix2 j p) = argB m c (ix2 j p) := by
  simp only [V, hostOps0, List.flatten_cons, List.flatten_nil, List.append_nil, List.cons_append, List.nil_append]
  entry_read
  pointwise

theorem entry_c (j : Fin 512) (p : Fin 16384) : V m c main_v4 (ix2 j p) = argC m c (ix2 j p) := by
  simp only [V, hostOps0, List.flatten_cons, List.flatten_nil, List.append_nil, List.cons_append, List.nil_append]
  entry_read
  pointwise

theorem entry_x (p : Fin 4096) (k : Fin 1024) :
    V m c main_v0 (ix2 p k) = argX m c (ix3 ⟨p / 256, by omega⟩ ⟨p % 256, by omega⟩ k) := by
  simp only [V, hostOps0, List.flatten_cons, List.flatten_nil, List.append_nil, List.cons_append, List.nil_append]
  entry_read
  pointwise

theorem entry_y (p : Fin 16384) (k : Fin 1024) :
    V m c main_v1 (ix2 p k) = argY m c (ix3 ⟨p / 4096, by omega⟩ ⟨p % 4096, by omega⟩ k) := by
  simp only [V, hostOps0, List.flatten_cons, List.flatten_nil, List.append_nil, List.cons_append, List.nil_append]
  entry_read
  pointwise

theorem entry_mod (b : Fin 8) (q : Fin 6) (k : Fin 1024) :
    V m c main_v2 (ix4 0 b q k) = argM m c (ix3 0 b ⟨q * 1024 + k, by omega⟩) := by
  simp only [V, hostOps0, List.flatten_cons, List.flatten_nil, List.append_nil, List.cons_append, List.nil_append]
  entry_read
  pointwise

theorem entry_norm (k : Fin 1024) : V m c main_v8 (ix2 0 k) = argG m c (ix2 0 k) := by
  simp only [V, hostOps0, List.flatten_cons, List.flatten_nil, List.append_nil, List.cons_append, List.nil_append]
  entry_read
  pointwise

theorem entry_w (k j : Fin 1024) : V m c main_v7 (ix2 k j) = argW m c (ix3 0 k j) := by
  simp only [V, hostOps0, List.flatten_cons, List.flatten_nil, List.append_nil, List.cons_append, List.nil_append]
  entry_read
  pointwise

/-- The first layer's router weights. -/
def router : FVec Ideal S1024x16 .f32 :=
  shapeCast S1024x16 (extractStridedSlice S1x1024x16 ![0, 0, 0] (argR m c) slices_S2x1024x16_S1x1024x16_0_0_0)
    shapeCasts_S1x1024x16_S1024x16

/-- The router's weights lie beside their rest after the cast, and zeros. -/
theorem router_eq : V m c main_v16 = concatenate S1024x128 1
    [⟨S1024x16, truncf .bf16 (router m c) bitsLt_bf16_f32⟩,
      ⟨S1024x16, truncf .bf16 (subf (router m c) (extf .f32 (truncf .bf16 (router m c) bitsLt_bf16_f32) bitsLt_bf16_f32)) bitsLt_bf16_f32⟩,
      ⟨S1024x96, broadcastInDim S1024x96 ![] bcast_S_S1024x96 (constant (F := Ideal) S_ .bf16 0x0000#16)⟩]
    concatenates_S1024x16_S1024x16_S1024x96_S1024x128_d1 := by
  rfl

theorem entry_hi (k : Fin 1024) (e : Fin 16) : V m c main_v16 (ix2 k ⟨e, by omega⟩) = argR m c (ix3 0 k e) := by
  rw [router_eq]
  pointwise [router]

theorem entry_lo (k : Fin 1024) (e : Fin 16) :
    @Eq EReal (V m c main_v16 (ix2 k ⟨16 + e, by omega⟩)) (argR m c (ix3 0 k e) - argR m c (ix3 0 k e)) := by
  rw [router_eq]
  pointwise [router]

/-- The block indices of a point's windows: the point is a block of 1024 tokens, four to a sequence. -/
theorem blocks_at : ∀ t : Fin grid0.N,
    win0_0.index t = ![t.val, 0]
    ∧ win0_1.index t = ![0, min t.val 3]
    ∧ win0_2.index t = ![0, t.val - 4]
    ∧ win0_3.index t = ![0, 0]
    ∧ win0_4.index t = ![min t.val 3, 0]
    ∧ win0_5.index t = ![t.val - 4, 0]
    ∧ win0_6.index t = ![0, t.val / 4, 0, 0]
    ∧ win0_7.index t = ![0, 0]
    ∧ win0_8.index t = ![0, 0]
    ∧ win0_9.index t = ![t.val, 0]
    ∧ win0_10.index t = ![t.val, 0]
    ∧ win0_11.index t = ![0, t.val] := by
  decide +kernel

/-- The number of points. -/
theorem points (t : Fin cfg0.N) : t.val < 20 := lt_of_lt_of_eq t.isLt (by decide +kernel)

/-- The first four points take the context's block. -/
theorem first_points : ∀ t : Fin grid0.N, Scalar.cmpi .slt (BitVec.ofNat 32 (grid0.coords t 0).val) 4#32
    = if t.val < 4 then 1#1 else 0#1 := by
  decide +kernel

theorem array_eq9 (G : FVec Ideal S20480x1024 .f32)
    (h : ∀ (t : Fin cfg0.N) (p : Fin 1024) (j : Fin 1024),
      out0_9 (grid0.coords t) (iblk m c 0 t) (iblk m c 1 t) (iblk m c 2 t) (iblk m c 3 t) (iblk m c 4 t) (iblk m c 5 t)
          (iblk m c 6 t) (iblk m c 7 t) (iblk m c 8 t) (ix2 p j) = G (ix2 ⟨1024 * t + p, by have := points t; omega⟩ j)) :
    (dats m 0 c).arrAt 9 cfg0.N = G := by
  refine (dats m 0 c).arrAt_eq_of_covers 9 _ (by decide +kernel) fun t hf y => ?_
  blk_simp
  rw [after0_9]
  idx_vars y
  refine (h t y0 y1).trans ?_
  blk_ext [blocks_at t]

theorem array_eq10 (G : FVec Ideal S20480x1024 .bf16)
    (h : ∀ (t : Fin cfg0.N) (p : Fin 1024) (j : Fin 1024),
      out0_10 (grid0.coords t) (iblk m c 0 t) (iblk m c 1 t) (iblk m c 2 t) (iblk m c 3 t) (iblk m c 4 t) (iblk m c 5 t)
          (iblk m c 6 t) (iblk m c 7 t) (iblk m c 8 t) (ix2 p j) = G (ix2 ⟨1024 * t + p, by have := points t; omega⟩ j)) :
    (dats m 0 c).arrAt 10 cfg0.N = G := by
  refine (dats m 0 c).arrAt_eq_of_covers 10 _ (by decide +kernel) fun t hf y => ?_
  blk_simp
  rw [after0_10]
  idx_vars y
  refine (h t y0 y1).trans ?_
  blk_ext [blocks_at t]

theorem array_eq11 (G : FVec Ideal S16x20480 .f32)
    (h : ∀ (t : Fin cfg0.N) (p : Fin 1024) (j : Fin 16),
      out0_11 (grid0.coords t) (iblk m c 0 t) (iblk m c 1 t) (iblk m c 2 t) (iblk m c 3 t) (iblk m c 4 t) (iblk m c 5 t)
          (iblk m c 6 t) (iblk m c 7 t) (iblk m c 8 t) (ix2 j p) = G (ix2 j ⟨1024 * t + p, by have := points t; omega⟩)) :
    (dats m 0 c).arrAt 11 cfg0.N = G := by
  refine (dats m 0 c).arrAt_eq_of_covers 11 _ (by decide +kernel) fun t hf y => ?_
  blk_simp
  rw [after0_11]
  idx_vars y
  refine (h t y1 y0).trans ?_
  blk_ext [blocks_at t]

/-- The argument arrays' entries. -/
def args : Cert.Eo.Args where
  a p j := argA m c (ix2 p j)
  b j p := if h : (p : ℕ) < 4096 then argB m c (ix2 j ⟨p, h⟩) else argC m c (ix2 j ⟨p - 4096, by omega⟩)
  x p k := if h : (p : ℕ) < 4096 then argX m c (ix3 ⟨p / 256, by omega⟩ ⟨p % 256, by omega⟩ k)
    else argY m c (ix3 ⟨(p - 4096) / 4096, by omega⟩ ⟨(p - 4096) % 4096, by omega⟩ k)
  mod b k := argM m c (ix3 0 b k)
  g k := argG m c (ix2 0 k)
  w k j := argW m c (ix3 0 k j)
  r k e := argR m c (ix3 0 k e)

end Cert.Kernel5Ideal.Eo

end
-- ==== Proof.EoBlocks.lean ====
/- The blocks of a grid point of the even layer's output, and the point's results, from the argument arrays. -/
module

public import proofs.«01_k».proof.Proof.EoArray

@[expose] public section

set_option maxRecDepth 16384

noncomputable section

namespace Cert.Kernel5Ideal.Eo

open Cert.Kernel5Ideal Cert.Kernel5Ideal.Gen Idealize.ShloMosaic Idealize.ShloMosaic.TcCoe Idealize.SL.Sem
open Cert.Odd (modulated)
open Cert.Ev (Real')

variable (m : (ℓ : Loc nD τ sig) → Buf (Elt Ideal) ℓ) (c : Dev nD)

variable (t : Fin cfg0.N) (ht : t.val < 20)

theorem place1 (n : ℕ) (hn : n < 4) (hw : win0_1.index t = ![0, n]) (j : Fin 512) (p : Fin 1024) :
    iblk m c 1 t (ix2 j p) = V m c main_v3 (ix2 j ⟨1024 * n + p, by omega⟩) := by
  blk_ext [iblk, hw]

theorem place2 (n : ℕ) (hn : n < 16) (hw : win0_2.index t = ![0, n]) (j : Fin 512) (p : Fin 1024) :
    iblk m c 2 t (ix2 j p) = V m c main_v4 (ix2 j ⟨1024 * n + p, by omega⟩) := by
  blk_ext [iblk, hw]

theorem place4 (n : ℕ) (hn : n < 4) (hw : win0_4.index t = ![n, 0]) (p k : Fin 1024) :
    iblk m c 4 t (ix2 p k) = V m c main_v0 (ix2 ⟨1024 * n + p, by omega⟩ k) := by
  blk_ext [iblk, hw]

theorem place5 (n : ℕ) (hn : n < 16) (hw : win0_5.index t = ![n, 0]) (p k : Fin 1024) :
    iblk m c 5 t (ix2 p k) = V m c main_v1 (ix2 ⟨1024 * n + p, by omega⟩ k) := by
  blk_ext [iblk, hw]

/-- The point's tokens. -/
theorem tokens_at (p k : Fin 1024) :
    pick (grid0.coords t) (iblk m c 4 t) (iblk m c 5 t) (ix2 p k) = (args m c).x ⟨1024 * t + p, by omega⟩ k := by
  have h0 := (blocks_at t).2.2.2.2.1
  have h1 := (blocks_at t).2.2.2.2.2.1
  unfold pick
  rw [first_points t]
  unfold args
  dsimp only
  by_cases h : t.val < 4
  · rw [if_pos h, dif_pos (show 1024 * (t : ℕ) + p < 4096 by omega)]
    refine (place4 m c t (min t 3) (by omega) h0 p k).trans ((entry_x m c _ k).trans ?_)
    exact congrArg (argX m c) (congrArg₂ (fun a b => ix3 a b k) (Fin.ext (by dsimp only; omega)) (Fin.ext (by dsimp only; omega)))
  · rw [if_neg h, dif_neg (show ¬1024 * (t : ℕ) + p < 4096 by omega)]
    refine (place5 m c t (t - 4) (by omega) h1 p k).trans ((entry_y m c _ k).trans ?_)
    exact congrArg (argY m c) (congrArg₂ (fun a b => ix3 a b k) (Fin.ext (by dsimp only; omega)) (Fin.ext (by dsimp only; omega)))

/-- The point's attention. -/
theorem attn_at (j : Fin 512) (p : Fin 1024) :
    pick (grid0.coords t) (iblk m c 1 t) (iblk m c 2 t) (ix2 j p) = (args m c).b j ⟨1024 * t + p, by omega⟩ := by
  have h0 := (blocks_at t).2.1
  have h1 := (blocks_at t).2.2.1
  unfold pick
  rw [first_points t]
  unfold args
  dsimp only
  by_cases h : t.val < 4
  · rw [if_pos h, dif_pos (show 1024 * (t : ℕ) + p < 4096 by omega)]
    refine (place1 m c t (min t 3) (by omega) h0 j p).trans ((entry_b m c j _).trans ?_)
    exact congrArg (fun a => argB m c (ix2 j a)) (Fin.ext (by dsimp only; omega))
  · rw [if_neg h, dif_neg (show ¬1024 * (t : ℕ) + p < 4096 by omega)]
    refine (place2 m c t (t - 4) (by omega) h1 j p).trans ((entry_c m c j _).trans ?_)
    exact congrArg (fun a => argC m c (ix2 j a)) (Fin.ext (by dsimp only; omega))

theorem block_a (p : Fin 1024) (j : Fin 512) : iblk m c 0 t (ix2 p j) = (args m c).a ⟨1024 * t + p, by omega⟩ j := by
  refine Eq.trans ?_ (entry_a m c _ j)
  blk_ext [iblk, blocks_at t]

theorem block_w (k j : Fin 1024) : iblk m c 3 t (ix2 k j) = (args m c).w k j := by
  refine Eq.trans ?_ (entry_w m c k j)
  blk_ext [iblk, blocks_at t]

theorem block_mod (p : Fin 1024) (q : Fin 6) (k : Fin 1024) :
    iblk m c 6 t (ix4 0 0 q k) = (args m c).mod ⟨(1024 * t + p) / 4096, by omega⟩ ⟨q * 1024 + k, by omega⟩ := by
  refine Eq.trans ?_ (entry_mod m c _ q k)
  blk_ext [iblk, blocks_at t]

theorem block_g (k : Fin 1024) : iblk m c 7 t (ix2 0 k) = (args m c).g k := by
  refine Eq.trans ?_ (entry_norm m c k)
  blk_ext [iblk, blocks_at t]

theorem block_hi (k : Fin 1024) (e : Fin 16) : iblk m c 8 t (ix2 k ⟨e, by omega⟩) = (args m c).r k e := by
  refine Eq.trans ?_ (entry_hi m c k e)
  blk_ext [iblk, blocks_at t]

theorem block_lo (k : Fin 1024) (e : Fin 16) :
    @Eq EReal (iblk m c 8 t (ix2 k ⟨16 + e, by omega⟩)) ((args m c).r k e - (args m c).r k e) := by
  refine Eq.trans ?_ (entry_lo m c k e)
  blk_ext [iblk, blocks_at t]

theorem row_at (p k : Fin 1024) :
    row (grid0.coords t) (iblk m c 0 t) (iblk m c 1 t) (iblk m c 2 t) (iblk m c 3 t) (iblk m c 4 t) (iblk m c 5 t) (iblk m c 6 t) p k
      = Cert.Eo.resX (args m c) ⟨1024 * t + p, by omega⟩ k := by
  have h2 : ∀ k : Fin 1024, iblk m c 6 t (ix4 0 0 2 k) = (args m c).mod ⟨(1024 * t + p) / 4096, by omega⟩ ⟨2048 + k, by omega⟩ :=
    fun k => block_mod m c t ht p 2 k
  unfold row Cert.Eo.resX
  simp only [h2, tokens_at m c t ht, attn_at m c t ht, block_a m c t ht, block_w]

theorem norm_at (p k : Fin 1024) :
    norm (grid0.coords t) (iblk m c 0 t) (iblk m c 1 t) (iblk m c 2 t) (iblk m c 3 t) (iblk m c 4 t) (iblk m c 5 t) (iblk m c 6 t)
        (iblk m c 7 t) p k = Cert.Eo.resH (args m c) ⟨1024 * t + p, by omega⟩ k := by
  have h4 : ∀ k : Fin 1024, iblk m c 6 t (ix4 0 0 4 k) = (args m c).mod ⟨(1024 * t + p) / 4096, by omega⟩ ⟨4096 + k, by omega⟩ :=
    fun k => block_mod m c t ht p 4 k
  have h3 : ∀ k : Fin 1024, iblk m c 6 t (ix4 0 0 3 k) = (args m c).mod ⟨(1024 * t + p) / 4096, by omega⟩ ⟨3072 + k, by omega⟩ :=
    fun k => block_mod m c t ht p 3 k
  have hx : row (grid0.coords t) (iblk m c 0 t) (iblk m c 1 t) (iblk m c 2 t) (iblk m c 3 t) (iblk m c 4 t) (iblk m c 5 t) (iblk m c 6 t) p
      = Cert.Eo.resX (args m c) ⟨1024 * t + p, by omega⟩ := funext fun k => row_at m c t ht p k
  unfold norm Cert.Eo.resH
  simp only [h3, h4, hx, block_g]

variable (hH : ∀ p k, Real' (Cert.Eo.resH (args m c) p k)) (hR : ∀ k e, Real' ((args m c).r k e))

include hH hR in
theorem logit_at (p : Fin 1024) (e : Fin 16) (z : Fin 1024 → EReal) (hz : z = Cert.Eo.resH (args m c) ⟨1024 * t + p, by omega⟩) :
    ∑ k, z k * iblk m c 8 t (ix2 k ⟨e, by omega⟩) + ∑ k, (z k - z k) * iblk m c 8 t (ix2 k ⟨e, by omega⟩)
        + (∑ k, z k * iblk m c 8 t (ix2 k ⟨16 + e, by omega⟩) + ∑ k, (z k - z k) * iblk m c 8 t (ix2 k ⟨16 + e, by omega⟩))
      = Cert.Eo.resL (args m c) e ⟨1024 * t + p, by omega⟩ := by
  subst hz
  simp only [block_hi, block_lo]
  exact Cert.Eo.split_product _ _ (fun k => hH _ k) (fun k => hR k e)

end Cert.Kernel5Ideal.Eo

end
-- ==== Proof.EoRef.lean ====
/- The fifth reference's results at an index.

   The composed terms of the reference's host operations are cut at its own steps: the features side by side, the output
   projection, the residual, the modulated norm. Each is read at an index. -/
module

public import proofs.«01_k».proof.Proof.EoSpec
public import proofs.«01_k».proof.Proof.EvRef
public import proofs.«01_k».proof.Proof.Gen.Reference5Ideal.Run

@[expose] public section

set_option maxRecDepth 16384

noncomputable section

namespace Cert.Reference5Ideal.Eo

open Cert.Reference5Ideal Cert.Reference5Ideal.Gen Cert.Reference5Ideal.Value Idealize.ShloMosaic Idealize.ShloMosaic.TcCoe
open Idealize.SL.Sem
open Cert.Odd (unit modulated)
open Cert.Eo (Args)
open Cert.Reference4Ideal.Ev (seqs seqs_apply mods)

/-- The gated features and the attention's, side by side. -/
def both (a : FVec Ideal S20480x512 .f32) (b : FVec Ideal S512x4096 .f32) (c : FVec Ideal S512x16384 .f32) :
    FVec Ideal S20480x1024 .f32 :=
  concatenate S20480x1024 1 [⟨S20480x512, a⟩, ⟨S20480x512, transpose S20480x512 [1, 0] (concatenate S512x20480 1
    [⟨S512x4096, b⟩, ⟨S512x16384, c⟩] concatenates_S512x4096_S512x16384_S512x20480_d1) transposes_S512x20480_S20480x512_1_0⟩]
    concatenates_S20480x512_S20480x512_S20480x1024_d1

theorem both_left (a : FVec Ideal S20480x512 .f32) (b : FVec Ideal S512x4096 .f32) (c : FVec Ideal S512x16384 .f32)
    (p : Fin 20480) (j : Fin 512) : both a b c (ix2 p ⟨j, by omega⟩) = a (ix2 p j) := by
  pointwise [both]

theorem both_right (a : FVec Ideal S20480x512 .f32) (b : FVec Ideal S512x4096 .f32) (c : FVec Ideal S512x16384 .f32)
    (p : Fin 20480) (j : Fin 512) : both a b c (ix2 p ⟨512 + j, by omega⟩)
      = if h : (p : ℕ) < 4096 then b (ix2 j ⟨p, h⟩) else c (ix2 j ⟨p - 4096, by omega⟩) := by
  pointwise [both]

/-- The features after the output projection: `x` the tokens' features by sequence, `y` the features side by side. -/
def after (x : FVec Ideal S5x4096x1024 .f32) (y : FVec Ideal S20480x1024 .f32) (m : FVec Ideal S2x8x6144 .f32)
    (w : FVec Ideal S1x1024x1024 .f32) : FVec Ideal S5x4096x1024 .f32 :=
  addf x (mulf (broadcastInDim S5x4096x1024 ![0, 1, 2] bcast_S5x1x1024_S5x4096x1024_0_1_2 (extractStridedSlice S5x1x1024
    ![0, 0, 2048] (mods m) slices_S5x1x6144_S5x1x1024_0_0_2048)) (shapeCast _ (Host.dotGeneral
    dot_S20480x1024_S1024x1024_S20480x1024_1_0_0_1_n_n none y (shapeCast _ w shapeCasts_S1x1024x1024_S1024x1024))
    shapeCasts_S20480x1024_S5x4096x1024))

theorem after_apply (x : FVec Ideal S5x4096x1024 .f32) (y : FVec Ideal S20480x1024 .f32) (m : FVec Ideal S2x8x6144 .f32)
    (w : FVec Ideal S1x1024x1024 .f32) (b : Fin 5) (i : Fin 4096) (k : Fin 1024) :
    after x y m w (ix3 b i k) = x (ix3 b i k) + m (ix3 0 ⟨b, by omega⟩ ⟨2048 + k, by omega⟩)
      * ∑ j : Fin 1024, y (ix2 ⟨b * 4096 + i, by omega⟩ j) * w (ix3 0 j k) := by
  pointwise [after, mods]

/-- The modulated norm. -/
def norm (x : FVec Ideal S5x4096x1024 .f32) (m : FVec Ideal S2x8x6144 .f32) (g : FVec Ideal S2x1024 .f32) :
    FVec Ideal S5x4096x1024 .f32 :=
  addf (mulf (mulf (mulf x (broadcastInDim
    S5x4096x1024 ![0, 1, 2] bcast_S5x4096x1_S5x4096x1024_0_1_2 (Host.rsqrt (addf (Host.divf (broadcastInDim S5x4096x1 ![0, 1]
    bcast_S5x4096_S5x4096x1_0_1 (Host.reduceAdd (mulf x x) (constant S_ .f32 0x00000000#32)
    reducesTo_S5x4096x1024_S5x4096_d2 h_S_)) (broadcastInDim S5x4096x1 ![] bcast_S_S5x4096x1 (constant S_ .f32
    0x44800000#32))) (broadcastInDim S5x4096x1 ![] bcast_S_S5x4096x1 (constant S_ .f32 0x358637BD#32)))))) (broadcastInDim
    S5x4096x1024 ![0, 1, 2] bcast_S1x1x1024_S5x4096x1024_0_1_2 (broadcastInDim S1x1x1024 ![2] bcast_S1024_S1x1x1024_2
    (shapeCast _ (extractStridedSlice S1x1024 ![0, 0] g slices_S2x1024_S1x1024_0_0) shapeCasts_S1x1024_S1024))))
    (broadcastInDim S5x4096x1024 ![0, 1, 2] bcast_S5x1x1024_S5x4096x1024_0_1_2 (addf (broadcastInDim S5x1x1024 ![]
    bcast_S_S5x1x1024 (constant S_ .f32 0x3F800000#32)) (extractStridedSlice S5x1x1024 ![0, 0, 4096] (mods m)
    slices_S5x1x6144_S5x1x1024_0_0_4096)))) (broadcastInDim S5x4096x1024 ![0, 1, 2] bcast_S5x1x1024_S5x4096x1024_0_1_2
    (extractStridedSlice S5x1x1024 ![0, 0, 3072] (mods m) slices_S5x1x6144_S5x1x1024_0_0_3072))

theorem norm_apply (x : FVec Ideal S5x4096x1024 .f32) (m : FVec Ideal S2x8x6144 .f32) (g : FVec Ideal S2x1024 .f32)
    (b : Fin 5) (i : Fin 4096) (k : Fin 1024) :
    norm x m g (ix3 b i k) = modulated (fun k => x (ix3 b i k)) (fun k => g (ix2 0 k))
      (fun k => m (ix3 0 ⟨b, by omega⟩ ⟨4096 + k, by omega⟩)) (fun k => m (ix3 0 ⟨b, by omega⟩ ⟨3072 + k, by omega⟩)) k := by
  pointwise [norm, mods, modulated, unit]

variable (a : FVec Ideal S20480x512 .f32) (b : FVec Ideal S512x4096 .f32) (c : FVec Ideal S512x16384 .f32)
  (x : FVec Ideal S16x256x1024 .f32) (y : FVec Ideal S4x4096x1024 .f32) (m : FVec Ideal S2x8x6144 .f32)
  (g : FVec Ideal S2x1024 .f32) (w : FVec Ideal S1x1024x1024 .f32) (r : FVec Ideal S2x1024x16 .f32)

/-- The argument arrays' entries. -/
def args : Args where
  a p j := a (ix2 p j)
  b j p := if h : (p : ℕ) < 4096 then b (ix2 j ⟨p, h⟩) else c (ix2 j ⟨p - 4096, by omega⟩)
  x p k := if h : (p : ℕ) < 4096 then x (ix3 ⟨p / 256, by omega⟩ ⟨p % 256, by omega⟩ k)
    else y (ix3 ⟨(p - 4096) / 4096, by omega⟩ ⟨(p - 4096) % 4096, by omega⟩ k)
  mod b k := m (ix3 0 b k)
  g k := g (ix2 0 k)
  w k j := w (ix3 0 k j)
  r k e := r (ix3 0 k e)

/-- The features after the output projection, of the arguments. -/
abbrev ax := after (seqs x y) (both a b c) m w

theorem ax_eq (p : Fin 20480) (k : Fin 1024) : ax a b c x y m w (ix3 ⟨p / 4096, by omega⟩ ⟨p % 4096, by omega⟩ k)
    = Cert.Eo.resX (args a b c x y m g w r) p k := by
  have e : ∀ h, (⟨(p : ℕ) / 4096 * 4096 + p % 4096, h⟩ : Fin 20480) = p := fun h => Fin.ext (by dsimp only; omega)
  rw [ax, after_apply, seqs_apply, Cert.Eo.sum_halves]
  simp only [e, both_left, both_right]
  rfl

theorem norm_eq (p : Fin 20480) (k : Fin 1024) :
    norm (ax a b c x y m w) m g (ix3 ⟨p / 4096, by omega⟩ ⟨p % 4096, by omega⟩ k)
      = Cert.Eo.resH (args a b c x y m g w r) p k := by
  rw [norm_apply]
  simp only [ax_eq a b c x y m g w r]
  rfl

/-- The results. -/
abbrev res42 : FVec Ideal S20480x1024 .f32 := shapeCast S20480x1024 (ax a b c x y m w) shapeCasts_S5x4096x1024_S20480x1024
@[inherit_doc res42] abbrev res43 : FVec Ideal S20480x1024 .bf16 :=
  truncf .bf16 (shapeCast S20480x1024 (norm (ax a b c x y m w) m g) shapeCasts_S5x4096x1024_S20480x1024) bitsLt_bf16_f32
@[inherit_doc res42] abbrev res46 : FVec Ideal S16x20480 .f32 :=
  Host.dotGeneral dot_S1024x16_S20480x1024_S16x20480_0_1_1_0_n_n none (shapeCast S1024x16 (extractStridedSlice S1x1024x16
    ![0, 0, 0] r slices_S2x1024x16_S1x1024x16_0_0_0) shapeCasts_S1x1024x16_S1024x16)
    (shapeCast S20480x1024 (norm (ax a b c x y m w) m g) shapeCasts_S5x4096x1024_S20480x1024)

theorem res42_apply (p : Fin 20480) (k : Fin 1024) :
    res42 a b c x y m w (ix2 p k) = Cert.Eo.resX (args a b c x y m g w r) p k := by
  pointwise [ax_eq a b c x y m g w r]

theorem res43_apply (p : Fin 20480) (k : Fin 1024) :
    res43 a b c x y m g w (ix2 p k) = Cert.Eo.resH (args a b c x y m g w r) p k := by
  pointwise [norm_eq a b c x y m g w r]

theorem res46_apply (e : Fin 16) (p : Fin 20480) :
    res46 a b c x y m g w r (ix2 e p) = Cert.Eo.resL (args a b c x y m g w r) e p := by
  pointwise [norm_eq a b c x y m g w r, Cert.Eo.resL]
  exact Finset.sum_congr rfl fun k _ => mul_comm _ _

end Cert.Reference5Ideal.Eo

end
-- ==== Proof.EoEq.lean ====
/- The output of the even layer equals the reference's where the arguments are real numbers. -/
module

public import proofs.«01_k».proof.Proof.EoBlocks
public import proofs.«01_k».proof.Proof.EoRef
public import proofs.«01_k».proof.Proof.Gen.Pre_finite5
public import proofs.«01_k».proof.Proof.Gen.Reference5Ideal
public import proofs.«01_k».proof.Proof.Gen.Reference5Ideal.Run
public import proofs.«01_k».proof.Defs
public import Idealize.ShloMosaic.Adequacy

@[expose] public section

set_option maxRecDepth 16384

noncomputable section

namespace Cert.EoEq

open Idealize.ShloMosaic Idealize.ShloMosaic.TcCoe Idealize.SL.Sem
open Cert.Kernel5Ideal Cert.Kernel5Ideal.Gen Cert.Kernel5Ideal.Eo
open Cert.Ev (Real')
open Cert.Reference5Ideal.Eo (res42 res43 res46 res42_apply res43_apply res46_apply)

variable (m : (ℓ : Loc nD τ sig) → Buf (Elt Ideal) ℓ) (c : Dev nD)

/-- The precondition: the arguments' entries are real numbers. -/
theorem real_args (h : Cert.Pre_Kernel5Ideal_finite5 m) :
    (∀ i, Real' (argA m c i)) ∧ (∀ i, Real' (argB m c i)) ∧ (∀ i, Real' (argC m c i)) ∧ (∀ i, Real' (argX m c i))
      ∧ (∀ i, Real' (argY m c i)) ∧ (∀ i, Real' (argM m c i)) ∧ (∀ i, Real' (argG m c i)) ∧ (∀ i, Real' (argW m c i))
      ∧ ∀ i, Real' (argR m c i) := by
  have h1 := congrFun (h c) (fun a => a.elim0)
  dsimp only [Cert.Pre_finite5.fn, Cert.Pre_finite5.fn_part1, andi] at h1
  obtain ⟨h2, hr⟩ := (IntOp.andi_eq_one).mp h1
  obtain ⟨h3, hw⟩ := (IntOp.andi_eq_one).mp h2
  obtain ⟨h4, hg⟩ := (IntOp.andi_eq_one).mp h3
  obtain ⟨h5, hm⟩ := (IntOp.andi_eq_one).mp h4
  obtain ⟨h6, hy⟩ := (IntOp.andi_eq_one).mp h5
  obtain ⟨h7, hx⟩ := (IntOp.andi_eq_one).mp h6
  obtain ⟨h8, hc⟩ := (IntOp.andi_eq_one).mp h7
  obtain ⟨ha, hb⟩ := (IntOp.andi_eq_one).mp h8
  exact ⟨fun i => Soft.real_of_all _ _ _ _ _ _ ha i, fun i => Soft.real_of_all _ _ _ _ _ _ hb i,
    fun i => Soft.real_of_all _ _ _ _ _ _ hc i, fun i => Soft.real_of_all _ _ _ _ _ _ hx i,
    fun i => Soft.real_of_all _ _ _ _ _ _ hy i, fun i => Soft.real_of_all _ _ _ _ _ _ hm i,
    fun i => Soft.real_of_all _ _ _ _ _ _ hg i, fun i => Soft.real_of_all _ _ _ _ _ _ hw i,
    fun i => Soft.real_of_all _ _ _ _ _ _ hr i⟩

/-- The modulated norm is real. -/
theorem real_norm (h : Cert.Pre_Kernel5Ideal_finite5 m) (p : Fin 20480) (k : Fin 1024) : Real' (Cert.Eo.resH (args m c) p k) := by
  obtain ⟨ha, hb, hc, hx, hy, hm, hg, hw, -⟩ := real_args m c h
  refine Cert.Eo.modulated_real _ _ _ _ (fun k => Cert.Eo.resX_real (args m c) (fun p j => ha _) (fun j p => ?_) (fun p k => ?_)
    (fun b k => hm _) (fun k j => hw _) p k) (fun k => hg _) (fun k => hm _) (fun k => hm _) k
  · unfold args
    dsimp only
    split_ifs
    · exact hb _
    · exact hc _
  · unfold args
    dsimp only
    split_ifs
    · exact hx _
    · exact hy _

theorem array9 : (dats m 0 c).arrAt 9 cfg0.N
    = res42 (argA m c) (argB m c) (argC m c) (argX m c) (argY m c) (argM m c) (argW m c) := by
  refine array_eq9 m c _ fun t p j => ?_
  have ht := points t
  obtain ⟨s, r, rfl⟩ : ∃ (s : Fin 4) (r : Fin 256), p = ⟨256 * s + r, by omega⟩ :=
    ⟨⟨p / 256, by omega⟩, ⟨p % 256, by omega⟩, Fin.ext (by dsimp only; omega)⟩
  rw [out9]
  refine Eq.trans ?_ (res42_apply (argA m c) (argB m c) (argC m c) (argX m c) (argY m c) (argM m c) (argG m c) (argW m c)
    (argR m c) _ _).symm
  exact row_at m c t ht _ _

theorem array10 : (dats m 0 c).arrAt 10 cfg0.N
    = res43 (argA m c) (argB m c) (argC m c) (argX m c) (argY m c) (argM m c) (argG m c) (argW m c) := by
  refine array_eq10 m c _ fun t p j => ?_
  have ht := points t
  obtain ⟨s, r, rfl⟩ : ∃ (s : Fin 4) (r : Fin 256), p = ⟨256 * s + r, by omega⟩ :=
    ⟨⟨p / 256, by omega⟩, ⟨p % 256, by omega⟩, Fin.ext (by dsimp only; omega)⟩
  rw [out10]
  refine Eq.trans ?_ (res43_apply (argA m c) (argB m c) (argC m c) (argX m c) (argY m c) (argM m c) (argG m c) (argW m c)
    (argR m c) _ _).symm
  exact norm_at m c t ht _ _

theorem array11 (hpre : Cert.Pre_Kernel5Ideal_finite5 m) : (dats m 0 c).arrAt 11 cfg0.N
    = res46 (argA m c) (argB m c) (argC m c) (argX m c) (argY m c) (argM m c) (argG m c) (argW m c) (argR m c) := by
  refine array_eq11 m c _ fun t p j => ?_
  have ht := points t
  obtain ⟨s, r, rfl⟩ : ∃ (s : Fin 4) (r : Fin 256), p = ⟨256 * s + r, by omega⟩ :=
    ⟨⟨p / 256, by omega⟩, ⟨p % 256, by omega⟩, Fin.ext (by dsimp only; omega)⟩
  rw [out11 _ _ _ _ _ _ _ _ _ _ s r j _ rfl]
  refine Eq.trans ?_ (res46_apply (argA m c) (argB m c) (argC m c) (argX m c) (argY m c) (argM m c) (argG m c) (argW m c)
    (argR m c) _ _).symm
  exact logit_at m c t ht (real_norm m c hpre) (fun k e => (real_args m c hpre).2.2.2.2.2.2.2.2 _) ⟨256 * s + r, by omega⟩ j _
    (funext fun k => norm_at m c t ht _ k)

/-- The claim. -/
theorem algebraic : Cert.algebraic_Kernel5Ideal_Reference5Ideal_pre_finite5 := by
  intro m ρ m' ρ' hpre hagree
  refine ⟨fun c => res42 (argA m c) (argB m c) (argC m c) (argX m c) (argY m c) (argM m c) (argW m c),
    fun c => res43 (argA m c) (argB m c) (argC m c) (argX m c) (argY m c) (argM m c) (argG m c) (argW m c),
    fun c => res46 (argA m c) (argB m c) (argC m c) (argX m c) (argY m c) (argM m c) (argG m c) (argW m c) (argR m c), ?_, ?_⟩
  · exact (θ_run Cert.Kernel5Ideal.defs _ _).mono (fun _ h c => by
        obtain ⟨h9, h10, h11, hr⟩ := h c
        exact ⟨h9.trans (array9 m c), h10.trans (array10 m c), h11.trans (array11 m c hpre), hr⟩)
      (Cert.Kernel5Ideal.Value.run_blocks (F := Ideal) m ρ)
  · refine (θ_run Cert.Reference5Ideal.defs _ _).mono (fun _ h c => ?_) (Cert.Reference5Ideal.Value.run (F := Ideal) m' ρ')
    obtain ⟨g0, g1, g2, g3, g4, g5, g6, g7, g8⟩ := hagree c
    obtain ⟨h9, h10, h11, hr⟩ := h c
    have e0 : argA m c =
        m' ((c.tc : Thread Cert.Reference5Ideal.nD Cert.Reference5Ideal.τ).loc Cert.Reference5Ideal.main_arg0) := g0.symm
    have e1 : argB m c =
        m' ((c.tc : Thread Cert.Reference5Ideal.nD Cert.Reference5Ideal.τ).loc Cert.Reference5Ideal.main_arg1) := g1.symm
    have e2 : argC m c =
        m' ((c.tc : Thread Cert.Reference5Ideal.nD Cert.Reference5Ideal.τ).loc Cert.Reference5Ideal.main_arg2) := g2.symm
    have e3 : argX m c =
        m' ((c.tc : Thread Cert.Reference5Ideal.nD Cert.Reference5Ideal.τ).loc Cert.Reference5Ideal.main_arg3) := g3.symm
    have e4 : argY m c =
        m' ((c.tc : Thread Cert.Reference5Ideal.nD Cert.Reference5Ideal.τ).loc Cert.Reference5Ideal.main_arg4) := g4.symm
    have e5 : argM m c =
        m' ((c.tc : Thread Cert.Reference5Ideal.nD Cert.Reference5Ideal.τ).loc Cert.Reference5Ideal.main_arg5) := g5.symm
    have e6 : argG m c =
        m' ((c.tc : Thread Cert.Reference5Ideal.nD Cert.Reference5Ideal.τ).loc Cert.Reference5Ideal.main_arg6) := g6.symm
    have e7 : argW m c =
        m' ((c.tc : Thread Cert.Reference5Ideal.nD Cert.Reference5Ideal.τ).loc Cert.Reference5Ideal.main_arg7) := g7.symm
    have e8 : argR m c =
        m' ((c.tc : Thread Cert.Reference5Ideal.nD Cert.Reference5Ideal.τ).loc Cert.Reference5Ideal.main_arg8) := g8.symm
    beta_reduce
    rw [e0, e1, e2, e3, e4, e5, e6, e7, e8]
    exact ⟨h9.trans rfl, h10.trans rfl, h11.trans rfl, hr⟩

end Cert.EoEq

end
-- ==== Proof.lean ====
/- The claims: the frames of every program are the generated runs; the five kernels' ideal programs are their own texts;
   the values are proved in `Proof.GqaEq`, `Proof.MlaEq`, `Proof.OddEq`, `Proof.EvEq` and `Proof.EoEq`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.Pre_finite2
public import proofs.«01_k».proof.Proof.Gen.Kernel3Ideal.Value
public import proofs.«01_k».proof.Proof.Gen.Reference3Ideal.Run
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Pre_finite5
public import proofs.«01_k».proof.Proof.GqaEq
public import proofs.«01_k».proof.Proof.MlaEq
public import proofs.«01_k».proof.Proof.OddEq
public import proofs.«01_k».proof.Proof.EvEq
public import proofs.«01_k».proof.Proof.EoEq
public import Idealize.ShloMosaic.Adequacy
public import Idealize.ShloMosaic.Init

@[expose] public section

noncomputable section

namespace Cert.Proof

open Idealize.ShloMosaic Idealize.SL.Sem

/-- The reference of the grouped-query attention ends with its arguments as they were, and no semaphore is declared. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the multi-head latent attention likewise. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of the odd layer's projections likewise. -/
theorem frame_reference3 : Cert.quiescent_Reference3Ideal := fun m ρ _ =>
  (θ_run Cert.Reference3Ideal.defs _ _).mono
    (fun r h => ⟨fun c => (h c).2.2.2.2.2.2.2.2.2, sem_eq_zero_of_no_sems (by decide) r.2⟩)
    (Cert.Reference3Ideal.Value.run (F := Ideal) m ρ)

/-- The reference of the even layer's projections likewise. -/
theorem frame_reference4 : Cert.quiescent_Reference4Ideal := fun m ρ _ =>
  (θ_run Cert.Reference4Ideal.defs _ _).mono
    (fun r h => ⟨fun c => (h c).2.2.2.2.2.2, sem_eq_zero_of_no_sems (by decide) r.2⟩)
    (Cert.Reference4Ideal.Value.run (F := Ideal) m ρ)

/-- The reference of the even layer's output likewise. -/
theorem frame_reference5 : Cert.quiescent_Reference5Ideal := fun m ρ _ =>
  (θ_run Cert.Reference5Ideal.defs _ _).mono
    (fun r h => ⟨fun c => (h c).2.2.2, sem_eq_zero_of_no_sems (by decide) r.2⟩)
    (Cert.Reference5Ideal.Value.run (F := Ideal) m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts,
    Cert.Pre_finite2.Gen.facts, Cert.Pre_finite4.Gen.facts, Cert.Pre_finite5.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    fun m ρ _ => Cert.Kernel4Ideal.Gen.frame m ρ,
    frame_reference4,
    fun m ρ _ => frame_reference4 m ρ trivial,
    fun m ρ _ => Cert.Kernel5.Gen.frame m ρ,
    fun m ρ _ => Cert.Kernel5Ideal.Gen.frame m ρ,
    fun m ρ _ => Cert.Kernel5Ideal.Gen.frame m ρ,
    frame_reference5,
    fun m ρ _ => frame_reference5 m ρ trivial,
    trivial,
    Cert.GqaEq.algebraic,
    trivial,
    Cert.MlaEq.algebraic,
    trivial,
    Cert.OddEq.algebraic,
    trivial,
    Cert.EvEq.algebraic,
    trivial,
    Cert.EoEq.algebraic⟩

end Cert.Proof

end
